-- ==== Defs.lean ====
def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_gate_finite [hPre_gate_finite : Cert.Pre_gate_finite.Facts] (m : (ℓ : Loc Cert.GateIdeal.nD Cert.GateIdeal.τ Cert.GateIdeal.sig) → Buf (Elt Ideal) ℓ) : Prop :=
  ∀ c : Dev Cert.GateIdeal.nD,
    (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gate_finite [hPre_gate_finite : Cert.Pre_gate_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_gqa_finite [hPre_gqa_finite : Cert.Pre_gqa_finite.Facts] (m : (ℓ : Loc Cert.GqaIdeal.nD Cert.GqaIdeal.τ Cert.GqaIdeal.sig) → Buf (Elt Ideal) ℓ) : Prop :=
  ∀ c : Dev Cert.GqaIdeal.nD,
    (Cert.Pre_gqa_finite.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2))) = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_gqa_finite [hPre_gqa_finite : Cert.Pre_gqa_finite.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_gqa_finite.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadIdeal_head_finite [hPre_head_finite : Cert.Pre_head_finite.Facts] (m : (ℓ : Loc Cert.HeadIdeal.nD Cert.HeadIdeal.τ Cert.HeadIdeal.sig) → Buf (Elt Ideal) ℓ) : Prop :=
  ∀ c : Dev Cert.HeadIdeal.nD,
    (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4))) = (fun _ => 1#1)

def Pre_HeadRefIdeal (m : (ℓ : Loc Cert.HeadRefIdeal.nD Cert.HeadRefIdeal.τ Cert.HeadRefIdeal.sig) → Buf (Elt Ideal) ℓ) : Prop :=
  True

def Pre_HeadRefIdeal_head_finite [hPre_head_finite : Cert.Pre_head_finite.Facts] (m : (ℓ : Loc Cert.HeadRefIdeal.nD Cert.HeadRefIdeal.τ Cert.HeadRefIdeal.sig) → Buf (Elt Ideal) ℓ) : Prop :=
  ∀ c : Dev Cert.HeadRefIdeal.nD,
    (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4))) = (fun _ => 1#1)

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhIdeal_dh_finite [hPre_dh_finite : Cert.Pre_dh_finite.Facts] (m : (ℓ : Loc Cert.DhIdeal.nD Cert.DhIdeal.τ Cert.DhIdeal.sig) → Buf (Elt Ideal) ℓ) : Prop :=
  ∀ c : Dev Cert.DhIdeal.nD,
    (Cert.Pre_dh_finite.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4)) (m ((c.tc : Thread Cert.DhIdeal.nD Cert.DhIdeal.τ).loc Cert.DhIdeal.main_arg5)) (m ((c.tc : Thread Cert.DhIdeal.nD Cert.DhIdeal.τ).loc Cert.DhIdeal.main_arg6))) = (fun _ => 1#1)

def Pre_DhRefIdeal (m : (ℓ : Loc Cert.DhRefIdeal.nD Cert.DhRefIdeal.τ Cert.DhRefIdeal.sig) → Buf (Elt Ideal) ℓ) : Prop :=
  True

def Pre_DhRefIdeal_dh_finite [hPre_dh_finite : Cert.Pre_dh_finite.Facts] (m : (ℓ : Loc Cert.DhRefIdeal.nD Cert.DhRefIdeal.τ Cert.DhRefIdeal.sig) → Buf (Elt Ideal) ℓ) : Prop :=
  ∀ c : Dev Cert.DhRefIdeal.nD,
    (Cert.Pre_dh_finite.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4)) (m ((c.tc : Thread Cert.DhRefIdeal.nD Cert.DhRefIdeal.τ).loc Cert.DhRefIdeal.main_arg5)) (m ((c.tc : Thread Cert.DhRefIdeal.nD Cert.DhRefIdeal.τ).loc Cert.DhRefIdeal.main_arg6))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_mix_finite [hPre_mix_finite : Cert.Pre_mix_finite.Facts] (m : (ℓ : Loc Cert.MixIdeal.nD Cert.MixIdeal.τ Cert.MixIdeal.sig) → Buf (Elt Ideal) ℓ) : Prop :=
  ∀ c : Dev Cert.MixIdeal.nD,
    (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_mix_finite [hPre_mix_finite : Cert.Pre_mix_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4))) = (fun _ => 1#1)

def Pre_Qnorm (m : (ℓ : Loc Cert.Qnorm.nD Cert.Qnorm.τ Cert.Qnorm.sig) → Buf (Elt Bits) ℓ) : Prop :=
  True

def Pre_QnormIdeal (m : (ℓ : Loc Cert.QnormIdeal.nD Cert.QnormIdeal.τ Cert.QnormIdeal.sig) → Buf (Elt Ideal) ℓ) : Prop :=
  True

def Pre_QnormIdeal_qnorm_finite [hPre_qnorm_finite : Cert.Pre_qnorm_finite.Facts] (m : (ℓ : Loc Cert.QnormIdeal.nD Cert.QnormIdeal.τ Cert.QnormIdeal.sig) → Buf (Elt Ideal) ℓ) : Prop :=
  ∀ c : Dev Cert.QnormIdeal.nD,
    (Cert.Pre_qnorm_finite.fn (F := Ideal) (m ((c.tc : Thread Cert.QnormIdeal.nD Cert.QnormIdeal.τ).loc Cert.QnormIdeal.main_arg0)) (m ((c.tc : Thread Cert.QnormIdeal.nD Cert.QnormIdeal.τ).loc Cert.QnormIdeal.main_arg1)) (m ((c.tc : Thread Cert.QnormIdeal.nD Cert.QnormIdeal.τ).loc Cert.QnormIdeal.main_arg2))) = (fun _ => 1#1)

def Pre_QnormRefIdeal (m : (ℓ : Loc Cert.QnormRefIdeal.nD Cert.QnormRefIdeal.τ Cert.QnormRefIdeal.sig) → Buf (Elt Ideal) ℓ) : Prop :=
  True

def Pre_QnormRefIdeal_qnorm_finite [hPre_qnorm_finite : Cert.Pre_qnorm_finite.Facts] (m : (ℓ : Loc Cert.QnormRefIdeal.nD Cert.QnormRefIdeal.τ Cert.QnormRefIdeal.sig) → Buf (Elt Ideal) ℓ) : Prop :=
  ∀ c : Dev Cert.QnormRefIdeal.nD,
    (Cert.Pre_qnorm_finite.fn (F := Ideal) (m ((c.tc : Thread Cert.QnormRefIdeal.nD Cert.QnormRefIdeal.τ).loc Cert.QnormRefIdeal.main_arg0)) (m ((c.tc : Thread Cert.QnormRefIdeal.nD Cert.QnormRefIdeal.τ).loc Cert.QnormRefIdeal.main_arg1)) (m ((c.tc : Thread Cert.QnormRefIdeal.nD Cert.QnormRefIdeal.τ).loc Cert.QnormRefIdeal.main_arg2))) = (fun _ => 1#1)

def Pre_Merged (m : (ℓ : Loc Cert.Merged.nD Cert.Merged.τ Cert.Merged.sig) → Buf (Elt Bits) ℓ) : Prop :=
  True

def Pre_MergedIdeal (m : (ℓ : Loc Cert.MergedIdeal.nD Cert.MergedIdeal.τ Cert.MergedIdeal.sig) → Buf (Elt Ideal) ℓ) : Prop :=
  True

def Pre_MergedRefIdeal (m : (ℓ : Loc Cert.MergedRefIdeal.nD Cert.MergedRefIdeal.τ Cert.MergedRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateIdeal_pre_gate_finite [hGateIdeal : Cert.GateIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_gate_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_GateRefIdeal_pre_gate_finite [hGateRefIdeal : Cert.GateRefIdeal.Facts] [hPre_gate_finite : Cert.Pre_gate_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gate_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaIdeal_pre_gqa_finite [hGqaIdeal : Cert.GqaIdeal.Facts] [hPre_gqa_finite : Cert.Pre_gqa_finite.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_gqa_finite m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_GqaRefIdeal_pre_gqa_finite [hGqaRefIdeal : Cert.GqaRefIdeal.Facts] [hPre_gqa_finite : Cert.Pre_gqa_finite.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_gqa_finite m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ r.2.sem = fun _ => 0)

def quiescent_HeadIdeal_pre_head_finite [hHeadIdeal : Cert.HeadIdeal.Facts] [hPre_head_finite : Cert.Pre_head_finite.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal_head_finite m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4))
      ∧ r.2.sem = fun _ => 0)

def quiescent_HeadRefIdeal_pre_head_finite [hHeadRefIdeal : Cert.HeadRefIdeal.Facts] [hPre_head_finite : Cert.Pre_head_finite.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal_head_finite m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3)
      ∧ r.2.mem ((c.tc : Thread Cert.Dh.nD Cert.Dh.τ).loc Cert.Dh.main_arg4) = m ((c.tc : Thread Cert.Dh.nD Cert.Dh.τ).loc Cert.Dh.main_arg4)
      ∧ r.2.mem ((c.tc : Thread Cert.Dh.nD Cert.Dh.τ).loc Cert.Dh.main_arg5) = m ((c.tc : Thread Cert.Dh.nD Cert.Dh.τ).loc Cert.Dh.main_arg5)
      ∧ r.2.mem ((c.tc : Thread Cert.Dh.nD Cert.Dh.τ).loc Cert.Dh.main_arg6) = m ((c.tc : Thread Cert.Dh.nD Cert.Dh.τ).loc Cert.Dh.main_arg6))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
      ∧ r.2.mem ((c.tc : Thread Cert.DhIdeal.nD Cert.DhIdeal.τ).loc Cert.DhIdeal.main_arg5) = m ((c.tc : Thread Cert.DhIdeal.nD Cert.DhIdeal.τ).loc Cert.DhIdeal.main_arg5)
      ∧ r.2.mem ((c.tc : Thread Cert.DhIdeal.nD Cert.DhIdeal.τ).loc Cert.DhIdeal.main_arg6) = m ((c.tc : Thread Cert.DhIdeal.nD Cert.DhIdeal.τ).loc Cert.DhIdeal.main_arg6))
      ∧ r.2.sem = fun _ => 0)

def quiescent_DhIdeal_pre_dh_finite [hDhIdeal : Cert.DhIdeal.Facts] [hPre_dh_finite : Cert.Pre_dh_finite.Facts] : Prop :=
  ∀ (m : (ℓ : Loc Cert.DhIdeal.nD Cert.DhIdeal.τ Cert.DhIdeal.sig) → Buf (Elt Ideal) ℓ) (g : Dev Cert.DhIdeal.nD → PrngReg), Pre_DhIdeal_dh_finite m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
      ∧ r.2.mem ((c.tc : Thread Cert.DhIdeal.nD Cert.DhIdeal.τ).loc Cert.DhIdeal.main_arg5) = m ((c.tc : Thread Cert.DhIdeal.nD Cert.DhIdeal.τ).loc Cert.DhIdeal.main_arg5)
      ∧ r.2.mem ((c.tc : Thread Cert.DhIdeal.nD Cert.DhIdeal.τ).loc Cert.DhIdeal.main_arg6) = m ((c.tc : Thread Cert.DhIdeal.nD Cert.DhIdeal.τ).loc Cert.DhIdeal.main_arg6))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3)
      ∧ r.2.mem ((c.tc : Thread Cert.DhRefIdeal.nD Cert.DhRefIdeal.τ).loc Cert.DhRefIdeal.main_arg4) = m ((c.tc : Thread Cert.DhRefIdeal.nD Cert.DhRefIdeal.τ).loc Cert.DhRefIdeal.main_arg4)
      ∧ r.2.mem ((c.tc : Thread Cert.DhRefIdeal.nD Cert.DhRefIdeal.τ).loc Cert.DhRefIdeal.main_arg5) = m ((c.tc : Thread Cert.DhRefIdeal.nD Cert.DhRefIdeal.τ).loc Cert.DhRefIdeal.main_arg5)
      ∧ r.2.mem ((c.tc : Thread Cert.DhRefIdeal.nD Cert.DhRefIdeal.τ).loc Cert.DhRefIdeal.main_arg6) = m ((c.tc : Thread Cert.DhRefIdeal.nD Cert.DhRefIdeal.τ).loc Cert.DhRefIdeal.main_arg6))
      ∧ r.2.sem = fun _ => 0)

def quiescent_DhRefIdeal_pre_dh_finite [hDhRefIdeal : Cert.DhRefIdeal.Facts] [hPre_dh_finite : Cert.Pre_dh_finite.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal_dh_finite m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3)
      ∧ r.2.mem ((c.tc : Thread Cert.DhRefIdeal.nD Cert.DhRefIdeal.τ).loc Cert.DhRefIdeal.main_arg4) = m ((c.tc : Thread Cert.DhRefIdeal.nD Cert.DhRefIdeal.τ).loc Cert.DhRefIdeal.main_arg4)
      ∧ r.2.mem ((c.tc : Thread Cert.DhRefIdeal.nD Cert.DhRefIdeal.τ).loc Cert.DhRefIdeal.main_arg5) = m ((c.tc : Thread Cert.DhRefIdeal.nD Cert.DhRefIdeal.τ).loc Cert.DhRefIdeal.main_arg5)
      ∧ r.2.mem ((c.tc : Thread Cert.DhRefIdeal.nD Cert.DhRefIdeal.τ).loc Cert.DhRefIdeal.main_arg6) = m ((c.tc : Thread Cert.DhRefIdeal.nD Cert.DhRefIdeal.τ).loc Cert.DhRefIdeal.main_arg6))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixIdeal_pre_mix_finite [hMixIdeal : Cert.MixIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_mix_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def quiescent_MixRefIdeal_pre_mix_finite [hMixRefIdeal : Cert.MixRefIdeal.Facts] [hPre_mix_finite : Cert.Pre_mix_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_mix_finite m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def quiescent_Qnorm [hQnorm : Cert.Qnorm.Facts] : Prop :=
  ∀ (m : (ℓ : Loc Cert.Qnorm.nD Cert.Qnorm.τ Cert.Qnorm.sig) → Buf (Elt Bits) ℓ) (g : Dev Cert.Qnorm.nD → PrngReg), Pre_Qnorm m →
    θ_run (Cert.Qnorm.defs (F := Bits)) (onTc (τ := Cert.Qnorm.τ) (Cert.Qnorm.main (F := Bits))) ⟨m, fun _ => 0, g⟩ (fun r => (∀ c : Dev Cert.Qnorm.nD,
      r.2.mem ((c.tc : Thread Cert.Qnorm.nD Cert.Qnorm.τ).loc Cert.Qnorm.main_arg0) = m ((c.tc : Thread Cert.Qnorm.nD Cert.Qnorm.τ).loc Cert.Qnorm.main_arg0)
      ∧ r.2.mem ((c.tc : Thread Cert.Qnorm.nD Cert.Qnorm.τ).loc Cert.Qnorm.main_arg1) = m ((c.tc : Thread Cert.Qnorm.nD Cert.Qnorm.τ).loc Cert.Qnorm.main_arg1)
      ∧ r.2.mem ((c.tc : Thread Cert.Qnorm.nD Cert.Qnorm.τ).loc Cert.Qnorm.main_arg2) = m ((c.tc : Thread Cert.Qnorm.nD Cert.Qnorm.τ).loc Cert.Qnorm.main_arg2))
      ∧ r.2.sem = fun _ => 0)

def quiescent_QnormIdeal [hQnormIdeal : Cert.QnormIdeal.Facts] : Prop :=
  ∀ (m : (ℓ : Loc Cert.QnormIdeal.nD Cert.QnormIdeal.τ Cert.QnormIdeal.sig) → Buf (Elt Ideal) ℓ) (g : Dev Cert.QnormIdeal.nD → PrngReg), Pre_QnormIdeal m →
    θ_run (Cert.QnormIdeal.defs (F := Ideal)) (onTc (τ := Cert.QnormIdeal.τ) (Cert.QnormIdeal.main (F := Ideal))) ⟨m, fun _ => 0, g⟩ (fun r => (∀ c : Dev Cert.QnormIdeal.nD,
      r.2.mem ((c.tc : Thread Cert.QnormIdeal.nD Cert.QnormIdeal.τ).loc Cert.QnormIdeal.main_arg0) = m ((c.tc : Thread Cert.QnormIdeal.nD Cert.QnormIdeal.τ).loc Cert.QnormIdeal.main_arg0)
      ∧ r.2.mem ((c.tc : Thread Cert.QnormIdeal.nD Cert.QnormIdeal.τ).loc Cert.QnormIdeal.main_arg1) = m ((c.tc : Thread Cert.QnormIdeal.nD Cert.QnormIdeal.τ).loc Cert.QnormIdeal.main_arg1)
      ∧ r.2.mem ((c.tc : Thread Cert.QnormIdeal.nD Cert.QnormIdeal.τ).loc Cert.QnormIdeal.main_arg2) = m ((c.tc : Thread Cert.QnormIdeal.nD Cert.QnormIdeal.τ).loc Cert.QnormIdeal.main_arg2))
      ∧ r.2.sem = fun _ => 0)

def quiescent_QnormIdeal_pre_qnorm_finite [hQnormIdeal : Cert.QnormIdeal.Facts] [hPre_qnorm_finite : Cert.Pre_qnorm_finite.Facts] : Prop :=
  ∀ (m : (ℓ : Loc Cert.QnormIdeal.nD Cert.QnormIdeal.τ Cert.QnormIdeal.sig) → Buf (Elt Ideal) ℓ) (g : Dev Cert.QnormIdeal.nD → PrngReg), Pre_QnormIdeal_qnorm_finite m →
    θ_run (Cert.QnormIdeal.defs (F := Ideal)) (onTc (τ := Cert.QnormIdeal.τ) (Cert.QnormIdeal.main (F := Ideal))) ⟨m, fun _ => 0, g⟩ (fun r => (∀ c : Dev Cert.QnormIdeal.nD,
      r.2.mem ((c.tc : Thread Cert.QnormIdeal.nD Cert.QnormIdeal.τ).loc Cert.QnormIdeal.main_arg0) = m ((c.tc : Thread Cert.QnormIdeal.nD Cert.QnormIdeal.τ).loc Cert.QnormIdeal.main_arg0)
      ∧ r.2.mem ((c.tc : Thread Cert.QnormIdeal.nD Cert.QnormIdeal.τ).loc Cert.QnormIdeal.main_arg1) = m ((c.tc : Thread Cert.QnormIdeal.nD Cert.QnormIdeal.τ).loc Cert.QnormIdeal.main_arg1)
      ∧ r.2.mem ((c.tc : Thread Cert.QnormIdeal.nD Cert.QnormIdeal.τ).loc Cert.QnormIdeal.main_arg2) = m ((c.tc : Thread Cert.QnormIdeal.nD Cert.QnormIdeal.τ).loc Cert.QnormIdeal.main_arg2))
      ∧ r.2.sem = fun _ => 0)

def quiescent_QnormRefIdeal [hQnormRefIdeal : Cert.QnormRefIdeal.Facts] : Prop :=
  ∀ (m : (ℓ : Loc Cert.QnormRefIdeal.nD Cert.QnormRefIdeal.τ Cert.QnormRefIdeal.sig) → Buf (Elt Ideal) ℓ) (g : Dev Cert.QnormRefIdeal.nD → PrngReg), Pre_QnormRefIdeal m →
    θ_run (Cert.QnormRefIdeal.defs (F := Ideal)) (onTc (τ := Cert.QnormRefIdeal.τ) (Cert.QnormRefIdeal.main (F := Ideal))) ⟨m, fun _ => 0, g⟩ (fun r => (∀ c : Dev Cert.QnormRefIdeal.nD,
      r.2.mem ((c.tc : Thread Cert.QnormRefIdeal.nD Cert.QnormRefIdeal.τ).loc Cert.QnormRefIdeal.main_arg0) = m ((c.tc : Thread Cert.QnormRefIdeal.nD Cert.QnormRefIdeal.τ).loc Cert.QnormRefIdeal.main_arg0)
      ∧ r.2.mem ((c.tc : Thread Cert.QnormRefIdeal.nD Cert.QnormRefIdeal.τ).loc Cert.QnormRefIdeal.main_arg1) = m ((c.tc : Thread Cert.QnormRefIdeal.nD Cert.QnormRefIdeal.τ).loc Cert.QnormRefIdeal.main_arg1)
      ∧ r.2.mem ((c.tc : Thread Cert.QnormRefIdeal.nD Cert.QnormRefIdeal.τ).loc Cert.QnormRefIdeal.main_arg2) = m ((c.tc : Thread Cert.QnormRefIdeal.nD Cert.QnormRefIdeal.τ).loc Cert.QnormRefIdeal.main_arg2))
      ∧ r.2.sem = fun _ => 0)

def quiescent_QnormRefIdeal_pre_qnorm_finite [hQnormRefIdeal : Cert.QnormRefIdeal.Facts] [hPre_qnorm_finite : Cert.Pre_qnorm_finite.Facts] : Prop :=
  ∀ (m : (ℓ : Loc Cert.QnormRefIdeal.nD Cert.QnormRefIdeal.τ Cert.QnormRefIdeal.sig) → Buf (Elt Ideal) ℓ) (g : Dev Cert.QnormRefIdeal.nD → PrngReg), Pre_QnormRefIdeal_qnorm_finite m →
    θ_run (Cert.QnormRefIdeal.defs (F := Ideal)) (onTc (τ := Cert.QnormRefIdeal.τ) (Cert.QnormRefIdeal.main (F := Ideal))) ⟨m, fun _ => 0, g⟩ (fun r => (∀ c : Dev Cert.QnormRefIdeal.nD,
      r.2.mem ((c.tc : Thread Cert.QnormRefIdeal.nD Cert.QnormRefIdeal.τ).loc Cert.QnormRefIdeal.main_arg0) = m ((c.tc : Thread Cert.QnormRefIdeal.nD Cert.QnormRefIdeal.τ).loc Cert.QnormRefIdeal.main_arg0)
      ∧ r.2.mem ((c.tc : Thread Cert.QnormRefIdeal.nD Cert.QnormRefIdeal.τ).loc Cert.QnormRefIdeal.main_arg1) = m ((c.tc : Thread Cert.QnormRefIdeal.nD Cert.QnormRefIdeal.τ).loc Cert.QnormRefIdeal.main_arg1)
      ∧ r.2.mem ((c.tc : Thread Cert.QnormRefIdeal.nD Cert.QnormRefIdeal.τ).loc Cert.QnormRefIdeal.main_arg2) = m ((c.tc : Thread Cert.QnormRefIdeal.nD Cert.QnormRefIdeal.τ).loc Cert.QnormRefIdeal.main_arg2))
      ∧ r.2.sem = fun _ => 0)

def quiescent_Merged [hMerged : Cert.Merged.Facts] : Prop :=
  ∀ (m : (ℓ : Loc Cert.Merged.nD Cert.Merged.τ Cert.Merged.sig) → Buf (Elt Bits) ℓ) (g : Dev Cert.Merged.nD → PrngReg), Pre_Merged m →
    θ_run (Cert.Merged.defs (F := Bits)) (onTc (τ := Cert.Merged.τ) (Cert.Merged.main (F := Bits))) ⟨m, fun _ => 0, g⟩ (fun r => (∀ c : Dev Cert.Merged.nD,
      r.2.mem ((c.tc : Thread Cert.Merged.nD Cert.Merged.τ).loc Cert.Merged.main_arg0) = m ((c.tc : Thread Cert.Merged.nD Cert.Merged.τ).loc Cert.Merged.main_arg0)
      ∧ r.2.mem ((c.tc : Thread Cert.Merged.nD Cert.Merged.τ).loc Cert.Merged.main_arg1) = m ((c.tc : Thread Cert.Merged.nD Cert.Merged.τ).loc Cert.Merged.main_arg1)
      ∧ r.2.mem ((c.tc : Thread Cert.Merged.nD Cert.Merged.τ).loc Cert.Merged.main_arg2) = m ((c.tc : Thread Cert.Merged.nD Cert.Merged.τ).loc Cert.Merged.main_arg2)
      ∧ r.2.mem ((c.tc : Thread Cert.Merged.nD Cert.Merged.τ).loc Cert.Merged.main_arg3) = m ((c.tc : Thread Cert.Merged.nD Cert.Merged.τ).loc Cert.Merged.main_arg3)
      ∧ r.2.mem ((c.tc : Thread Cert.Merged.nD Cert.Merged.τ).loc Cert.Merged.main_arg4) = m ((c.tc : Thread Cert.Merged.nD Cert.Merged.τ).loc Cert.Merged.main_arg4)
      ∧ r.2.mem ((c.tc : Thread Cert.Merged.nD Cert.Merged.τ).loc Cert.Merged.main_arg5) = m ((c.tc : Thread Cert.Merged.nD Cert.Merged.τ).loc Cert.Merged.main_arg5)
      ∧ r.2.mem ((c.tc : Thread Cert.Merged.nD Cert.Merged.τ).loc Cert.Merged.main_arg6) = m ((c.tc : Thread Cert.Merged.nD Cert.Merged.τ).loc Cert.Merged.main_arg6)
      ∧ r.2.mem ((c.tc : Thread Cert.Merged.nD Cert.Merged.τ).loc Cert.Merged.main_arg7) = m ((c.tc : Thread Cert.Merged.nD Cert.Merged.τ).loc Cert.Merged.main_arg7)
      ∧ r.2.mem ((c.tc : Thread Cert.Merged.nD Cert.Merged.τ).loc Cert.Merged.main_arg8) = m ((c.tc : Thread Cert.Merged.nD Cert.Merged.τ).loc Cert.Merged.main_arg8))
      ∧ r.2.sem = fun _ => 0)

def quiescent_MergedIdeal [hMergedIdeal : Cert.MergedIdeal.Facts] : Prop :=
  ∀ (m : (ℓ : Loc Cert.MergedIdeal.nD Cert.MergedIdeal.τ Cert.MergedIdeal.sig) → Buf (Elt Ideal) ℓ) (g : Dev Cert.MergedIdeal.nD → PrngReg), Pre_MergedIdeal m →
    θ_run (Cert.MergedIdeal.defs (F := Ideal)) (onTc (τ := Cert.MergedIdeal.τ) (Cert.MergedIdeal.main (F := Ideal))) ⟨m, fun _ => 0, g⟩ (fun r => (∀ c : Dev Cert.MergedIdeal.nD,
      r.2.mem ((c.tc : Thread Cert.MergedIdeal.nD Cert.MergedIdeal.τ).loc Cert.MergedIdeal.main_arg0) = m ((c.tc : Thread Cert.MergedIdeal.nD Cert.MergedIdeal.τ).loc Cert.MergedIdeal.main_arg0)
      ∧ r.2.mem ((c.tc : Thread Cert.MergedIdeal.nD Cert.MergedIdeal.τ).loc Cert.MergedIdeal.main_arg1) = m ((c.tc : Thread Cert.MergedIdeal.nD Cert.MergedIdeal.τ).loc Cert.MergedIdeal.main_arg1)
      ∧ r.2.mem ((c.tc : Thread Cert.MergedIdeal.nD Cert.MergedIdeal.τ).loc Cert.MergedIdeal.main_arg2) = m ((c.tc : Thread Cert.MergedIdeal.nD Cert.MergedIdeal.τ).loc Cert.MergedIdeal.main_arg2)
      ∧ r.2.mem ((c.tc : Thread Cert.MergedIdeal.nD Cert.MergedIdeal.τ).loc Cert.MergedIdeal.main_arg3) = m ((c.tc : Thread Cert.MergedIdeal.nD Cert.MergedIdeal.τ).loc Cert.MergedIdeal.main_arg3)
      ∧ r.2.mem ((c.tc : Thread Cert.MergedIdeal.nD Cert.MergedIdeal.τ).loc Cert.MergedIdeal.main_arg4) = m ((c.tc : Thread Cert.MergedIdeal.nD Cert.MergedIdeal.τ).loc Cert.MergedIdeal.main_arg4)
      ∧ r.2.mem ((c.tc : Thread Cert.MergedIdeal.nD Cert.MergedIdeal.τ).loc Cert.MergedIdeal.main_arg5) = m ((c.tc : Thread Cert.MergedIdeal.nD Cert.MergedIdeal.τ).loc Cert.MergedIdeal.main_arg5)
      ∧ r.2.mem ((c.tc : Thread Cert.MergedIdeal.nD Cert.MergedIdeal.τ).loc Cert.MergedIdeal.main_arg6) = m ((c.tc : Thread Cert.MergedIdeal.nD Cert.MergedIdeal.τ).loc Cert.MergedIdeal.main_arg6)
      ∧ r.2.mem ((c.tc : Thread Cert.MergedIdeal.nD Cert.MergedIdeal.τ).loc Cert.MergedIdeal.main_arg7) = m ((c.tc : Thread Cert.MergedIdeal.nD Cert.MergedIdeal.τ).loc Cert.MergedIdeal.main_arg7)
      ∧ r.2.mem ((c.tc : Thread Cert.MergedIdeal.nD Cert.MergedIdeal.τ).loc Cert.MergedIdeal.main_arg8) = m ((c.tc : Thread Cert.MergedIdeal.nD Cert.MergedIdeal.τ).loc Cert.MergedIdeal.main_arg8))
      ∧ r.2.sem = fun _ => 0)

def quiescent_MergedRefIdeal [hMergedRefIdeal : Cert.MergedRefIdeal.Facts] : Prop :=
  ∀ (m : (ℓ : Loc Cert.MergedRefIdeal.nD Cert.MergedRefIdeal.τ Cert.MergedRefIdeal.sig) → Buf (Elt Ideal) ℓ) (g : Dev Cert.MergedRefIdeal.nD → PrngReg), Pre_MergedRefIdeal m →
    θ_run (Cert.MergedRefIdeal.defs (F := Ideal)) (onTc (τ := Cert.MergedRefIdeal.τ) (Cert.MergedRefIdeal.main (F := Ideal))) ⟨m, fun _ => 0, g⟩ (fun r => (∀ c : Dev Cert.MergedRefIdeal.nD,
      r.2.mem ((c.tc : Thread Cert.MergedRefIdeal.nD Cert.MergedRefIdeal.τ).loc Cert.MergedRefIdeal.main_arg0) = m ((c.tc : Thread Cert.MergedRefIdeal.nD Cert.MergedRefIdeal.τ).loc Cert.MergedRefIdeal.main_arg0)
      ∧ r.2.mem ((c.tc : Thread Cert.MergedRefIdeal.nD Cert.MergedRefIdeal.τ).loc Cert.MergedRefIdeal.main_arg1) = m ((c.tc : Thread Cert.MergedRefIdeal.nD Cert.MergedRefIdeal.τ).loc Cert.MergedRefIdeal.main_arg1)
      ∧ r.2.mem ((c.tc : Thread Cert.MergedRefIdeal.nD Cert.MergedRefIdeal.τ).loc Cert.MergedRefIdeal.main_arg2) = m ((c.tc : Thread Cert.MergedRefIdeal.nD Cert.MergedRefIdeal.τ).loc Cert.MergedRefIdeal.main_arg2)
      ∧ r.2.mem ((c.tc : Thread Cert.MergedRefIdeal.nD Cert.MergedRefIdeal.τ).loc Cert.MergedRefIdeal.main_arg3) = m ((c.tc : Thread Cert.MergedRefIdeal.nD Cert.MergedRefIdeal.τ).loc Cert.MergedRefIdeal.main_arg3)
      ∧ r.2.mem ((c.tc : Thread Cert.MergedRefIdeal.nD Cert.MergedRefIdeal.τ).loc Cert.MergedRefIdeal.main_arg4) = m ((c.tc : Thread Cert.MergedRefIdeal.nD Cert.MergedRefIdeal.τ).loc Cert.MergedRefIdeal.main_arg4)
      ∧ r.2.mem ((c.tc : Thread Cert.MergedRefIdeal.nD Cert.MergedRefIdeal.τ).loc Cert.MergedRefIdeal.main_arg5) = m ((c.tc : Thread Cert.MergedRefIdeal.nD Cert.MergedRefIdeal.τ).loc Cert.MergedRefIdeal.main_arg5)
      ∧ r.2.mem ((c.tc : Thread Cert.MergedRefIdeal.nD Cert.MergedRefIdeal.τ).loc Cert.MergedRefIdeal.main_arg6) = m ((c.tc : Thread Cert.MergedRefIdeal.nD Cert.MergedRefIdeal.τ).loc Cert.MergedRefIdeal.main_arg6)
      ∧ r.2.mem ((c.tc : Thread Cert.MergedRefIdeal.nD Cert.MergedRefIdeal.τ).loc Cert.MergedRefIdeal.main_arg7) = m ((c.tc : Thread Cert.MergedRefIdeal.nD Cert.MergedRefIdeal.τ).loc Cert.MergedRefIdeal.main_arg7)
      ∧ r.2.mem ((c.tc : Thread Cert.MergedRefIdeal.nD Cert.MergedRefIdeal.τ).loc Cert.MergedRefIdeal.main_arg8) = m ((c.tc : Thread Cert.MergedRefIdeal.nD Cert.MergedRefIdeal.τ).loc Cert.MergedRefIdeal.main_arg8))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def preserves_Gate_GateIdeal : Prop :=
  True

def algebraic_GateIdeal_GateRefIdeal_pre_gate_finite [hGateIdeal : Cert.GateIdeal.Facts] [hGateRefIdeal : Cert.GateRefIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_gate_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v11_0)) (v1 : (c : Dev Cert.GateIdeal.nD) → Buf (Elt Ideal) ((c.tc : Thread Cert.GateIdeal.nD Cert.GateIdeal.τ).loc Cert.GateIdeal.main_v11_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v11_0) = v0 c
          ∧ r.2.mem ((c.tc : Thread Cert.GateIdeal.nD Cert.GateIdeal.τ).loc Cert.GateIdeal.main_v11_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v13) = v0 c
          ∧ r.2.mem ((c.tc : Thread Cert.GateRefIdeal.nD Cert.GateRefIdeal.τ).loc Cert.GateRefIdeal.main_v16) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_Attn_AttnIdeal : Prop :=
  True

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v44_0)) (v1 : (c : Dev Cert.AttnIdeal.nD) → Buf (Elt Ideal) ((c.tc : Thread Cert.AttnIdeal.nD Cert.AttnIdeal.τ).loc Cert.AttnIdeal.main_v44_1)) (v2 : (c : Dev Cert.AttnIdeal.nD) → Buf (Elt Ideal) ((c.tc : Thread Cert.AttnIdeal.nD Cert.AttnIdeal.τ).loc Cert.AttnIdeal.main_v44_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v44_0) = v0 c
          ∧ r.2.mem ((c.tc : Thread Cert.AttnIdeal.nD Cert.AttnIdeal.τ).loc Cert.AttnIdeal.main_v44_1) = v1 c
          ∧ r.2.mem ((c.tc : Thread Cert.AttnIdeal.nD Cert.AttnIdeal.τ).loc Cert.AttnIdeal.main_v44_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v67) = v0 c
          ∧ r.2.mem ((c.tc : Thread Cert.AttnRefIdeal.nD Cert.AttnRefIdeal.τ).loc Cert.AttnRefIdeal.main_v70) = v1 c
          ∧ r.2.mem ((c.tc : Thread Cert.AttnRefIdeal.nD Cert.AttnRefIdeal.τ).loc Cert.AttnRefIdeal.main_v62) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Gqa_GqaIdeal : Prop :=
  IdealRules.named_const.Statement Cert.GqaIdeal.κ "inv_log_two" .f32 0x3FB8AA3B#32 (((Real.log 2)⁻¹ : ℝ) : EReal)

def algebraic_GqaIdeal_GqaRefIdeal_pre_gqa_finite [hGqaIdeal : Cert.GqaIdeal.Facts] [hGqaRefIdeal : Cert.GqaRefIdeal.Facts] [hPre_gqa_finite : Cert.Pre_gqa_finite.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_gqa_finite m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)) →
    ∃ (v0 : (c : Dev Cert.GqaIdeal.nD) → Buf (Elt Ideal) ((c.tc : Thread Cert.GqaIdeal.nD Cert.GqaIdeal.τ).loc Cert.GqaIdeal.main_v11_0)) (v1 : (c : Dev Cert.GqaIdeal.nD) → Buf (Elt Ideal) ((c.tc : Thread Cert.GqaIdeal.nD Cert.GqaIdeal.τ).loc Cert.GqaIdeal.main_v11_1)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v11_0) = v0 c
          ∧ r.2.mem ((c.tc : Thread Cert.GqaIdeal.nD Cert.GqaIdeal.τ).loc Cert.GqaIdeal.main_v11_1) = v1 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v28) = v0 c
          ∧ r.2.mem ((c.tc : Thread Cert.GqaRefIdeal.nD Cert.GqaRefIdeal.τ).loc Cert.GqaRefIdeal.main_v30) = v1 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v16_0)) (v1 : (c : Dev Cert.MergeIdeal.nD) → Buf (Elt Ideal) ((c.tc : Thread Cert.MergeIdeal.nD Cert.MergeIdeal.τ).loc Cert.MergeIdeal.main_v16_1)) (v2 : (c : Dev Cert.MergeIdeal.nD) → Buf (Elt Ideal) ((c.tc : Thread Cert.MergeIdeal.nD Cert.MergeIdeal.τ).loc Cert.MergeIdeal.main_v16_2)) (v3 : (c : Dev Cert.MergeIdeal.nD) → Buf (Elt Ideal) ((c.tc : Thread Cert.MergeIdeal.nD Cert.MergeIdeal.τ).loc Cert.MergeIdeal.main_v16_3)) (v4 : (c : Dev Cert.MergeIdeal.nD) → Buf (Elt Ideal) ((c.tc : Thread Cert.MergeIdeal.nD Cert.MergeIdeal.τ).loc Cert.MergeIdeal.main_v16_4)) (v5 : (c : Dev Cert.MergeIdeal.nD) → Buf (Elt Ideal) ((c.tc : Thread Cert.MergeIdeal.nD Cert.MergeIdeal.τ).loc Cert.MergeIdeal.main_v16_5)) (v6 : (c : Dev Cert.MergeIdeal.nD) → Buf (Elt Ideal) ((c.tc : Thread Cert.MergeIdeal.nD Cert.MergeIdeal.τ).loc Cert.MergeIdeal.main_v16_6)) (v7 : (c : Dev Cert.MergeIdeal.nD) → Buf (Elt Ideal) ((c.tc : Thread Cert.MergeIdeal.nD Cert.MergeIdeal.τ).loc Cert.MergeIdeal.main_v16_7)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v16_0) = v0 c
          ∧ r.2.mem ((c.tc : Thread Cert.MergeIdeal.nD Cert.MergeIdeal.τ).loc Cert.MergeIdeal.main_v16_1) = v1 c
          ∧ r.2.mem ((c.tc : Thread Cert.MergeIdeal.nD Cert.MergeIdeal.τ).loc Cert.MergeIdeal.main_v16_2) = v2 c
          ∧ r.2.mem ((c.tc : Thread Cert.MergeIdeal.nD Cert.MergeIdeal.τ).loc Cert.MergeIdeal.main_v16_3) = v3 c
          ∧ r.2.mem ((c.tc : Thread Cert.MergeIdeal.nD Cert.MergeIdeal.τ).loc Cert.MergeIdeal.main_v16_4) = v4 c
          ∧ r.2.mem ((c.tc : Thread Cert.MergeIdeal.nD Cert.MergeIdeal.τ).loc Cert.MergeIdeal.main_v16_5) = v5 c
          ∧ r.2.mem ((c.tc : Thread Cert.MergeIdeal.nD Cert.MergeIdeal.τ).loc Cert.MergeIdeal.main_v16_6) = v6 c
          ∧ r.2.mem ((c.tc : Thread Cert.MergeIdeal.nD Cert.MergeIdeal.τ).loc Cert.MergeIdeal.main_v16_7) = v7 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v66) = v0 c
          ∧ r.2.mem ((c.tc : Thread Cert.MergeRefIdeal.nD Cert.MergeRefIdeal.τ).loc Cert.MergeRefIdeal.main_v67) = v1 c
          ∧ r.2.mem ((c.tc : Thread Cert.MergeRefIdeal.nD Cert.MergeRefIdeal.τ).loc Cert.MergeRefIdeal.main_v69) = v2 c
          ∧ r.2.mem ((c.tc : Thread Cert.MergeRefIdeal.nD Cert.MergeRefIdeal.τ).loc Cert.MergeRefIdeal.main_v71) = v3 c
          ∧ r.2.mem ((c.tc : Thread Cert.MergeRefIdeal.nD Cert.MergeRefIdeal.τ).loc Cert.MergeRefIdeal.main_v72) = v4 c
          ∧ r.2.mem ((c.tc : Thread Cert.MergeRefIdeal.nD Cert.MergeRefIdeal.τ).loc Cert.MergeRefIdeal.main_v73) = v5 c
          ∧ r.2.mem ((c.tc : Thread Cert.MergeRefIdeal.nD Cert.MergeRefIdeal.τ).loc Cert.MergeRefIdeal.main_v74) = v6 c
          ∧ r.2.mem ((c.tc : Thread Cert.MergeRefIdeal.nD Cert.MergeRefIdeal.τ).loc Cert.MergeRefIdeal.main_v75) = v7 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Head_HeadIdeal : Prop :=
  True

def algebraic_HeadIdeal_HeadRefIdeal_pre_head_finite [hHeadIdeal : Cert.HeadIdeal.Facts] [hHeadRefIdeal : Cert.HeadRefIdeal.Facts] [hPre_head_finite : Cert.Pre_head_finite.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal_head_finite m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)) →
    ∃ (v0 : (c : Dev Cert.HeadIdeal.nD) → Buf (Elt Ideal) ((c.tc : Thread Cert.HeadIdeal.nD Cert.HeadIdeal.τ).loc Cert.HeadIdeal.main_v6_0)) (v1 : (c : Dev Cert.HeadIdeal.nD) → Buf (Elt Ideal) ((c.tc : Thread Cert.HeadIdeal.nD Cert.HeadIdeal.τ).loc Cert.HeadIdeal.main_v6_1)) (v2 : (c : Dev Cert.HeadIdeal.nD) → Buf (Elt Ideal) ((c.tc : Thread Cert.HeadIdeal.nD Cert.HeadIdeal.τ).loc Cert.HeadIdeal.main_v6_2)) (v3 : (c : Dev Cert.HeadIdeal.nD) → Buf (Elt Ideal) ((c.tc : Thread Cert.HeadIdeal.nD Cert.HeadIdeal.τ).loc Cert.HeadIdeal.main_v6_3)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v6_0) = v0 c
          ∧ r.2.mem ((c.tc : Thread Cert.HeadIdeal.nD Cert.HeadIdeal.τ).loc Cert.HeadIdeal.main_v6_1) = v1 c
          ∧ r.2.mem ((c.tc : Thread Cert.HeadIdeal.nD Cert.HeadIdeal.τ).loc Cert.HeadIdeal.main_v6_2) = v2 c
          ∧ r.2.mem ((c.tc : Thread Cert.HeadIdeal.nD Cert.HeadIdeal.τ).loc Cert.HeadIdeal.main_v6_3) = v3 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v56) = v0 c
          ∧ r.2.mem ((c.tc : Thread Cert.HeadRefIdeal.nD Cert.HeadRefIdeal.τ).loc Cert.HeadRefIdeal.main_v59) = v1 c
          ∧ r.2.mem ((c.tc : Thread Cert.HeadRefIdeal.nD Cert.HeadRefIdeal.τ).loc Cert.HeadRefIdeal.main_v63) = v2 c
          ∧ r.2.mem ((c.tc : Thread Cert.HeadRefIdeal.nD Cert.HeadRefIdeal.τ).loc Cert.HeadRefIdeal.main_v64) = v3 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4))

def preserves_Dh_DhIdeal : Prop :=
  True

def algebraic_DhIdeal_DhRefIdeal_pre_dh_finite [hDhIdeal : Cert.DhIdeal.Facts] [hDhRefIdeal : Cert.DhRefIdeal.Facts] [hPre_dh_finite : Cert.Pre_dh_finite.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal_dh_finite m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)
      ∧ m' ((c.tc : Thread Cert.DhRefIdeal.nD Cert.DhRefIdeal.τ).loc Cert.DhRefIdeal.main_arg3) = m ((c.tc : Thread Cert.DhIdeal.nD Cert.DhIdeal.τ).loc Cert.DhIdeal.main_arg3)
      ∧ m' ((c.tc : Thread Cert.DhRefIdeal.nD Cert.DhRefIdeal.τ).loc Cert.DhRefIdeal.main_arg4) = m ((c.tc : Thread Cert.DhIdeal.nD Cert.DhIdeal.τ).loc Cert.DhIdeal.main_arg4)
      ∧ m' ((c.tc : Thread Cert.DhRefIdeal.nD Cert.DhRefIdeal.τ).loc Cert.DhRefIdeal.main_arg5) = m ((c.tc : Thread Cert.DhIdeal.nD Cert.DhIdeal.τ).loc Cert.DhIdeal.main_arg5)
      ∧ m' ((c.tc : Thread Cert.DhRefIdeal.nD Cert.DhRefIdeal.τ).loc Cert.DhRefIdeal.main_arg6) = m ((c.tc : Thread Cert.DhIdeal.nD Cert.DhIdeal.τ).loc Cert.DhIdeal.main_arg6)) →
    ∃ (v0 : (c : Dev Cert.DhIdeal.nD) → Buf (Elt Ideal) ((c.tc : Thread Cert.DhIdeal.nD Cert.DhIdeal.τ).loc Cert.DhIdeal.main_v12_0)) (v1 : (c : Dev Cert.DhIdeal.nD) → Buf (Elt Ideal) ((c.tc : Thread Cert.DhIdeal.nD Cert.DhIdeal.τ).loc Cert.DhIdeal.main_v12_1)) (v2 : (c : Dev Cert.DhIdeal.nD) → Buf (Elt Ideal) ((c.tc : Thread Cert.DhIdeal.nD Cert.DhIdeal.τ).loc Cert.DhIdeal.main_v12_2)) (v3 : (c : Dev Cert.DhIdeal.nD) → Buf (Elt Ideal) ((c.tc : Thread Cert.DhIdeal.nD Cert.DhIdeal.τ).loc Cert.DhIdeal.main_v12_3)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v12_0) = v0 c
          ∧ r.2.mem ((c.tc : Thread Cert.DhIdeal.nD Cert.DhIdeal.τ).loc Cert.DhIdeal.main_v12_1) = v1 c
          ∧ r.2.mem ((c.tc : Thread Cert.DhIdeal.nD Cert.DhIdeal.τ).loc Cert.DhIdeal.main_v12_2) = v2 c
          ∧ r.2.mem ((c.tc : Thread Cert.DhIdeal.nD Cert.DhIdeal.τ).loc Cert.DhIdeal.main_v12_3) = v3 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
          ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
          ∧ r.2.mem ((c.tc : Thread Cert.DhIdeal.nD Cert.DhIdeal.τ).loc Cert.DhIdeal.main_arg5) = m ((c.tc : Thread Cert.DhIdeal.nD Cert.DhIdeal.τ).loc Cert.DhIdeal.main_arg5)
          ∧ r.2.mem ((c.tc : Thread Cert.DhIdeal.nD Cert.DhIdeal.τ).loc Cert.DhIdeal.main_arg6) = m ((c.tc : Thread Cert.DhIdeal.nD Cert.DhIdeal.τ).loc Cert.DhIdeal.main_arg6))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v39) = v0 c
          ∧ r.2.mem ((c.tc : Thread Cert.DhRefIdeal.nD Cert.DhRefIdeal.τ).loc Cert.DhRefIdeal.main_v42) = v1 c
          ∧ r.2.mem ((c.tc : Thread Cert.DhRefIdeal.nD Cert.DhRefIdeal.τ).loc Cert.DhRefIdeal.main_v43) = v2 c
          ∧ r.2.mem ((c.tc : Thread Cert.DhRefIdeal.nD Cert.DhRefIdeal.τ).loc Cert.DhRefIdeal.main_v22) = v3 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2)
          ∧ r.2.mem ((c.tc : Thread Cert.DhRefIdeal.nD Cert.DhRefIdeal.τ).loc Cert.DhRefIdeal.main_arg3) = m' ((c.tc : Thread Cert.DhRefIdeal.nD Cert.DhRefIdeal.τ).loc Cert.DhRefIdeal.main_arg3)
          ∧ r.2.mem ((c.tc : Thread Cert.DhRefIdeal.nD Cert.DhRefIdeal.τ).loc Cert.DhRefIdeal.main_arg4) = m' ((c.tc : Thread Cert.DhRefIdeal.nD Cert.DhRefIdeal.τ).loc Cert.DhRefIdeal.main_arg4)
          ∧ r.2.mem ((c.tc : Thread Cert.DhRefIdeal.nD Cert.DhRefIdeal.τ).loc Cert.DhRefIdeal.main_arg5) = m' ((c.tc : Thread Cert.DhRefIdeal.nD Cert.DhRefIdeal.τ).loc Cert.DhRefIdeal.main_arg5)
          ∧ r.2.mem ((c.tc : Thread Cert.DhRefIdeal.nD Cert.DhRefIdeal.τ).loc Cert.DhRefIdeal.main_arg6) = m' ((c.tc : Thread Cert.DhRefIdeal.nD Cert.DhRefIdeal.τ).loc Cert.DhRefIdeal.main_arg6))

def preserves_Mix_MixIdeal : Prop :=
  True

def algebraic_MixIdeal_MixRefIdeal_pre_mix_finite [hMixIdeal : Cert.MixIdeal.Facts] [hMixRefIdeal : Cert.MixRefIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_mix_finite m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v4_0)) (v1 : (c : Dev Cert.MixIdeal.nD) → Buf (Elt Ideal) ((c.tc : Thread Cert.MixIdeal.nD Cert.MixIdeal.τ).loc Cert.MixIdeal.main_v4_1)) (v2 : (c : Dev Cert.MixIdeal.nD) → Buf (Elt Ideal) ((c.tc : Thread Cert.MixIdeal.nD Cert.MixIdeal.τ).loc Cert.MixIdeal.main_v4_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v4_0) = v0 c
          ∧ r.2.mem ((c.tc : Thread Cert.MixIdeal.nD Cert.MixIdeal.τ).loc Cert.MixIdeal.main_v4_1) = v1 c
          ∧ r.2.mem ((c.tc : Thread Cert.MixIdeal.nD Cert.MixIdeal.τ).loc Cert.MixIdeal.main_v4_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v36) = v0 c
          ∧ r.2.mem ((c.tc : Thread Cert.MixRefIdeal.nD Cert.MixRefIdeal.τ).loc Cert.MixRefIdeal.main_v39) = v1 c
          ∧ r.2.mem ((c.tc : Thread Cert.MixRefIdeal.nD Cert.MixRefIdeal.τ).loc Cert.MixRefIdeal.main_v19) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4))

def preserves_Qnorm_QnormIdeal : Prop :=
  True

def algebraic_QnormIdeal_QnormRefIdeal_pre_qnorm_finite [hQnormIdeal : Cert.QnormIdeal.Facts] [hQnormRefIdeal : Cert.QnormRefIdeal.Facts] [hPre_qnorm_finite : Cert.Pre_qnorm_finite.Facts] : Prop :=
  ∀ (m : (ℓ : Loc Cert.QnormIdeal.nD Cert.QnormIdeal.τ Cert.QnormIdeal.sig) → Buf (Elt Ideal) ℓ) (g : Dev Cert.QnormIdeal.nD → PrngReg)
    (m' : (ℓ : Loc Cert.QnormRefIdeal.nD Cert.QnormRefIdeal.τ Cert.QnormRefIdeal.sig) → Buf (Elt Ideal) ℓ) (g' : Dev Cert.QnormRefIdeal.nD → PrngReg), Pre_QnormIdeal_qnorm_finite m →
    (∀ c : Dev Cert.QnormIdeal.nD,
      m' ((c.tc : Thread Cert.QnormRefIdeal.nD Cert.QnormRefIdeal.τ).loc Cert.QnormRefIdeal.main_arg0) = m ((c.tc : Thread Cert.QnormIdeal.nD Cert.QnormIdeal.τ).loc Cert.QnormIdeal.main_arg0)
      ∧ m' ((c.tc : Thread Cert.QnormRefIdeal.nD Cert.QnormRefIdeal.τ).loc Cert.QnormRefIdeal.main_arg1) = m ((c.tc : Thread Cert.QnormIdeal.nD Cert.QnormIdeal.τ).loc Cert.QnormIdeal.main_arg1)
      ∧ m' ((c.tc : Thread Cert.QnormRefIdeal.nD Cert.QnormRefIdeal.τ).loc Cert.QnormRefIdeal.main_arg2) = m ((c.tc : Thread Cert.QnormIdeal.nD Cert.QnormIdeal.τ).loc Cert.QnormIdeal.main_arg2)) →
    ∃ (v0 : (c : Dev Cert.QnormIdeal.nD) → Buf (Elt Ideal) ((c.tc : Thread Cert.QnormIdeal.nD Cert.QnormIdeal.τ).loc Cert.QnormIdeal.main_v45_0)) (v1 : (c : Dev Cert.QnormIdeal.nD) → Buf (Elt Ideal) ((c.tc : Thread Cert.QnormIdeal.nD Cert.QnormIdeal.τ).loc Cert.QnormIdeal.main_v45_1)),
      θ_run (Cert.QnormIdeal.defs (F := Ideal)) (onTc (τ := Cert.QnormIdeal.τ) (Cert.QnormIdeal.main (F := Ideal))) ⟨m, fun _ => 0, g⟩ (fun r => ∀ c : Dev Cert.QnormIdeal.nD,
          r.2.mem ((c.tc : Thread Cert.QnormIdeal.nD Cert.QnormIdeal.τ).loc Cert.QnormIdeal.main_v45_0) = v0 c
          ∧ r.2.mem ((c.tc : Thread Cert.QnormIdeal.nD Cert.QnormIdeal.τ).loc Cert.QnormIdeal.main_v45_1) = v1 c
          ∧ r.2.mem ((c.tc : Thread Cert.QnormIdeal.nD Cert.QnormIdeal.τ).loc Cert.QnormIdeal.main_arg0) = m ((c.tc : Thread Cert.QnormIdeal.nD Cert.QnormIdeal.τ).loc Cert.QnormIdeal.main_arg0)
          ∧ r.2.mem ((c.tc : Thread Cert.QnormIdeal.nD Cert.QnormIdeal.τ).loc Cert.QnormIdeal.main_arg1) = m ((c.tc : Thread Cert.QnormIdeal.nD Cert.QnormIdeal.τ).loc Cert.QnormIdeal.main_arg1)
          ∧ r.2.mem ((c.tc : Thread Cert.QnormIdeal.nD Cert.QnormIdeal.τ).loc Cert.QnormIdeal.main_arg2) = m ((c.tc : Thread Cert.QnormIdeal.nD Cert.QnormIdeal.τ).loc Cert.QnormIdeal.main_arg2))
      ∧ θ_run (Cert.QnormRefIdeal.defs (F := Ideal)) (onTc (τ := Cert.QnormRefIdeal.τ) (Cert.QnormRefIdeal.main (F := Ideal))) ⟨m', fun _ => 0, g'⟩ (fun r => ∀ c : Dev Cert.QnormRefIdeal.nD,
          r.2.mem ((c.tc : Thread Cert.QnormRefIdeal.nD Cert.QnormRefIdeal.τ).loc Cert.QnormRefIdeal.main_v115) = v0 c
          ∧ r.2.mem ((c.tc : Thread Cert.QnormRefIdeal.nD Cert.QnormRefIdeal.τ).loc Cert.QnormRefIdeal.main_v116) = v1 c
          ∧ r.2.mem ((c.tc : Thread Cert.QnormRefIdeal.nD Cert.QnormRefIdeal.τ).loc Cert.QnormRefIdeal.main_arg0) = m' ((c.tc : Thread Cert.QnormRefIdeal.nD Cert.QnormRefIdeal.τ).loc Cert.QnormRefIdeal.main_arg0)
          ∧ r.2.mem ((c.tc : Thread Cert.QnormRefIdeal.nD Cert.QnormRefIdeal.τ).loc Cert.QnormRefIdeal.main_arg1) = m' ((c.tc : Thread Cert.QnormRefIdeal.nD Cert.QnormRefIdeal.τ).loc Cert.QnormRefIdeal.main_arg1)
          ∧ r.2.mem ((c.tc : Thread Cert.QnormRefIdeal.nD Cert.QnormRefIdeal.τ).loc Cert.QnormRefIdeal.main_arg2) = m' ((c.tc : Thread Cert.QnormRefIdeal.nD Cert.QnormRefIdeal.τ).loc Cert.QnormRefIdeal.main_arg2))

def preserves_Merged_MergedIdeal : Prop :=
  True

def algebraic_MergedIdeal_MergedRefIdeal [hMergedIdeal : Cert.MergedIdeal.Facts] [hMergedRefIdeal : Cert.MergedRefIdeal.Facts] : Prop :=
  ∀ (m : (ℓ : Loc Cert.MergedIdeal.nD Cert.MergedIdeal.τ Cert.MergedIdeal.sig) → Buf (Elt Ideal) ℓ) (g : Dev Cert.MergedIdeal.nD → PrngReg)
    (m' : (ℓ : Loc Cert.MergedRefIdeal.nD Cert.MergedRefIdeal.τ Cert.MergedRefIdeal.sig) → Buf (Elt Ideal) ℓ) (g' : Dev Cert.MergedRefIdeal.nD → PrngReg), Pre_MergedIdeal m →
    (∀ c : Dev Cert.MergedIdeal.nD,
      m' ((c.tc : Thread Cert.MergedRefIdeal.nD Cert.MergedRefIdeal.τ).loc Cert.MergedRefIdeal.main_arg0) = m ((c.tc : Thread Cert.MergedIdeal.nD Cert.MergedIdeal.τ).loc Cert.MergedIdeal.main_arg0)
      ∧ m' ((c.tc : Thread Cert.MergedRefIdeal.nD Cert.MergedRefIdeal.τ).loc Cert.MergedRefIdeal.main_arg1) = m ((c.tc : Thread Cert.MergedIdeal.nD Cert.MergedIdeal.τ).loc Cert.MergedIdeal.main_arg1)
      ∧ m' ((c.tc : Thread Cert.MergedRefIdeal.nD Cert.MergedRefIdeal.τ).loc Cert.MergedRefIdeal.main_arg2) = m ((c.tc : Thread Cert.MergedIdeal.nD Cert.MergedIdeal.τ).loc Cert.MergedIdeal.main_arg2)
      ∧ m' ((c.tc : Thread Cert.MergedRefIdeal.nD Cert.MergedRefIdeal.τ).loc Cert.MergedRefIdeal.main_arg3) = m ((c.tc : Thread Cert.MergedIdeal.nD Cert.MergedIdeal.τ).loc Cert.MergedIdeal.main_arg3)
      ∧ m' ((c.tc : Thread Cert.MergedRefIdeal.nD Cert.MergedRefIdeal.τ).loc Cert.MergedRefIdeal.main_arg4) = m ((c.tc : Thread Cert.MergedIdeal.nD Cert.MergedIdeal.τ).loc Cert.MergedIdeal.main_arg4)
      ∧ m' ((c.tc : Thread Cert.MergedRefIdeal.nD Cert.MergedRefIdeal.τ).loc Cert.MergedRefIdeal.main_arg5) = m ((c.tc : Thread Cert.MergedIdeal.nD Cert.MergedIdeal.τ).loc Cert.MergedIdeal.main_arg5)
      ∧ m' ((c.tc : Thread Cert.MergedRefIdeal.nD Cert.MergedRefIdeal.τ).loc Cert.MergedRefIdeal.main_arg6) = m ((c.tc : Thread Cert.MergedIdeal.nD Cert.MergedIdeal.τ).loc Cert.MergedIdeal.main_arg6)
      ∧ m' ((c.tc : Thread Cert.MergedRefIdeal.nD Cert.MergedRefIdeal.τ).loc Cert.MergedRefIdeal.main_arg7) = m ((c.tc : Thread Cert.MergedIdeal.nD Cert.MergedIdeal.τ).loc Cert.MergedIdeal.main_arg7)
      ∧ m' ((c.tc : Thread Cert.MergedRefIdeal.nD Cert.MergedRefIdeal.τ).loc Cert.MergedRefIdeal.main_arg8) = m ((c.tc : Thread Cert.MergedIdeal.nD Cert.MergedIdeal.τ).loc Cert.MergedIdeal.main_arg8)) →
    ∃ (v0 : (c : Dev Cert.MergedIdeal.nD) → Buf (Elt Ideal) ((c.tc : Thread Cert.MergedIdeal.nD Cert.MergedIdeal.τ).loc Cert.MergedIdeal.main_v13_0)) (v1 : (c : Dev Cert.MergedIdeal.nD) → Buf (Elt Ideal) ((c.tc : Thread Cert.MergedIdeal.nD Cert.MergedIdeal.τ).loc Cert.MergedIdeal.main_v13_1)) (v2 : (c : Dev Cert.MergedIdeal.nD) → Buf (Elt Ideal) ((c.tc : Thread Cert.MergedIdeal.nD Cert.MergedIdeal.τ).loc Cert.MergedIdeal.main_v13_2)) (v3 : (c : Dev Cert.MergedIdeal.nD) → Buf (Elt Ideal) ((c.tc : Thread Cert.MergedIdeal.nD Cert.MergedIdeal.τ).loc Cert.MergedIdeal.main_v13_3)) (v4 : (c : Dev Cert.MergedIdeal.nD) → Buf (Elt Ideal) ((c.tc : Thread Cert.MergedIdeal.nD Cert.MergedIdeal.τ).loc Cert.MergedIdeal.main_v13_4)),
      θ_run (Cert.MergedIdeal.defs (F := Ideal)) (onTc (τ := Cert.MergedIdeal.τ) (Cert.MergedIdeal.main (F := Ideal))) ⟨m, fun _ => 0, g⟩ (fun r => ∀ c : Dev Cert.MergedIdeal.nD,
          r.2.mem ((c.tc : Thread Cert.MergedIdeal.nD Cert.MergedIdeal.τ).loc Cert.MergedIdeal.main_v13_0) = v0 c
          ∧ r.2.mem ((c.tc : Thread Cert.MergedIdeal.nD Cert.MergedIdeal.τ).loc Cert.MergedIdeal.main_v13_1) = v1 c
          ∧ r.2.mem ((c.tc : Thread Cert.MergedIdeal.nD Cert.MergedIdeal.τ).loc Cert.MergedIdeal.main_v13_2) = v2 c
          ∧ r.2.mem ((c.tc : Thread Cert.MergedIdeal.nD Cert.MergedIdeal.τ).loc Cert.MergedIdeal.main_v13_3) = v3 c
          ∧ r.2.mem ((c.tc : Thread Cert.MergedIdeal.nD Cert.MergedIdeal.τ).loc Cert.MergedIdeal.main_v13_4) = v4 c
          ∧ r.2.mem ((c.tc : Thread Cert.MergedIdeal.nD Cert.MergedIdeal.τ).loc Cert.MergedIdeal.main_arg0) = m ((c.tc : Thread Cert.MergedIdeal.nD Cert.MergedIdeal.τ).loc Cert.MergedIdeal.main_arg0)
          ∧ r.2.mem ((c.tc : Thread Cert.MergedIdeal.nD Cert.MergedIdeal.τ).loc Cert.MergedIdeal.main_arg1) = m ((c.tc : Thread Cert.MergedIdeal.nD Cert.MergedIdeal.τ).loc Cert.MergedIdeal.main_arg1)
          ∧ r.2.mem ((c.tc : Thread Cert.MergedIdeal.nD Cert.MergedIdeal.τ).loc Cert.MergedIdeal.main_arg2) = m ((c.tc : Thread Cert.MergedIdeal.nD Cert.MergedIdeal.τ).loc Cert.MergedIdeal.main_arg2)
          ∧ r.2.mem ((c.tc : Thread Cert.MergedIdeal.nD Cert.MergedIdeal.τ).loc Cert.MergedIdeal.main_arg3) = m ((c.tc : Thread Cert.MergedIdeal.nD Cert.MergedIdeal.τ).loc Cert.MergedIdeal.main_arg3)
          ∧ r.2.mem ((c.tc : Thread Cert.MergedIdeal.nD Cert.MergedIdeal.τ).loc Cert.MergedIdeal.main_arg4) = m ((c.tc : Thread Cert.MergedIdeal.nD Cert.MergedIdeal.τ).loc Cert.MergedIdeal.main_arg4)
          ∧ r.2.mem ((c.tc : Thread Cert.MergedIdeal.nD Cert.MergedIdeal.τ).loc Cert.MergedIdeal.main_arg5) = m ((c.tc : Thread Cert.MergedIdeal.nD Cert.MergedIdeal.τ).loc Cert.MergedIdeal.main_arg5)
          ∧ r.2.mem ((c.tc : Thread Cert.MergedIdeal.nD Cert.MergedIdeal.τ).loc Cert.MergedIdeal.main_arg6) = m ((c.tc : Thread Cert.MergedIdeal.nD Cert.MergedIdeal.τ).loc Cert.MergedIdeal.main_arg6)
          ∧ r.2.mem ((c.tc : Thread Cert.MergedIdeal.nD Cert.MergedIdeal.τ).loc Cert.MergedIdeal.main_arg7) = m ((c.tc : Thread Cert.MergedIdeal.nD Cert.MergedIdeal.τ).loc Cert.MergedIdeal.main_arg7)
          ∧ r.2.mem ((c.tc : Thread Cert.MergedIdeal.nD Cert.MergedIdeal.τ).loc Cert.MergedIdeal.main_arg8) = m ((c.tc : Thread Cert.MergedIdeal.nD Cert.MergedIdeal.τ).loc Cert.MergedIdeal.main_arg8))
      ∧ θ_run (Cert.MergedRefIdeal.defs (F := Ideal)) (onTc (τ := Cert.MergedRefIdeal.τ) (Cert.MergedRefIdeal.main (F := Ideal))) ⟨m', fun _ => 0, g'⟩ (fun r => ∀ c : Dev Cert.MergedRefIdeal.nD,
          r.2.mem ((c.tc : Thread Cert.MergedRefIdeal.nD Cert.MergedRefIdeal.τ).loc Cert.MergedRefIdeal.main_v22) = v0 c
          ∧ r.2.mem ((c.tc : Thread Cert.MergedRefIdeal.nD Cert.MergedRefIdeal.τ).loc Cert.MergedRefIdeal.main_v23) = v1 c
          ∧ r.2.mem ((c.tc : Thread Cert.MergedRefIdeal.nD Cert.MergedRefIdeal.τ).loc Cert.MergedRefIdeal.main_v24) = v2 c
          ∧ r.2.mem ((c.tc : Thread Cert.MergedRefIdeal.nD Cert.MergedRefIdeal.τ).loc Cert.MergedRefIdeal.main_v21) = v3 c
          ∧ r.2.mem ((c.tc : Thread Cert.MergedRefIdeal.nD Cert.MergedRefIdeal.τ).loc Cert.MergedRefIdeal.main_v37) = v4 c
          ∧ r.2.mem ((c.tc : Thread Cert.MergedRefIdeal.nD Cert.MergedRefIdeal.τ).loc Cert.MergedRefIdeal.main_arg0) = m' ((c.tc : Thread Cert.MergedRefIdeal.nD Cert.MergedRefIdeal.τ).loc Cert.MergedRefIdeal.main_arg0)
          ∧ r.2.mem ((c.tc : Thread Cert.MergedRefIdeal.nD Cert.MergedRefIdeal.τ).loc Cert.MergedRefIdeal.main_arg1) = m' ((c.tc : Thread Cert.MergedRefIdeal.nD Cert.MergedRefIdeal.τ).loc Cert.MergedRefIdeal.main_arg1)
          ∧ r.2.mem ((c.tc : Thread Cert.MergedRefIdeal.nD Cert.MergedRefIdeal.τ).loc Cert.MergedRefIdeal.main_arg2) = m' ((c.tc : Thread Cert.MergedRefIdeal.nD Cert.MergedRefIdeal.τ).loc Cert.MergedRefIdeal.main_arg2)
          ∧ r.2.mem ((c.tc : Thread Cert.MergedRefIdeal.nD Cert.MergedRefIdeal.τ).loc Cert.MergedRefIdeal.main_arg3) = m' ((c.tc : Thread Cert.MergedRefIdeal.nD Cert.MergedRefIdeal.τ).loc Cert.MergedRefIdeal.main_arg3)
          ∧ r.2.mem ((c.tc : Thread Cert.MergedRefIdeal.nD Cert.MergedRefIdeal.τ).loc Cert.MergedRefIdeal.main_arg4) = m' ((c.tc : Thread Cert.MergedRefIdeal.nD Cert.MergedRefIdeal.τ).loc Cert.MergedRefIdeal.main_arg4)
          ∧ r.2.mem ((c.tc : Thread Cert.MergedRefIdeal.nD Cert.MergedRefIdeal.τ).loc Cert.MergedRefIdeal.main_arg5) = m' ((c.tc : Thread Cert.MergedRefIdeal.nD Cert.MergedRefIdeal.τ).loc Cert.MergedRefIdeal.main_arg5)
          ∧ r.2.mem ((c.tc : Thread Cert.MergedRefIdeal.nD Cert.MergedRefIdeal.τ).loc Cert.MergedRefIdeal.main_arg6) = m' ((c.tc : Thread Cert.MergedRefIdeal.nD Cert.MergedRefIdeal.τ).loc Cert.MergedRefIdeal.main_arg6)
          ∧ r.2.mem ((c.tc : Thread Cert.MergedRefIdeal.nD Cert.MergedRefIdeal.τ).loc Cert.MergedRefIdeal.main_arg7) = m' ((c.tc : Thread Cert.MergedRefIdeal.nD Cert.MergedRefIdeal.τ).loc Cert.MergedRefIdeal.main_arg7)
          ∧ r.2.mem ((c.tc : Thread Cert.MergedRefIdeal.nD Cert.MergedRefIdeal.τ).loc Cert.MergedRefIdeal.main_arg8) = m' ((c.tc : Thread Cert.MergedRefIdeal.nD Cert.MergedRefIdeal.τ).loc Cert.MergedRefIdeal.main_arg8))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v7_0)) (v1 : (c : Dev Cert.UpIdeal.nD) → Buf (Elt Ideal) ((c.tc : Thread Cert.UpIdeal.nD Cert.UpIdeal.τ).loc Cert.UpIdeal.main_v7_1)) (v2 : (c : Dev Cert.UpIdeal.nD) → Buf (Elt Ideal) ((c.tc : Thread Cert.UpIdeal.nD Cert.UpIdeal.τ).loc Cert.UpIdeal.main_v7_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v7_0) = v0 c
          ∧ r.2.mem ((c.tc : Thread Cert.UpIdeal.nD Cert.UpIdeal.τ).loc Cert.UpIdeal.main_v7_1) = v1 c
          ∧ r.2.mem ((c.tc : Thread Cert.UpIdeal.nD Cert.UpIdeal.τ).loc Cert.UpIdeal.main_v7_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v6) = v0 c
          ∧ r.2.mem ((c.tc : Thread Cert.UpRefIdeal.nD Cert.UpRefIdeal.τ).loc Cert.UpRefIdeal.main_v9) = v1 c
          ∧ r.2.mem ((c.tc : Thread Cert.UpRefIdeal.nD Cert.UpRefIdeal.τ).loc Cert.UpRefIdeal.main_v12) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def Claim : Prop :=
  ∃ (hGate : Cert.Gate.Facts) (hGateIdeal : Cert.GateIdeal.Facts) (hGateRefIdeal : Cert.GateRefIdeal.Facts) (hAttn : Cert.Attn.Facts) (hAttnIdeal : Cert.AttnIdeal.Facts) (hAttnRefIdeal : Cert.AttnRefIdeal.Facts) (hGqa : Cert.Gqa.Facts) (hGqaIdeal : Cert.GqaIdeal.Facts) (hGqaRefIdeal : Cert.GqaRefIdeal.Facts) (hMerge : Cert.Merge.Facts) (hMergeIdeal : Cert.MergeIdeal.Facts) (hMergeRefIdeal : Cert.MergeRefIdeal.Facts) (hHead : Cert.Head.Facts) (hHeadIdeal : Cert.HeadIdeal.Facts) (hHeadRefIdeal : Cert.HeadRefIdeal.Facts) (hDh : Cert.Dh.Facts) (hDhIdeal : Cert.DhIdeal.Facts) (hDhRefIdeal : Cert.DhRefIdeal.Facts) (hMix : Cert.Mix.Facts) (hMixIdeal : Cert.MixIdeal.Facts) (hMixRefIdeal : Cert.MixRefIdeal.Facts) (hQnorm : Cert.Qnorm.Facts) (hQnormIdeal : Cert.QnormIdeal.Facts) (hQnormRefIdeal : Cert.QnormRefIdeal.Facts) (hMerged : Cert.Merged.Facts) (hMergedIdeal : Cert.MergedIdeal.Facts) (hMergedRefIdeal : Cert.MergedRefIdeal.Facts) (hUp : Cert.Up.Facts) (hUpIdeal : Cert.UpIdeal.Facts) (hUpRefIdeal : Cert.UpRefIdeal.Facts) (hPre_gate_finite : Cert.Pre_gate_finite.Facts) (hPre_attn_finite : Cert.Pre_attn_finite.Facts) (hPre_gqa_finite : Cert.Pre_gqa_finite.Facts) (hPre_head_finite : Cert.Pre_head_finite.Facts) (hPre_dh_finite : Cert.Pre_dh_finite.Facts) (hPre_mix_finite : Cert.Pre_mix_finite.Facts) (hPre_qnorm_finite : Cert.Pre_qnorm_finite.Facts),
    quiescent_Gate (hGate := hGate)
    ∧ quiescent_GateIdeal (hGateIdeal := hGateIdeal)
    ∧ quiescent_GateIdeal_pre_gate_finite (hGateIdeal := hGateIdeal) (hPre_gate_finite := hPre_gate_finite)
    ∧ quiescent_GateRefIdeal (hGateRefIdeal := hGateRefIdeal)
    ∧ quiescent_GateRefIdeal_pre_gate_finite (hGateRefIdeal := hGateRefIdeal) (hPre_gate_finite := hPre_gate_finite)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Gqa (hGqa := hGqa)
    ∧ quiescent_GqaIdeal (hGqaIdeal := hGqaIdeal)
    ∧ quiescent_GqaIdeal_pre_gqa_finite (hGqaIdeal := hGqaIdeal) (hPre_gqa_finite := hPre_gqa_finite)
    ∧ quiescent_GqaRefIdeal (hGqaRefIdeal := hGqaRefIdeal)
    ∧ quiescent_GqaRefIdeal_pre_gqa_finite (hGqaRefIdeal := hGqaRefIdeal) (hPre_gqa_finite := hPre_gqa_finite)
    ∧ quiescent_Merge (hMerge := hMerge)
    ∧ quiescent_MergeIdeal (hMergeIdeal := hMergeIdeal)
    ∧ quiescent_MergeRefIdeal (hMergeRefIdeal := hMergeRefIdeal)
    ∧ quiescent_Head (hHead := hHead)
    ∧ quiescent_HeadIdeal (hHeadIdeal := hHeadIdeal)
    ∧ quiescent_HeadIdeal_pre_head_finite (hHeadIdeal := hHeadIdeal) (hPre_head_finite := hPre_head_finite)
    ∧ quiescent_HeadRefIdeal (hHeadRefIdeal := hHeadRefIdeal)
    ∧ quiescent_HeadRefIdeal_pre_head_finite (hHeadRefIdeal := hHeadRefIdeal) (hPre_head_finite := hPre_head_finite)
    ∧ quiescent_Dh (hDh := hDh)
    ∧ quiescent_DhIdeal (hDhIdeal := hDhIdeal)
    ∧ quiescent_DhIdeal_pre_dh_finite (hDhIdeal := hDhIdeal) (hPre_dh_finite := hPre_dh_finite)
    ∧ quiescent_DhRefIdeal (hDhRefIdeal := hDhRefIdeal)
    ∧ quiescent_DhRefIdeal_pre_dh_finite (hDhRefIdeal := hDhRefIdeal) (hPre_dh_finite := hPre_dh_finite)
    ∧ quiescent_Mix (hMix := hMix)
    ∧ quiescent_MixIdeal (hMixIdeal := hMixIdeal)
    ∧ quiescent_MixIdeal_pre_mix_finite (hMixIdeal := hMixIdeal) (hPre_mix_finite := hPre_mix_finite)
    ∧ quiescent_MixRefIdeal (hMixRefIdeal := hMixRefIdeal)
    ∧ quiescent_MixRefIdeal_pre_mix_finite (hMixRefIdeal := hMixRefIdeal) (hPre_mix_finite := hPre_mix_finite)
    ∧ quiescent_Qnorm (hQnorm := hQnorm)
    ∧ quiescent_QnormIdeal (hQnormIdeal := hQnormIdeal)
    ∧ quiescent_QnormIdeal_pre_qnorm_finite (hQnormIdeal := hQnormIdeal) (hPre_qnorm_finite := hPre_qnorm_finite)
    ∧ quiescent_QnormRefIdeal (hQnormRefIdeal := hQnormRefIdeal)
    ∧ quiescent_QnormRefIdeal_pre_qnorm_finite (hQnormRefIdeal := hQnormRefIdeal) (hPre_qnorm_finite := hPre_qnorm_finite)
    ∧ quiescent_Merged (hMerged := hMerged)
    ∧ quiescent_MergedIdeal (hMergedIdeal := hMergedIdeal)
    ∧ quiescent_MergedRefIdeal (hMergedRefIdeal := hMergedRefIdeal)
    ∧ quiescent_Up (hUp := hUp)
    ∧ quiescent_UpIdeal (hUpIdeal := hUpIdeal)
    ∧ quiescent_UpRefIdeal (hUpRefIdeal := hUpRefIdeal)
    ∧ preserves_Gate_GateIdeal
    ∧ algebraic_GateIdeal_GateRefIdeal_pre_gate_finite (hGateIdeal := hGateIdeal) (hGateRefIdeal := hGateRefIdeal) (hPre_gate_finite := hPre_gate_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Gqa_GqaIdeal
    ∧ algebraic_GqaIdeal_GqaRefIdeal_pre_gqa_finite (hGqaIdeal := hGqaIdeal) (hGqaRefIdeal := hGqaRefIdeal) (hPre_gqa_finite := hPre_gqa_finite)
    ∧ preserves_Merge_MergeIdeal
    ∧ algebraic_MergeIdeal_MergeRefIdeal (hMergeIdeal := hMergeIdeal) (hMergeRefIdeal := hMergeRefIdeal)
    ∧ preserves_Head_HeadIdeal
    ∧ algebraic_HeadIdeal_HeadRefIdeal_pre_head_finite (hHeadIdeal := hHeadIdeal) (hHeadRefIdeal := hHeadRefIdeal) (hPre_head_finite := hPre_head_finite)
    ∧ preserves_Dh_DhIdeal
    ∧ algebraic_DhIdeal_DhRefIdeal_pre_dh_finite (hDhIdeal := hDhIdeal) (hDhRefIdeal := hDhRefIdeal) (hPre_dh_finite := hPre_dh_finite)
    ∧ preserves_Mix_MixIdeal
    ∧ algebraic_MixIdeal_MixRefIdeal_pre_mix_finite (hMixIdeal := hMixIdeal) (hMixRefIdeal := hMixRefIdeal) (hPre_mix_finite := hPre_mix_finite)
    ∧ preserves_Qnorm_QnormIdeal
    ∧ algebraic_QnormIdeal_QnormRefIdeal_pre_qnorm_finite (hQnormIdeal := hQnormIdeal) (hQnormRefIdeal := hQnormRefIdeal) (hPre_qnorm_finite := hPre_qnorm_finite)
    ∧ preserves_Merged_MergedIdeal
    ∧ algebraic_MergedIdeal_MergedRefIdeal (hMergedIdeal := hMergedIdeal) (hMergedRefIdeal := hMergedRefIdeal)
    ∧ preserves_Up_UpIdeal
    ∧ algebraic_UpIdeal_UpRefIdeal (hUpIdeal := hUpIdeal) (hUpRefIdeal := hUpRefIdeal)
-- ==== Pre_attn_finite.lean ====
abbrev S4096x1024 : Shape := ⟨2, ![4096, 1024]⟩
abbrev S4096x256 : Shape := ⟨2, ![4096, 256]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x1024 .f32) (main_arg1 : FVec F S4096x256 .f32) (main_arg2 : FVec F S4096x256 .f32) (main_arg3 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Pre_dh_finite.lean ====
abbrev S4096x1024 : Shape := ⟨2, ![4096, 1024]⟩
abbrev S1x1024 : Shape := ⟨2, ![1, 1024]⟩
abbrev S1024x2816 : Shape := ⟨2, ![1024, 2816]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S4096x2816 : S_.BroadcastsInDim S4096x2816 (![] : Fin 0 → Fin S4096x2816.rank)
  reducesTo_S4096x2816_S_d0_1 : S4096x2816.ReducesTo [0, 1] S_

variable [Facts]

def fn_part1 {F : FTy → Type} [FloatOps F] (main_arg4 : FVec F S4096x2816 .f32) (main_arg5 : FVec F S4096x2816 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S4096x2816 .f32 := Host.absf main_arg4
  let main_cst_6 : FVec F S_ .f32 := constant S_ .f32 0x7F800000#32
  let main_v20 : FVec F S4096x2816 .f32 := broadcastInDim S4096x2816 ![] bcast_S_S4096x2816 main_cst_6
  let main_v21 : IVec S4096x2816 1 := cmpf .olt main_v19 main_v20
  let main_c_7 : IVec S_ 1 := constantI S_ 1 1#1
  let main_v22 : IVec S_ 1 := (fun x v => Host.reduce IntOp.andi x v reducesTo_S4096x2816_S_d0_1 h_S_) main_v21 main_c_7
  let main_v23 : IVec S_ 1 := andi main_v18 main_v22
  let main_v24 : FVec F S4096x2816 .f32 := Host.absf main_arg5
  let main_cst_8 : FVec F S_ .f32 := constant S_ .f32 0x7F800000#32
  let main_v25 : FVec F S4096x2816 .f32 := broadcastInDim S4096x2816 ![] bcast_S_S4096x2816 main_cst_8
  let main_v26 : IVec S4096x2816 1 := cmpf .olt main_v24 main_v25
  let main_c_9 : IVec S_ 1 := constantI S_ 1 1#1
  let main_v27 : IVec S_ 1 := (fun x v => Host.reduce IntOp.andi x v reducesTo_S4096x2816_S_d0_1 h_S_) main_v26 main_c_9
  let main_v28 : IVec S_ 1 := andi main_v23 main_v27
  main_v28

def fn {F : FTy → Type} [FloatOps F] (main_arg0 : FVec F S4096x1024 .f32) (main_arg1 : FVec F S1x1024 .f32) (main_arg2 : FVec F S1024x2816 .f32) (main_arg3 : FVec F S1024x2816 .f32) (main_arg4 : FVec F S4096x2816 .f32) (main_arg5 : FVec F S4096x2816 .f32) (main_arg6 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== Pre_gate_finite.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

class Facts : Prop where
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x2816 .f32) (main_arg1 : FVec F S4096x2816 .f32) (main_arg2 : FVec F S2816x1024 .f32) (main_arg3 : FVec F S4096x1024 .f32) : IVec S_ 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_c : IVec S_ 1 := constantI S_ 1 1#1
  let main_v3 : IVec S_ 1 := (fun x v => Host.reduce IntOp.andi x v reducesTo_S4096x2816_S_d0_1 h_S_) main_v2 main_c
  let main_v4 : FVec F S4096x2816 .f32 := Host.absf main_arg1
  let main_cst_0 : FVec F S_ .f32 := constant S_ .f32 0x7F800000#32
  let main_v5 : FVec F S4096x2816 .f32 := broadcastInDim S4096x2816 ![] bcast_S_S4096x2816 main_cst_0
  let main_v6 : IVec S4096x2816 1 := cmpf .olt main_v4 main_v5
  let main_c_1 : IVec S_ 1 := constantI S_ 1 1#1
  let main_v7 : IVec S_ 1 := (fun x v => Host.reduce IntOp.andi x v reducesTo_S4096x2816_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Pre_gqa_finite.lean ====
abbrev S4096x1024 : Shape := ⟨2, ![4096, 1024]⟩
abbrev S4096x256 : Shape := ⟨2, ![4096, 256]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_

variable [Facts]

def fn {F : FTy → Type} [FloatOps F] (main_arg0 : FVec F S4096x1024 .f32) (main_arg1 : FVec F S4096x256 .f32) (main_arg2 : FVec F S4096x256 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  main_v13
-- ==== Pre_head_finite.lean ====
abbrev S4096x1024 : Shape := ⟨2, ![4096, 1024]⟩
abbrev S4096x2816 : Shape := ⟨2, ![4096, 2816]⟩
abbrev S2816x1024 : Shape := ⟨2, ![2816, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2816 : S_.BroadcastsInDim S4096x2816 (![] : Fin 0 → Fin S4096x2816.rank)
  reducesTo_S4096x2816_S_d0_1 : S4096x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S4096x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x1024 .f32) (main_arg1 : FVec F S4096x2816 .f32) (main_arg2 : FVec F S2816x1024 .f32) (main_arg3 : FVec F S1024 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2816 .f32 := Host.absf main_arg1
  let main_cst_0 : FVec F S_ .f32 := constant S_ .f32 0x7F800000#32
  let main_v5 : FVec F S4096x2816 .f32 := broadcastInDim S4096x2816 ![] bcast_S_S4096x2816 main_cst_0
  let main_v6 : IVec S4096x2816 1 := cmpf .olt main_v4 main_v5
  let main_c_1 : IVec S_ 1 := constantI S_ 1 1#1
  let main_v7 : IVec S_ 1 := (fun x v => Host.reduce IntOp.andi x v reducesTo_S4096x2816_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Pre_mix_finite.lean ====
abbrev S4096x1024 : Shape := ⟨2, ![4096, 1024]⟩
abbrev S1x1024 : Shape := ⟨2, ![1, 1024]⟩
abbrev S1024x8192 : Shape := ⟨2, ![1024, 8192]⟩
abbrev S4096x8192 : Shape := ⟨2, ![4096, 8192]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x8192 : S_.BroadcastsInDim S1024x8192 (![] : Fin 0 → Fin S1024x8192.rank)
  reducesTo_S1024x8192_S_d0_1 : S1024x8192.ReducesTo [0, 1] S_
  bcast_S_S4096x8192 : S_.BroadcastsInDim S4096x8192 (![] : Fin 0 → Fin S4096x8192.rank)
  reducesTo_S4096x8192_S_d0_1 : S4096x8192.ReducesTo [0, 1] S_

variable [Facts]

def fn_part1 {F : FTy → Type} [FloatOps F] (main_v13 : IVec S_ 1) (main_v16 : IVec S4096x8192 1) : IVec S_ 1 :=
  let main_c_5 : IVec S_ 1 := constantI S_ 1 1#1
  let main_v17 : IVec S_ 1 := (fun x v => Host.reduce IntOp.andi x v reducesTo_S4096x8192_S_d0_1 h_S_) main_v16 main_c_5
  let main_v18 : IVec S_ 1 := andi main_v13 main_v17
  main_v18

def fn {F : FTy → Type} [FloatOps F] (main_arg0 : FVec F S4096x1024 .f32) (main_arg1 : FVec F S1x1024 .f32) (main_arg2 : FVec F S1024x8192 .f32) (main_arg3 : FVec F S4096x8192 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x8192 .f32 := Host.absf main_arg2
  let main_cst_2 : FVec F S_ .f32 := constant S_ .f32 0x7F800000#32
  let main_v10 : FVec F S1024x8192 .f32 := broadcastInDim S1024x8192 ![] bcast_S_S1024x8192 main_cst_2
  let main_v11 : IVec S1024x8192 1 := cmpf .olt main_v9 main_v10
  let main_c_3 : IVec S_ 1 := constantI S_ 1 1#1
  let main_v12 : IVec S_ 1 := (fun x v => Host.reduce IntOp.andi x v reducesTo_S1024x8192_S_d0_1 h_S_) main_v11 main_c_3
  let main_v13 : IVec S_ 1 := andi main_v8 main_v12
  let main_v14 : FVec F S4096x8192 .f32 := Host.absf main_arg3
  let main_cst_4 : FVec F S_ .f32 := constant S_ .f32 0x7F800000#32
  let main_v15 : FVec F S4096x8192 .f32 := broadcastInDim S4096x8192 ![] bcast_S_S4096x8192 main_cst_4
  let main_v16 : IVec S4096x8192 1 := cmpf .olt main_v14 main_v15
  fn_part1 (F := F) main_v13 main_v16
-- ==== Pre_qnorm_finite.lean ====
abbrev S4096x1024 : Shape := ⟨2, ![4096, 1024]⟩
abbrev S1x128 : Shape := ⟨2, ![1, 128]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_

variable [Facts]

def fn {F : FTy → Type} [FloatOps F] (main_arg0 : FVec F S4096x1024 .f32) (main_arg1 : FVec F S1x128 .f32) (main_arg2 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Gate.lean ====
abbrev S4096x2816 : Shape := ⟨2, ![4096, 2816]⟩
abbrev S2816x1024 : Shape := ⟨2, ![2816, 1024]⟩
abbrev S4096x1024 : Shape := ⟨2, ![4096, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S_ : Shape := ⟨0, ![]⟩
abbrev S1024x1024 : Shape := ⟨2, ![1024, 1024]⟩
abbrev S1x704x1024 : Shape := ⟨3, ![1, 704, 1024]⟩
abbrev S1x1024x704 : Shape := ⟨3, ![1, 1024, 704]⟩
abbrev S704x1024 : Shape := ⟨2, ![704, 1024]⟩
abbrev S1024x704 : Shape := ⟨2, ![1024, 704]⟩

abbrev nBuf : Space → Nat
  | .hbm => 18
  | .vmem => 12
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x4x704, .f32⟩
  | .hbm, ⟨5, _⟩ => ⟨S4x4096x704, .f32⟩
  | .hbm, ⟨6, _⟩ => ⟨S4x4096x704, .bf16⟩
  | .hbm, ⟨7, _⟩ => ⟨S4096x4x704, .f32⟩
  | .hbm, ⟨8, _⟩ => ⟨S4x4096x704, .f32⟩
  | .hbm, ⟨9, _⟩ => ⟨S4x4096x704, .bf16⟩
  | .hbm, ⟨10, _⟩ => ⟨S4x704x1024, .f32⟩
  | .hbm, ⟨11, _⟩ => ⟨S4x704x1024, .bf16⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .bf16⟩
  | .hbm, ⟨16, _⟩ => ⟨S4x4096x704, .bf16⟩
  | .hbm, ⟨17, _⟩ => ⟨S4x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateRefIdeal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S4096x4x704 : Shape := ⟨3, ![4096, 4, 704]⟩
abbrev S4x4096x704 : Shape := ⟨3, ![4, 4096, 704]⟩

abbrev nBuf : Space → Nat
  | .hbm => 38
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x4x704, .f32⟩
  | .hbm, ⟨33, _⟩ => ⟨S4x4096x704, .f32⟩
  | .hbm, ⟨34, _⟩ => ⟨S4x4096x704, .bf16⟩
  | .hbm, ⟨35, _⟩ => ⟨S4096x4x704, .f32⟩
  | .hbm, ⟨36, _⟩ => ⟨S4x4096x704, .f32⟩
  | .hbm, ⟨37, _⟩ => ⟨S4x4096x704, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩

abbrev nD : Nat := 1
abbrev τ : Topo := Topo.v7x

variable {F : FTy → Type} [FloatOps F]
-- ==== Attn.lean ====
abbrev S4096x1024 : Shape := ⟨2, ![4096, 1024]⟩
abbrev S4096x256 : Shape := ⟨2, ![4096, 256]⟩
abbrev S_ : Shape := ⟨0, ![]⟩
abbrev S4096x1280 : Shape := ⟨2, ![4096, 1280]⟩
abbrev S1x4096x1x256 : Shape := ⟨4, ![1, 4096, 1, 256]⟩
abbrev S1x4096x32x256 : Shape := ⟨4, ![1, 4096, 32, 256]⟩
abbrev S4096x8192 : Shape := ⟨2, ![4096, 8192]⟩
abbrev S4096x2x4x128 : Shape := ⟨4, ![4096, 2, 4, 128]⟩
abbrev S4096x2x128 : Shape := ⟨3, ![4096, 2, 128]⟩
abbrev S2x4096x4096x4 : Shape := ⟨4, ![2, 4096, 4096, 4]⟩
abbrev S2x4x4096x4096 : Shape := ⟨4, ![2, 4, 4096, 4096]⟩
abbrev S2x4x4096 : Shape := ⟨3, ![2, 4, 4096]⟩
abbrev S2x4x4096x1 : Shape := ⟨4, ![2, 4, 4096, 1]⟩
abbrev S2x4x4096x128 : Shape := ⟨4, ![2, 4, 4096, 128]⟩
abbrev S2x4096x4 : Shape := ⟨3, ![2, 4096, 4]⟩
abbrev S2x4096x1x4 : Shape := ⟨4, ![2, 4096, 1, 4]⟩
abbrev S2x4096x32x4 : Shape := ⟨4, ![2, 4096, 32, 4]⟩
abbrev S2x4096x128 : Shape := ⟨3, ![2, 4096, 128]⟩
abbrev S256x512 : Shape := ⟨2, ![256, 512]⟩
abbrev S4096x128 : Shape := ⟨2, ![4096, 128]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S256x4096 : Shape := ⟨2, ![256, 4096]⟩

abbrev nBuf : Space → Nat
  | .hbm => 57
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S4096x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .bf16⟩
  | .hbm, ⟨11, _⟩ => ⟨S4096x256, .bf16⟩
  | .hbm, ⟨12, _⟩ => ⟨S4096x1280, .bf16⟩
  | .hbm, ⟨13, _⟩ => ⟨S4096x256, .bf16⟩
  | .hbm, ⟨14, _⟩ => ⟨S1x4096x1x256, .bf16⟩
  | .hbm, ⟨15, _⟩ => ⟨S1x4096x32x256, .bf16⟩
  | .hbm, ⟨16, _⟩ => ⟨S4096x8192, .bf16⟩
  | .hbm, ⟨17, _⟩ => ⟨S4096x256, .bf16⟩
  | .hbm, ⟨18, _⟩ => ⟨S4096x2x4x128, .bf16⟩
  | .hbm, ⟨19, _⟩ => ⟨S4096x2x128, .bf16⟩
  | .hbm, ⟨20, _⟩ => ⟨S4096x2x128, .bf16⟩
  | .hbm, ⟨21, _⟩ => ⟨S2x4096x4096x4, .f32⟩
  | .hbm, ⟨22, _⟩ => ⟨S2x4x4096x4096, .f32⟩
  | .hbm, ⟨23, _⟩ => ⟨S_, .f32⟩
  | .hbm, ⟨24, _⟩ => ⟨S2x4x4096, .f32⟩
  | .hbm, ⟨25, _⟩ => ⟨S2x4x4096x1, .f32⟩
  | .hbm, ⟨26, _⟩ => ⟨S2x4x4096x4096, .f32⟩
  | .hbm, ⟨27, _⟩ => ⟨S2x4x4096x4096, .f32⟩
  | .hbm, ⟨28, _⟩ => ⟨S_, .f32⟩
  | .hbm, ⟨29, _⟩ => ⟨S_, .f32⟩
  | .hbm, ⟨30, _⟩ => ⟨S2x4x4096x4096, .f32⟩
  | .hbm, ⟨31, _⟩ => ⟨S2x4x4096x4096, .f32⟩
  | .hbm, ⟨32, _⟩ => ⟨S2x4x4096x4096, .f32⟩
  | .hbm, ⟨33, _⟩ => ⟨S_, .f32⟩
  | .hbm, ⟨34, _⟩ => ⟨S2x4x4096, .f32⟩
  | .hbm, ⟨35, _⟩ => ⟨S2x4x4096x4096, .bf16⟩
  | .hbm, ⟨36, _⟩ => ⟨S2x4x4096x128, .f32⟩
  | .hbm, ⟨37, _⟩ => ⟨S2x4x4096x1, .f32⟩
  | .hbm, ⟨38, _⟩ => ⟨S2x4x4096x128, .f32⟩
  | .hbm, ⟨39, _⟩ => ⟨S2x4x4096x128, .f32⟩
  | .hbm, ⟨40, _⟩ => ⟨S2x4x4096, .f32⟩
  | .hbm, ⟨41, _⟩ => ⟨S_, .f32⟩
  | .hbm, ⟨42, _⟩ => ⟨S_, .f32⟩
  | .hbm, ⟨43, _⟩ => ⟨S2x4x4096, .f32⟩
  | .hbm, ⟨44, _⟩ => ⟨S2x4x4096, .f32⟩
  | .hbm, ⟨45, _⟩ => ⟨S2x4x4096, .f32⟩
  | .hbm, ⟨46, _⟩ => ⟨S2x4096x4, .f32⟩
  | .hbm, ⟨47, _⟩ => ⟨S2x4096x1x4, .f32⟩
  | .hbm, ⟨48, _⟩ => ⟨S2x4096x32x4, .f32⟩
  | .hbm, ⟨49, _⟩ => ⟨S2x4096x128, .f32⟩
  | .hbm, ⟨50, _⟩ => ⟨S4096x2x4x128, .f32⟩
  | .hbm, ⟨51, _⟩ => ⟨S4096x1024, .f32⟩
  | .hbm, ⟨52, _⟩ => ⟨S4096x1024, .bf16⟩
  | .hbm, ⟨53, _⟩ => ⟨S4096x1024, .bf16⟩
  | .hbm, ⟨54, _⟩ => ⟨S4096x1024, .bf16⟩
  | .hbm, ⟨55, _⟩ => ⟨S4096x256, .f32⟩
  | .hbm, ⟨56, _⟩ => ⟨S4096x256, .f32⟩
  | .local _ .vmem, ⟨0, _⟩ => ⟨S256x512, .bf16⟩
  | .local _ .vmem, ⟨1, _⟩ => ⟨S256x512, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x512, .bf16⟩
  | .local _ .vmem, ⟨7, _⟩ => ⟨S256x512, .bf16⟩
  | .local _ .vmem, ⟨8, _⟩ => ⟨S1x256x128, .f32⟩
  | .local _ .vmem, ⟨9, _⟩ => ⟨S1x256x128, .f32⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44_0 : Ref sig .tc := ⟨.hbm, 54, rfl⟩
abbrev main_v44_1 : Ref sig .tc := ⟨.hbm, 55, rfl⟩
abbrev main_v44_2 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c46_i32 : BitVec 32 := 46#32
  let v0 : BitVec 32 := Scalar.addi c46_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== AttnRefIdeal.lean ====
abbrev S4096x1024 : Shape := ⟨2, ![4096, 1024]⟩
abbrev S4096x256 : Shape := ⟨2, ![4096, 256]⟩
abbrev S4096x2x4x128 : Shape := ⟨4, ![4096, 2, 4, 128]⟩
abbrev S4096x2x128 : Shape := ⟨3, ![4096, 2, 128]⟩
abbrev S2x4096x4096x4 : Shape := ⟨4, ![2, 4096, 4096, 4]⟩
abbrev S2x4x4096x4096 : Shape := ⟨4, ![2, 4, 4096, 4096]⟩
abbrev S_ : Shape := ⟨0, ![]⟩
abbrev S2x4x4096 : Shape := ⟨3, ![2, 4, 4096]⟩
abbrev S2x4x4096x1 : Shape := ⟨4, ![2, 4, 4096, 1]⟩
abbrev S2x128x4x4096 : Shape := ⟨4, ![2, 128, 4, 4096]⟩
abbrev S2x128x4096 : Shape := ⟨3, ![2, 128, 4096]⟩
abbrev S2x4096x4x128 : Shape := ⟨4, ![2, 4096, 4, 128]⟩
abbrev S2x4096x128 : Shape := ⟨3, ![2, 4096, 128]⟩

abbrev nBuf : Space → Nat
  | .hbm => 91
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S4096x1024, .f32⟩
  | .hbm, ⟨4, _⟩ => ⟨S4096x2x4x128, .f32⟩
  | .hbm, ⟨5, _⟩ => ⟨S4096x2x128, .f32⟩
  | .hbm, ⟨6, _⟩ => ⟨S4096x2x128, .f32⟩
  | .hbm, ⟨7, _⟩ => ⟨S2x4096x4096x4, .f32⟩
  | .hbm, ⟨8, _⟩ => ⟨S2x4x4096x4096, .f32⟩
  | .hbm, ⟨9, _⟩ => ⟨S_, .f32⟩
  | .hbm, ⟨10, _⟩ => ⟨S2x4x4096x4096, .f32⟩
  | .hbm, ⟨11, _⟩ => ⟨S2x4x4096x4096, .f32⟩
  | .hbm, ⟨12, _⟩ => ⟨S_, .f32⟩
  | .hbm, ⟨13, _⟩ => ⟨S2x4x4096, .f32⟩
  | .hbm, ⟨14, _⟩ => ⟨S2x4x4096x1, .f32⟩
  | .hbm, ⟨15, _⟩ => ⟨S2x4x4096x4096, .f32⟩
  | .hbm, ⟨16, _⟩ => ⟨S2x4x4096x4096, .i1⟩
  | .hbm, ⟨17, _⟩ => ⟨S2x4x4096x4096, .f32⟩
  | .hbm, ⟨18, _⟩ => ⟨S_, .f32⟩
  | .hbm, ⟨19, _⟩ => ⟨S2x4x4096, .f32⟩
  | .hbm, ⟨20, _⟩ => ⟨S_, .f32⟩
  | .hbm, ⟨21, _⟩ => ⟨S2x4x4096, .f32⟩
  | .hbm, ⟨22, _⟩ => ⟨S2x4x4096, .f32⟩
  | .hbm, ⟨23, _⟩ => ⟨S_, .f32⟩
  | .hbm, ⟨24, _⟩ => ⟨S2x4x4096, .f32⟩
  | .hbm, ⟨25, _⟩ => ⟨S2x4x4096, .i1⟩
  | .hbm, ⟨26, _⟩ => ⟨S_, .f32⟩
  | .hbm, ⟨27, _⟩ => ⟨S2x4x4096, .f32⟩
  | .hbm, ⟨28, _⟩ => ⟨S2x4x4096, .i1⟩
  | .hbm, ⟨29, _⟩ => ⟨S_, .f32⟩
  | .hbm, ⟨30, _⟩ => ⟨S2x4x4096, .f32⟩
  | .hbm, ⟨31, _⟩ => ⟨S_, .f32⟩
  | .hbm, ⟨32, _⟩ => ⟨S2x4x4096, .f32⟩
  | .hbm, ⟨33, _⟩ => ⟨S_, .f32⟩
  | .hbm, ⟨34, _⟩ => ⟨S2x4x4096, .f32⟩
  | .hbm, ⟨35, _⟩ => ⟨S2x4x4096, .f32⟩
  | .hbm, ⟨36, _⟩ => ⟨S2x4x4096, .f32⟩
  | .hbm, ⟨37, _⟩ => ⟨S2x4x4096x1, .f32⟩
  | .hbm, ⟨38, _⟩ => ⟨S2x4x4096x4096, .f32⟩
  | .hbm, ⟨39, _⟩ => ⟨S2x4x4096x4096, .f32⟩
  | .hbm, ⟨40, _⟩ => ⟨S2x4x4096x4096, .f32⟩
  | .hbm, ⟨41, _⟩ => ⟨S_, .f32⟩
  | .hbm, ⟨42, _⟩ => ⟨S2x4x4096, .f32⟩
  | .hbm, ⟨43, _⟩ => ⟨S2x4x4096x1, .f32⟩
  | .hbm, ⟨44, _⟩ => ⟨S2x4x4096x4096, .f32⟩
  | .hbm, ⟨45, _⟩ => ⟨S2x4x4096x4096, .f32⟩
  | .hbm, ⟨46, _⟩ => ⟨S2x4x4096x1, .f32⟩
  | .hbm, ⟨47, _⟩ => ⟨S_, .f32⟩
  | .hbm, ⟨48, _⟩ => ⟨S2x4x4096x1, .f32⟩
  | .hbm, ⟨49, _⟩ => ⟨S2x4x4096x1, .f32⟩
  | .hbm, ⟨50, _⟩ => ⟨S2x128x4x4096, .f32⟩
  | .hbm, ⟨51, _⟩ => ⟨S4096x2x4x128, .f32⟩
  | .hbm, ⟨52, _⟩ => ⟨S4096x1024, .f32⟩
  | .hbm, ⟨53, _⟩ => ⟨S4096x2x4x128, .f32⟩
  | .hbm, ⟨54, _⟩ => ⟨S2x128x4x4096, .f32⟩
  | .hbm, ⟨55, _⟩ => ⟨S2x4x4096x4096, .f32⟩
  | .hbm, ⟨56, _⟩ => ⟨S2x128x4096, .f32⟩
  | .hbm, ⟨57, _⟩ => ⟨S4096x2x128, .f32⟩
  | .hbm, ⟨58, _⟩ => ⟨S2x4x4096x4096, .f32⟩
  | .hbm, ⟨59, _⟩ => ⟨S2x4x4096x4096, .f32⟩
  | .hbm, ⟨60, _⟩ => ⟨S2x4x4096x4096, .f32⟩
  | .hbm, ⟨61, _⟩ => ⟨S_, .f32⟩
  | .hbm, ⟨62, _⟩ => ⟨S2x4x4096, .f32⟩
  | .hbm, ⟨63, _⟩ => ⟨S2x4x4096x1, .f32⟩
  | .hbm, ⟨64, _⟩ => ⟨S2x4x4096x1, .f32⟩
  | .hbm, ⟨65, _⟩ => ⟨S2x4x4096x4096, .f32⟩
  | .hbm, ⟨66, _⟩ => ⟨S2x4x4096x4096, .f32⟩
  | .hbm, ⟨67, _⟩ => ⟨S_, .f32⟩
  | .hbm, ⟨68, _⟩ => ⟨S2x4x4096, .f32⟩
  | .hbm, ⟨69, _⟩ => ⟨S2x4x4096x4096, .f32⟩
  | .hbm, ⟨70, _⟩ => ⟨S2x4x4096x4096, .f32⟩
  | .hbm, ⟨71, _⟩ => ⟨S2x4x4096x4096, .f32⟩
  | .hbm, ⟨72, _⟩ => ⟨S_, .f32⟩
  | .hbm, ⟨73, _⟩ => ⟨S2x4x4096x4096, .f32⟩
  | .hbm, ⟨74, _⟩ => ⟨S2x4x4096x4096, .f32⟩
  | .hbm, ⟨75, _⟩ => ⟨S2x4096x4096x4, .f32⟩
  | .hbm, ⟨76, _⟩ => ⟨S2x4096x4x128, .f32⟩
  | .hbm, ⟨77, _⟩ => ⟨S4096x2x4x128, .f32⟩
  | .hbm, ⟨78, _⟩ => ⟨S2x4096x128, .f32⟩
  | .hbm, ⟨79, _⟩ => ⟨S4096x2x128, .f32⟩
  | .hbm, ⟨80, _⟩ => ⟨S4096x256, .f32⟩
  | .hbm, ⟨81, _⟩ => ⟨S4096x256, .f32⟩
  | .hbm, ⟨82, _⟩ => ⟨S4096x1024, .f32⟩
  | .hbm, ⟨83, _⟩ => ⟨S_, .f32⟩
  | .hbm, ⟨84, _⟩ => ⟨S4096x1024, .f32⟩
  | .hbm, ⟨85, _⟩ => ⟨S4096x1024, .f32⟩
  | .hbm, ⟨86, _⟩ => ⟨S4096x1024, .bf16⟩
  | .hbm, ⟨87, _⟩ => ⟨S_, .f32⟩
  | .hbm, ⟨88, _⟩ => ⟨S_, .f32⟩
  | .hbm, ⟨89, _⟩ => ⟨S4096x256, .f32⟩
  | .hbm, ⟨90, _⟩ => ⟨S4096x256, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_11 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_12 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_13 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_14 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩

abbrev nD : Nat := 1
abbrev τ : Topo := Topo.v7x

variable {F : FTy → Type} [FloatOps F]
-- ==== Gqa.lean ====
abbrev S4096x1024 : Shape := ⟨2, ![4096, 1024]⟩
abbrev S4096x256 : Shape := ⟨2, ![4096, 256]⟩
abbrev S_ : Shape := ⟨0, ![]⟩
abbrev S4096x1280 : Shape := ⟨2, ![4096, 1280]⟩
abbrev S1x4096x1x256 : Shape := ⟨4, ![1, 4096, 1, 256]⟩
abbrev S1x4096x32x256 : Shape := ⟨4, ![1, 4096, 32, 256]⟩
abbrev S4096x8192 : Shape := ⟨2, ![4096, 8192]⟩
abbrev S2x4096x128 : Shape := ⟨3, ![2, 4096, 128]⟩
abbrev S256x512 : Shape := ⟨2, ![256, 512]⟩
abbrev S4096x128 : Shape := ⟨2, ![4096, 128]⟩
abbrev S1x256x128 : Shape := ⟨3, ![1, 256, 128]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩
abbrev S256x256 : Shape := ⟨2, ![256, 256]⟩

abbrev nBuf : Space → Nat
  | .hbm => 18
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .bf16⟩
  | .hbm, ⟨10, _⟩ => ⟨S4096x256, .bf16⟩
  | .hbm, ⟨11, _⟩ => ⟨S4096x1280, .bf16⟩
  | .hbm, ⟨12, _⟩ => ⟨S4096x256, .bf16⟩
  | .hbm, ⟨13, _⟩ => ⟨S1x4096x1x256, .bf16⟩
  | .hbm, ⟨14, _⟩ => ⟨S1x4096x32x256, .bf16⟩
  | .hbm, ⟨15, _⟩ => ⟨S4096x8192, .bf16⟩
  | .hbm, ⟨16, _⟩ => ⟨S4096x1024, .bf16⟩
  | .hbm, ⟨17, _⟩ => ⟨S2x4096x128, .f32⟩
  | .local _ .vmem, ⟨0, _⟩ => ⟨S256x512, .bf16⟩
  | .local _ .vmem, ⟨1, _⟩ => ⟨S256x512, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x512, .bf16⟩
  | .local _ .vmem, ⟨7, _⟩ => ⟨S256x512, .bf16⟩
  | .local _ .vmem, ⟨8, _⟩ => ⟨S1x256x128, .f32⟩
  | .local _ .vmem, ⟨9, _⟩ => ⟨S1x256x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c46_i32 : BitVec 32 := 46#32
  let v0 : BitVec 32 := Scalar.addi c46_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GqaIdeal.lean ====
variable {F : FTy → Type} [FloatOps F] [Named F]
def κ : String → Option EReal := fun
  | "inv_log_two" => some (((Real.log 2)⁻¹ : ℝ) : EReal)
  | _ => none
-- ==== GqaRefIdeal.lean ====
abbrev S4096x1024 : Shape := ⟨2, ![4096, 1024]⟩
abbrev S4096x256 : Shape := ⟨2, ![4096, 256]⟩
abbrev S4096x2x4x128 : Shape := ⟨4, ![4096, 2, 4, 128]⟩
abbrev S4096x2x128 : Shape := ⟨3, ![4096, 2, 128]⟩
abbrev S2x4096x4096x4 : Shape := ⟨4, ![2, 4096, 4096, 4]⟩
abbrev S2x4x4096x4096 : Shape := ⟨4, ![2, 4, 4096, 4096]⟩
abbrev S_ : Shape := ⟨0, ![]⟩
abbrev S2x4x4096 : Shape := ⟨3, ![2, 4, 4096]⟩
abbrev S2x4x4096x1 : Shape := ⟨4, ![2, 4, 4096, 1]⟩
abbrev S2x128x4x4096 : Shape := ⟨4, ![2, 128, 4, 4096]⟩
abbrev S2x4096x4 : Shape := ⟨3, ![2, 4096, 4]⟩
abbrev S2x4096x124 : Shape := ⟨3, ![2, 4096, 124]⟩
abbrev S2x4096x128 : Shape := ⟨3, ![2, 4096, 128]⟩

abbrev nBuf : Space → Nat
  | .hbm => 41
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S4096x2x4x128, .f32⟩
  | .hbm, ⟨4, _⟩ => ⟨S4096x2x128, .f32⟩
  | .hbm, ⟨5, _⟩ => ⟨S4096x2x128, .f32⟩
  | .hbm, ⟨6, _⟩ => ⟨S2x4096x4096x4, .f32⟩
  | .hbm, ⟨7, _⟩ => ⟨S2x4x4096x4096, .f32⟩
  | .hbm, ⟨8, _⟩ => ⟨S_, .f32⟩
  | .hbm, ⟨9, _⟩ => ⟨S2x4x4096x4096, .f32⟩
  | .hbm, ⟨10, _⟩ => ⟨S2x4x4096x4096, .f32⟩
  | .hbm, ⟨11, _⟩ => ⟨S_, .f32⟩
  | .hbm, ⟨12, _⟩ => ⟨S2x4x4096, .f32⟩
  | .hbm, ⟨13, _⟩ => ⟨S_, .f32⟩
  | .hbm, ⟨14, _⟩ => ⟨S2x4x4096, .f32⟩
  | .hbm, ⟨15, _⟩ => ⟨S2x4x4096, .f32⟩
  | .hbm, ⟨16, _⟩ => ⟨S2x4x4096x1, .f32⟩
  | .hbm, ⟨17, _⟩ => ⟨S2x4x4096x4096, .f32⟩
  | .hbm, ⟨18, _⟩ => ⟨S2x4x4096x4096, .f32⟩
  | .hbm, ⟨19, _⟩ => ⟨S2x4x4096x4096, .f32⟩
  | .hbm, ⟨20, _⟩ => ⟨S_, .f32⟩
  | .hbm, ⟨21, _⟩ => ⟨S2x4x4096, .f32⟩
  | .hbm, ⟨22, _⟩ => ⟨S2x4x4096x1, .f32⟩
  | .hbm, ⟨23, _⟩ => ⟨S2x4x4096x4096, .f32⟩
  | .hbm, ⟨24, _⟩ => ⟨S2x4x4096x4096, .f32⟩
  | .hbm, ⟨25, _⟩ => ⟨S2x128x4x4096, .f32⟩
  | .hbm, ⟨26, _⟩ => ⟨S4096x2x4x128, .f32⟩
  | .hbm, ⟨27, _⟩ => ⟨S4096x1024, .f32⟩
  | .hbm, ⟨28, _⟩ => ⟨S2x4x4096x4096, .f32⟩
  | .hbm, ⟨29, _⟩ => ⟨S_, .f32⟩
  | .hbm, ⟨30, _⟩ => ⟨S2x4x4096, .f32⟩
  | .hbm, ⟨31, _⟩ => ⟨S2x4x4096, .f32⟩
  | .hbm, ⟨32, _⟩ => ⟨S_, .f32⟩
  | .hbm, ⟨33, _⟩ => ⟨S_, .f32⟩
  | .hbm, ⟨34, _⟩ => ⟨S2x4x4096, .f32⟩
  | .hbm, ⟨35, _⟩ => ⟨S2x4x4096, .f32⟩
  | .hbm, ⟨36, _⟩ => ⟨S2x4096x4, .f32⟩
  | .hbm, ⟨37, _⟩ => ⟨S4096x1024, .bf16⟩
  | .hbm, ⟨38, _⟩ => ⟨S_, .f32⟩
  | .hbm, ⟨39, _⟩ => ⟨S2x4096x124, .f32⟩
  | .hbm, ⟨40, _⟩ => ⟨S2x4096x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Merge.lean ====
abbrev S4096x512 : Shape := ⟨2, ![4096, 512]⟩
abbrev S4096x1024 : Shape := ⟨2, ![4096, 1024]⟩
abbrev S4096x2048 : Shape := ⟨2, ![4096, 2048]⟩
abbrev S1x2048 : Shape := ⟨2, ![1, 2048]⟩
abbrev S512x1024 : Shape := ⟨2, ![512, 1024]⟩
abbrev S1024x1024 : Shape := ⟨2, ![1024, 1024]⟩
abbrev S1x4096x1x2048 : Shape := ⟨4, ![1, 4096, 1, 2048]⟩
abbrev S1x4096x4x2048 : Shape := ⟨4, ![1, 4096, 4, 2048]⟩
abbrev S4096x8192 : Shape := ⟨2, ![4096, 8192]⟩
abbrev S512x4x256 : Shape := ⟨3, ![512, 4, 256]⟩
abbrev S4x512x256 : Shape := ⟨3, ![4, 512, 256]⟩
abbrev S1x1024 : Shape := ⟨2, ![1, 1024]⟩
abbrev S256x1024 : Shape := ⟨2, ![256, 1024]⟩
abbrev S256x512 : Shape := ⟨2, ![256, 512]⟩
abbrev S256x256 : Shape := ⟨2, ![256, 256]⟩
abbrev S1x512x256 : Shape := ⟨3, ![1, 512, 256]⟩
abbrev S512x256 : Shape := ⟨2, ![512, 256]⟩
abbrev S1024 : Shape := ⟨1, ![1024]⟩

abbrev nBuf : Space → Nat
  | .hbm => 32
  | .vmem => 29
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x2048, .f32⟩
  | .hbm, ⟨3, _⟩ => ⟨S1x2048, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S4096x1024, .f32⟩
  | .hbm, ⟨8, _⟩ => ⟨S4096x2048, .bf16⟩
  | .hbm, ⟨9, _⟩ => ⟨S1x4096x1x2048, .bf16⟩
  | .hbm, ⟨10, _⟩ => ⟨S1x4096x4x2048, .bf16⟩
  | .hbm, ⟨11, _⟩ => ⟨S4096x8192, .bf16⟩
  | .hbm, ⟨12, _⟩ => ⟨S4096x1024, .f32⟩
  | .hbm, ⟨13, _⟩ => ⟨S4096x1024, .bf16⟩
  | .hbm, ⟨14, _⟩ => ⟨S4096x1024, .f32⟩
  | .hbm, ⟨15, _⟩ => ⟨S4096x1024, .bf16⟩
  | .hbm, ⟨16, _⟩ => ⟨S512x4x256, .f32⟩
  | .hbm, ⟨17, _⟩ => ⟨S4x512x256, .f32⟩
  | .hbm, ⟨18, _⟩ => ⟨S4x512x256, .bf16⟩
  | .hbm, ⟨19, _⟩ => ⟨S1x1024, .f32⟩
  | .hbm, ⟨20, _⟩ => ⟨S1x1024, .f32⟩
  | .hbm, ⟨21, _⟩ => ⟨S4096x1024, .bf16⟩
  | .hbm, ⟨22, _⟩ => ⟨S1024x1024, .bf16⟩
  | .hbm, ⟨23, _⟩ => ⟨S1024x1024, .bf16⟩
  | .hbm, ⟨24, _⟩ => ⟨S4096x1024, .bf16⟩
  | .hbm, ⟨25, _⟩ => ⟨S4096x1024, .bf16⟩
  | .hbm, ⟨26, _⟩ => ⟨S4096x1024, .bf16⟩
  | .hbm, ⟨27, _⟩ => ⟨S4096x1024, .bf16⟩
  | .hbm, ⟨28, _⟩ => ⟨S4096x512, .bf16⟩
  | .hbm, ⟨29, _⟩ => ⟨S4096x1024, .bf16⟩
  | .hbm, ⟨30, _⟩ => ⟨S1x1024, .f32⟩
  | .hbm, ⟨31, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S4x512x256, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x512, .bf16⟩
  | .local _ .vmem, ⟨24, _⟩ => ⟨S256x512, .bf16⟩
  | .local _ .vmem, ⟨25, _⟩ => ⟨S256x1024, .bf16⟩
  | .local _ .vmem, ⟨26, _⟩ => ⟨S256x1024, .bf16⟩
  | .local _ .vmem, ⟨27, _⟩ => ⟨S1x1024, .f32⟩
  | .local _ .vmem, ⟨28, _⟩ => ⟨S1x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev main_v16_3 : Ref sig .tc := ⟨.hbm, 27, rfl⟩
abbrev main_v16_4 : Ref sig .tc := ⟨.hbm, 28, rfl⟩
abbrev main_v16_5 : Ref sig .tc := ⟨.hbm, 29, rfl⟩
abbrev main_v16_6 : Ref sig .tc := ⟨.hbm, 30, rfl⟩
abbrev main_v16_7 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg17_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem17_0 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== MergeRefIdeal.lean ====
abbrev S4096x512 : Shape := ⟨2, ![4096, 512]⟩
abbrev S4096x1024 : Shape := ⟨2, ![4096, 1024]⟩
abbrev S4096x2048 : Shape := ⟨2, ![4096, 2048]⟩
abbrev S1x2048 : Shape := ⟨2, ![1, 2048]⟩
abbrev S512x1024 : Shape := ⟨2, ![512, 1024]⟩
abbrev S1024x1024 : Shape := ⟨2, ![1024, 1024]⟩
abbrev S2048 : Shape := ⟨1, ![2048]⟩
abbrev S4096x2x1024 : Shape := ⟨3, ![4096, 2, 1024]⟩
abbrev S_ : Shape := ⟨0, ![]⟩
abbrev S4096x1x1024 : Shape := ⟨3, ![4096, 1, 1024]⟩
abbrev S1x1024 : Shape := ⟨2, ![1, 1024]⟩

abbrev nBuf : Space → Nat
  | .hbm => 93
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x2048, .f32⟩
  | .hbm, ⟨3, _⟩ => ⟨S1x2048, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S2048, .f32⟩
  | .hbm, ⟨11, _⟩ => ⟨S1x2048, .f32⟩
  | .hbm, ⟨12, _⟩ => ⟨S4096x2048, .f32⟩
  | .hbm, ⟨13, _⟩ => ⟨S4096x2048, .f32⟩
  | .hbm, ⟨14, _⟩ => ⟨S4096x2x1024, .f32⟩
  | .hbm, ⟨15, _⟩ => ⟨S4096x2x1024, .f32⟩
  | .hbm, ⟨16, _⟩ => ⟨S4096x2x1024, .f32⟩
  | .hbm, ⟨17, _⟩ => ⟨S_, .f32⟩
  | .hbm, ⟨18, _⟩ => ⟨S4096x2x1024, .f32⟩
  | .hbm, ⟨19, _⟩ => ⟨S4096x2x1024, .f32⟩
  | .hbm, ⟨20, _⟩ => ⟨S_, .f32⟩
  | .hbm, ⟨21, _⟩ => ⟨S4096x2x1024, .f32⟩
  | .hbm, ⟨22, _⟩ => ⟨S4096x2x1024, .f32⟩
  | .hbm, ⟨23, _⟩ => ⟨S_, .f32⟩
  | .hbm, ⟨24, _⟩ => ⟨S4096x2x1024, .f32⟩
  | .hbm, ⟨25, _⟩ => ⟨S4096x2x1024, .f32⟩
  | .hbm, ⟨26, _⟩ => ⟨S4096x2x1024, .f32⟩
  | .hbm, ⟨27, _⟩ => ⟨S4096x1x1024, .f32⟩
  | .hbm, ⟨28, _⟩ => ⟨S4096x1024, .f32⟩
  | .hbm, ⟨29, _⟩ => ⟨S4096x1024, .f32⟩
  | .hbm, ⟨30, _⟩ => ⟨S4096x1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1x1024, .f32⟩
  | .hbm, ⟨39, _⟩ => ⟨S_, .f32⟩
  | .hbm, ⟨40, _⟩ => ⟨S4096x2x1024, .f32⟩
  | .hbm, ⟨41, _⟩ => ⟨S4096x1024, .f32⟩
  | .hbm, ⟨42, _⟩ => ⟨S4096x1024, .f32⟩
  | .hbm, ⟨43, _⟩ => ⟨S4096x1x1024, .f32⟩
  | .hbm, ⟨44, _⟩ => ⟨S_, .f32⟩
  | .hbm, ⟨45, _⟩ => ⟨S4096x2x1024, .f32⟩
  | .hbm, ⟨46, _⟩ => ⟨S4096x2x1024, .f32⟩
  | .hbm, ⟨47, _⟩ => ⟨S4096x2x1024, .f32⟩
  | .hbm, ⟨48, _⟩ => ⟨S4096x2048, .f32⟩
  | .hbm, ⟨49, _⟩ => ⟨S_, .f32⟩
  | .hbm, ⟨50, _⟩ => ⟨S2048, .f32⟩
  | .hbm, ⟨51, _⟩ => ⟨S1x2048, .f32⟩
  | .hbm, ⟨52, _⟩ => ⟨S_, .f32⟩
  | .hbm, ⟨53, _⟩ => ⟨S2048, .f32⟩
  | .hbm, ⟨54, _⟩ => ⟨S1x2048, .f32⟩
  | .hbm, ⟨55, _⟩ => ⟨S4096x1024, .f32⟩
  | .hbm, ⟨56, _⟩ => ⟨S4096x1024, .f32⟩
  | .hbm, ⟨57, _⟩ => ⟨S2048, .f32⟩
  | .hbm, ⟨58, _⟩ => ⟨S1x2048, .f32⟩
  | .hbm, ⟨59, _⟩ => ⟨S4096x2048, .f32⟩
  | .hbm, ⟨60, _⟩ => ⟨S4096x2048, .f32⟩
  | .hbm, ⟨61, _⟩ => ⟨S4096x2x1024, .f32⟩
  | .hbm, ⟨62, _⟩ => ⟨S4096x2x1024, .f32⟩
  | .hbm, ⟨63, _⟩ => ⟨S4096x2x1024, .f32⟩
  | .hbm, ⟨64, _⟩ => ⟨S_, .f32⟩
  | .hbm, ⟨65, _⟩ => ⟨S4096x2x1024, .f32⟩
  | .hbm, ⟨66, _⟩ => ⟨S4096x2x1024, .f32⟩
  | .hbm, ⟨67, _⟩ => ⟨S_, .f32⟩
  | .hbm, ⟨68, _⟩ => ⟨S4096x2x1024, .f32⟩
  | .hbm, ⟨69, _⟩ => ⟨S4096x2x1024, .f32⟩
  | .hbm, ⟨70, _⟩ => ⟨S4096x1x1024, .f32⟩
  | .hbm, ⟨71, _⟩ => ⟨S4096x1024, .f32⟩
  | .hbm, ⟨72, _⟩ => ⟨S4096x1024, .f32⟩
  | .hbm, ⟨73, _⟩ => ⟨S4096x1x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x512, .f32⟩
  | .hbm, ⟨83, _⟩ => ⟨S4096x1024, .bf16⟩
  | .hbm, ⟨84, _⟩ => ⟨S4096x1024, .bf16⟩
  | .hbm, ⟨85, _⟩ => ⟨S4096x1024, .f32⟩
  | .hbm, ⟨86, _⟩ => ⟨S4096x1024, .bf16⟩
  | .hbm, ⟨87, _⟩ => ⟨S4096x1024, .f32⟩
  | .hbm, ⟨88, _⟩ => ⟨S4096x1024, .bf16⟩
  | .hbm, ⟨89, _⟩ => ⟨S4096x512, .bf16⟩
  | .hbm, ⟨90, _⟩ => ⟨S4096x1024, .bf16⟩
  | .hbm, ⟨91, _⟩ => ⟨S1x1024, .f32⟩
  | .hbm, ⟨92, _⟩ => ⟨S1x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_6 : Ref sig .tc := ⟨.hbm, 64, rfl⟩
abbrev main_v49 : Ref sig .tc := ⟨.hbm, 65, rfl⟩
abbrev main_v50 : Ref sig .tc := ⟨.hbm, 66, rfl⟩
abbrev main_cst_7 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩

abbrev nD : Nat := 1
abbrev τ : Topo := Topo.v7x

variable {F : FTy → Type} [FloatOps F]
-- ==== Head.lean ====
abbrev S4096x1024 : Shape := ⟨2, ![4096, 1024]⟩
abbrev S4096x2816 : Shape := ⟨2, ![4096, 2816]⟩
abbrev S2816x1024 : Shape := ⟨2, ![2816, 1024]⟩
abbrev S1024 : Shape := ⟨1, ![1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1x1024 : Shape := ⟨2, ![1, 1024]⟩
abbrev S1x512x704 : Shape := ⟨3, ![1, 512, 704]⟩
abbrev S1x704x1024 : Shape := ⟨3, ![1, 704, 1024]⟩
abbrev S512x1024 : Shape := ⟨2, ![512, 1024]⟩
abbrev S512x704 : Shape := ⟨2, ![512, 704]⟩
abbrev S704x1024 : Shape := ⟨2, ![704, 1024]⟩
abbrev S512 : Shape := ⟨1, ![512]⟩
abbrev S512x1 : Shape := ⟨2, ![512, 1]⟩

abbrev nBuf : Space → Nat
  | .hbm => 15
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S1024, .f32⟩
  | .hbm, ⟨4, _⟩ => ⟨S4096x1024, .f32⟩
  | .hbm, ⟨5, _⟩ => ⟨S4096x4x704, .f32⟩
  | .hbm, ⟨6, _⟩ => ⟨S4x4096x704, .f32⟩
  | .hbm, ⟨7, _⟩ => ⟨S4x4096x704, .bf16⟩
  | .hbm, ⟨8, _⟩ => ⟨S4x704x1024, .f32⟩
  | .hbm, ⟨9, _⟩ => ⟨S4x704x1024, .bf16⟩
  | .hbm, ⟨10, _⟩ => ⟨S1x1024, .f32⟩
  | .hbm, ⟨11, _⟩ => ⟨S4096x1024, .f32⟩
  | .hbm, ⟨12, _⟩ => ⟨S4096x1024, .bf16⟩
  | .hbm, ⟨13, _⟩ => ⟨S1x1024, .f32⟩
  | .hbm, ⟨14, _⟩ => ⟨S1x1024, .f32⟩
  | .local _ .vmem, ⟨0, _⟩ => ⟨S1x512x704, .bf16⟩
  | .local _ .vmem, ⟨1, _⟩ => ⟨S1x512x704, .bf16⟩
  | .local _ .vmem, ⟨2, _⟩ => ⟨S1x512x704, .bf16⟩
  | .local _ .vmem, ⟨3, _⟩ => ⟨S1x512x704, .bf16⟩
  | .local _ .vmem, ⟨4, _⟩ => ⟨S1x512x704, .bf16⟩
  | .local _ .vmem, ⟨5, _⟩ => ⟨S1x512x704, .bf16⟩
  | .local _ .vmem, ⟨6, _⟩ => ⟨S1x512x704, .bf16⟩
  | .local _ .vmem, ⟨7, _⟩ => ⟨S1x512x704, .bf16⟩
  | .local _ .vmem, ⟨8, _⟩ => ⟨S1x704x1024, .bf16⟩
  | .local _ .vmem, ⟨9, _⟩ => ⟨S1x704x1024, .bf16⟩
  | .local _ .vmem, ⟨10, _⟩ => ⟨S1x704x1024, .bf16⟩
  | .local _ .vmem, ⟨11, _⟩ => ⟨S1x704x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S1x1024, .f32⟩
  | .local _ .vmem, ⟨22, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== HeadRefIdeal.lean ====
abbrev S4096x1024 : Shape := ⟨2, ![4096, 1024]⟩
abbrev S4096x2816 : Shape := ⟨2, ![4096, 2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 92
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096x1024, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S4096x1024, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S4096x1024, .f32⟩
  | .hbm, ⟨69, _⟩ => ⟨S4096x1024, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S_, .f32⟩
  | .hbm, ⟨75, _⟩ => ⟨S4096, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S4096x1024, .f32⟩
  | .hbm, ⟨83, _⟩ => ⟨S4096x1024, .f32⟩
  | .hbm, ⟨84, _⟩ => ⟨S4096x1024, .bf16⟩
  | .hbm, ⟨85, _⟩ => ⟨S_, .f32⟩
  | .hbm, ⟨86, _⟩ => ⟨S1024, .f32⟩
  | .hbm, ⟨87, _⟩ => ⟨S1x1024, .f32⟩
  | .hbm, ⟨88, _⟩ => ⟨S_, .f32⟩
  | .hbm, ⟨89, _⟩ => ⟨S1x1024, .f32⟩
  | .hbm, ⟨90, _⟩ => ⟨S1x1024, .f32⟩
  | .hbm, ⟨91, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_cst_10 : Ref sig .tc := ⟨.hbm, 46, rfl⟩
abbrev main_cst_11 : Ref sig .tc := ⟨.hbm, 47, rfl⟩
abbrev main_v30 : Ref sig .tc := ⟨.hbm, 48, rfl⟩
abbrev main_v31 : Ref sig .tc := ⟨.hbm, 49, rfl⟩
abbrev main_cst_12 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_13 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_14 : Ref sig .tc := ⟨.hbm, 62, rfl⟩
abbrev main_v42 : Ref sig .tc := ⟨.hbm, 63, rfl⟩
abbrev main_v43 : Ref sig .tc := ⟨.hbm, 64, rfl⟩
abbrev main_cst_15 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_16 : Ref sig .tc := ⟨.hbm, 71, rfl⟩
abbrev main_v49 : Ref sig .tc := ⟨.hbm, 72, rfl⟩
abbrev main_v50 : Ref sig .tc := ⟨.hbm, 73, rfl⟩
abbrev main_cst_17 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_18 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_19 : Ref sig .tc := ⟨.hbm, 85, rfl⟩
abbrev main_v60 : Ref sig .tc := ⟨.hbm, 86, rfl⟩
abbrev main_v61 : Ref sig .tc := ⟨.hbm, 87, rfl⟩
abbrev main_cst_20 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩

abbrev nD : Nat := 1
abbrev τ : Topo := Topo.v7x

variable {F : FTy → Type} [FloatOps F]
-- ==== Dh.lean ====
abbrev S4096x1024 : Shape := ⟨2, ![4096, 1024]⟩
abbrev S1x1024 : Shape := ⟨2, ![1, 1024]⟩
abbrev S1024x2816 : Shape := ⟨2, ![1024, 2816]⟩
abbrev S4096x2816 : Shape := ⟨2, ![4096, 2816]⟩
abbrev S4096x4x704 : Shape := ⟨3, ![4096, 4, 704]⟩
abbrev S4x4096x704 : Shape := ⟨3, ![4, 4096, 704]⟩
abbrev S2816x1024 : Shape := ⟨2, ![2816, 1024]⟩
abbrev S4x704x1024 : Shape := ⟨3, ![4, 704, 1024]⟩
abbrev S1x256x704 : Shape := ⟨3, ![1, 256, 704]⟩
abbrev S1x704x1024 : Shape := ⟨3, ![1, 704, 1024]⟩
abbrev S256x1024 : Shape := ⟨2, ![256, 1024]⟩
abbrev S256x704 : Shape := ⟨2, ![256, 704]⟩
abbrev S704x1024 : Shape := ⟨2, ![704, 1024]⟩
abbrev S256 : Shape := ⟨1, ![256]⟩
abbrev S256x1 : Shape := ⟨2, ![256, 1]⟩
abbrev S1024 : Shape := ⟨1, ![1024]⟩

abbrev nBuf : Space → Nat
  | .hbm => 23
  | .vmem => 36
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S4096x2816, .f32⟩
  | .hbm, ⟨5, _⟩ => ⟨S4096x2816, .f32⟩
  | .hbm, ⟨6, _⟩ => ⟨S4096x1024, .f32⟩
  | .hbm, ⟨7, _⟩ => ⟨S4096x4x704, .f32⟩
  | .hbm, ⟨8, _⟩ => ⟨S4x4096x704, .f32⟩
  | .hbm, ⟨9, _⟩ => ⟨S4x4096x704, .bf16⟩
  | .hbm, ⟨10, _⟩ => ⟨S4096x4x704, .f32⟩
  | .hbm, ⟨11, _⟩ => ⟨S4x4096x704, .f32⟩
  | .hbm, ⟨12, _⟩ => ⟨S4x4096x704, .bf16⟩
  | .hbm, ⟨13, _⟩ => ⟨S2816x1024, .f32⟩
  | .hbm, ⟨14, _⟩ => ⟨S4x704x1024, .f32⟩
  | .hbm, ⟨15, _⟩ => ⟨S4x704x1024, .bf16⟩
  | .hbm, ⟨16, _⟩ => ⟨S2816x1024, .f32⟩
  | .hbm, ⟨17, _⟩ => ⟨S4x704x1024, .f32⟩
  | .hbm, ⟨18, _⟩ => ⟨S4x704x1024, .bf16⟩
  | .hbm, ⟨19, _⟩ => ⟨S4096x1024, .f32⟩
  | .hbm, ⟨20, _⟩ => ⟨S4096x1024, .bf16⟩
  | .hbm, ⟨21, _⟩ => ⟨S4096x1024, .bf16⟩
  | .hbm, ⟨22, _⟩ => ⟨S1x1024, .f32⟩
  | .local _ .vmem, ⟨0, _⟩ => ⟨S1x256x704, .bf16⟩
  | .local _ .vmem, ⟨1, _⟩ => ⟨S1x256x704, .bf16⟩
  | .local _ .vmem, ⟨2, _⟩ => ⟨S1x256x704, .bf16⟩
  | .local _ .vmem, ⟨3, _⟩ => ⟨S1x256x704, .bf16⟩
  | .local _ .vmem, ⟨4, _⟩ => ⟨S1x256x704, .bf16⟩
  | .local _ .vmem, ⟨5, _⟩ => ⟨S1x256x704, .bf16⟩
  | .local _ .vmem, ⟨6, _⟩ => ⟨S1x256x704, .bf16⟩
  | .local _ .vmem, ⟨7, _⟩ => ⟨S1x256x704, .bf16⟩
  | .local _ .vmem, ⟨8, _⟩ => ⟨S1x256x704, .bf16⟩
  | .local _ .vmem, ⟨9, _⟩ => ⟨S1x256x704, .bf16⟩
  | .local _ .vmem, ⟨10, _⟩ => ⟨S1x256x704, .bf16⟩
  | .local _ .vmem, ⟨11, _⟩ => ⟨S1x256x704, .bf16⟩
  | .local _ .vmem, ⟨12, _⟩ => ⟨S1x256x704, .bf16⟩
  | .local _ .vmem, ⟨13, _⟩ => ⟨S1x256x704, .bf16⟩
  | .local _ .vmem, ⟨14, _⟩ => ⟨S1x256x704, .bf16⟩
  | .local _ .vmem, ⟨15, _⟩ => ⟨S1x256x704, .bf16⟩
  | .local _ .vmem, ⟨16, _⟩ => ⟨S1x704x1024, .bf16⟩
  | .local _ .vmem, ⟨17, _⟩ => ⟨S1x704x1024, .bf16⟩
  | .local _ .vmem, ⟨18, _⟩ => ⟨S1x704x1024, .bf16⟩
  | .local _ .vmem, ⟨19, _⟩ => ⟨S1x704x1024, .bf16⟩
  | .local _ .vmem, ⟨20, _⟩ => ⟨S1x704x1024, .bf16⟩
  | .local _ .vmem, ⟨21, _⟩ => ⟨S1x704x1024, .bf16⟩
  | .local _ .vmem, ⟨22, _⟩ => ⟨S1x704x1024, .bf16⟩
  | .local _ .vmem, ⟨23, _⟩ => ⟨S1x704x1024, .bf16⟩
  | .local _ .vmem, ⟨24, _⟩ => ⟨S256x1024, .f32⟩
  | .local _ .vmem, ⟨25, _⟩ => ⟨S256x1024, .f32⟩
  | .local _ .vmem, ⟨26, _⟩ => ⟨S1x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .bf16⟩
  | .local _ .vmem, ⟨35, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_stg22_0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34
abbrev cc0_sem22_0 : DmaSem sig := 35

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_13 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_14 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_15 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x704x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x704x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x704x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x704x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x704x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x704x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x704x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x704x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== DhRefIdeal.lean ====
abbrev S4096x1024 : Shape := ⟨2, ![4096, 1024]⟩
abbrev S1x1024 : Shape := ⟨2, ![1, 1024]⟩
abbrev S1024x2816 : Shape := ⟨2, ![1024, 2816]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S4096x2816, .f32⟩
  | .hbm, ⟨5, _⟩ => ⟨S4096x2816, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x2816, .f32⟩
  | .hbm, ⟨27, _⟩ => ⟨S4096x2816, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096x1024, .f32⟩
  | .hbm, ⟨57, _⟩ => ⟨S4096x1024, .f32⟩
  | .hbm, ⟨58, _⟩ => ⟨S4096x1024, .bf16⟩
  | .hbm, ⟨59, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Mix.lean ====
abbrev S4096x1024 : Shape := ⟨2, ![4096, 1024]⟩
abbrev S1x1024 : Shape := ⟨2, ![1, 1024]⟩
abbrev S1024x8192 : Shape := ⟨2, ![1024, 8192]⟩
abbrev S4096x8192 : Shape := ⟨2, ![4096, 8192]⟩
abbrev S1024x4x2048 : Shape := ⟨3, ![1024, 4, 2048]⟩
abbrev S4x1024x2048 : Shape := ⟨3, ![4, 1024, 2048]⟩
abbrev S256x2048 : Shape := ⟨2, ![256, 2048]⟩
abbrev S1x1024x2048 : Shape := ⟨3, ![1, 1024, 2048]⟩
abbrev S256x1024 : Shape := ⟨2, ![256, 1024]⟩
abbrev S1024x2048 : Shape := ⟨2, ![1024, 2048]⟩
abbrev S256 : Shape := ⟨1, ![256]⟩
abbrev S256x1 : Shape := ⟨2, ![256, 1]⟩
abbrev S1024 : Shape := ⟨1, ![1024]⟩

abbrev nBuf : Space → Nat
  | .hbm => 12
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x8192, .f32⟩
  | .hbm, ⟨3, _⟩ => ⟨S4096x8192, .f32⟩
  | .hbm, ⟨4, _⟩ => ⟨S4096x1024, .f32⟩
  | .hbm, ⟨5, _⟩ => ⟨S1024x4x2048, .f32⟩
  | .hbm, ⟨6, _⟩ => ⟨S4x1024x2048, .f32⟩
  | .hbm, ⟨7, _⟩ => ⟨S4x1024x2048, .bf16⟩
  | .hbm, ⟨8, _⟩ => ⟨S4096x8192, .bf16⟩
  | .hbm, ⟨9, _⟩ => ⟨S4096x1024, .f32⟩
  | .hbm, ⟨10, _⟩ => ⟨S4096x1024, .bf16⟩
  | .hbm, ⟨11, _⟩ => ⟨S1x1024, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S1x1024x2048, .bf16⟩
  | .local _ .vmem, ⟨9, _⟩ => ⟨S1x1024x2048, .bf16⟩
  | .local _ .vmem, ⟨10, _⟩ => ⟨S1x1024x2048, .bf16⟩
  | .local _ .vmem, ⟨11, _⟩ => ⟨S1x1024x2048, .bf16⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== MixRefIdeal.lean ====
abbrev S4096x1024 : Shape := ⟨2, ![4096, 1024]⟩
abbrev S1x1024 : Shape := ⟨2, ![1, 1024]⟩
abbrev S1024x8192 : Shape := ⟨2, ![1024, 8192]⟩
abbrev S4096x8192 : Shape := ⟨2, ![4096, 8192]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x8192, .f32⟩
  | .hbm, ⟨3, _⟩ => ⟨S4096x8192, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x8192, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Qnorm.lean ====
abbrev S4096x1024 : Shape := ⟨2, ![4096, 1024]⟩
abbrev S1x128 : Shape := ⟨2, ![1, 128]⟩
abbrev S_ : Shape := ⟨0, ![]⟩
abbrev S4096x4608 : Shape := ⟨2, ![4096, 4608]⟩
abbrev S4096x5632 : Shape := ⟨2, ![4096, 5632]⟩
abbrev S4096x2560 : Shape := ⟨2, ![4096, 2560]⟩
abbrev S4096x8192 : Shape := ⟨2, ![4096, 8192]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x64x2 : Shape := ⟨3, ![4096, 64, 2]⟩
abbrev S4096x128 : Shape := ⟨2, ![4096, 128]⟩
abbrev S128 : Shape := ⟨1, ![128]⟩
abbrev S8x1x128 : Shape := ⟨3, ![8, 1, 128]⟩
abbrev S2048x128 : Shape := ⟨2, ![2048, 128]⟩
abbrev S1x1x128 : Shape := ⟨3, ![1, 1, 128]⟩
abbrev S2048 : Shape := ⟨1, ![2048]⟩
abbrev S2048x1 : Shape := ⟨2, ![2048, 1]⟩

abbrev nBuf : Space → Nat
  | .hbm => 80
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x128, .f32⟩
  | .hbm, ⟨2, _⟩ => ⟨S4096x1024, .f32⟩
  | .hbm, ⟨3, _⟩ => ⟨S_, .bf16⟩
  | .hbm, ⟨4, _⟩ => ⟨S4096x4608, .bf16⟩
  | .hbm, ⟨5, _⟩ => ⟨S4096x1024, .bf16⟩
  | .hbm, ⟨6, _⟩ => ⟨S4096x5632, .bf16⟩
  | .hbm, ⟨7, _⟩ => ⟨S_, .bf16⟩
  | .hbm, ⟨8, _⟩ => ⟨S4096x2560, .bf16⟩
  | .hbm, ⟨9, _⟩ => ⟨S4096x8192, .bf16⟩
  | .hbm, ⟨10, _⟩ => ⟨S64, .f32⟩
  | .hbm, ⟨11, _⟩ => ⟨S64x64, .f32⟩
  | .hbm, ⟨12, _⟩ => ⟨S4096, .f32⟩
  | .hbm, ⟨13, _⟩ => ⟨S64, .f32⟩
  | .hbm, ⟨14, _⟩ => ⟨S1x64, .f32⟩
  | .hbm, ⟨15, _⟩ => ⟨S64x64, .f32⟩
  | .hbm, ⟨16, _⟩ => ⟨S4096, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S4096x1, .f32⟩
  | .hbm, ⟨26, _⟩ => ⟨S1x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S4096x1, .f32⟩
  | .hbm, ⟨31, _⟩ => ⟨S1x32, .f32⟩
  | .hbm, ⟨32, _⟩ => ⟨S4096x32, .f32⟩
  | .hbm, ⟨33, _⟩ => ⟨S4096x32, .f32⟩
  | .hbm, ⟨34, _⟩ => ⟨S4096x32, .f32⟩
  | .hbm, ⟨35, _⟩ => ⟨S4096x64, .f32⟩
  | .hbm, ⟨36, _⟩ => ⟨S4096x64, .f32⟩
  | .hbm, ⟨37, _⟩ => ⟨S4096x64x2, .f32⟩
  | .hbm, ⟨38, _⟩ => ⟨S4096x128, .f32⟩
  | .hbm, ⟨39, _⟩ => ⟨S4096x64, .f32⟩
  | .hbm, ⟨40, _⟩ => ⟨S4096x64x2, .f32⟩
  | .hbm, ⟨41, _⟩ => ⟨S4096x128, .f32⟩
  | .hbm, ⟨42, _⟩ => ⟨S128, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S128, .i32⟩
  | .hbm, ⟨50, _⟩ => ⟨S128, .i32⟩
  | .hbm, ⟨51, _⟩ => ⟨S_, .i32⟩
  | .hbm, ⟨52, _⟩ => ⟨S128, .i32⟩
  | .hbm, ⟨53, _⟩ => ⟨S128, .i1⟩
  | .hbm, ⟨54, _⟩ => ⟨S_, .i32⟩
  | .hbm, ⟨55, _⟩ => ⟨S128, .i32⟩
  | .hbm, ⟨56, _⟩ => ⟨S128, .i1⟩
  | .hbm, ⟨57, _⟩ => ⟨S_, .i32⟩
  | .hbm, ⟨58, _⟩ => ⟨S_, .i1⟩
  | .hbm, ⟨59, _⟩ => ⟨S128, .i1⟩
  | .hbm, ⟨60, _⟩ => ⟨S128, .i1⟩
  | .hbm, ⟨61, _⟩ => ⟨S128, .i1⟩
  | .hbm, ⟨62, _⟩ => ⟨S128, .i32⟩
  | .hbm, ⟨63, _⟩ => ⟨S128, .i32⟩
  | .hbm, ⟨64, _⟩ => ⟨S128, .i32⟩
  | .hbm, ⟨65, _⟩ => ⟨S_, .i32⟩
  | .hbm, ⟨66, _⟩ => ⟨S128, .i32⟩
  | .hbm, ⟨67, _⟩ => ⟨S128, .i1⟩
  | .hbm, ⟨68, _⟩ => ⟨S_, .f32⟩
  | .hbm, ⟨69, _⟩ => ⟨S_, .f32⟩
  | .hbm, ⟨70, _⟩ => ⟨S128, .f32⟩
  | .hbm, ⟨71, _⟩ => ⟨S128, .f32⟩
  | .hbm, ⟨72, _⟩ => ⟨S128, .f32⟩
  | .hbm, ⟨73, _⟩ => ⟨S128, .f32⟩
  | .hbm, ⟨74, _⟩ => ⟨S1x128, .f32⟩
  | .hbm, ⟨75, _⟩ => ⟨S4096x128, .f32⟩
  | .hbm, ⟨76, _⟩ => ⟨S4096x128, .f32⟩
  | .hbm, ⟨77, _⟩ => ⟨S4096x1024, .bf16⟩
  | .hbm, ⟨78, _⟩ => ⟨S4096x1024, .bf16⟩
  | .hbm, ⟨79, _⟩ => ⟨S8x1x128, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S1x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .bf16⟩
  | .local _ .vmem, ⟨10, _⟩ => ⟨S2048x128, .bf16⟩
  | .local _ .vmem, ⟨11, _⟩ => ⟨S1x1x128, .f32⟩
  | .local _ .vmem, ⟨12, _⟩ => ⟨S1x1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_c : Ref sig .tc := ⟨.hbm, 43, rfl⟩
abbrev main_call0_v0 : Ref sig .tc := ⟨.hbm, 44, rfl⟩
abbrev main_call0_c : Ref sig .tc := ⟨.hbm, 45, rfl⟩
abbrev main_call0_v1 : Ref sig .tc := ⟨.hbm, 46, rfl⟩
abbrev main_call0_c_0 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_c_1 : Ref sig .tc := ⟨.hbm, 51, rfl⟩
abbrev main_call0_v5 : Ref sig .tc := ⟨.hbm, 52, rfl⟩
abbrev main_call0_v6 : Ref sig .tc := ⟨.hbm, 53, rfl⟩
abbrev main_call0_c_2 : Ref sig .tc := ⟨.hbm, 54, rfl⟩
abbrev main_call0_v7 : Ref sig .tc := ⟨.hbm, 55, rfl⟩
abbrev main_call0_v8 : Ref sig .tc := ⟨.hbm, 56, rfl⟩
abbrev main_call0_c_3 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_v12 : Ref sig .tc := ⟨.hbm, 61, rfl⟩
abbrev main_call0_v13 : Ref sig .tc := ⟨.hbm, 62, rfl⟩
abbrev main_call0_v14 : Ref sig .tc := ⟨.hbm, 63, rfl⟩
abbrev main_v36 : Ref sig .tc := ⟨.hbm, 64, rfl⟩
abbrev main_c_3 : Ref sig .tc := ⟨.hbm, 65, rfl⟩
abbrev main_v37 : Ref sig .tc := ⟨.hbm, 66, rfl⟩
abbrev main_v38 : Ref sig .tc := ⟨.hbm, 67, rfl⟩
abbrev main_cst_4 : Ref sig .tc := ⟨.hbm, 68, rfl⟩
abbrev main_cst_5 : Ref sig .tc := ⟨.hbm, 69, rfl⟩
abbrev main_call1_v0 : Ref sig .tc := ⟨.hbm, 70, rfl⟩
abbrev main_call1_v1 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45_0 : Ref sig .tc := ⟨.hbm, 78, rfl⟩
abbrev main_v45_1 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli arg0 c1_i32
  let c0_i32_0 : BitVec 32 := 0#32
  let v2 : BitVec 32 := Scalar.addi c0_i32_0 v1
  let c0_i32_1 : BitVec 32 := 0#32
  ![v0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli arg0 c1_i32
  let c36_i32 : BitVec 32 := 36#32
  let v2 : BitVec 32 := Scalar.addi c36_i32 v1
  let c0_i32_0 : BitVec 32 := 0#32
  ![v0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== QnormRefIdeal.lean ====
abbrev S4096x1024 : Shape := ⟨2, ![4096, 1024]⟩
abbrev S1x128 : Shape := ⟨2, ![1, 128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x1x1x128 : Shape := ⟨4, ![1, 1, 1, 128]⟩
abbrev S8x1x1x128 : Shape := ⟨4, ![8, 1, 1, 128]⟩
abbrev S8x128 : Shape := ⟨2, ![8, 128]⟩
abbrev S4096x8x128 : Shape := ⟨3, ![4096, 8, 128]⟩
abbrev S1x8x128 : Shape := ⟨3, ![1, 8, 128]⟩
abbrev S4096x8 : Shape := ⟨2, ![4096, 8]⟩
abbrev S4096x8x1 : Shape := ⟨3, ![4096, 8, 1]⟩
abbrev S4096x8x64x2 : Shape := ⟨4, ![4096, 8, 64, 2]⟩
abbrev S4096x8x64x1 : Shape := ⟨4, ![4096, 8, 64, 1]⟩
abbrev S4096x8x64 : Shape := ⟨3, ![4096, 8, 64]⟩
abbrev S4096x1x64 : Shape := ⟨3, ![4096, 1, 64]⟩
abbrev S8x1x128 : Shape := ⟨3, ![8, 1, 128]⟩

abbrev nBuf : Space → Nat
  | .hbm => 135
  | .vmem => 0
  | .smem => 0
  | _ => 0

abbrev hbmTy0_0 (i : Nat) : BufTy := match i % 128 with
  | 0 => ⟨S4096x1024, .f32⟩
  | 1 => ⟨S1x128, .f32⟩
  | 2 => ⟨S4096x1024, .f32⟩
  | 3 => ⟨S64, .f32⟩
  | 4 => ⟨S64x64, .f32⟩
  | 5 => ⟨S4096, .f32⟩
  | 6 => ⟨S64, .f32⟩
  | 7 => ⟨S1x64, .f32⟩
  | 8 => ⟨S64x64, .f32⟩
  | 9 => ⟨S4096, .f32⟩
  | 10 => ⟨S32, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S4096x1, .f32⟩
  | 19 => ⟨S1x32, .f32⟩
  | 20 => ⟨S4096x32, .f32⟩
  | 21 => ⟨S4096x32, .f32⟩
  | 22 => ⟨S4096x32, .f32⟩
  | 23 => ⟨S4096x1, .f32⟩
  | 24 => ⟨S1x32, .f32⟩
  | 25 => ⟨S4096x32, .f32⟩
  | 26 => ⟨S4096x32, .f32⟩
  | 27 => ⟨S4096x32, .f32⟩
  | 28 => ⟨S4096x64, .f32⟩
  | 29 => ⟨S4096x64, .f32⟩
  | 30 => ⟨S4096x64, .f32⟩
  | 31 => ⟨S1x1x1x128, .f32⟩
  | 32 => ⟨S8x1x1x128, .f32⟩
  | 33 => ⟨S8x128, .f32⟩
  | 34 => ⟨S4096x8x128, .f32⟩
  | 35 => ⟨S1x8x128, .f32⟩
  | 36 => ⟨S4096x8x128, .f32⟩
  | 37 => ⟨S_, .f32⟩
  | 38 => ⟨S4096x8, .f32⟩
  | 39 => ⟨S4096x8x1, .f32⟩
  | 40 => ⟨S_, .f32⟩
  | 41 => ⟨S4096x8x1, .f32⟩
  | 42 => ⟨S4096x8x1, .f32⟩
  | 43 => ⟨S_, .f32⟩
  | 44 => ⟨S4096x8x1, .f32⟩
  | 45 => ⟨S4096x8x1, .f32⟩
  | 46 => ⟨S4096x8x1, .f32⟩
  | 47 => ⟨S4096x8x1, .f32⟩
  | 48 => ⟨S_, .f32⟩
  | 49 => ⟨S4096x8x1, .f32⟩
  | 50 => ⟨S4096x8x1, .f32⟩
  | 51 => ⟨S4096x8x128, .f32⟩
  | 52 => ⟨S4096x8x128, .f32⟩
  | 53 => ⟨S4096x8x128, .f32⟩
  | 54 => ⟨S4096x8x128, .f32⟩
  | 55 => ⟨S4096x8x64x2, .f32⟩
  | 56 => ⟨S4096x8x64x1, .f32⟩
  | 57 => ⟨S4096x8x64, .f32⟩
  | 58 => ⟨S4096x8x64x1, .f32⟩
  | 59 => ⟨S4096x8x64, .f32⟩
  | 60 => ⟨S4096x1x64, .f32⟩
  | 61 => ⟨S4096x1x64, .f32⟩
  | 62 => ⟨S4096x8x64, .f32⟩
  | 63 => ⟨S4096x8x64, .f32⟩
  | 64 => ⟨S4096x8x64, .f32⟩
  | 65 => ⟨S4096x8x64, .f32⟩
  | 66 => ⟨S4096x8x64, .f32⟩
  | 67 => ⟨S4096x8x64, .f32⟩
  | 68 => ⟨S4096x8x64, .f32⟩
  | 69 => ⟨S4096x8x64, .f32⟩
  | 70 => ⟨S4096x8x64, .f32⟩
  | 71 => ⟨S4096x8x64, .f32⟩
  | 72 => ⟨S4096x8x64x1, .f32⟩
  | 73 => ⟨S4096x8x64x1, .f32⟩
  | 74 => ⟨S4096x8x64x2, .f32⟩
  | 75 => ⟨S4096x8x128, .f32⟩
  | 76 => ⟨S_, .f32⟩
  | 77 => ⟨S4096x8x128, .f32⟩
  | 78 => ⟨S4096x8x128, .f32⟩
  | 79 => ⟨S4096x8x128, .f32⟩
  | 80 => ⟨S_, .f32⟩
  | 81 => ⟨S4096x8x128, .f32⟩
  | 82 => ⟨S4096x8x128, .f32⟩
  | 83 => ⟨S4096x8x64x2, .f32⟩
  | 84 => ⟨S4096x8x64x1, .f32⟩
  | 85 => ⟨S4096x8x64, .f32⟩
  | 86 => ⟨S4096x8x64x1, .f32⟩
  | 87 => ⟨S4096x8x64, .f32⟩
  | 88 => ⟨S4096x8x64, .f32⟩
  | 89 => ⟨S4096x8x64, .f32⟩
  | 90 => ⟨S4096x8x64, .f32⟩
  | 91 => ⟨S4096x8x64, .f32⟩
  | 92 => ⟨S4096x8x64, .f32⟩
  | 93 => ⟨S4096x8x64, .f32⟩
  | 94 => ⟨S4096x8x64, .f32⟩
  | 95 => ⟨S4096x8x64, .f32⟩
  | 96 => ⟨S4096x8x64, .f32⟩
  | 97 => ⟨S4096x8x64, .f32⟩
  | 98 => ⟨S4096x8x64, .f32⟩
  | 99 => ⟨S4096x8x64x1, .f32⟩
  | 100 => ⟨S_, .f32⟩
  | 101 => ⟨S4096x8x64x2, .f32⟩
  | 102 => ⟨S4096x8x64x1, .f32⟩
  | 103 => ⟨S_, .f32⟩
  | 104 => ⟨S4096x8x64x2, .f32⟩
  | 105 => ⟨S4096x8x64x2, .f32⟩
  | 106 => ⟨S4096x8x128, .f32⟩
  | 107 => ⟨S4096x8x128, .f32⟩
  | 108 => ⟨S_, .f32⟩
  | 109 => ⟨S8x128, .f32⟩
  | 110 => ⟨S1x8x128, .f32⟩
  | 111 => ⟨S4096x8x128, .f32⟩
  | 112 => ⟨S4096x8x128, .f32⟩
  | 113 => ⟨S4096x8x128, .f32⟩
  | 114 => ⟨S_, .f32⟩
  | 115 => ⟨S4096x8, .f32⟩
  | 116 => ⟨S4096x8x1, .f32⟩
  | 117 => ⟨S4096x8x128, .f32⟩
  | 118 => ⟨S4096x8x128, .f32⟩
  | 119 => ⟨S4096x8x1, .f32⟩
  | 120 => ⟨S_, .f32⟩
  | 121 => ⟨S4096x8x1, .f32⟩
  | 122 => ⟨S4096x8x1, .f32⟩
  | 123 => ⟨S_, .f32⟩
  | 124 => ⟨S4096x8, .f32⟩
  | 125 => ⟨S4096x8x128, .f32⟩
  | 126 => ⟨S4096x8x128, .f32⟩
  | 127 => ⟨S4096x8x128, .f32⟩
  | _ => ⟨S4096x1024, .f32⟩

abbrev hbmTy0_1 (i : Nat) : BufTy := match i % 128 with
  | 0 => ⟨S4096x8x128, .f32⟩
  | 1 => ⟨S4096x8x128, .f32⟩
  | 2 => ⟨S_, .f32⟩
  | 3 => ⟨S8x128, .f32⟩
  | 4 => ⟨S4096x1024, .f32⟩
  | 5 => ⟨S4096x1024, .bf16⟩
  | 6 => ⟨S8x1x128, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_1 : Ref sig .tc := ⟨.hbm, 37, rfl⟩
abbrev main_v32 : Ref sig .tc := ⟨.hbm, 38, rfl⟩
abbrev main_v33 : Ref sig .tc := ⟨.hbm, 39, rfl⟩
abbrev main_cst_2 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_cst_5 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_cst_6 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_cst_7 : Ref sig .tc := ⟨.hbm, 100, rfl⟩
abbrev main_v89 : Ref sig .tc := ⟨.hbm, 101, rfl⟩
abbrev main_v90 : Ref sig .tc := ⟨.hbm, 102, rfl⟩
abbrev main_cst_8 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_cst_9 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_cst_10 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_cst_11 : Ref sig .tc := ⟨.hbm, 120, rfl⟩
abbrev main_v105 : Ref sig .tc := ⟨.hbm, 121, rfl⟩
abbrev main_v106 : Ref sig .tc := ⟨.hbm, 122, rfl⟩
abbrev main_cst_12 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_cst_13 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩

abbrev nD : Nat := 1
abbrev τ : Topo := Topo.v7x

variable {F : FTy → Type} [FloatOps F]
-- ==== Merged.lean ====
abbrev S4096x512 : Shape := ⟨2, ![4096, 512]⟩
abbrev S4096x1024 : Shape := ⟨2, ![4096, 1024]⟩
abbrev S4096x2048 : Shape := ⟨2, ![4096, 2048]⟩
abbrev S1x2048 : Shape := ⟨2, ![1, 2048]⟩
abbrev S512x1024 : Shape := ⟨2, ![512, 1024]⟩
abbrev S1024x1024 : Shape := ⟨2, ![1024, 1024]⟩
abbrev S1x1024 : Shape := ⟨2, ![1, 1024]⟩
abbrev S1x4096x1x2048 : Shape := ⟨4, ![1, 4096, 1, 2048]⟩
abbrev S1x4096x4x2048 : Shape := ⟨4, ![1, 4096, 4, 2048]⟩
abbrev S4096x8192 : Shape := ⟨2, ![4096, 8192]⟩
abbrev S512x4x256 : Shape := ⟨3, ![512, 4, 256]⟩
abbrev S4x512x256 : Shape := ⟨3, ![4, 512, 256]⟩
abbrev S512x512 : Shape := ⟨2, ![512, 512]⟩
abbrev S1x512x256 : Shape := ⟨3, ![1, 512, 256]⟩
abbrev S512x256 : Shape := ⟨2, ![512, 256]⟩
abbrev S512 : Shape := ⟨1, ![512]⟩
abbrev S512x1 : Shape := ⟨2, ![512, 1]⟩

abbrev nBuf : Space → Nat
  | .hbm => 27
  | .vmem => 26
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x2048, .f32⟩
  | .hbm, ⟨3, _⟩ => ⟨S1x2048, .f32⟩
  | .hbm, ⟨4, _⟩ => ⟨S4096x1024, .f32⟩
  | .hbm, ⟨5, _⟩ => ⟨S512x1024, .f32⟩
  | .hbm, ⟨6, _⟩ => ⟨S1024x1024, .f32⟩
  | .hbm, ⟨7, _⟩ => ⟨S1024x1024, .f32⟩
  | .hbm, ⟨8, _⟩ => ⟨S1x1024, .f32⟩
  | .hbm, ⟨9, _⟩ => ⟨S4096x2048, .bf16⟩
  | .hbm, ⟨10, _⟩ => ⟨S1x4096x1x2048, .bf16⟩
  | .hbm, ⟨11, _⟩ => ⟨S1x4096x4x2048, .bf16⟩
  | .hbm, ⟨12, _⟩ => ⟨S4096x8192, .bf16⟩
  | .hbm, ⟨13, _⟩ => ⟨S512x4x256, .f32⟩
  | .hbm, ⟨14, _⟩ => ⟨S4x512x256, .f32⟩
  | .hbm, ⟨15, _⟩ => ⟨S4x512x256, .bf16⟩
  | .hbm, ⟨16, _⟩ => ⟨S1x1024, .f32⟩
  | .hbm, ⟨17, _⟩ => ⟨S1x1024, .f32⟩
  | .hbm, ⟨18, _⟩ => ⟨S4096x512, .bf16⟩
  | .hbm, ⟨19, _⟩ => ⟨S4096x1024, .bf16⟩
  | .hbm, ⟨20, _⟩ => ⟨S1024x1024, .bf16⟩
  | .hbm, ⟨21, _⟩ => ⟨S1024x1024, .bf16⟩
  | .hbm, ⟨22, _⟩ => ⟨S4096x1024, .bf16⟩
  | .hbm, ⟨23, _⟩ => ⟨S4096x1024, .bf16⟩
  | .hbm, ⟨24, _⟩ => ⟨S4096x1024, .bf16⟩
  | .hbm, ⟨25, _⟩ => ⟨S4096x1024, .f32⟩
  | .hbm, ⟨26, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S4x512x256, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .f32⟩
  | .local _ .vmem, ⟨23, _⟩ => ⟨S512x1024, .f32⟩
  | .local _ .vmem, ⟨24, _⟩ => ⟨S512x1024, .bf16⟩
  | .local _ .vmem, ⟨25, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev main_v13_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MergedRefIdeal.lean ====
abbrev S4096x512 : Shape := ⟨2, ![4096, 512]⟩
abbrev S4096x1024 : Shape := ⟨2, ![4096, 1024]⟩
abbrev S4096x2048 : Shape := ⟨2, ![4096, 2048]⟩
abbrev S1x2048 : Shape := ⟨2, ![1, 2048]⟩
abbrev S512x1024 : Shape := ⟨2, ![512, 1024]⟩
abbrev S1024x1024 : Shape := ⟨2, ![1024, 1024]⟩
abbrev S1x1024 : Shape := ⟨2, ![1, 1024]⟩
abbrev S2048 : Shape := ⟨1, ![2048]⟩
abbrev S4096x2x1024 : Shape := ⟨3, ![4096, 2, 1024]⟩
abbrev S_ : Shape := ⟨0, ![]⟩
abbrev S4096x1x1024 : Shape := ⟨3, ![4096, 1, 1024]⟩
abbrev S4096 : Shape := ⟨1, ![4096]⟩
abbrev S4096x1 : Shape := ⟨2, ![4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x2048, .f32⟩
  | .hbm, ⟨3, _⟩ => ⟨S1x2048, .f32⟩
  | .hbm, ⟨4, _⟩ => ⟨S4096x1024, .f32⟩
  | .hbm, ⟨5, _⟩ => ⟨S512x1024, .f32⟩
  | .hbm, ⟨6, _⟩ => ⟨S1024x1024, .f32⟩
  | .hbm, ⟨7, _⟩ => ⟨S1024x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S2048, .f32⟩
  | .hbm, ⟨12, _⟩ => ⟨S1x2048, .f32⟩
  | .hbm, ⟨13, _⟩ => ⟨S4096x2048, .f32⟩
  | .hbm, ⟨14, _⟩ => ⟨S4096x2048, .f32⟩
  | .hbm, ⟨15, _⟩ => ⟨S4096x2x1024, .f32⟩
  | .hbm, ⟨16, _⟩ => ⟨S4096x2x1024, .f32⟩
  | .hbm, ⟨17, _⟩ => ⟨S4096x2x1024, .f32⟩
  | .hbm, ⟨18, _⟩ => ⟨S_, .f32⟩
  | .hbm, ⟨19, _⟩ => ⟨S4096x2x1024, .f32⟩
  | .hbm, ⟨20, _⟩ => ⟨S4096x2x1024, .f32⟩
  | .hbm, ⟨21, _⟩ => ⟨S_, .f32⟩
  | .hbm, ⟨22, _⟩ => ⟨S4096x2x1024, .f32⟩
  | .hbm, ⟨23, _⟩ => ⟨S4096x2x1024, .f32⟩
  | .hbm, ⟨24, _⟩ => ⟨S4096x1x1024, .f32⟩
  | .hbm, ⟨25, _⟩ => ⟨S4096x1024, .f32⟩
  | .hbm, ⟨26, _⟩ => ⟨S4096x1024, .f32⟩
  | .hbm, ⟨27, _⟩ => ⟨S4096x1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .bf16⟩
  | .hbm, ⟨34, _⟩ => ⟨S4096x1024, .bf16⟩
  | .hbm, ⟨35, _⟩ => ⟨S4096x1024, .bf16⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Up.lean ====
abbrev S4096x1024 : Shape := ⟨2, ![4096, 1024]⟩
abbrev S1024x2816 : Shape := ⟨2, ![1024, 2816]⟩
abbrev S2816x1024 : Shape := ⟨2, ![2816, 1024]⟩
abbrev S4x704x1024 : Shape := ⟨3, ![4, 704, 1024]⟩
abbrev S4x4096x704 : Shape := ⟨3, ![4, 4096, 704]⟩
abbrev S1024x1024 : Shape := ⟨2, ![1024, 1024]⟩
abbrev S1x704x1024 : Shape := ⟨3, ![1, 704, 1024]⟩
abbrev S1x1024x704 : Shape := ⟨3, ![1, 1024, 704]⟩
abbrev S704x1024 : Shape := ⟨2, ![704, 1024]⟩
abbrev S1024x704 : Shape := ⟨2, ![1024, 704]⟩

abbrev nBuf : Space → Nat
  | .hbm => 13
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x1024, .bf16⟩
  | .hbm, ⟨4, _⟩ => ⟨S2816x1024, .f32⟩
  | .hbm, ⟨5, _⟩ => ⟨S4x704x1024, .f32⟩
  | .hbm, ⟨6, _⟩ => ⟨S4x704x1024, .bf16⟩
  | .hbm, ⟨7, _⟩ => ⟨S2816x1024, .f32⟩
  | .hbm, ⟨8, _⟩ => ⟨S4x704x1024, .f32⟩
  | .hbm, ⟨9, _⟩ => ⟨S4x704x1024, .bf16⟩
  | .hbm, ⟨10, _⟩ => ⟨S4x4096x704, .bf16⟩
  | .hbm, ⟨11, _⟩ => ⟨S4x4096x704, .bf16⟩
  | .hbm, ⟨12, _⟩ => ⟨S4x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpRefIdeal.lean ====
abbrev S4096x1024 : Shape := ⟨2, ![4096, 1024]⟩
abbrev S1024x2816 : Shape := ⟨2, ![1024, 2816]⟩
abbrev S4096x2816 : Shape := ⟨2, ![4096, 2816]⟩
abbrev S_ : Shape := ⟨0, ![]⟩
abbrev S4096x4x704 : Shape := ⟨3, ![4096, 4, 704]⟩
abbrev S4x4096x704 : Shape := ⟨3, ![4, 4096, 704]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x4x704, .f32⟩
  | .hbm, ⟨16, _⟩ => ⟨S4x4096x704, .f32⟩
  | .hbm, ⟨17, _⟩ => ⟨S4x4096x704, .bf16⟩
  | .hbm, ⟨18, _⟩ => ⟨S4096x4x704, .f32⟩
  | .hbm, ⟨19, _⟩ => ⟨S4x4096x704, .f32⟩
  | .hbm, ⟨20, _⟩ => ⟨S4x4096x704, .bf16⟩
  | .hbm, ⟨21, _⟩ => ⟨S4096x4x704, .f32⟩
  | .hbm, ⟨22, _⟩ => ⟨S4x4096x704, .f32⟩
  | .hbm, ⟨23, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== Proof.Finite.lean ====
/-
  Extended reals that are real numbers: how a predicate "every element is finite" is read at an index, and how the
  exact operations act on real numbers.
-/
module

public import Idealize.ShloMosaic.PureOps
public import Idealize.ShloMosaic.Lib.StableHlo
public import Idealize.ShloMosaic.Lib.ReduceAll
public import Idealize.ShloMosaic.Lib.Pointwise

@[expose] public section

set_option maxRecDepth 16384

noncomputable section

namespace Cert.Finite

open Idealize.ShloMosaic

/-- The pattern of `+∞`. -/
theorem ofBits_inf : Ideal.ofBits .f32 0x7F800000#32 = (⊤ : EReal) := by
  simp [Ideal.ofBits, Ideal.ieee]

/-- The pattern of `1/2`. -/
theorem ofBits_half : Ideal.ofBits .f32 0x3F000000#32 = (((1 : ℝ) / 2 : ℝ) : EReal) := by
  simp [Ideal.ofBits, Ideal.ieee]
  rw [← EReal.coe_mul]
  norm_num

/-- A number of absolute value below `+∞` is real. -/
theorem real_of_cmp {x : EReal} (h : Ideal.cmp .olt (max x (-x)) (Ideal.ofBits .f32 0x7F800000#32) = 1#1) :
    ∃ r : ℝ, x = (r : EReal) := by
  rw [ofBits_inf] at h
  have hlt : max x (-x) < ⊤ := by
    by_contra hn
    simp [Ideal.cmp, hn] at h
  induction x with
  | bot => simp at hlt
  | top => simp at hlt
  | coe r => exact ⟨r, rfl⟩

/-- The predicate `all (|x| < ∞)` of an array: every element is a real number. -/
theorem reals_of_all {s t u : Shape} {axes : List (Fin s.rank)} [Subsingleton t.Idx] (x : s.Idx → EReal)
    (c : s.Idx → EReal) (hc : ∀ i, c i = Ideal.ofBits .f32 0x7F800000#32) (init : u.Idx → BitVec 1)
    (h : s.ReducesTo axes t) (hu : 0 < u.numel) (j : t.Idx)
    (e : Host.reduce IntOp.andi (cmpf (F := Ideal) (φ := .f32) .olt (Host.absf (F := Ideal) (φ := .f32) x) c) init h hu j = 1#1) :
    ∃ X : s.Idx → ℝ, x = fun i => (X i : EReal) := by
  have hr : ∀ i, ∃ r : ℝ, x i = (r : EReal) := fun i => by
    have hi := Host.reduce_andi_all _ init h hu j e i
    refine real_of_cmp ?_
    rw [← hc i]
    exact hi
  choose X hX using hr
  exact ⟨X, funext hX⟩

/-- A sum of real numbers is real. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A conjunction of truth values. -/
theorem andi_one {a b : BitVec 1} (h : IntOp.andi a b = 1#1) : a = 1#1 ∧ b = 1#1 := by
  revert a b; decide

/-- A quotient of real numbers off zero is real. -/
theorem div_real {x y : ℝ} (h : y ≠ 0) : Ideal.div (x : EReal) (y : EReal) = ((x / y : ℝ) : EReal) := by
  rw [Ideal.div_coe h, ← EReal.coe_mul, mul_one_div]

end Cert.Finite

end
-- ==== Proof.GateValue.lean ====
module

public import proofs.«01_k».proof.Defs
public import proofs.«01_k».proof.Proof.Gen.GateIdeal.Frame
public import proofs.«01_k».proof.Proof.Gen.GateRefIdeal.Run
public import proofs.«01_k».proof.Proof.Gen.Pre_gate_finite
public import Idealize.ShloMosaic.Lib.Pipeline.ValueKit
public import Idealize.ShloMosaic.Lib.Claim
public import proofs.«01_k».proof.Proof.Finite

@[expose] public section

set_option maxRecDepth 16384

noncomputable section

open Idealize.ShloMosaic Idealize.ShloMosaic.TcCoe Idealize.SL.Sem
open Idealize.ShloMosaic.Pipeline (Dat)

namespace Cert.GateIdeal.Value
open Cert.GateIdeal Cert.GateIdeal.Gen

variable (m : (ℓ : Loc nD τ sig) → Buf (Elt Ideal) ℓ)

theorem idx : ∀ t : Fin cfg0.N, win0_0.index t = ![t.val % 4, 0] ∧ win0_1.index t = ![t.val / 4, 0, 0]
    ∧ win0_2.index t = ![t.val / 4, t.val % 4, 0] ∧ win0_3.index t = ![t.val / 4, t.val % 4, 0]
    ∧ win0_4.index t = ![t.val / 4, t.val % 4, 0] ∧ win0_5.index t = ![t.val / 4, t.val % 4, 0] :=
  (by decide +kernel : ∀ t : Fin grid0.N, _)

/-- The gradient of the hidden activation before the gate. -/
def da (W : FVec Ideal S2816x1024 .f32) (Y : FVec Ideal S4096x1024 .f32) (r : Fin 4096) (n : Fin 2816) : EReal :=
  ∑ k : Fin 1024, Ideal.ofBits .f32 0x3F000000#32 * Y (ix2 r k) * W (ix2 n k)

def sg (u : EReal) : EReal :=
  Ideal.ofBits .f32 0x3F000000#32 * Ideal.tanh (Ideal.ofBits .f32 0x3F000000#32 * u) + Ideal.ofBits .f32 0x3F000000#32

/-- What the kernel stores for the gate's argument. -/
def kdu (a u g : EReal) : EReal := a * g * (sg u + u * sg u - u * sg u * sg u)

def kdg (a u : EReal) : EReal := a * (u * sg u)

def col (j : S4x4096x704.Idx) : Fin 2816 := ⟨(j 0).val * 704 + (j 2).val, by
  have h0 : (j 0).val < 4 := (j 0).isLt
  have h2 : (j 2).val < 704 := (j 2).isLt
  omega⟩

def DU (U G : FVec Ideal S4096x2816 .f32) (W : FVec Ideal S2816x1024 .f32) (Y : FVec Ideal S4096x1024 .f32) : FVec Ideal S4x4096x704 .bf16 :=
  fun j => kdu (da W Y (j 1) (col j)) (U (ix2 (j 1) (col j))) (G (ix2 (j 1) (col j)))

theorem pay5_at (v0 : Vec Ideal S1024x1024 .bf16) (v2 : Vec Ideal S1x704x1024 .bf16) (v5 v8 : Vec Ideal S1x1024x704 .bf16) (a : Fin 1) (r : Fin 1024) (n : Fin 704) :
    k0_pay5 v0 v2 v5 v8 (ix3 a r n) = kdu (∑ k : Fin 1024, v0 (ix2 r k) * v2 (ix3 0 n k)) (v5 (ix3 0 r n)) (v8 (ix3 0 r n)) := by
  pointwise [k0_pay5, k0_pay4, k0_pay3, k0_pay2, k0_pay1, kdu, sg]

theorem rd0 (c : Dev nD) (t : Fin cfg0.N) (r : Fin 1024) (k : Fin 1024) (h : t.val % 4 * 1024 + r.val < 4096) :
    (iblk m c 0 t : FVec Ideal S1024x1024 .bf16) (ix2 r k)
      = Ideal.ofBits .f32 0x3F000000#32 * (m ((c : Thread nD τ).loc main_arg3) : FVec Ideal S4096x1024 .f32) (ix2 ⟨t.val % 4 * 1024 + r.val, h⟩ k) := by
  blk_simp [iblk]
  entry_read
  pointwise
  blk_point [idx t]

theorem entry2 (c : Dev nD) (j : Fin 4) (r : Fin 4096) (n : Fin 704) (h : j.val * 704 + n.val < 2816) : (V m c main_v2 : FVec Ideal S4x4096x704 .bf16) (ix3 j r n)
    = (m ((c : Thread nD τ).loc main_arg0) : FVec Ideal S4096x2816 .f32) (ix2 r ⟨j.val * 704 + n.val, h⟩) := by
  entry_read
  pointwise

theorem entry3 (c : Dev nD) (j : Fin 4) (r : Fin 4096) (n : Fin 704) (h : j.val * 704 + n.val < 2816) : (V m c main_v5 : FVec Ideal S4x4096x704 .bf16) (ix3 j r n)
    = (m ((c : Thread nD τ).loc main_arg1) : FVec Ideal S4096x2816 .f32) (ix2 r ⟨j.val * 704 + n.val, h⟩) := by
  entry_read
  pointwise

theorem entry1 (c : Dev nD) (j : Fin 4) (n : Fin 704) (k : Fin 1024) (h : j.val * 704 + n.val < 2816) : (V m c main_v7 : FVec Ideal S4x704x1024 .bf16) (ix3 j n k)
    = (m ((c : Thread nD τ).loc main_arg2) : FVec Ideal S2816x1024 .f32) (ix2 ⟨j.val * 704 + n.val, h⟩ k) := by
  entry_read
  pointwise

theorem rd1 (c : Dev nD) (t : Fin cfg0.N) (n : Fin 704) (k : Fin 1024) (h : t.val / 4 * 704 + n.val < 2816) :
    (iblk m c 1 t : FVec Ideal S1x704x1024 .bf16) (ix3 0 n k)
      = (m ((c : Thread nD τ).loc main_arg2) : FVec Ideal S2816x1024 .f32) (ix2 ⟨t.val / 4 * 704 + n.val, h⟩ k) := by
  have ht : t.val < 16 := lt_of_lt_of_eq t.isLt N_0
  refine Eq.trans ?_ (entry1 m c ⟨t.val / 4, by omega⟩ n k h)
  blk_ext [iblk, idx t]

theorem rd2 (c : Dev nD) (t : Fin cfg0.N) (r : Fin 1024) (n : Fin 704) (h : t.val / 4 * 704 + n.val < 2816) (hr : t.val % 4 * 1024 + r.val < 4096) :
    (iblk m c 2 t : FVec Ideal S1x1024x704 .bf16) (ix3 0 r n)
      = (m ((c : Thread nD τ).loc main_arg0) : FVec Ideal S4096x2816 .f32) (ix2 ⟨t.val % 4 * 1024 + r.val, hr⟩ ⟨t.val / 4 * 704 + n.val, h⟩) := by
  have ht : t.val < 16 := lt_of_lt_of_eq t.isLt N_0
  refine Eq.trans ?_ (entry2 m c ⟨t.val / 4, by omega⟩ ⟨t.val % 4 * 1024 + r.val, hr⟩ n h)
  blk_ext [iblk, idx t]

theorem rd3 (c : Dev nD) (t : Fin cfg0.N) (r : Fin 1024) (n : Fin 704) (h : t.val / 4 * 704 + n.val < 2816) (hr : t.val % 4 * 1024 + r.val < 4096) :
    (iblk m c 3 t : FVec Ideal S1x1024x704 .bf16) (ix3 0 r n)
      = (m ((c : Thread nD τ).loc main_arg1) : FVec Ideal S4096x2816 .f32) (ix2 ⟨t.val % 4 * 1024 + r.val, hr⟩ ⟨t.val / 4 * 704 + n.val, h⟩) := by
  have ht : t.val < 16 := lt_of_lt_of_eq t.isLt N_0
  refine Eq.trans ?_ (entry3 m c ⟨t.val / 4, by omega⟩ ⟨t.val % 4 * 1024 + r.val, hr⟩ n h)
  blk_ext [iblk, idx t]

theorem final4 (c : Dev nD) : (dats m 0 c).arrAt 4 (cfgs 0).N
    = DU (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  have ht : t.val < 16 := lt_of_lt_of_eq t.isLt N_0
  blk_simp
  rw [after0_4]; frame_out
  idx_vars y
  rw [pay5_at]
  have hr : t.val % 4 * 1024 + y1.val < 4096 := by omega
  have hn : t.val / 4 * 704 + y2.val < 2816 := by omega
  rw [rd2 m c t _ _ hn hr, rd3 m c t _ _ hn hr]
  simp only [rd0 m c t _ _ hr, rd1 m c t _ _ hn]
  refine Eq.trans (b := DU _ _ _ _ (ix3 ⟨t.val / 4, by omega⟩ ⟨t.val % 4 * 1024 + y1.val, hr⟩ y2)) rfl (congrArg (DU _ _ _ _) ?_)
  blk_ext [idx t]

theorem pay6_at (v0 : Vec Ideal S1024x1024 .bf16) (v2 : Vec Ideal S1x704x1024 .bf16) (v5 : Vec Ideal S1x1024x704 .bf16) (a : Fin 1) (r : Fin 1024) (n : Fin 704) :
    k0_pay6 v0 v2 v5 (ix3 a r n) = kdg (∑ k : Fin 1024, v0 (ix2 r k) * v2 (ix3 0 n k)) (v5 (ix3 0 r n)) := by
  pointwise [k0_pay6, k0_pay4, k0_pay3, k0_pay2, k0_pay1, kdg, sg]

/-- The gradient of the second factor. -/
def DG (U : FVec Ideal S4096x2816 .f32) (W : FVec Ideal S2816x1024 .f32) (Y : FVec Ideal S4096x1024 .f32) : FVec Ideal S4x4096x704 .bf16 :=
  fun j => kdg (da W Y (j 1) (col j)) (U (ix2 (j 1) (col j)))

theorem final5 (c : Dev nD) : (dats m 0 c).arrAt 5 (cfgs 0).N
    = DG (m ((c : Thread nD τ).loc main_arg0)) (m ((c : Thread nD τ).loc main_arg2)) (m ((c : Thread nD τ).loc main_arg3)) := by
  refine (dats m 0 c).arrAt_eq_of_covers 5 _ (by decide +kernel) fun t _ y => ?_
  have ht : t.val < 16 := lt_of_lt_of_eq t.isLt N_0
  blk_simp
  rw [after0_5]; frame_out
  idx_vars y
  rw [pay6_at]
  have hr : t.val % 4 * 1024 + y1.val < 4096 := by omega
  have hn : t.val / 4 * 704 + y2.val < 2816 := by omega
  rw [rd2 m c t _ _ hn hr]
  simp only [rd0 m c t _ _ hr, rd1 m c t _ _ hn]
  refine Eq.trans (b := DG _ _ _ (ix3 ⟨t.val / 4, by omega⟩ ⟨t.val % 4 * 1024 + y1.val, hr⟩ y2)) rfl (congrArg (DG _ _ _) ?_)
  blk_ext [idx t]

end Cert.GateIdeal.Value

namespace Cert.GateIdeal.Value

open Cert.Finite

/-- The sigmoid by the hyperbolic tangent. -/
theorem sg_real (u : ℝ) : sg (u : EReal) = ((1 / (1 + Real.exp (-u)) : ℝ) : EReal) := by
  unfold sg
  rw [ofBits_half, ← EReal.coe_mul, Ideal.tanh_coe, ← EReal.coe_mul, ← EReal.coe_add]
  congr 1
  rw [Real.tanh_eq_sinh_div_cosh, Real.sinh_eq, Real.cosh_eq]
  have hp : Real.exp (-u) = Real.exp (-(1 / 2 * u)) * Real.exp (-(1 / 2 * u)) := by
    rw [← Real.exp_add]; congr 1; ring
  have hq : Real.exp (1 / 2 * u) * Real.exp (-(1 / 2 * u)) = 1 := by
    rw [← Real.exp_add, add_neg_cancel, Real.exp_zero]
  have h1 : 0 < Real.exp (1 / 2 * u) := Real.exp_pos _
  have h2 : 0 < Real.exp (-(1 / 2 * u)) := Real.exp_pos _
  rw [hp]
  generalize Real.exp (1 / 2 * u) = a at *
  generalize Real.exp (-(1 / 2 * u)) = b at *
  have ha : a = 1 / b := by field_simp; linarith
  subst ha
  field_simp
  ring

/-- The two forms of the gate's gradient agree on real numbers. -/
theorem du_real (a u g : ℝ) :
    (a : EReal) * (g : EReal) * Ideal.div 1 (1 + Ideal.exp (-(u : EReal)))
      + (u : EReal) * ((a : EReal) * (g : EReal)) * (Ideal.div 1 (1 + Ideal.exp (-(u : EReal))) * (1 - Ideal.div 1 (1 + Ideal.exp (-(u : EReal)))))
      = kdu a u g := by
  have hs : Ideal.div 1 (1 + Ideal.exp (-(u : EReal))) = ((1 / (1 + Real.exp (-u)) : ℝ) : EReal) := by
    rw [← EReal.coe_neg, Ideal.exp_coe, ← EReal.coe_one, ← EReal.coe_add, div_real (by positivity)]
  rw [kdu, sg_real, hs]
  generalize (1 / (1 + Real.exp (-u)) : ℝ) = s
  rw [← EReal.coe_one]
  simp only [← EReal.coe_mul, ← EReal.coe_add, ← EReal.coe_sub]
  congr 1
  ring

theorem dg_real (a u : ℝ) :
    (u : EReal) * Ideal.div 1 (1 + Ideal.exp (-(u : EReal))) * (a : EReal) = kdg a u := by
  have hs : Ideal.div 1 (1 + Ideal.exp (-(u : EReal))) = ((1 / (1 + Real.exp (-u)) : ℝ) : EReal) := by
    rw [← EReal.coe_neg, Ideal.exp_coe, ← EReal.coe_one, ← EReal.coe_add, div_real (by positivity)]
  rw [kdg, sg_real, hs, mul_comm]

/-- The precondition: all four arrays hold real numbers. -/
theorem reals (U G : FVec Ideal S4096x2816 .f32) (W : FVec Ideal S2816x1024 .f32) (Y : FVec Ideal S4096x1024 .f32)
    (h : Cert.Pre_gate_finite.fn (F := Ideal) U G W Y = fun _ => 1#1) :
    ∃ (u g : S4096x2816.Idx → ℝ) (w : S2816x1024.Idx → ℝ) (y : S4096x1024.Idx → ℝ),
      U = (fun i => (u i : EReal)) ∧ G = (fun i => (g i : EReal)) ∧ W = (fun i => (w i : EReal)) ∧ Y = (fun i => (y i : EReal)) := by
  haveI : Subsingleton (Cert.Pre_gate_finite.S_).Idx := ⟨fun a b => funext fun i => i.elim0⟩
  have h0 := congrFun h (fun i => i.elim0)
  unfold Cert.Pre_gate_finite.fn Cert.Pre_gate_finite.fn_part1 at h0
  obtain ⟨h1, hy⟩ := andi_one h0
  obtain ⟨h2, hw⟩ := andi_one h1
  obtain ⟨hu, hg⟩ := andi_one h2
  obtain ⟨u, eu⟩ := reals_of_all U _ (fun _ => rfl) _ _ _ _ hu
  obtain ⟨g, eg⟩ := reals_of_all G _ (fun _ => rfl) _ _ _ _ hg
  obtain ⟨w, ew⟩ := reals_of_all W _ (fun _ => rfl) _ _ _ _ hw
  obtain ⟨y, ey⟩ := reals_of_all Y _ (fun _ => rfl) _ _ _ _ hy
  exact ⟨u, g, w, y, eu, eg, ew, ey⟩

theorem da_real (w : S2816x1024.Idx → ℝ) (y : S4096x1024.Idx → ℝ) (r : Fin 4096) (n : Fin 2816) :
    da (fun i => (w i : EReal)) (fun i => (y i : EReal)) r n = ((∑ k : Fin 1024, 1 / 2 * y (ix2 r k) * w (ix2 n k) : ℝ) : EReal) := by
  unfold da
  rw [ofBits_half]
  simp only [← EReal.coe_mul, coe_sum]

theorem algebraic : Cert.algebraic_GateIdeal_GateRefIdeal_pre_gate_finite (hGateIdeal := Cert.GateIdeal.Gen.facts) (hGateRefIdeal := Cert.GateRefIdeal.Gen.facts) (hPre_gate_finite := Cert.Pre_gate_finite.Gen.facts) := by
  pair_intro
  · run_from Cert.GateIdeal.Gen.run_main m g
  · run_from Cert.GateRefIdeal.Value.run m' g'
    · obtain ⟨U, G, W, Y, hU, hG, hW, hY⟩ := reals _ _ _ _ (hpre c)
      rw [final4, hU, hG, hW, hY]
      funext j
      idx_vars j
      have hn : j0.val * 704 + j2.val < 2816 := by omega
      have key := du_real (∑ k : Fin 1024, 1 / 2 * Y (ix2 j1 k) * W (ix2 ⟨j0.val * 704 + j2.val, hn⟩ k)) (U (ix2 j1 ⟨j0.val * 704 + j2.val, hn⟩)) (G (ix2 j1 ⟨j0.val * 704 + j2.val, hn⟩))
      rw [← da_real] at key
      pointwise
      exact key
    · obtain ⟨U, G, W, Y, hU, hG, hW, hY⟩ := reals _ _ _ _ (hpre c)
      rw [final5, hU, hW, hY]
      funext j
      idx_vars j
      have hn : j0.val * 704 + j2.val < 2816 := by omega
      have key := dg_real (∑ k : Fin 1024, 1 / 2 * Y (ix2 j1 k) * W (ix2 ⟨j0.val * 704 + j2.val, hn⟩ k)) (U (ix2 j1 ⟨j0.val * 704 + j2.val, hn⟩))
      rw [← da_real] at key
      pointwise
      exact key

end Cert.GateIdeal.Value

end
-- ==== Proof.AttnReal.lean ====
/-
  Softmax rows over the real numbers: the largest entry, the shift by it, and the weight from the row log-sum.
-/
module

public import Idealize.ShloMosaic.PureOps
public import Idealize.ShloMosaic.Lib.Pointwise
public import proofs.«01_k».proof.Proof.Finite

@[expose] public section

noncomputable section

namespace Cert.Softmax

open Idealize.ShloMosaic Cert.Finite

/-- The pattern of `-∞`. -/
theorem ofBits_ninf : Ideal.ofBits .f32 0xFF800000#32 = (⊥ : EReal) := by
  simp [Ideal.ofBits, Ideal.ieee]

/-- The pattern of `2`. -/
theorem ofBits_two : Ideal.ofBits .f32 0x40000000#32 = ((2 : ℝ) : EReal) := by
  simp [Ideal.ofBits, Ideal.ieee]
  rw [← EReal.coe_mul]
  norm_num

/-- The rounded `1/√128`. -/
def c0 : ℝ := 11863283 * (2 : ℝ) ^ (-27 : ℤ)

theorem c0_pos : 0 < c0 := by unfold c0; positivity

theorem ofBits_scale : Ideal.ofBits .f32 0x3DB504F3#32 = (c0 : EReal) := by
  simp [Ideal.ofBits, Ideal.ieee]
  rw [← EReal.coe_mul]
  norm_num [c0]

theorem log_two : Ideal.log (Ideal.ofBits .f32 0x40000000#32) = ((Real.log 2 : ℝ) : EReal) := by
  rw [ofBits_two, Ideal.log_coe]
  norm_num

variable {ι : Type} [Fintype ι] [Nonempty ι]

/-- The maximum of finitely many real numbers is one of them. -/
theorem fold_max_real (f : ι → ℝ) : ∃ μ : ℝ, Finset.fold max (Ideal.ofBits .f32 0xFF800000#32) (fun i => ((f i : ℝ) : EReal)) Finset.univ = (μ : EReal) := by
  obtain ⟨i, _, hi⟩ := Finset.exists_max_image Finset.univ f Finset.univ_nonempty
  refine ⟨f i, le_antisymm ?_ ?_⟩
  · rw [Finset.fold_max_le, ofBits_ninf]
    exact ⟨bot_le, fun x hx => EReal.coe_le_coe_iff.mpr (hi x hx)⟩
  · exact (Finset.le_fold_max _).mpr (Or.inr ⟨i, Finset.mem_univ _, le_rfl⟩)

/-- A row sum of exponentials. -/
def den (z : ι → ℝ) : ℝ := ∑ i, Real.exp (z i)

theorem den_pos (z : ι → ℝ) : 0 < den z :=
  Finset.sum_pos (fun i _ => Real.exp_pos _) Finset.univ_nonempty

/-- The softmax weight. -/
def wt (z : ι → ℝ) (i : ι) : ℝ := Real.exp (z i) / den z

theorem den_shift (z : ι → ℝ) (μ : ℝ) : (∑ i, Real.exp (z i - μ)) = den z * Real.exp (-μ) := by
  rw [den, Finset.sum_mul]
  exact Finset.sum_congr rfl fun i _ => by rw [← Real.exp_add, sub_eq_add_neg]

/-- The weights do not see a shift of the row. -/
theorem wt_shift (z : ι → ℝ) (μ : ℝ) (i : ι) : Real.exp (z i - μ) / (∑ j, Real.exp (z j - μ)) = wt z i := by
  rw [den_shift, wt, sub_eq_add_neg, Real.exp_add]
  have := den_pos z
  field_simp

/-- The weighted mean from the shifted exponentials. -/
theorem mean_shift (z : ι → ℝ) (μ : ℝ) (v : ι → ℝ) : (∑ i, Real.exp (z i - μ) * v i) / (∑ j, Real.exp (z j - μ)) = ∑ i, wt z i * v i := by
  rw [Finset.sum_div]
  exact Finset.sum_congr rfl fun i _ => by rw [← wt_shift z μ i]; ring

/-- The row log-sum from the shifted exponentials. -/
theorem lse_shift (z : ι → ℝ) (μ : ℝ) : μ + Real.log (∑ j, Real.exp (z j - μ)) = Real.log (den z) := by
  rw [den_shift, Real.log_mul (den_pos z).ne' (Real.exp_pos _).ne', Real.log_exp]
  ring

/-- The weight from the row log-sum, to base two. -/
theorem two_rpow (z : ι → ℝ) (i : ι) (s L : ℝ) (hs : s * Real.log 2 = z i) (hL : L * Real.log 2 = Real.log (den z)) :
    (2 : ℝ) ^ (s - L) = wt z i := by
  rw [Real.rpow_def_of_pos (by norm_num), mul_comm, sub_mul, hs, hL, Real.exp_sub, Real.exp_log (den_pos z), wt]

theorem key (e w : ι → ℝ) (l : ℝ) (hl : 0 < l) (h : ∀ j, e j = w j * l) (g : ι → ℝ) (i : ι) :
    (g i / l + -(∑ j, g j * (1 / (l * l)) * e j)) * e i = w i * (g i - ∑ j, w j * g j) := by
  have hs : (∑ j, g j * (1 / (l * l)) * e j) = (∑ j, w j * g j) / l := by
    rw [Finset.sum_div]
    refine Finset.sum_congr rfl fun j _ => ?_
    rw [h j]
    field_simp
  rw [hs, h i]
  field_simp
  ring

/-- The gradient through the softmax, from the weights and from the reference's quotients. -/
theorem grad_eq (z : ι → ℝ) (μ : ℝ) (g : ι → ℝ) (i : ι) :
    (g i / (∑ j, Real.exp (z j - μ)) + -(∑ j, g j * (1 / ((∑ j, Real.exp (z j - μ)) * ∑ j, Real.exp (z j - μ))) * Real.exp (z j - μ))) * Real.exp (z i - μ)
      = wt z i * (g i - ∑ j, wt z j * g j) := by
  have hl : 0 < ∑ j, Real.exp (z j - μ) := Finset.sum_pos (fun i _ => Real.exp_pos _) Finset.univ_nonempty
  refine key (fun j => Real.exp (z j - μ)) (wt z) _ hl (fun j => ?_) g i
  rw [← wt_shift z μ j, div_mul_cancel₀ _ hl.ne']

end Cert.Softmax

end
-- ==== Proof.AttnEntry.lean ====
module

public import proofs.«01_k».proof.Defs
public import proofs.«01_k».proof.Proof.Gen.AttnIdeal.Frame
public import proofs.«01_k».proof.Proof.Gen.AttnIdeal.Value
public import proofs.«01_k».proof.Proof.Gen.AttnRefIdeal.Run
public import proofs.«01_k».proof.Proof.Gen.Pre_attn_finite
public import Idealize.ShloMosaic.Lib.Pipeline.ValueKit
public import Idealize.ShloMosaic.Lib.Claim
public import proofs.«01_k».proof.Proof.Finite
public import proofs.«01_k».proof.Proof.AttnReal

@[expose] public section

set_option maxRecDepth 16384

noncomputable section

open Idealize.ShloMosaic Idealize.ShloMosaic.TcCoe Idealize.SL.Sem
open Idealize.ShloMosaic.Pipeline (Dat)

namespace Cert.AttnIdeal.Value
open Cert.AttnIdeal Cert.AttnIdeal.Gen

variable (m : (ℓ : Loc nD τ sig) → Buf (Elt Ideal) ℓ)

theorem idx : ∀ t : Fin cfg0.N, win0_0.index t = ![t.val % 16, t.val / 16] ∧ win0_1.index t = ![0, 8 + t.val / 16]
    ∧ win0_2.index t = ![0, 46 + t.val / 16] ∧ win0_3.index t = ![t.val % 16, t.val / 16]
    ∧ win0_4.index t = ![t.val / 16, t.val % 16, 0] ∧ win0_5.index t = ![t.val % 16, t.val / 16]
    ∧ win0_6.index t = ![t.val % 16, t.val / 16] ∧ win0_7.index t = ![0, t.val / 16] ∧ win0_8.index t = ![0, t.val / 16] :=
  (by decide +kernel : ∀ t : Fin grid0.N, _)

/-- The factor the query is multiplied by: 1/√128 · log₂ e. -/
def kap : EReal := Ideal.div (Ideal.ofBits .f32 0x3DB504F3#32) (Ideal.log (Ideal.ofBits .f32 0x40000000#32))

/-- The score of row `r`, head `g` of group `k`, against row `s`, to base two. -/
def sc (Q : FVec Ideal S4096x1024 .f32) (K : FVec Ideal S4096x256 .f32) (k : Fin 2) (g : Fin 4) (r s : Fin 4096) : EReal :=
  ∑ d : Fin 128, K (ix2 s ⟨k.val * 128 + d.val, by omega⟩) * (Q (ix2 r ⟨k.val * 512 + g.val * 128 + d.val, by omega⟩) * kap)

/-- The largest score of a row. -/
def scMax (Q : FVec Ideal S4096x1024 .f32) (K : FVec Ideal S4096x256 .f32) (k : Fin 2) (g : Fin 4) (r : Fin 4096) : EReal :=
  Finset.fold max (Ideal.ofBits .f32 0xFF800000#32) (fun s : Fin 4096 => sc Q K k g r s) Finset.univ

def scExp (Q : FVec Ideal S4096x1024 .f32) (K : FVec Ideal S4096x256 .f32) (k : Fin 2) (g : Fin 4) (r s : Fin 4096) : EReal :=
  Ideal.exp ((sc Q K k g r s - scMax Q K k g r) * Ideal.log (Ideal.ofBits .f32 0x40000000#32))

/-- The row log-sum to base two. -/
def lseE (Q : FVec Ideal S4096x1024 .f32) (K : FVec Ideal S4096x256 .f32) (k : Fin 2) (g : Fin 4) (r : Fin 4096) : EReal :=
  scMax Q K k g r + Ideal.div (Ideal.log (∑ s : Fin 4096, scExp Q K k g r s)) (Ideal.log (Ideal.ofBits .f32 0x40000000#32))

/-- The forward output. -/
def outE (Q : FVec Ideal S4096x1024 .f32) (K V : FVec Ideal S4096x256 .f32) (k : Fin 2) (g : Fin 4) (r : Fin 4096) (d : Fin 128) : EReal :=
  Ideal.div (∑ s : Fin 4096, scExp Q K k g r s * V (ix2 s ⟨k.val * 128 + d.val, by omega⟩)) (∑ s : Fin 4096, scExp Q K k g r s)

theorem entryQ (c : Dev nD) (r : Fin 4096) (n : Fin 1024) (hn : n.val < 1280) : (V m c main_v6 : FVec Ideal S4096x1280 .bf16) (ix2 r ⟨n.val, hn⟩)
    = (show EReal from (m ((c : Thread nD τ).loc main_arg0) : FVec Ideal S4096x1024 .f32) (ix2 r n)) * kap := by
  entry_read
  pointwise [kap]

theorem entryK (c : Dev nD) (r : Fin 4096) (n : Fin 256) (hn : 1024 + n.val < 1280) : (V m c main_v6 : FVec Ideal S4096x1280 .bf16) (ix2 r ⟨1024 + n.val, hn⟩)
    = (m ((c : Thread nD τ).loc main_arg1) : FVec Ideal S4096x256 .f32) (ix2 r n) := by
  entry_read
  pointwise

theorem entryD (c : Dev nD) (r : Fin 4096) (n : Fin 1024) : (V m c main_v43 : FVec Ideal S4096x1024 .bf16) (ix2 r n)
    = (m ((c : Thread nD τ).loc main_arg3) : FVec Ideal S4096x1024 .f32) (ix2 r n) := by
  entry_read
  pointwise

theorem entryO (c : Dev nD) (k : Fin 2) (g : Fin 4) (r : Fin 4096) (d : Fin 128) (hn : k.val * 512 + g.val * 128 + d.val < 1024) : (V m c main_v42 : FVec Ideal S4096x1024 .bf16) (ix2 r ⟨k.val * 512 + g.val * 128 + d.val, hn⟩)
    = outE (m ((c : Thread nD τ).loc main_arg0)) (m ((c : Thread nD τ).loc main_arg1)) (m ((c : Thread nD τ).loc main_arg2)) k g r d := by
  have e1 : (k.val * 512 + g.val * 128 + d.val) / 512 = k.val := by omega
  have e2 : (k.val * 512 + g.val * 128 + d.val) / 128 % 4 = g.val := by omega
  have e3 : (k.val * 512 + g.val * 128 + d.val) % 128 = d.val := by omega
  entry_read
  pointwise [outE, scExp, scMax, sc, kap]
  try simp only [e1, e2, e3]
  try rfl

set_option maxHeartbeats 2000000 in
theorem entryV (c : Dev nD) (r : Fin 4096) (n : Fin 256) (hn : 5888 + n.val < 8192) : (V m c main_v10 : FVec Ideal S4096x8192 .bf16) (ix2 r ⟨5888 + n.val, hn⟩)
    = (m ((c : Thread nD τ).loc main_arg2) : FVec Ideal S4096x256 .f32) (ix2 r n) := by
  entry_read
  pointwise

theorem lanes (A B : FVec Ideal S2x4x4096 .f32) (k : Fin 2) (r : Fin 4096) (g : Fin 4) (hg : g.val < 128) :
    shapeCast S2x4096x128 (broadcastInDim S2x4096x32x4 ![0, 1, 2, 3] bcast_S2x4096x1x4_S2x4096x32x4_0_1_2_3
        (broadcastInDim S2x4096x1x4 ![0, 1, 3] bcast_S2x4096x4_S2x4096x1x4_0_1_3
          (transpose S2x4096x4 [0, 2, 1] (addf A B) transposes_S2x4x4096_S2x4096x4_0_2_1))) shapeCasts_S2x4096x32x4_S2x4096x128 (ix3 k r ⟨g.val, hg⟩)
      = (show EReal from A (ix3 k ⟨g.val % 4, by omega⟩ r)) + (show EReal from B (ix3 k ⟨g.val % 4, by omega⟩ r)) := by
  pointwise

theorem entryL (c : Dev nD) (k : Fin 2) (r : Fin 4096) (g : Fin 4) (hg : g.val < 128) : (V m c main_v39 : FVec Ideal S2x4096x128 .f32) (ix3 k r ⟨g.val, hg⟩)
    = lseE (m ((c : Thread nD τ).loc main_arg0)) (m ((c : Thread nD τ).loc main_arg1)) k g r := by
  have eg : g.val % 4 = g.val := by omega
  entry_read
  refine (lanes _ _ k r g hg).trans (congrArg₂ (· + ·) ?_ ?_)
  · pointwise [scMax, sc, kap]
    simp only [eg]
  · pointwise [scExp, scMax, sc, kap]
    simp only [eg]

theorem rdQ (c : Dev nD) (t : Fin cfg0.N) (r : Fin 256) (n : Fin 512) (hr : t.val % 16 * 256 + r.val < 4096) (hn : t.val / 16 * 512 + n.val < 1024) :
    X0_0 m c t (ix2 r n) = (show EReal from (m ((c : Thread nD τ).loc main_arg0) : FVec Ideal S4096x1024 .f32) (ix2 ⟨t.val % 16 * 256 + r.val, hr⟩ ⟨t.val / 16 * 512 + n.val, hn⟩)) * kap := by
  have ht : t.val < 32 := lt_of_lt_of_eq t.isLt N_0
  refine Eq.trans ?_ (entryQ m c ⟨t.val % 16 * 256 + r.val, hr⟩ ⟨t.val / 16 * 512 + n.val, hn⟩ (by simp only; omega))
  unfold X0_0 Pipeline.Window.fill
  rw [dif_pos (moved0_0 t (ix2 r n))]
  blk_ext [iblk, idx t]

theorem rdK (c : Dev nD) (t : Fin cfg0.N) (s : Fin 4096) (d : Fin 128) (hn : t.val / 16 * 128 + d.val < 256) :
    (iblk m c 1 t : FVec Ideal S4096x128 .bf16) (ix2 s d) = (m ((c : Thread nD τ).loc main_arg1) : FVec Ideal S4096x256 .f32) (ix2 s ⟨t.val / 16 * 128 + d.val, hn⟩) := by
  have ht : t.val < 32 := lt_of_lt_of_eq t.isLt N_0
  refine Eq.trans ?_ (entryK m c s ⟨t.val / 16 * 128 + d.val, hn⟩ (by simp only; omega))
  blk_ext [iblk, idx t]

theorem rdV (c : Dev nD) (t : Fin cfg0.N) (s : Fin 4096) (d : Fin 128) (hn : t.val / 16 * 128 + d.val < 256) :
    (iblk m c 2 t : FVec Ideal S4096x128 .bf16) (ix2 s d) = (m ((c : Thread nD τ).loc main_arg2) : FVec Ideal S4096x256 .f32) (ix2 s ⟨t.val / 16 * 128 + d.val, hn⟩) := by
  have ht : t.val < 32 := lt_of_lt_of_eq t.isLt N_0
  refine Eq.trans ?_ (entryV m c s ⟨t.val / 16 * 128 + d.val, hn⟩ (by simp only; omega))
  blk_ext [iblk, idx t]

theorem rdO (c : Dev nD) (t : Fin cfg0.N) (g : Fin 4) (r : Fin 256) (d : Fin 128) (hk : t.val / 16 < 2) (hr : t.val % 16 * 256 + r.val < 4096) (hn : g.val * 128 + d.val < 512) :
    (iblk m c 3 t : FVec Ideal S256x512 .bf16) (ix2 r ⟨g.val * 128 + d.val, hn⟩)
      = outE (m ((c : Thread nD τ).loc main_arg0)) (m ((c : Thread nD τ).loc main_arg1)) (m ((c : Thread nD τ).loc main_arg2)) ⟨t.val / 16, hk⟩ g ⟨t.val % 16 * 256 + r.val, hr⟩ d := by
  have ht : t.val < 32 := lt_of_lt_of_eq t.isLt N_0
  refine Eq.trans ?_ (entryO m c ⟨t.val / 16, hk⟩ g ⟨t.val % 16 * 256 + r.val, hr⟩ d (by simp only; omega))
  blk_ext [iblk, idx t]

theorem movL (c : Dev nD) (t : Fin cfg0.N) (g : Fin 4) (r : Fin 256) (hk : t.val / 16 < 2) (hr : t.val % 16 * 256 + r.val < 4096) (hg : g.val < 128) (X : FVec Ideal S2x4096x128 .f32) :
    X ((win0_4.blk t).view.emb (ix3 0 r ⟨g.val, hg⟩)) = X (ix3 ⟨t.val / 16, hk⟩ ⟨t.val % 16 * 256 + r.val, hr⟩ ⟨g.val, hg⟩) := by
  have ht : t.val < 32 := lt_of_lt_of_eq t.isLt N_0
  refine congrArg X ?_
  blk_ext [idx t]

theorem readL (c : Dev nD) (t : Fin cfg0.N) (y : ((cfg0.win 4).xblock (cfg0.grid.coords t)).Idx) :
    iblk m c 4 t y = V m c (Pipeline.arrRef spec0 4) (((cfg0.win 4).blk t).view.emb y) := by
  unfold iblk
  rw [View.read_apply]
  exact cast_eq _ _

theorem rdL (c : Dev nD) (t : Fin cfg0.N) (g : Fin 4) (r : Fin 256) (hk : t.val / 16 < 2) (hr : t.val % 16 * 256 + r.val < 4096) (hg : g.val < 128) :
    (iblk m c 4 t : FVec Ideal S1x256x128 .f32) (ix3 0 r ⟨g.val, hg⟩)
      = lseE (m ((c : Thread nD τ).loc main_arg0)) (m ((c : Thread nD τ).loc main_arg1)) ⟨t.val / 16, hk⟩ g ⟨t.val % 16 * 256 + r.val, hr⟩ :=
  (readL m c t (ix3 0 r ⟨g.val, hg⟩)).trans
    ((movL c t g r hk hr hg (V m c main_v39)).trans (entryL m c ⟨t.val / 16, hk⟩ ⟨t.val % 16 * 256 + r.val, hr⟩ g hg))

theorem rdD (c : Dev nD) (t : Fin cfg0.N) (r : Fin 256) (n : Fin 512) (hr : t.val % 16 * 256 + r.val < 4096) (hn : t.val / 16 * 512 + n.val < 1024) :
    (iblk m c 5 t : FVec Ideal S256x512 .bf16) (ix2 r n) = (m ((c : Thread nD τ).loc main_arg3) : FVec Ideal S4096x1024 .f32) (ix2 ⟨t.val % 16 * 256 + r.val, hr⟩ ⟨t.val / 16 * 512 + n.val, hn⟩) := by
  have ht : t.val < 32 := lt_of_lt_of_eq t.isLt N_0
  refine Eq.trans ?_ (entryD m c ⟨t.val % 16 * 256 + r.val, hr⟩ ⟨t.val / 16 * 512 + n.val, hn⟩)
  blk_ext [iblk, idx t]

end Cert.AttnIdeal.Value
end
-- ==== Proof.AttnBlock.lean ====
module

public import proofs.«01_k».proof.Defs
public import proofs.«01_k».proof.Proof.Gen.AttnIdeal.Frame
public import proofs.«01_k».proof.Proof.Gen.AttnIdeal.Value
public import proofs.«01_k».proof.Proof.Gen.AttnRefIdeal.Run
public import proofs.«01_k».proof.Proof.Gen.Pre_attn_finite
public import Idealize.ShloMosaic.Lib.Pipeline.ValueKit
public import Idealize.ShloMosaic.Lib.Claim
public import proofs.«01_k».proof.Proof.Finite
public import proofs.«01_k».proof.Proof.AttnReal
public import proofs.«01_k».proof.Proof.AttnEntry

@[expose] public section

set_option maxRecDepth 16384

noncomputable section

open Idealize.ShloMosaic Idealize.ShloMosaic.TcCoe Idealize.SL.Sem
open Idealize.ShloMosaic.Pipeline (Dat)

namespace Cert.AttnIdeal.Value
open Cert.AttnIdeal Cert.AttnIdeal.Gen

variable (m : (ℓ : Loc nD τ sig) → Buf (Elt Ideal) ℓ)

/-- The weights a block's head computes from the row log-sum. -/
def kp (k : Vec Ideal S4096x128 .bf16) (l : Vec Ideal S1x256x128 .f32) (q : Vec Ideal S256x128 .bf16) (g : Fin 128) (r : Fin 256) (s : Fin 4096) : EReal :=
  Ideal.exp2 ((∑ d : Fin 128, q (ix2 r d) * k (ix2 s d)) - l (ix3 0 r g))

/-- The gradient of the scores in a block's head. -/
def kds (k v : Vec Ideal S4096x128 .bf16) (l : Vec Ideal S1x256x128 .f32) (q d o : Vec Ideal S256x128 .bf16) (g : Fin 128) (r : Fin 256) (s : Fin 4096) : EReal :=
  kp k l q g r s * ((∑ e : Fin 128, d (ix2 r e) * v (ix2 s e)) - ∑ e : Fin 128, d (ix2 r e) * o (ix2 r e))

theorem p0 (k l q) : ∀ r s, k0_pay10 (F := Ideal) k l q (ix2 r s) = kp k l q 0 r s := by
  intro r s; pointwise [k0_pay10, k0_pay8, k0_pay5, k0_pay7, kp]; rfl
theorem p1 (k l q) : ∀ r s, k0_pay17 (F := Ideal) (k0_pay5 k) (k0_pay7 l) q (ix2 r s) = kp k l q 1 r s := by
  intro r s; pointwise [k0_pay17, k0_pay15, k0_pay5, k0_pay7, kp]; rfl
theorem p2 (k l q) : ∀ r s, k0_pay24 (F := Ideal) (k0_pay5 k) (k0_pay7 l) q (ix2 r s) = kp k l q 2 r s := by
  intro r s; pointwise [k0_pay24, k0_pay22, k0_pay5, k0_pay7, kp]; rfl
theorem p3 (k l q) : ∀ r s, k0_pay31 (F := Ideal) (k0_pay5 k) (k0_pay7 l) q (ix2 r s) = kp k l q 3 r s := by
  intro r s; pointwise [k0_pay31, k0_pay29, k0_pay5, k0_pay7, kp]; rfl

theorem d0 (k v l q d o) : ∀ r s, k0_pay11 (F := Ideal) k v l q d o (ix2 r s) = kds k v l q d o 0 r s := by
  intro r s; pointwise [k0_pay11, k0_pay9, k0_pay6, p0, kds]
theorem d1 (k v l q d o) : ∀ r s, k0_pay18 (F := Ideal) (k0_pay5 k) (k0_pay6 v) (k0_pay7 l) q d o (ix2 r s) = kds k v l q d o 1 r s := by
  intro r s; pointwise [k0_pay18, k0_pay16, k0_pay6, p1, kds]
theorem d2 (k v l q d o) : ∀ r s, k0_pay25 (F := Ideal) (k0_pay5 k) (k0_pay6 v) (k0_pay7 l) q d o (ix2 r s) = kds k v l q d o 2 r s := by
  intro r s; pointwise [k0_pay25, k0_pay23, k0_pay6, p2, kds]
theorem d3 (k v l q d o) : ∀ r s, k0_pay32 (F := Ideal) (k0_pay5 k) (k0_pay6 v) (k0_pay7 l) q d o (ix2 r s) = kds k v l q d o 3 r s := by
  intro r s; pointwise [k0_pay32, k0_pay30, k0_pay6, p3, kds]

theorem q0 (k v l q d o) : ∀ r n, k0_pay12 (F := Ideal) k v l q d o (ix2 r n) = ∑ s : Fin 4096, kds k v l q d o 0 r s * k (ix2 s n) := by
  intro r n; pointwise [k0_pay12, k0_pay5, d0]
theorem q1 (k v l q d o) : ∀ r n, k0_pay19 (F := Ideal) (k0_pay5 k) (k0_pay6 v) (k0_pay7 l) q d o (ix2 r n) = ∑ s : Fin 4096, kds k v l q d o 1 r s * k (ix2 s n) := by
  intro r n; pointwise [k0_pay19, d1]; pointwise [k0_pay5]
theorem q2 (k v l q d o) : ∀ r n, k0_pay26 (F := Ideal) (k0_pay5 k) (k0_pay6 v) (k0_pay7 l) q d o (ix2 r n) = ∑ s : Fin 4096, kds k v l q d o 2 r s * k (ix2 s n) := by
  intro r n; pointwise [k0_pay26, d2]; pointwise [k0_pay5]
theorem q3 (k v l q d o) : ∀ r n, k0_pay33 (F := Ideal) (k0_pay5 k) (k0_pay6 v) (k0_pay7 l) q d o (ix2 r n) = ∑ s : Fin 4096, kds k v l q d o 3 r s * k (ix2 s n) := by
  intro r n; pointwise [k0_pay33, d3]; pointwise [k0_pay5]

/-! ### Real arguments -/

section Reals

open Cert.Finite Cert.Softmax

/-- The column of head `g` of group `k`. -/
abbrev hcol (k : Fin 2) (g : Fin 4) (d : Fin 128) : Fin 1024 := ⟨k.val * 512 + g.val * 128 + d.val, by omega⟩

/-- The column of group `k`. -/
abbrev gcol (k : Fin 2) (d : Fin 128) : Fin 256 := ⟨k.val * 128 + d.val, by omega⟩

variable (Q D : S4096x1024.Idx → ℝ) (K W : S4096x256.Idx → ℝ)

/-- A row of scaled scores. -/
def zr (k : Fin 2) (g : Fin 4) (r s : Fin 4096) : ℝ := c0 * ∑ d : Fin 128, K (ix2 s (gcol k d)) * Q (ix2 r (hcol k g d))

/-- The cotangent of a row's weights. -/
def dpr (k : Fin 2) (g : Fin 4) (r s : Fin 4096) : ℝ := ∑ d : Fin 128, D (ix2 r (hcol k g d)) * W (ix2 s (gcol k d))

/-- The cotangent of a row's scores. -/
def dsr (k : Fin 2) (g : Fin 4) (r s : Fin 4096) : ℝ :=
  wt (zr Q K k g r) s * (dpr D W k g r s - ∑ j, wt (zr Q K k g r) j * dpr D W k g r j)

theorem kap_real : kap = ((c0 / Real.log 2 : ℝ) : EReal) := by
  rw [kap, ofBits_scale, log_two, div_real (Real.log_pos (by norm_num)).ne']

theorem sc_real (k : Fin 2) (g : Fin 4) (r s : Fin 4096) :
    sc (fun i => (Q i : EReal)) (fun i => (K i : EReal)) k g r s = ((zr Q K k g r s / Real.log 2 : ℝ) : EReal) := by
  simp only [sc, kap_real, ← EReal.coe_mul, coe_sum]
  congr 1
  rw [zr, Finset.mul_sum, Finset.sum_div]
  exact Finset.sum_congr rfl fun d _ => by ring

/-- The shifted exponentials of a row, for some shift. -/
theorem exp_real (k : Fin 2) (g : Fin 4) (r : Fin 4096) : ∃ μ : ℝ,
    scMax (fun i => (Q i : EReal)) (fun i => (K i : EReal)) k g r = ((μ / Real.log 2 : ℝ) : EReal)
    ∧ ∀ s, scExp (fun i => (Q i : EReal)) (fun i => (K i : EReal)) k g r s = ((Real.exp (zr Q K k g r s - μ) : ℝ) : EReal) := by
  have hl : Real.log 2 ≠ 0 := (Real.log_pos (by norm_num)).ne'
  obtain ⟨μ, hμ⟩ := fold_max_real (fun s : Fin 4096 => zr Q K k g r s / Real.log 2)
  have hm : scMax (fun i => (Q i : EReal)) (fun i => (K i : EReal)) k g r = (μ : EReal) := by
    rw [scMax, ← hμ]
    simp only [sc_real]
  refine ⟨μ * Real.log 2, ?_, fun s => ?_⟩
  · rw [hm, mul_div_cancel_right₀ _ hl]
  · rw [scExp, hm, sc_real, log_two, ← EReal.coe_sub, ← EReal.coe_mul, Ideal.exp_coe]
    rw [sub_mul, div_mul_cancel₀ _ hl]

theorem lse_real (k : Fin 2) (g : Fin 4) (r : Fin 4096) :
    lseE (fun i => (Q i : EReal)) (fun i => (K i : EReal)) k g r = ((Real.log (den (zr Q K k g r)) / Real.log 2 : ℝ) : EReal) := by
  have hl : Real.log 2 ≠ 0 := (Real.log_pos (by norm_num)).ne'
  obtain ⟨μ, hm, he⟩ := exp_real Q K k g r
  have hp : 0 < ∑ s, Real.exp (zr Q K k g r s - μ) := Finset.sum_pos (fun i _ => Real.exp_pos _) Finset.univ_nonempty
  simp only [lseE, hm, he, coe_sum, log_two]
  rw [Ideal.log_coe, if_neg (not_le.mpr hp), div_real hl, ← EReal.coe_add, ← lse_shift _ μ, add_div]

theorem out_real (k : Fin 2) (g : Fin 4) (r : Fin 4096) (d : Fin 128) :
    outE (fun i => (Q i : EReal)) (fun i => (K i : EReal)) (fun i => (W i : EReal)) k g r d = ((∑ s, wt (zr Q K k g r) s * W (ix2 s (gcol k d)) : ℝ) : EReal) := by
  obtain ⟨μ, hm, he⟩ := exp_real Q K k g r
  have hp : 0 < ∑ s, Real.exp (zr Q K k g r s - μ) := Finset.sum_pos (fun i _ => Real.exp_pos _) Finset.univ_nonempty
  simp only [outE, he, ← EReal.coe_mul, coe_sum]
  rw [div_real hp.ne', mean_shift]

end Reals

section Blocks

open Cert.Finite Cert.Softmax

variable (Q D : S4096x1024.Idx → ℝ) (K W : S4096x256.Idx → ℝ)

/-- The gradient of the query, without the factor of its scaling. -/
def dqr (k : Fin 2) (g : Fin 4) (r : Fin 4096) (n : Fin 128) : ℝ := ∑ s, dsr Q D K W k g r s * K (ix2 s (gcol k n))

/-- The gradient of the key from one row and head. -/
def dkr (k : Fin 2) (n : Fin 128) (g : Fin 4) (r s : Fin 4096) : ℝ := dsr Q D K W k g r s * (Q (ix2 r (hcol k g n)) * (c0 / Real.log 2))

/-- The gradient of the value from one row and head. -/
def dvr (k : Fin 2) (n : Fin 128) (g : Fin 4) (r s : Fin 4096) : ℝ := wt (zr Q K k g r) s * D (ix2 r (hcol k g n))

/-- The row of block `t`. -/
abbrev row (t : Fin cfg0.N) (r : Fin 256) : Fin 4096 := ⟨t.val % 16 * 256 + r.val, by omega⟩

/-- The group of block `t`. -/
abbrev grp (t : Fin cfg0.N) : Fin 2 := ⟨t.val / 16, by have := lt_of_lt_of_eq t.isLt N_0; omega⟩

variable (c : Dev nD) (t : Fin cfg0.N)
variable (hQ : m ((c : Thread nD τ).loc main_arg0) = fun i => (Q i : EReal)) (hK : m ((c : Thread nD τ).loc main_arg1) = fun i => (K i : EReal))
variable (hW : m ((c : Thread nD τ).loc main_arg2) = fun i => (W i : EReal)) (hD : m ((c : Thread nD τ).loc main_arg3) = fun i => (D i : EReal))

theorem iK (hK : m ((c : Thread nD τ).loc main_arg1) = fun i => (K i : EReal)) (s : Fin 4096) (d : Fin 128) : (iblk m c 1 t : FVec Ideal S4096x128 .bf16) (ix2 s d) = (K (ix2 s (gcol (grp t) d)) : EReal) := by
  rw [rdK m c t s d (by have := lt_of_lt_of_eq t.isLt N_0; omega), hK]

theorem iW (hW : m ((c : Thread nD τ).loc main_arg2) = fun i => (W i : EReal)) (s : Fin 4096) (d : Fin 128) : (iblk m c 2 t : FVec Ideal S4096x128 .bf16) (ix2 s d) = (W (ix2 s (gcol (grp t) d)) : EReal) := by
  rw [rdV m c t s d (by have := lt_of_lt_of_eq t.isLt N_0; omega), hW]

include hQ in
theorem iQ (g : Fin 4) (r : Fin 256) (d : Fin 128) (j : Fin 512) (h : j.val = g.val * 128 + d.val) : X0_0 m c t (ix2 r j) = ((Q (ix2 (row t r) (hcol (grp t) g d)) * (c0 / Real.log 2) : ℝ) : EReal) := by
  have ht := lt_of_lt_of_eq t.isLt N_0
  rw [rdQ m c t r j (by omega) (by omega), hQ, kap_real, EReal.coe_mul]
  refine congrArg (fun j => (Q (ix2 (row t r) j) : EReal) * ((c0 / Real.log 2 : ℝ) : EReal)) (Fin.ext ?_)
  simp only; omega

include hD in
theorem iD (g : Fin 4) (r : Fin 256) (d : Fin 128) (j : Fin 512) (h : j.val = g.val * 128 + d.val) : (iblk m c 5 t : FVec Ideal S256x512 .bf16) (ix2 r j) = (D (ix2 (row t r) (hcol (grp t) g d)) : EReal) := by
  have ht := lt_of_lt_of_eq t.isLt N_0
  rw [rdD m c t r j (by omega) (by omega), hD]
  refine congrArg (fun j => (D (ix2 (row t r) j) : EReal)) (Fin.ext ?_)
  simp only; omega

include hQ hK in
theorem iL (g : Fin 4) (r : Fin 256) (h : g.val < 128) : (iblk m c 4 t : FVec Ideal S1x256x128 .f32) (ix3 0 r ⟨g.val, h⟩) = ((Real.log (den (zr Q K (grp t) g (row t r))) / Real.log 2 : ℝ) : EReal) := by
  have ht := lt_of_lt_of_eq t.isLt N_0
  rw [rdL m c t g r (by omega) (by omega) h, hQ, hK, lse_real]

include hQ hK hW in
theorem iO (g : Fin 4) (r : Fin 256) (d : Fin 128) (j : Fin 512) (h : j.val = g.val * 128 + d.val) : (iblk m c 3 t : FVec Ideal S256x512 .bf16) (ix2 r j) = ((∑ s, wt (zr Q K (grp t) g (row t r)) s * W (ix2 s (gcol (grp t) d)) : ℝ) : EReal) := by
  have ht := lt_of_lt_of_eq t.isLt N_0
  obtain ⟨j, hj⟩ := j
  obtain rfl : j = g.val * 128 + d.val := h
  rw [rdO m c t g r d (by omega) (by omega) (by omega), hQ, hK, hW, out_real]

include hQ hK in
/-- The weights of a head of block `t`. -/
theorem kp_real (g : Fin 4) (hg : g.val < 128) (q : Vec Ideal S256x128 .bf16) (hq : ∀ r d, q (ix2 r d) = ((Q (ix2 (row t r) (hcol (grp t) g d)) * (c0 / Real.log 2) : ℝ) : EReal))
    (r : Fin 256) (s : Fin 4096) : kp (iblk m c 1 t) (iblk m c 4 t) q ⟨g.val, hg⟩ r s = ((wt (zr Q K (grp t) g (row t r)) s : ℝ) : EReal) := by
  have hl : Real.log 2 ≠ 0 := (Real.log_pos (by norm_num)).ne'
  simp only [kp, hq, iK m K c t hK, iL m Q K c t hQ hK, ← EReal.coe_mul, coe_sum, ← EReal.coe_sub, Ideal.exp2_coe]
  refine congrArg _ (two_rpow _ _ _ _ ?_ (div_mul_cancel₀ _ hl))
  rw [zr, Finset.mul_sum, Finset.sum_mul]
  refine Finset.sum_congr rfl fun i _ => ?_
  field_simp

include hQ hK hW in
/-- The gradient of the scores in a head of block `t`. -/
theorem kds_real (g : Fin 4) (hg : g.val < 128) (q d o : Vec Ideal S256x128 .bf16)
    (hq : ∀ r n, q (ix2 r n) = ((Q (ix2 (row t r) (hcol (grp t) g n)) * (c0 / Real.log 2) : ℝ) : EReal))
    (hd : ∀ r n, d (ix2 r n) = (D (ix2 (row t r) (hcol (grp t) g n)) : EReal))
    (ho : ∀ r n, o (ix2 r n) = ((∑ s, wt (zr Q K (grp t) g (row t r)) s * W (ix2 s (gcol (grp t) n)) : ℝ) : EReal))
    (r : Fin 256) (s : Fin 4096) :
    kds (iblk m c 1 t) (iblk m c 2 t) (iblk m c 4 t) q d o ⟨g.val, hg⟩ r s = ((dsr Q D K W (grp t) g (row t r) s : ℝ) : EReal) := by
  have hs : (∑ e : Fin 128, D (ix2 (row t r) (hcol (grp t) g e)) * ∑ s, wt (zr Q K (grp t) g (row t r)) s * W (ix2 s (gcol (grp t) e)))
      = ∑ s, wt (zr Q K (grp t) g (row t r)) s * dpr D W (grp t) g (row t r) s := by
    simp only [dpr, Finset.mul_sum]
    rw [Finset.sum_comm]
    exact Finset.sum_congr rfl fun s _ => Finset.sum_congr rfl fun e _ => by ring
  simp only [kds, kp_real m Q K c t hQ hK g hg q hq, hd, ho, iW m W c t hW, ← EReal.coe_mul, coe_sum, ← EReal.coe_sub, hs]
  rfl

/-- A block's slab of scaled queries of head `g`. -/
def IsQ (t : Fin cfg0.N) (g : Fin 4) (q : Vec Ideal S256x128 .bf16) : Prop :=
  ∀ r n, q (ix2 r n) = ((Q (ix2 (row t r) (hcol (grp t) g n)) * (c0 / Real.log 2) : ℝ) : EReal)

/-- A block's slab of output cotangents of head `g`. -/
def IsD (t : Fin cfg0.N) (g : Fin 4) (d : Vec Ideal S256x128 .bf16) : Prop :=
  ∀ r n, d (ix2 r n) = (D (ix2 (row t r) (hcol (grp t) g n)) : EReal)

/-- A block's slab of outputs of head `g`. -/
def IsO (t : Fin cfg0.N) (g : Fin 4) (o : Vec Ideal S256x128 .bf16) : Prop :=
  ∀ r n, o (ix2 r n) = ((∑ s, wt (zr Q K (grp t) g (row t r)) s * W (ix2 s (gcol (grp t) n)) : ℝ) : EReal)

include hQ hK hW in
/-- A head's part of the gradient of the query. -/
theorem dq_head (g : Fin 4) (hg : g.val < 128) (q d o : Vec Ideal S256x128 .bf16) (hq : IsQ Q t g q) (hd : IsD D t g d) (ho : IsO Q K W t g o) (r : Fin 256) (n : Fin 128) :
    (∑ s : Fin 4096, kds (iblk m c 1 t) (iblk m c 2 t) (iblk m c 4 t) q d o ⟨g.val, hg⟩ r s * (iblk m c 1 t : FVec Ideal S4096x128 .bf16) (ix2 s n)) = ((dqr Q D K W (grp t) g (row t r) n : ℝ) : EReal) := by
  rw [dqr, ← coe_sum]
  refine Fin.sum_fin_congr fun s => ?_
  rw [kds_real m Q D K W c t hQ hK hW g hg q d o hq hd ho, iK m K c t hK, ← EReal.coe_mul]

include hQ hK hW in
/-- A head's part of the gradient of the key. -/
theorem dk_head (g : Fin 4) (hg : g.val < 128) (q d o : Vec Ideal S256x128 .bf16) (hq : IsQ Q t g q) (hd : IsD D t g d) (ho : IsO Q K W t g o) (s : Fin 4096) (n : Fin 128) :
    (∑ r : Fin 256, kds (iblk m c 1 t) (iblk m c 2 t) (iblk m c 4 t) q d o ⟨g.val, hg⟩ r s * q (ix2 r n)) = ((∑ r : Fin 256, dkr Q D K W (grp t) n g (row t r) s : ℝ) : EReal) := by
  simp only [kds_real m Q D K W c t hQ hK hW g hg q d o hq hd ho, fun r => hq r n, ← EReal.coe_mul, coe_sum]
  rfl

include hQ hK in
/-- A head's part of the gradient of the value. -/
theorem dv_head (g : Fin 4) (hg : g.val < 128) (q d : Vec Ideal S256x128 .bf16) (hq : IsQ Q t g q) (hd : IsD D t g d) (s : Fin 4096) (n : Fin 128) :
    (∑ r : Fin 256, kp (iblk m c 1 t) (iblk m c 4 t) q ⟨g.val, hg⟩ r s * d (ix2 r n)) = ((∑ r : Fin 256, dvr Q D K (grp t) n g (row t r) s : ℝ) : EReal) := by
  rw [← coe_sum]
  refine Fin.sum_fin_congr fun r => ?_
  rw [kp_real m Q K c t hQ hK g hg q hq, hd r n, ← EReal.coe_mul]
  rfl

theorem a13 (a b c) : ∀ s n, k0_pay13 (F := Ideal) (k0_pay8 a) b c (ix2 s n) = c (ix2 s n) + ∑ r : Fin 256, b (ix2 r s) * a (ix2 r n) := by
  intro s n; pointwise [k0_pay13, k0_pay8]
theorem a20 (a b c) : ∀ s n, k0_pay20 (F := Ideal) (k0_pay15 a) b c (ix2 s n) = c (ix2 s n) + ∑ r : Fin 256, b (ix2 r s) * a (ix2 r n) := by
  intro s n; pointwise [k0_pay20, k0_pay15]
theorem a27 (a b c) : ∀ s n, k0_pay27 (F := Ideal) (k0_pay22 a) b c (ix2 s n) = c (ix2 s n) + ∑ r : Fin 256, b (ix2 r s) * a (ix2 r n) := by
  intro s n; pointwise [k0_pay27, k0_pay22]
theorem a1 (a b c) : ∀ s n, k0_pay1 (F := Ideal) (k0_pay29 a) b c (ix2 s n) = c (ix2 s n) + ∑ r : Fin 256, b (ix2 r s) * a (ix2 r n) := by
  intro s n; pointwise [k0_pay1, k0_pay29]
theorem a14 (a b c) : ∀ s n, k0_pay14 (F := Ideal) (k0_pay9 a) b c (ix2 s n) = c (ix2 s n) + ∑ r : Fin 256, b (ix2 r s) * a (ix2 r n) := by
  intro s n; pointwise [k0_pay14, k0_pay9]
theorem a21 (a b c) : ∀ s n, k0_pay21 (F := Ideal) (k0_pay16 a) b c (ix2 s n) = c (ix2 s n) + ∑ r : Fin 256, b (ix2 r s) * a (ix2 r n) := by
  intro s n; pointwise [k0_pay21, k0_pay16]
theorem a28 (a b c) : ∀ s n, k0_pay28 (F := Ideal) (k0_pay23 a) b c (ix2 s n) = c (ix2 s n) + ∑ r : Fin 256, b (ix2 r s) * a (ix2 r n) := by
  intro s n; pointwise [k0_pay28, k0_pay23]
theorem a2 (a b c) : ∀ s n, k0_pay2 (F := Ideal) (k0_pay30 a) b c (ix2 s n) = c (ix2 s n) + ∑ r : Fin 256, b (ix2 r s) * a (ix2 r n) := by
  intro s n; pointwise [k0_pay2, k0_pay30]

variable (q0 q1 q2 q3 d0 d1 d2 d3 o0 o1 o2 o3 : Vec Ideal S256x128 .bf16)
variable (hq0 : IsQ Q t 0 q0) (hq1 : IsQ Q t 1 q1) (hq2 : IsQ Q t 2 q2) (hq3 : IsQ Q t 3 q3)
variable (hd0 : IsD D t 0 d0) (hd1 : IsD D t 1 d1) (hd2 : IsD D t 2 d2) (hd3 : IsD D t 3 d3)
variable (ho0 : IsO Q K W t 0 o0) (ho1 : IsO Q K W t 1 o1) (ho2 : IsO Q K W t 2 o2) (ho3 : IsO Q K W t 3 o3)

include hQ hK hW hq0 hq1 hq2 hq3 hd0 hd1 hd2 hd3 ho0 ho1 ho2 ho3 in
/-- What a block adds to the gradient of the key. -/
theorem dk_chain (B : Vec Ideal S4096x128 .f32) (y : S4096x128.Idx) :
    k0_pay1 (F := Ideal) (k0_pay29 q3) (k0_pay32 (k0_pay5 (iblk m c 1 t)) (k0_pay6 (iblk m c 2 t)) (k0_pay7 (iblk m c 4 t)) q3 d3 o3)
      (k0_pay27 (k0_pay22 q2) (k0_pay25 (k0_pay5 (iblk m c 1 t)) (k0_pay6 (iblk m c 2 t)) (k0_pay7 (iblk m c 4 t)) q2 d2 o2)
        (k0_pay20 (k0_pay15 q1) (k0_pay18 (k0_pay5 (iblk m c 1 t)) (k0_pay6 (iblk m c 2 t)) (k0_pay7 (iblk m c 4 t)) q1 d1 o1)
          (k0_pay13 (k0_pay8 q0) (k0_pay11 (iblk m c 1 t) (iblk m c 2 t) (iblk m c 4 t) q0 d0 o0) B))) y
      = B y + ((∑ g : Fin 4, ∑ r : Fin 256, dkr Q D K W (grp t) (y 1) g (row t r) (y 0) : ℝ) : EReal) := by
  idx_vars y
  rw [a1, a27, a20, a13]
  simp only [Value.d0, Value.d1, Value.d2, Value.d3]
  have h0 := dk_head m Q D K W c t hQ hK hW 0 (by decide) q0 d0 o0 hq0 hd0 ho0 y0 y1
  have h1 := dk_head m Q D K W c t hQ hK hW 1 (by decide) q1 d1 o1 hq1 hd1 ho1 y0 y1
  have h2 := dk_head m Q D K W c t hQ hK hW 2 (by decide) q2 d2 o2 hq2 hd2 ho2 y0 y1
  have h3 := dk_head m Q D K W c t hQ hK hW 3 (by decide) q3 d3 o3 hq3 hd3 ho3 y0 y1
  refine (congrArg₂ (· + ·) (congrArg₂ (· + ·) (congrArg₂ (· + ·) (congrArg (B (ix2 y0 y1) + ·) h0) h1) h2) h3).trans ?_
  simp only [add_assoc, ← EReal.coe_add]
  rw [Fin.sum_univ_four]
  simp only [add_assoc]

include hQ hK hq0 hq1 hq2 hq3 hd0 hd1 hd2 hd3 in
/-- What a block adds to the gradient of the value. -/
theorem dv_chain (B : Vec Ideal S4096x128 .f32) (y : S4096x128.Idx) :
    k0_pay2 (F := Ideal) (k0_pay30 d3) (k0_pay31 (k0_pay5 (iblk m c 1 t)) (k0_pay7 (iblk m c 4 t)) q3)
      (k0_pay28 (k0_pay23 d2) (k0_pay24 (k0_pay5 (iblk m c 1 t)) (k0_pay7 (iblk m c 4 t)) q2)
        (k0_pay21 (k0_pay16 d1) (k0_pay17 (k0_pay5 (iblk m c 1 t)) (k0_pay7 (iblk m c 4 t)) q1)
          (k0_pay14 (k0_pay9 d0) (k0_pay10 (iblk m c 1 t) (iblk m c 4 t) q0) B))) y
      = B y + ((∑ g : Fin 4, ∑ r : Fin 256, dvr Q D K (grp t) (y 1) g (row t r) (y 0) : ℝ) : EReal) := by
  idx_vars y
  rw [a2, a28, a21, a14]
  simp only [p0, p1, p2, p3]
  have h0 := dv_head m Q D K c t hQ hK 0 (by decide) q0 d0 hq0 hd0 y0 y1
  have h1 := dv_head m Q D K c t hQ hK 1 (by decide) q1 d1 hq1 hd1 y0 y1
  have h2 := dv_head m Q D K c t hQ hK 2 (by decide) q2 d2 hq2 hd2 y0 y1
  have h3 := dv_head m Q D K c t hQ hK 3 (by decide) q3 d3 hq3 hd3 y0 y1
  refine (congrArg₂ (· + ·) (congrArg₂ (· + ·) (congrArg₂ (· + ·) (congrArg (B (ix2 y0 y1) + ·) h0) h1) h2) h3).trans ?_
  simp only [add_assoc, ← EReal.coe_add]
  rw [Fin.sum_univ_four]
  simp only [add_assoc]

end Blocks
end Cert.AttnIdeal.Value
end
-- ==== Proof.AttnValue.lean ====
module

public import proofs.«01_k».proof.Defs
public import proofs.«01_k».proof.Proof.Gen.AttnIdeal.Frame
public import proofs.«01_k».proof.Proof.Gen.AttnIdeal.Value
public import proofs.«01_k».proof.Proof.Gen.AttnRefIdeal.Run
public import proofs.«01_k».proof.Proof.Gen.Pre_attn_finite
public import Idealize.ShloMosaic.Lib.Pipeline.ValueKit
public import Idealize.ShloMosaic.Lib.Claim
public import proofs.«01_k».proof.Proof.Finite
public import proofs.«01_k».proof.Proof.AttnReal
public import proofs.«01_k».proof.Proof.AttnBlock

@[expose] public section

set_option maxRecDepth 16384

noncomputable section

open Idealize.ShloMosaic Idealize.ShloMosaic.TcCoe Idealize.SL.Sem
open Idealize.ShloMosaic.Pipeline (Dat)

namespace Cert.AttnIdeal.Value
open Cert.AttnIdeal Cert.AttnIdeal.Gen

variable (m : (ℓ : Loc nD τ sig) → Buf (Elt Ideal) ℓ)

open Cert.Finite Cert.Softmax

section Results

variable (Q D : S4096x1024.Idx → ℝ) (K W : S4096x256.Idx → ℝ)

/-- The gradient of the query as an array. -/
def F6 : FVec Ideal S4096x1024 .bf16 := fun j =>
  ((dqr Q D K W ⟨(j 1).val / 512, by have : (j 1).val < 1024 := (j 1).isLt; omega⟩ ⟨(j 1).val / 128 % 4, by omega⟩ (j 0) ⟨(j 1).val % 128, by omega⟩ : ℝ) : EReal)

/-- The gradient of the key as an array. -/
def F7 : FVec Ideal S4096x256 .f32 := fun j =>
  ((∑ g : Fin 4, ∑ r : Fin 4096, dkr Q D K W ⟨(j 1).val / 128, by have : (j 1).val < 256 := (j 1).isLt; omega⟩ ⟨(j 1).val % 128, by omega⟩ g r (j 0) : ℝ) : EReal)

/-- The gradient of the value as an array. -/
def F8 : FVec Ideal S4096x256 .f32 := fun j =>
  ((∑ g : Fin 4, ∑ r : Fin 4096, dvr Q D K ⟨(j 1).val / 128, by have : (j 1).val < 256 := (j 1).isLt; omega⟩ ⟨(j 1).val % 128, by omega⟩ g r (j 0) : ℝ) : EReal)

theorem F6_at (k : Fin 2) (g : Fin 4) (r : Fin 4096) (n : Fin 128) (j : Fin 1024) (h : j.val = k.val * 512 + g.val * 128 + n.val) :
    F6 Q D K W (ix2 r j) = ((dqr Q D K W k g r n : ℝ) : EReal) := by
  have e1 : (⟨j.val / 512, by omega⟩ : Fin 2) = k := Fin.ext (by simp only; omega)
  have e2 : (⟨j.val / 128 % 4, by omega⟩ : Fin 4) = g := Fin.ext (by simp only; omega)
  have e3 : (⟨j.val % 128, by omega⟩ : Fin 128) = n := Fin.ext (by simp only; omega)
  show ((dqr Q D K W (⟨j.val / 512, _⟩ : Fin 2) (⟨j.val / 128 % 4, _⟩ : Fin 4) r (⟨j.val % 128, _⟩ : Fin 128) : ℝ) : EReal) = _
  rw [e1, e2, e3]

theorem F7_at (k : Fin 2) (s : Fin 4096) (n : Fin 128) (j : Fin 256) (h : j.val = k.val * 128 + n.val) :
    F7 Q D K W (ix2 s j) = ((∑ g : Fin 4, ∑ r : Fin 4096, dkr Q D K W k n g r s : ℝ) : EReal) := by
  have e1 : (⟨j.val / 128, by omega⟩ : Fin 2) = k := Fin.ext (by simp only; omega)
  have e2 : (⟨j.val % 128, by omega⟩ : Fin 128) = n := Fin.ext (by simp only; omega)
  show ((∑ g : Fin 4, ∑ r : Fin 4096, dkr Q D K W (⟨j.val / 128, _⟩ : Fin 2) (⟨j.val % 128, _⟩ : Fin 128) g r s : ℝ) : EReal) = _
  rw [e1, e2]

theorem F8_at (k : Fin 2) (s : Fin 4096) (n : Fin 128) (j : Fin 256) (h : j.val = k.val * 128 + n.val) :
    F8 Q D K (ix2 s j) = ((∑ g : Fin 4, ∑ r : Fin 4096, dvr Q D K k n g r s : ℝ) : EReal) := by
  have e1 : (⟨j.val / 128, by omega⟩ : Fin 2) = k := Fin.ext (by simp only; omega)
  have e2 : (⟨j.val % 128, by omega⟩ : Fin 128) = n := Fin.ext (by simp only; omega)
  show ((∑ g : Fin 4, ∑ r : Fin 4096, dvr Q D K (⟨j.val / 128, _⟩ : Fin 2) (⟨j.val % 128, _⟩ : Fin 128) g r s : ℝ) : EReal) = _
  rw [e1, e2]

variable (c : Dev nD)
variable (hQ : m ((c : Thread nD τ).loc main_arg0) = fun i => (Q i : EReal)) (hK : m ((c : Thread nD τ).loc main_arg1) = fun i => (K i : EReal))
variable (hW : m ((c : Thread nD τ).loc main_arg2) = fun i => (W i : EReal)) (hD : m ((c : Thread nD τ).loc main_arg3) = fun i => (D i : EReal))

set_option maxHeartbeats 2000000 in
include hQ hK hW hD in
theorem final6 : (dats m 0 c).arrAt 6 cfg0.N = F6 Q D K W := by
  refine (dats m 0 c).arrAt_eq_of_covers 6 _ (by decide +kernel) fun t hf y => ?_
  have ht := lt_of_lt_of_eq t.isLt N_0
  blk_simp
  have head : ∀ (g : Fin 4) (hg : g.val < 128) (q d o : Vec Ideal S256x128 .bf16), IsQ Q t g q → IsD D t g d → IsO Q K W t g o → ∀ (r : Fin 256) (n : Fin 128),
      (y 0).val = r.val → (y 1).val = g.val * 128 + n.val →
      (∑ s : Fin 4096, kds (iblk m c 1 t) (iblk m c 2 t) (iblk m c 4 t) q d o ⟨g.val, hg⟩ r s * (iblk m c 1 t : FVec Ideal S4096x128 .bf16) (ix2 s n))
        = F6 Q D K W (((View.whole main_v44_0).slice (win0_6.rect t)).emb y) := by
    intro g hg q d o hq hd ho r n hr hn
    refine (dq_head m Q D K W c t hQ hK hW g hg q d o hq hd ho r n).trans
      ((F6_at Q D K W (grp t) g (row t r) n ⟨t.val / 16 * 512 + g.val * 128 + n.val, by omega⟩ rfl).symm.trans (congrArg (F6 Q D K W) ?_))
    blk_ext [idx t]
  rw [after0_6]
  by_cases h0 : t.val % 16 = 0
  on_goal 1 => rw [outsAt0_A m c t h0]
  on_goal 2 => rw [outsAt0_B m c t h0]
  all_goals
    frame_out
    canon_tiles x hx
    all_goals idx_vars x
    case' piece0 => refine (q3 _ _ _ _ _ _ _ _).trans (head 3 (by decide) _ _ _ ?_ ?_ ?_ x0 x1 hx0 hx1)
    case' piece1 => refine (q2 _ _ _ _ _ _ _ _).trans (head 2 (by decide) _ _ _ ?_ ?_ ?_ x0 x1 hx0 hx1)
    case' piece2 => refine (q1 _ _ _ _ _ _ _ _).trans (head 1 (by decide) _ _ _ ?_ ?_ ?_ x0 x1 hx0 hx1)
    case' piece3 => refine (q0 _ _ _ _ _ _ _ _).trans (head 0 (by decide) _ _ _ ?_ ?_ ?_ x0 x1 hx0 (hx1.trans (by simp)))
  all_goals
    intro r n
    pointwise
    first
      | exact iQ m Q c t hQ _ _ _ _ (by first | rfl | simp)
      | exact iD m D c t hD _ _ _ _ (by first | rfl | simp)
      | exact iO m Q K W c t hQ hK hW _ _ _ _ (by first | rfl | simp)

theorem zero3 (y) : k0_pay3 (F := Ideal) y = 0 := by idx_vars y; pointwise [k0_pay3]
theorem zero4 (y) : k0_pay4 (F := Ideal) y = 0 := by idx_vars y; pointwise [k0_pay4]

/-- The rows of a run of blocks are all the rows. -/
theorem rows_sum (k : Fin 2) (f : Fin 2 → Fin 4 → Fin 4096 → ℝ) (t : Fin cfg0.N) (e : t.val / 16 = k.val) (h : ∀ s : Fin 16, 16 * (t.val / 16) + s.val < cfg0.N) :
    (∑ s : Fin 16, ((∑ g : Fin 4, ∑ r : Fin 256, f (grp ⟨16 * (t.val / 16) + s.val, h s⟩) g (row ⟨16 * (t.val / 16) + s.val, h s⟩ r) : ℝ) : EReal))
      = ((∑ g : Fin 4, ∑ r : Fin 4096, f k g r : ℝ) : EReal) := by
  rw [coe_sum, Finset.sum_comm]
  refine congrArg _ (Fin.sum_fin_congr fun g => Fin.sum_mul_add_congr fun s r hl => ?_)
  have e1 : grp ⟨16 * (t.val / 16) + s.val, h s⟩ = k := Fin.ext (by simp only; omega)
  have e2 : row ⟨16 * (t.val / 16) + s.val, h s⟩ r = ⟨s.val * 256 + r.val, hl⟩ := Fin.ext (by simp only; omega)
  rw [e1, e2]

set_option maxHeartbeats 2000000 in
include hQ hK hW hD in
theorem final7 : (dats m 0 c).arrAt 7 cfg0.N = F7 Q D K W := by
  refine (dats m 0 c).arrAt_eq_of_covers 7 _ (by decide +kernel) fun t hf y => ?_
  have ht := lt_of_lt_of_eq t.isLt N_0
  blk_simp
  have step (t : Fin cfg0.N) (B : Vec Ideal S4096x128 .f32) (q0 q1 q2 q3 d0 d1 d2 d3 o0 o1 o2 o3) (hq0 hq1 hq2 hq3 hd0 hd1 hd2 hd3 ho0 ho1 ho2 ho3) (y) :=
    dk_chain m Q D K W c t hQ hK hW q0 q1 q2 q3 d0 d1 d2 d3 o0 o1 o2 o3 hq0 hq1 hq2 hq3 hd0 hd1 hd2 hd3 ho0 ho1 ho2 ho3 B y
  rw [after0_7, Pipeline.eq_sum_fin_of_reset_step_apply_of_flush (fun n h => (outsAt0 m c n h).2.1) 16 (fun _ => 0)
    (fun t y => ((∑ g : Fin 4, ∑ r : Fin 256, dkr Q D K W (grp t) (y 1) g (row t r) (y 0) : ℝ) : EReal))
    (fun t h j => by
      rw [outsAt0_A m c t h]; frame_out
      refine (step t (k0_pay3 (F := Ideal)) _ _ _ _ _ _ _ _ _ _ _ _ ?_ ?_ ?_ ?_ ?_ ?_ ?_ ?_ ?_ ?_ ?_ ?_ j).trans (congrArg (· + _) (zero3 j))
      all_goals
        intro r n
        pointwise
        first
          | exact iQ m Q c t hQ _ _ _ _ (by first | rfl | simp)
          | exact iD m D c t hD _ _ _ _ (by first | rfl | simp)
          | exact iO m Q K W c t hQ hK hW _ _ _ _ (by first | rfl | simp))
    (fun t h j => by
      rw [outsAt0_B m c t h]; frame_out
      refine step t _ _ _ _ _ _ _ _ _ _ _ _ _ ?_ ?_ ?_ ?_ ?_ ?_ ?_ ?_ ?_ ?_ ?_ ?_ j
      all_goals
        intro r n
        pointwise
        first
          | exact iQ m Q c t hQ _ _ _ _ (by first | rfl | simp)
          | exact iD m D c t hD _ _ _ _ (by first | rfl | simp)
          | exact iO m Q K W c t hQ hK hW _ _ _ _ (by first | rfl | simp))
    t ((flush0_7 t).mp hf) _, zero_add]
  idx_vars y
  refine (rows_sum (grp t) (fun k g r => dkr Q D K W k y1 g r y0) t rfl _).trans
    ((F7_at Q D K W (grp t) y0 y1 ⟨t.val / 16 * 128 + y1.val, by omega⟩ rfl).symm.trans (congrArg (F7 Q D K W) ?_))
  blk_ext [idx t]

set_option maxHeartbeats 2000000 in
include hQ hK hD in
theorem final8 : (dats m 0 c).arrAt 8 cfg0.N = F8 Q D K := by
  refine (dats m 0 c).arrAt_eq_of_covers 8 _ (by decide +kernel) fun t hf y => ?_
  have ht := lt_of_lt_of_eq t.isLt N_0
  blk_simp
  have step (t : Fin cfg0.N) (B : Vec Ideal S4096x128 .f32) (q0 q1 q2 q3 d0 d1 d2 d3) (hq0 hq1 hq2 hq3 hd0 hd1 hd2 hd3) (y) :=
    dv_chain m Q D K c t hQ hK q0 q1 q2 q3 d0 d1 d2 d3 hq0 hq1 hq2 hq3 hd0 hd1 hd2 hd3 B y
  rw [after0_8, Pipeline.eq_sum_fin_of_reset_step_apply_of_flush (fun n h => (outsAt0 m c n h).2.2) 16 (fun _ => 0)
    (fun t y => ((∑ g : Fin 4, ∑ r : Fin 256, dvr Q D K (grp t) (y 1) g (row t r) (y 0) : ℝ) : EReal))
    (fun t h j => by
      rw [outsAt0_A m c t h]; frame_out
      refine (step t (k0_pay4 (F := Ideal)) _ _ _ _ _ _ _ _ ?_ ?_ ?_ ?_ ?_ ?_ ?_ ?_ j).trans (congrArg (· + _) (zero4 j))
      all_goals
        intro r n
        pointwise
        first
          | exact iQ m Q c t hQ _ _ _ _ (by first | rfl | simp)
          | exact iD m D c t hD _ _ _ _ (by first | rfl | simp))
    (fun t h j => by
      rw [outsAt0_B m c t h]; frame_out
      refine step t _ _ _ _ _ _ _ _ _ ?_ ?_ ?_ ?_ ?_ ?_ ?_ ?_ j
      all_goals
        intro r n
        pointwise
        first
          | exact iQ m Q c t hQ _ _ _ _ (by first | rfl | simp)
          | exact iD m D c t hD _ _ _ _ (by first | rfl | simp))
    t ((flush0_8 t).mp hf) _, zero_add]
  idx_vars y
  refine (rows_sum (grp t) (fun k g r => dvr Q D K k y1 g r y0) t rfl _).trans
    ((F8_at Q D K (grp t) y0 y1 ⟨t.val / 16 * 128 + y1.val, by omega⟩ rfl).symm.trans (congrArg (F8 Q D K) ?_))
  blk_ext [idx t]

end Results
end Cert.AttnIdeal.Value
end
-- ==== Proof.AttnRefValue.lean ====
module

public import proofs.«01_k».proof.Defs
public import proofs.«01_k».proof.Proof.Gen.AttnRefIdeal.Run
public import Idealize.ShloMosaic.Lib.Pipeline.ValueKit
public import proofs.«01_k».proof.Proof.Finite
public import proofs.«01_k».proof.Proof.AttnReal

@[expose] public section

set_option maxRecDepth 16384

noncomputable section

open Idealize.ShloMosaic Idealize.ShloMosaic.TcCoe Idealize.SL.Sem

namespace Cert.AttnRefIdeal.Value
open Cert.Softmax Cert.AttnRefIdeal Cert.AttnRefIdeal.Gen

variable (m : (ℓ : Loc nD τ sig) → Buf (Elt Ideal) ℓ)

/-! ### The stages of the reference -/

/-- The scaled scores. -/
def stZ (Q : FVec Ideal S4096x1024 .f32) (K : FVec Ideal S4096x256 .f32) : FVec Ideal S2x4x4096x4096 .f32 :=
  mulf (transpose S2x4x4096x4096 [0, 3, 2, 1] (Host.dotGeneral dot_S4096x2x128_S4096x2x4x128_S2x4096x4096x4_2_3_0_02_1_1 none (shapeCast _ K shapeCasts_S4096x256_S4096x2x128) (shapeCast _ Q shapeCasts_S4096x1024_S4096x2x4x128)) transposes_S2x4096x4096x4_S2x4x4096x4096_0_3_2_1)
    (broadcastInDim S2x4x4096x4096 ![] bcast_S_S2x4x4096x4096 (constant S_ .f32 0x3DB504F3#32))

/-- The row maxima. -/
def stR (Z : FVec Ideal S2x4x4096x4096 .f32) : FVec Ideal S2x4x4096 .f32 :=
  Host.reduce FloatOps.maximumf Z (constant S_ .f32 0xFF800000#32) reducesTo_S2x4x4096x4096_S2x4x4096_d3 h_S_

/-- The shifted exponentials. -/
def stE (Z : FVec Ideal S2x4x4096x4096 .f32) (R : FVec Ideal S2x4x4096 .f32) : FVec Ideal S2x4x4096x4096 .f32 :=
  Host.exp (subf Z (broadcastInDim S2x4x4096x4096 ![0, 1, 2, 3] bcast_S2x4x4096x1_S2x4x4096x4096_0_1_2_3 (broadcastInDim S2x4x4096x1 ![0, 1, 2] bcast_S2x4x4096_S2x4x4096x1_0_1_2 (maximumf (broadcastInDim S2x4x4096 ![] bcast_S_S2x4x4096 (constant S_ .f32 0xFF800000#32)) R))))

/-- The row sums. -/
def stL (E : FVec Ideal S2x4x4096x4096 .f32) : FVec Ideal S2x4x4096 .f32 :=
  Host.reduceAdd E (constant S_ .f32 0x00000000#32) reducesTo_S2x4x4096x4096_S2x4x4096_d3 h_S_

/-- The cotangents of the weights. -/
def stP (D : FVec Ideal S4096x1024 .f32) (V : FVec Ideal S4096x256 .f32) : FVec Ideal S2x4x4096x4096 .f32 :=
  Host.dotGeneral dot_S2x128x4x4096_S4096x2x128_S2x4x4096x4096_1_2_23_0_0_1 none (transpose S2x128x4x4096 [1, 3, 2, 0] (shapeCast _ D shapeCasts_S4096x1024_S4096x2x4x128) transposes_S4096x2x4x128_S2x128x4x4096_1_3_2_0) (shapeCast _ V shapeCasts_S4096x256_S4096x2x128)

/-- The cotangents of the scores. -/
def stS (E P : FVec Ideal S2x4x4096x4096 .f32) (L : FVec Ideal S2x4x4096 .f32) : FVec Ideal S2x4x4096x4096 .f32 :=
  mulf (mulf (addf (Host.divf P (broadcastInDim S2x4x4096x4096 ![0, 1, 2, 3] bcast_S2x4x4096x1_S2x4x4096x4096_0_1_2_3 (broadcastInDim S2x4x4096x1 ![0, 1, 2] bcast_S2x4x4096_S2x4x4096x1_0_1_2 L))) (broadcastInDim S2x4x4096x4096 ![0, 1, 2] bcast_S2x4x4096_S2x4x4096x4096_0_1_2 (Host.reduceAdd (Host.negf (shapeCast _ (Host.reduceAdd (mulf (mulf P (broadcastInDim S2x4x4096x4096 ![0, 1, 2, 3] bcast_S2x4x4096x1_S2x4x4096x4096_0_1_2_3 (Host.divf (broadcastInDim S2x4x4096x1 ![] bcast_S_S2x4x4096x1 (constant S_ .f32 0x3F800000#32)) (mulf (broadcastInDim S2x4x4096x1 ![0, 1, 2] bcast_S2x4x4096_S2x4x4096x1_0_1_2 L) (broadcastInDim S2x4x4096x1 ![0, 1, 2] bcast_S2x4x4096_S2x4x4096x1_0_1_2 L))))) E) (constant S_ .f32 0x00000000#32) reducesTo_S2x4x4096x4096_S2x4x4096_d3 h_S_) shapeCasts_S2x4x4096_S2x4x4096x1)) (constant S_ .f32 0x00000000#32) reducesTo_S2x4x4096x1_S2x4x4096_d3 h_S_))) E)
    (broadcastInDim S2x4x4096x4096 ![] bcast_S_S2x4x4096x4096 (constant S_ .f32 0x3DB504F3#32))

/-- The gradient of the query, of the key and of the value, as the program returns them. -/
def stDq (S : FVec Ideal S2x4x4096x4096 .f32) (K : FVec Ideal S4096x256 .f32) : FVec Ideal S4096x1024 .bf16 :=
  truncf .bf16 (Host.divf (shapeCast _ (transpose S4096x2x4x128 [1, 0, 2, 3] (Host.dotGeneral dot_S2x4096x4096x4_S4096x2x128_S2x4096x4x128_1_0_23_2_0_1 none (transpose S2x4096x4096x4 [0, 3, 2, 1] S transposes_S2x4x4096x4096_S2x4096x4096x4_0_3_2_1) (shapeCast _ K shapeCasts_S4096x256_S4096x2x128)) transposes_S2x4096x4x128_S4096x2x4x128_1_0_2_3) shapeCasts_S4096x2x4x128_S4096x1024) (broadcastInDim S4096x1024 ![] bcast_S_S4096x1024 (constant S_ .f32 0x3DB504F3#32))) bitsLt_bf16_f32

def stDk (S : FVec Ideal S2x4x4096x4096 .f32) (Q : FVec Ideal S4096x1024 .f32) : FVec Ideal S4096x256 .f32 :=
  Host.divf (shapeCast _ (transpose S4096x2x128 [1, 0, 2] (Host.dotGeneral dot_S2x4096x4096x4_S4096x2x4x128_S2x4096x128_23_02_1_3_0_1 none (transpose S2x4096x4096x4 [0, 3, 2, 1] S transposes_S2x4x4096x4096_S2x4096x4096x4_0_3_2_1) (shapeCast _ Q shapeCasts_S4096x1024_S4096x2x4x128)) transposes_S2x4096x128_S4096x2x128_1_0_2) shapeCasts_S4096x2x128_S4096x256) (broadcastInDim S4096x256 ![] bcast_S_S4096x256 (Host.log (constant S_ .f32 0x40000000#32)))

def stDv (E : FVec Ideal S2x4x4096x4096 .f32) (L : FVec Ideal S2x4x4096 .f32) (D : FVec Ideal S4096x1024 .f32) : FVec Ideal S4096x256 .f32 :=
  shapeCast _ (transpose S4096x2x128 [2, 0, 1] (Host.dotGeneral dot_S2x128x4x4096_S2x4x4096x4096_S2x128x4096_23_12_1_3_0_0 none (transpose S2x128x4x4096 [1, 3, 2, 0] (shapeCast _ D shapeCasts_S4096x1024_S4096x2x4x128) transposes_S4096x2x4x128_S2x128x4x4096_1_3_2_0) (Host.divf E (broadcastInDim S2x4x4096x4096 ![0, 1, 2, 3] bcast_S2x4x4096x1_S2x4x4096x4096_0_1_2_3 (broadcastInDim S2x4x4096x1 ![0, 1, 2] bcast_S2x4x4096_S2x4x4096x1_0_1_2 L)))) transposes_S2x128x4096_S4096x2x128_2_0_1) shapeCasts_S4096x2x128_S4096x256

theorem stZ_at (Q K) (k : Fin 2) (g : Fin 4) (r s : Fin 4096) : stZ Q K (ix4 k g r s)
    = (∑ x : Fin 128, K (ix2 s ⟨k.val * 128 + x.val, by omega⟩) * Q (ix2 r ⟨k.val * 512 + g.val * 128 + x.val, by omega⟩)) * Ideal.ofBits .f32 0x3DB504F3#32 := by
  pointwise [stZ]

theorem stE_at (Z R) (k : Fin 2) (g : Fin 4) (r s : Fin 4096) : stE Z R (ix4 k g r s)
    = Ideal.exp (Z (ix4 k g r s) - max (Ideal.ofBits .f32 0xFF800000#32) (R (ix3 k g r))) := by
  pointwise [stE]

/-- The maximum of a row of real numbers is a real number. -/
theorem stR_real (Z) (k : Fin 2) (g : Fin 4) (r : Fin 4096) (z : Fin 4096 → ℝ) (hZ : ∀ s, Z (ix4 k g r s) = ((z s : ℝ) : EReal)) :
    ∃ μ : ℝ, stR Z (ix3 k g r) = (μ : EReal) := by
  obtain ⟨μ, hμ⟩ := fold_max_real z
  refine ⟨μ, Eq.trans ?_ hμ⟩
  rw [stR, Host.reduce_eq_fold, Shape.ReducesTo.fold_fiber_r4_a3]
  refine Finset.fold_congr fun s _ => ?_
  exact hZ s

theorem stL_at (E) (k : Fin 2) (g : Fin 4) (r : Fin 4096) : stL E (ix3 k g r) = ∑ j : Fin 4096, E (ix4 k g r j) := by
  pointwise [stL]

theorem stP_at (D V) (k : Fin 2) (g : Fin 4) (r s : Fin 4096) : stP D V (ix4 k g r s)
    = ∑ x : Fin 128, D (ix2 r ⟨k.val * 512 + g.val * 128 + x.val, by omega⟩) * V (ix2 s ⟨k.val * 128 + x.val, by omega⟩) := by
  pointwise [stP]

theorem stS_at (E P L) (k : Fin 2) (g : Fin 4) (r s : Fin 4096) : stS E P L (ix4 k g r s)
    = (Ideal.div (P (ix4 k g r s)) (L (ix3 k g r)) + ∑ _x : Fin 1, -∑ j : Fin 4096, P (ix4 k g r j) * Ideal.div 1 (L (ix3 k g r) * L (ix3 k g r)) * E (ix4 k g r j))
      * E (ix4 k g r s) * Ideal.ofBits .f32 0x3DB504F3#32 := by
  pointwise [stS]

theorem stDq_at (S K) (r : Fin 4096) (n : Fin 1024) : stDq S K (ix2 r n)
    = Ideal.div (∑ s : Fin 4096, S (ix4 ⟨n.val / 512, by omega⟩ ⟨n.val / 128 % 4, by omega⟩ r s) * K (ix2 s ⟨n.val / 512 * 128 + n.val % 128, by omega⟩)) (Ideal.ofBits .f32 0x3DB504F3#32) := by
  pointwise [stDq]

theorem stDk_at (S Q) (s : Fin 4096) (n : Fin 256) : stDk S Q (ix2 s n)
    = Ideal.div (∑ r : Fin 4096, ∑ g : Fin 4, S (ix4 ⟨n.val / 128, by omega⟩ g r s) * Q (ix2 r ⟨n.val / 128 * 512 + g.val * 128 + n.val % 128, by omega⟩)) (Ideal.log (Ideal.ofBits .f32 0x40000000#32)) := by
  pointwise [stDk]

theorem stDv_at (E L D) (s : Fin 4096) (n : Fin 256) : stDv E L D (ix2 s n)
    = ∑ g : Fin 4, ∑ r : Fin 4096, D (ix2 r ⟨n.val / 128 * 512 + g.val * 128 + n.val % 128, by omega⟩) * Ideal.div (E (ix4 ⟨n.val / 128, by omega⟩ g r s)) (L (ix3 ⟨n.val / 128, by omega⟩ g r)) := by
  pointwise [stDv]

/-- The shifted exponentials of the scores, from the arguments. -/
def stX (Q : FVec Ideal S4096x1024 .f32) (K : FVec Ideal S4096x256 .f32) : FVec Ideal S2x4x4096x4096 .f32 := stE (stZ Q K) (stR (stZ Q K))

def stY (Q : FVec Ideal S4096x1024 .f32) (K V : FVec Ideal S4096x256 .f32) (D : FVec Ideal S4096x1024 .f32) : FVec Ideal S2x4x4096x4096 .f32 :=
  stS (stX Q K) (stP D V) (stL (stX Q K))

theorem eq_dq (c : Dev nD) : res_main_v67 m c = stDq (stY (m ((c : Thread nD τ).loc main_arg0)) (m ((c : Thread nD τ).loc main_arg1)) (m ((c : Thread nD τ).loc main_arg2)) (m ((c : Thread nD τ).loc main_arg3))) (m ((c : Thread nD τ).loc main_arg1)) := rfl

theorem eq_dk (c : Dev nD) : res_main_v70 m c = stDk (stY (m ((c : Thread nD τ).loc main_arg0)) (m ((c : Thread nD τ).loc main_arg1)) (m ((c : Thread nD τ).loc main_arg2)) (m ((c : Thread nD τ).loc main_arg3))) (m ((c : Thread nD τ).loc main_arg0)) := rfl

end Cert.AttnRefIdeal.Value
end
-- ==== Proof.AttnPair.lean ====
module

public import proofs.«01_k».proof.Defs
public import proofs.«01_k».proof.Proof.AttnValue
public import proofs.«01_k».proof.Proof.AttnRefValue

@[expose] public section

set_option maxRecDepth 16384

noncomputable section

open Idealize.ShloMosaic Idealize.ShloMosaic.TcCoe Idealize.SL.Sem

namespace Cert.AttnPair
open Cert.Finite Cert.Softmax Cert.AttnRefIdeal Cert.AttnRefIdeal.Gen Cert.AttnRefIdeal.Value
open Cert.AttnIdeal.Value (hcol gcol zr dpr dsr dqr dkr dvr F6 F7 F8 F6_at F7_at F8_at)

variable (Q D : S4096x1024.Idx → ℝ) (K W : S4096x256.Idx → ℝ)

theorem stZ_real (k : Fin 2) (g : Fin 4) (r s : Fin 4096) :
    stZ (fun i => (Q i : EReal)) (fun i => (K i : EReal)) (ix4 k g r s) = ((zr Q K k g r s : ℝ) : EReal) := by
  rw [stZ_at, ofBits_scale]
  simp only [← EReal.coe_mul, coe_sum]
  rw [zr, mul_comm]

theorem stP_real (k : Fin 2) (g : Fin 4) (r s : Fin 4096) :
    stP (fun i => (D i : EReal)) (fun i => (W i : EReal)) (ix4 k g r s) = ((dpr D W k g r s : ℝ) : EReal) := by
  rw [stP_at]
  simp only [← EReal.coe_mul, coe_sum]
  rfl

/-- The shifted exponentials of a row, with the shift a real number. -/
theorem stX_real (k : Fin 2) (g : Fin 4) (r : Fin 4096) : ∃ μ : ℝ, ∀ s,
    stX (fun i => (Q i : EReal)) (fun i => (K i : EReal)) (ix4 k g r s) = ((Real.exp (zr Q K k g r s - μ) : ℝ) : EReal) := by
  obtain ⟨μ, hμ⟩ := stR_real (stZ (fun i => (Q i : EReal)) (fun i => (K i : EReal))) k g r (zr Q K k g r) (stZ_real Q K k g r)
  refine ⟨μ, fun s => ?_⟩
  rw [stX, stE_at, hμ, ofBits_ninf, max_eq_right bot_le, stZ_real, ← EReal.coe_sub, Ideal.exp_coe]

/-- The cotangents of the scores, still with the score's scale. -/
theorem stY_real (k : Fin 2) (g : Fin 4) (r s : Fin 4096) :
    stY (fun i => (Q i : EReal)) (fun i => (K i : EReal)) (fun i => (W i : EReal)) (fun i => (D i : EReal)) (ix4 k g r s)
      = ((dsr Q D K W k g r s * c0 : ℝ) : EReal) := by
  obtain ⟨μ, hμ⟩ := stX_real Q K k g r
  have hp : 0 < ∑ s, Real.exp (zr Q K k g r s - μ) := Finset.sum_pos (fun i _ => Real.exp_pos _) Finset.univ_nonempty
  rw [stY, stS_at, ofBits_scale]
  simp only [stL_at, stP_real, hμ, coe_sum, ← EReal.coe_mul, div_real hp.ne']
  rw [← EReal.coe_one]
  simp only [div_real (mul_pos hp hp).ne', ← EReal.coe_mul, coe_sum, ← EReal.coe_neg, ← EReal.coe_add]
  rw [Fin.sum_univ_one, grad_eq]
  rfl

theorem dq_eq : stDq (stY (fun i => (Q i : EReal)) (fun i => (K i : EReal)) (fun i => (W i : EReal)) (fun i => (D i : EReal))) (fun i => (K i : EReal)) = F6 Q D K W := by
  funext j
  idx_vars j
  rw [stDq_at, F6_at Q D K W ⟨j1.val / 512, by omega⟩ ⟨j1.val / 128 % 4, by omega⟩ j0 ⟨j1.val % 128, by omega⟩ j1 (by simp only; omega), ofBits_scale]
  simp only [stY_real, ← EReal.coe_mul, coe_sum]
  rw [div_real c0_pos.ne', dqr, Finset.sum_div]
  refine congrArg _ (Finset.sum_congr rfl fun s _ => ?_)
  have := c0_pos
  field_simp

theorem dk_eq : stDk (stY (fun i => (Q i : EReal)) (fun i => (K i : EReal)) (fun i => (W i : EReal)) (fun i => (D i : EReal))) (fun i => (Q i : EReal)) = F7 Q D K W := by
  funext j
  idx_vars j
  rw [stDk_at, F7_at Q D K W ⟨j1.val / 128, by omega⟩ j0 ⟨j1.val % 128, by omega⟩ j1 (by simp only; omega), log_two]
  simp only [stY_real, ← EReal.coe_mul, coe_sum]
  rw [div_real (Real.log_pos (by norm_num)).ne', Finset.sum_comm, Finset.sum_div]
  refine congrArg _ (Finset.sum_congr rfl fun g _ => ?_)
  rw [Finset.sum_div]
  refine Finset.sum_congr rfl fun r _ => ?_
  rw [dkr]
  ring

theorem dv_eq : stDv (stX (fun i => (Q i : EReal)) (fun i => (K i : EReal))) (stL (stX (fun i => (Q i : EReal)) (fun i => (K i : EReal)))) (fun i => (D i : EReal)) = F8 Q D K := by
  funext j
  idx_vars j
  rw [stDv_at, F8_at Q D K ⟨j1.val / 128, by omega⟩ j0 ⟨j1.val % 128, by omega⟩ j1 (by simp only; omega), ← coe_sum]
  refine Finset.sum_congr rfl fun g _ => ?_
  rw [← coe_sum]
  refine Finset.sum_congr rfl fun r _ => ?_
  obtain ⟨μ, hμ⟩ := stX_real Q K ⟨j1.val / 128, by omega⟩ g r
  have hp : 0 < ∑ s, Real.exp (zr Q K ⟨j1.val / 128, by omega⟩ g r s - μ) := Finset.sum_pos (fun i _ => Real.exp_pos _) Finset.univ_nonempty
  simp only [stL_at, hμ, coe_sum]
  rw [div_real hp.ne', ← EReal.coe_mul, wt_shift, dvr, mul_comm]

/-- The precondition: all four arrays hold real numbers. -/
theorem reals (U Y : FVec Ideal S4096x1024 .f32) (G X : FVec Ideal S4096x256 .f32)
    (h : Cert.Pre_attn_finite.fn (F := Ideal) U G X Y = fun _ => 1#1) :
    ∃ (u y : S4096x1024.Idx → ℝ) (g x : S4096x256.Idx → ℝ),
      U = (fun i => (u i : EReal)) ∧ G = (fun i => (g i : EReal)) ∧ X = (fun i => (x i : EReal)) ∧ Y = (fun i => (y i : EReal)) := by
  haveI : Subsingleton (Cert.Pre_attn_finite.S_).Idx := ⟨fun a b => funext fun i => i.elim0⟩
  have h0 := congrFun h (fun i => i.elim0)
  unfold Cert.Pre_attn_finite.fn Cert.Pre_attn_finite.fn_part1 at h0
  obtain ⟨h1, hy⟩ := andi_one h0
  obtain ⟨h2, hx⟩ := andi_one h1
  obtain ⟨hu, hg⟩ := andi_one h2
  obtain ⟨u, eu⟩ := reals_of_all U _ (fun _ => rfl) _ _ _ _ hu
  obtain ⟨g, eg⟩ := reals_of_all G _ (fun _ => rfl) _ _ _ _ hg
  obtain ⟨x, ex⟩ := reals_of_all X _ (fun _ => rfl) _ _ _ _ hx
  obtain ⟨y, ey⟩ := reals_of_all Y _ (fun _ => rfl) _ _ _ _ hy
  exact ⟨u, y, g, x, eu, eg, ex, ey⟩

set_option maxHeartbeats 4000000 in
/-- The attention gradients of the kernel are those of the forward lines. -/
theorem algebraic : Cert.algebraic_AttnIdeal_AttnRefIdeal_pre_attn_finite (hAttnIdeal := Cert.AttnIdeal.Gen.facts) (hAttnRefIdeal := Cert.AttnRefIdeal.Gen.facts) (hPre_attn_finite := Cert.Pre_attn_finite.Gen.facts) := by
  pair_intro
  · run_from Cert.AttnIdeal.Gen.run_main m g
  · run_from Cert.AttnRefIdeal.Value.run m' g'
    · obtain ⟨q, d, k, w, hQ, hK, hW, hD⟩ := reals _ _ _ _ (hpre c)
      obtain ⟨h0, h1, h2, h3⟩ := hagree c
      refine Eq.trans ?_ (Cert.AttnIdeal.Value.final6 m q d k w c hQ hK hW hD).symm
      rw [eq_dq, h0, h1, h2, h3, hQ, hK, hW, hD]
      exact dq_eq q d k w
    · obtain ⟨q, d, k, w, hQ, hK, hW, hD⟩ := reals _ _ _ _ (hpre c)
      obtain ⟨h0, h1, h2, h3⟩ := hagree c
      refine Eq.trans ?_ (Cert.AttnIdeal.Value.final7 m q d k w c hQ hK hW hD).symm
      rw [eq_dk, h0, h1, h2, h3, hQ, hK, hW, hD]
      exact dk_eq q d k w
    · obtain ⟨q, d, k, w, hQ, hK, hW, hD⟩ := reals _ _ _ _ (hpre c)
      obtain ⟨h0, h1, h2, h3⟩ := hagree c
      refine Eq.trans ?_ (Cert.AttnIdeal.Value.final8 m q d k c hQ hK hD).symm
      rw [hQ, hK, hD]
      exact dv_eq q d k

end Cert.AttnPair
end
-- ==== Proof.GqaBlock.lean ====
module

public import proofs.«01_k».proof.Proof.Gen.GqaIdeal.Frame
public import proofs.«01_k».proof.Proof.Gen.GqaIdeal.Value
public import Idealize.ShloMosaic.Lib.Pipeline.ValueKit
public import Idealize.ShloMosaic.Lib.Claim
public import proofs.«01_k».proof.Proof.Finite
public import proofs.«01_k».proof.Proof.AttnReal

@[expose] public section

set_option maxRecDepth 16384

noncomputable section

open Idealize.ShloMosaic Idealize.ShloMosaic.TcCoe Idealize.SL.Sem
open Idealize.ShloMosaic.Pipeline (Dat)

namespace Cert.GqaIdeal.Value
open Cert.GqaIdeal Cert.GqaIdeal.Gen

/-! ### What the body computes from a head's block of queries -/

/-- The scores of a block's head, to base two. -/
def hs (k : Vec Ideal S4096x128 .bf16) (q : Vec Ideal S256x128 .bf16) (r : Fin 256) (s : Fin 4096) : EReal :=
  ∑ d : Fin 128, q (ix2 r d) * k (ix2 s d)

/-- The row maxima of the scores. -/
def hm (k : Vec Ideal S4096x128 .bf16) (q : Vec Ideal S256x128 .bf16) (r : Fin 256) : EReal :=
  Finset.fold max (Ideal.ofBits .f32 0xFF800000#32) (fun s : Fin 4096 => hs k q r s) Finset.univ

/-- The shifted exponentials. -/
def he (k : Vec Ideal S4096x128 .bf16) (q : Vec Ideal S256x128 .bf16) (r : Fin 256) (s : Fin 4096) : EReal :=
  Ideal.exp2 (hs k q r s - hm k q r)

/-- The row sums. -/
def hl (k : Vec Ideal S4096x128 .bf16) (q : Vec Ideal S256x128 .bf16) (r : Fin 256) : EReal :=
  ∑ s : Fin 4096, he k q r s

/-- The output of a block's head. -/
def ho (k v : Vec Ideal S4096x128 .bf16) (q : Vec Ideal S256x128 .bf16) (r : Fin 256) (n : Fin 128) : EReal :=
  Ideal.div (∑ s : Fin 4096, he k q r s * v (ix2 s n)) (hl k q r)

/-- The row log-sum of a block's head. -/
def hL (k : Vec Ideal S4096x128 .bf16) (q : Vec Ideal S256x128 .bf16) (r : Fin 256) : EReal :=
  hm k q r + Ideal.log (hl k q r) * Named.named (F := Ideal) κ "inv_log_two" (φ := .f32) 0x3FB8AA3B#32

theorem s0 (k q) : ∀ r s, k0_pay4 (F := Ideal) k q (ix2 r s) = hs k q r s := by
  intro r s; pointwise [k0_pay4, k0_pay2, hs]
theorem s1 (k q) : ∀ r s, k0_pay5 (F := Ideal) k q (ix2 r s) = hs k q r s := by
  intro r s; pointwise [k0_pay5, k0_pay2, hs]
theorem s2 (k q) : ∀ r s, k0_pay6 (F := Ideal) k q (ix2 r s) = hs k q r s := by
  intro r s; pointwise [k0_pay6, k0_pay2, hs]
theorem s3 (k q) : ∀ r s, k0_pay7 (F := Ideal) k q (ix2 r s) = hs k q r s := by
  intro r s; pointwise [k0_pay7, k0_pay2, hs]

theorem m0 (k q) : ∀ r, k0_pay8 (F := Ideal) k q (ix2 r 0) = hm k q r := by
  intro r; pointwise [k0_pay8, s0, hm]
theorem m1 (k q) : ∀ r, k0_pay9 (F := Ideal) k q (ix2 r 0) = hm k q r := by
  intro r; pointwise [k0_pay9, s1, hm]
theorem m2 (k q) : ∀ r, k0_pay10 (F := Ideal) k q (ix2 r 0) = hm k q r := by
  intro r; pointwise [k0_pay10, s2, hm]
theorem m3 (k q) : ∀ r, k0_pay11 (F := Ideal) k q (ix2 r 0) = hm k q r := by
  intro r; pointwise [k0_pay11, s3, hm]

theorem v_lo (v) : ∀ (s : Fin 4096) (n : Fin 128) (h : n.val < 256), k0_pay3 (F := Ideal) v (ix2 s ⟨n.val, h⟩) = v (ix2 s n) := by
  intro s n h; pointwise [k0_pay3]
theorem v_hi (v) : ∀ (s : Fin 4096), k0_pay3 (F := Ideal) v (ix2 s 128) = Ideal.ofBits .bf16 0x3F80#16 := by
  intro s; pointwise [k0_pay3]

/-- The last product of the first head, of the second, and of the other two. -/
theorem w0 (k v q) : ∀ r j, k0_pay12 (F := Ideal) k v q (ix2 r j) = ∑ s : Fin 4096, he k q r s * k0_pay3 (F := Ideal) v (ix2 s j) := by
  intro r j; pointwise [k0_pay12, s0, m0, he]; rfl
theorem w1 (k v q) : ∀ r j, k0_pay14 (F := Ideal) (k0_pay3 v) (k0_pay13 k q) (ix2 r j) = ∑ s : Fin 4096, he k q r s * k0_pay3 (F := Ideal) v (ix2 s j) := by
  intro r j; pointwise [k0_pay14, k0_pay13, s1, m1, he]; rfl
theorem w2 (k v q) : ∀ r j, k0_pay15 (F := Ideal) (k0_pay3 v) (k0_pay6 k q) (k0_pay10 k q) (ix2 r j) = ∑ s : Fin 4096, he k q r s * k0_pay3 (F := Ideal) v (ix2 s j) := by
  intro r j; pointwise [k0_pay15, s2, m2, he]; rfl
theorem w3 (k v q) : ∀ r j, k0_pay16 (F := Ideal) (k0_pay3 v) (k0_pay7 k q) (k0_pay11 k q) (ix2 r j) = ∑ s : Fin 4096, he k q r s * k0_pay3 (F := Ideal) v (ix2 s j) := by
  intro r j; pointwise [k0_pay16, s3, m3, he]; rfl

/-- The two outputs of the body, from the four heads' queries. -/
abbrev bodyO (k v : Vec Ideal S4096x128 .bf16) (q0 q1 q2 q3 : Vec Ideal S256x128 .bf16) : FVec Ideal S256x512 .bf16 :=
  k0_pay21 (F := Ideal) (k0_pay3 v) (k0_pay6 k q2) (k0_pay7 k q3) (k0_pay10 k q2) (k0_pay11 k q3) (k0_pay12 k v q0) (k0_pay13 k q1)

abbrev bodyL (k v : Vec Ideal S4096x128 .bf16) (q0 q1 q2 q3 : Vec Ideal S256x128 .bf16) (lane : IVec S256x128 32) : FVec Ideal S1x256x128 .f32 :=
  k0_pay1 (F := Ideal) lane (k0_pay10 k q2) (k0_pay11 k q3) (k0_pay19 (k0_pay3 v) (k0_pay6 k q2) (k0_pay10 k q2)) (k0_pay20 (k0_pay3 v) (k0_pay7 k q3) (k0_pay11 k q3))
    (k0_pay22 (k0_pay3 v) lane (k0_pay8 k q0) (k0_pay9 k q1) (k0_pay12 k v q0) (k0_pay13 k q1))

variable (k v : Vec Ideal S4096x128 .bf16) (q0 q1 q2 q3 : Vec Ideal S256x128 .bf16)

theorem o0 (r : Fin 256) (n : Fin 128) (h : n.val < 512) : bodyO k v q0 q1 q2 q3 (ix2 r ⟨n.val, h⟩) = ho k v q0 r n := by
  pointwise [k0_pay21, k0_pay17, w0, v_lo, v_hi, ho, hl]
theorem o1 (r : Fin 256) (n : Fin 128) (h : 128 + n.val < 512) : bodyO k v q0 q1 q2 q3 (ix2 r ⟨128 + n.val, h⟩) = ho k v q1 r n := by
  pointwise [k0_pay21, k0_pay18, w1, v_lo, v_hi, ho, hl]
theorem o2 (r : Fin 256) (n : Fin 128) (h : 256 + n.val < 512) : bodyO k v q0 q1 q2 q3 (ix2 r ⟨256 + n.val, h⟩) = ho k v q2 r n := by
  have e : 256 + n.val - 128 - 128 = n.val := by omega
  pointwise [k0_pay21, k0_pay19, w2, v_lo, v_hi, ho, hl]
  rw [dif_neg (by omega), dif_neg (by omega), dif_pos (by omega)]
  simp only [e, v_lo]
theorem o3 (r : Fin 256) (n : Fin 128) (h : 384 + n.val < 512) : bodyO k v q0 q1 q2 q3 (ix2 r ⟨384 + n.val, h⟩) = ho k v q3 r n := by
  have e : 384 + n.val - 128 - 128 - 128 = n.val := by omega
  pointwise [k0_pay21, k0_pay20, w3, v_lo, v_hi, ho, hl]
  rw [dif_neg (by omega), dif_neg (by omega), dif_neg (by omega)]
  simp only [e, v_lo]

/-- A select on a lane's number. -/
theorem sel {α : Type} (l : Fin 128) (n : ℕ) (hn : n < 128) (a b : α) :
    Scalar.select (IntOp.cmpi .eq (BitVec.ofNat 32 l.val) (BitVec.ofNat 32 n)) a b = if l.val = n then a else b := by
  have hl := l.isLt
  rw [WordCmp.cmpi_eq_eq_toNat, BitVec.toNat_ofNat, BitVec.toNat_ofNat, Nat.mod_eq_of_lt (by omega), Nat.mod_eq_of_lt (by omega)]
  by_cases h : l.val = n <;> simp [h, Scalar.select]

theorem l_at (lane : IVec S256x128 32) (hlane : ∀ r (l : Fin 128), lane (ix2 r l) = BitVec.ofNat 32 l.val) (r : Fin 256) (l : Fin 128) :
    bodyL k v q0 q1 q2 q3 lane (ix3 0 r l) = if l.val = 3 then hL k q3 r else if l.val = 2 then hL k q2 r else if l.val = 1 then hL k q1 r else if l.val = 0 then hL k q0 r else 0 := by
  pointwise [k0_pay1, k0_pay22, k0_pay17, k0_pay18, k0_pay19, k0_pay20, w0, w1, w2, w3, m0, m1, m2, m3, v_hi, hl, hL, hlane]
  rw [sel l 3 (by omega), sel l 2 (by omega), sel l 1 (by omega), sel l 0 (by omega)]

end Cert.GqaIdeal.Value
end
-- ==== Proof.GqaValue.lean ====
module

public import proofs.«01_k».proof.Proof.Gen.GqaIdeal.Frame
public import proofs.«01_k».proof.Proof.Gen.GqaIdeal.Value
public import Idealize.ShloMosaic.Lib.Pipeline.ValueKit
public import Idealize.ShloMosaic.Lib.Claim
public import proofs.«01_k».proof.Proof.GqaBlock
public import proofs.«01_k».proof.Proof.AttnBlock

@[expose] public section

set_option maxRecDepth 16384

noncomputable section

open Idealize.ShloMosaic Idealize.ShloMosaic.TcCoe Idealize.SL.Sem
open Idealize.ShloMosaic.Pipeline (Dat)

namespace Cert.GqaIdeal.Value
open Cert.GqaIdeal Cert.GqaIdeal.Gen
open Cert.Finite Cert.Softmax
open Cert.AttnIdeal.Value (kap kap_real hcol gcol zr)

variable (m : (ℓ : Loc nD τ sig) → Buf (Elt Ideal) ℓ)

theorem idx : ∀ t : Fin cfg0.N, win0_0.index t = ![t.val % 16, t.val / 16] ∧ win0_1.index t = ![0, 8 + t.val / 16]
    ∧ win0_2.index t = ![0, 46 + t.val / 16] ∧ win0_3.index t = ![t.val % 16, t.val / 16] ∧ win0_4.index t = ![t.val / 16, t.val % 16, 0] :=
  (by decide +kernel : ∀ t : Fin grid0.N, _)

theorem entryQ (c : Dev nD) (r : Fin 4096) (n : Fin 1024) (hn : n.val < 1280) : (V m c main_v6 : FVec Ideal S4096x1280 .bf16) (ix2 r ⟨n.val, hn⟩)
    = (show EReal from (m ((c : Thread nD τ).loc main_arg0) : FVec Ideal S4096x1024 .f32) (ix2 r n)) * kap := by
  entry_read
  pointwise [kap]

theorem entryK (c : Dev nD) (r : Fin 4096) (n : Fin 256) (hn : 1024 + n.val < 1280) : (V m c main_v6 : FVec Ideal S4096x1280 .bf16) (ix2 r ⟨1024 + n.val, hn⟩)
    = (m ((c : Thread nD τ).loc main_arg1) : FVec Ideal S4096x256 .f32) (ix2 r n) := by
  entry_read
  pointwise

set_option maxHeartbeats 2000000 in
theorem entryV (c : Dev nD) (r : Fin 4096) (n : Fin 256) (hn : 5888 + n.val < 8192) : (V m c main_v10 : FVec Ideal S4096x8192 .bf16) (ix2 r ⟨5888 + n.val, hn⟩)
    = (m ((c : Thread nD τ).loc main_arg2) : FVec Ideal S4096x256 .f32) (ix2 r n) := by
  entry_read
  pointwise

section Block

variable (Q : S4096x1024.Idx → ℝ) (K W : S4096x256.Idx → ℝ)

/-- The row of block `t`. -/
abbrev row (t : Fin cfg0.N) (r : Fin 256) : Fin 4096 := ⟨t.val % 16 * 256 + r.val, by omega⟩

/-- The group of block `t`. -/
abbrev grp (t : Fin cfg0.N) : Fin 2 := ⟨t.val / 16, by have := lt_of_lt_of_eq t.isLt N_0; omega⟩

variable (c : Dev nD) (t : Fin cfg0.N)
variable (hQ : m ((c : Thread nD τ).loc main_arg0) = fun i => (Q i : EReal)) (hK : m ((c : Thread nD τ).loc main_arg1) = fun i => (K i : EReal))
variable (hW : m ((c : Thread nD τ).loc main_arg2) = fun i => (W i : EReal))

include hQ in
theorem iQ (g : Fin 4) (r : Fin 256) (d : Fin 128) (j : Fin 512) (h : j.val = g.val * 128 + d.val) :
    X0_0 m c t (ix2 r j) = ((Q (ix2 (row t r) (hcol (grp t) g d)) * (c0 / Real.log 2) : ℝ) : EReal) := by
  have ht := lt_of_lt_of_eq t.isLt N_0
  refine Eq.trans ?_ ((entryQ m c (row t r) (hcol (grp t) g d) (by simp only; omega)).trans ?_)
  · unfold X0_0 Pipeline.Window.fill
    rw [dif_pos (moved0_0 t (ix2 r j))]
    blk_ext [iblk, idx t]
  · rw [hQ, kap_real, EReal.coe_mul]

include hK in
theorem iK (s : Fin 4096) (d : Fin 128) : (iblk m c 1 t : FVec Ideal S4096x128 .bf16) (ix2 s d) = (K (ix2 s (gcol (grp t) d)) : EReal) := by
  have ht := lt_of_lt_of_eq t.isLt N_0
  refine Eq.trans ?_ ((entryK m c s (gcol (grp t) d) (by simp only; omega)).trans (by rw [hK]))
  blk_ext [iblk, idx t]

include hW in
theorem iW (s : Fin 4096) (d : Fin 128) : (iblk m c 2 t : FVec Ideal S4096x128 .bf16) (ix2 s d) = (W (ix2 s (gcol (grp t) d)) : EReal) := by
  have ht := lt_of_lt_of_eq t.isLt N_0
  refine Eq.trans ?_ ((entryV m c s (gcol (grp t) d) (by simp only; omega)).trans (by rw [hW]))
  blk_ext [iblk, idx t]

/-- A block's slab of scaled queries of head `g`. -/
def IsQ (g : Fin 4) (q : Vec Ideal S256x128 .bf16) : Prop :=
  ∀ r d, q (ix2 r d) = ((Q (ix2 (row t r) (hcol (grp t) g d)) * (c0 / Real.log 2) : ℝ) : EReal)

variable (k v : Vec Ideal S4096x128 .bf16) (q : Vec Ideal S256x128 .bf16) (g : Fin 4)
variable (hk : ∀ s d, k (ix2 s d) = (K (ix2 s (gcol (grp t) d)) : EReal)) (hv : ∀ s d, v (ix2 s d) = (W (ix2 s (gcol (grp t) d)) : EReal)) (hq : IsQ Q t g q)

include hk hq in
theorem hs_real (r : Fin 256) (s : Fin 4096) : hs k q r s = ((zr Q K (grp t) g (row t r) s / Real.log 2 : ℝ) : EReal) := by
  simp only [hs, hq r, hk, ← EReal.coe_mul, coe_sum]
  congr 1
  rw [zr, Finset.mul_sum, Finset.sum_div]
  exact Finset.sum_congr rfl fun d _ => by ring

include hk hq in
theorem he_real (r : Fin 256) : ∃ μ : ℝ, hm k q r = ((μ / Real.log 2 : ℝ) : EReal)
    ∧ ∀ s, he k q r s = ((Real.exp (zr Q K (grp t) g (row t r) s - μ) : ℝ) : EReal) := by
  have hl : Real.log 2 ≠ 0 := (Real.log_pos (by norm_num)).ne'
  obtain ⟨μ, hμ⟩ := fold_max_real (fun s : Fin 4096 => zr Q K (grp t) g (row t r) s / Real.log 2)
  have e : hm k q r = (μ : EReal) := by
    rw [hm, ← hμ]
    simp only [hs_real Q K t k q g hk hq]
  refine ⟨μ * Real.log 2, ?_, fun s => ?_⟩
  · rw [e, mul_div_cancel_right₀ _ hl]
  · rw [he, e, hs_real Q K t k q g hk hq, ← EReal.coe_sub, Ideal.exp2_coe, show Real.rpow 2 _ = Real.exp (Real.log 2 * _) from Real.rpow_def_of_pos (by norm_num) _, mul_comm, sub_mul, div_mul_cancel₀ _ hl]

include hk hq hv in
theorem ho_real (r : Fin 256) (n : Fin 128) :
    ho k v q r n = ((∑ s, wt (zr Q K (grp t) g (row t r)) s * W (ix2 s (gcol (grp t) n)) : ℝ) : EReal) := by
  obtain ⟨μ, _, h⟩ := he_real Q K t k q g hk hq r
  have hp : 0 < ∑ s, Real.exp (zr Q K (grp t) g (row t r) s - μ) := Finset.sum_pos (fun i _ => Real.exp_pos _) Finset.univ_nonempty
  simp only [ho, hl, h, hv, ← EReal.coe_mul, coe_sum]
  rw [div_real hp.ne', mean_shift]

/-- The constant the call multiplies the logarithm by. -/
theorem inv_log_two : Named.named (F := Ideal) κ "inv_log_two" (φ := .f32) 0x3FB8AA3B#32 = (((Real.log 2)⁻¹ : ℝ) : EReal) :=
  IdealRules.named_const.ideal_named_scalar _ _ _ _ rfl

include hk hq in
theorem hL_real (r : Fin 256) : hL k q r = ((Real.log (den (zr Q K (grp t) g (row t r))) / Real.log 2 : ℝ) : EReal) := by
  obtain ⟨μ, e, h⟩ := he_real Q K t k q g hk hq r
  have hp : 0 < ∑ s, Real.exp (zr Q K (grp t) g (row t r) s - μ) := Finset.sum_pos (fun i _ => Real.exp_pos _) Finset.univ_nonempty
  simp only [hL, hl, h, e, coe_sum, inv_log_two]
  rw [Ideal.log_coe, if_neg (not_le.mpr hp), ← EReal.coe_mul, ← EReal.coe_add, ← lse_shift _ μ, add_div, div_eq_mul_inv (Real.log _)]

end Block

section Results

variable (Q : S4096x1024.Idx → ℝ) (K W : S4096x256.Idx → ℝ)

/-- The output as an array. -/
def F3 : FVec Ideal S4096x1024 .bf16 := fun j =>
  ((∑ s, wt (zr Q K ⟨(j 1).val / 512, by have : (j 1).val < 1024 := (j 1).isLt; omega⟩ ⟨(j 1).val / 128 % 4, by omega⟩ (j 0)) s
    * W (ix2 s (gcol ⟨(j 1).val / 512, by have : (j 1).val < 1024 := (j 1).isLt; omega⟩ ⟨(j 1).val % 128, by omega⟩)) : ℝ) : EReal)

/-- The row log-sums as an array: lanes 0 to 3 of a group. -/
def F4 : FVec Ideal S2x4096x128 .f32 := fun j =>
  if h : (j 2).val < 4 then ((Real.log (den (zr Q K (j 0) ⟨(j 2).val, h⟩ (j 1))) / Real.log 2 : ℝ) : EReal) else 0

theorem F3_at (k : Fin 2) (g : Fin 4) (r : Fin 4096) (n : Fin 128) (j : Fin 1024) (h : j.val = k.val * 512 + g.val * 128 + n.val) :
    F3 Q K W (ix2 r j) = ((∑ s, wt (zr Q K k g r) s * W (ix2 s (gcol k n)) : ℝ) : EReal) := by
  have e1 : (⟨j.val / 512, by omega⟩ : Fin 2) = k := Fin.ext (by simp only; omega)
  have e2 : (⟨j.val / 128 % 4, by omega⟩ : Fin 4) = g := Fin.ext (by simp only; omega)
  have e3 : (⟨j.val % 128, by omega⟩ : Fin 128) = n := Fin.ext (by simp only; omega)
  show ((∑ s, wt (zr Q K (⟨j.val / 512, _⟩ : Fin 2) (⟨j.val / 128 % 4, _⟩ : Fin 4) r) s * W (ix2 s (gcol (⟨j.val / 512, _⟩ : Fin 2) (⟨j.val % 128, _⟩ : Fin 128))) : ℝ) : EReal) = _
  rw [e1, e2, e3]

theorem F4_at (k : Fin 2) (r : Fin 4096) (l : Fin 128) :
    F4 Q K (ix3 k r l) = if h : l.val < 4 then ((Real.log (den (zr Q K k ⟨l.val, h⟩ r)) / Real.log 2 : ℝ) : EReal) else 0 := rfl

variable (c : Dev nD)
variable (hQ : m ((c : Thread nD τ).loc main_arg0) = fun i => (Q i : EReal)) (hK : m ((c : Thread nD τ).loc main_arg1) = fun i => (K i : EReal))
variable (hW : m ((c : Thread nD τ).loc main_arg2) = fun i => (W i : EReal))

set_option maxHeartbeats 2000000 in
include hQ hK hW in
theorem final3 : (dats m 0 c).arrAt 3 cfg0.N = F3 Q K W := by
  refine (dats m 0 c).arrAt_eq_of_covers 3 _ (by decide +kernel) fun t hf y => ?_
  have ht := lt_of_lt_of_eq t.isLt N_0
  blk_simp
  have head : ∀ (g : Fin 4) (q : Vec Ideal S256x128 .bf16), IsQ Q t g q → ∀ (r : Fin 256) (n : Fin 128) (y : S256x512.Idx),
      (y 0).val = r.val → (y 1).val = g.val * 128 + n.val →
      ho (iblk m c 1 t) (iblk m c 2 t) q r n = F3 Q K W (((View.whole main_v11_0).slice (win0_3.rect t)).emb y) := by
    intro g q hq r n y hr hn
    refine (ho_real Q K W t _ _ q g (iK m K c t hK) (iW m W c t hW) hq r n).trans
      ((F3_at Q K W (grp t) g (row t r) n ⟨t.val / 16 * 512 + g.val * 128 + n.val, by omega⟩ rfl).symm.trans (congrArg (F3 Q K W) ?_))
    blk_ext [idx t]
  rw [after0_3]
  simp only [outsAt0]
  frame_out
  idx_vars y
  obtain h | h | h | h : y1.val < 128 ∨ (128 ≤ y1.val ∧ y1.val < 256) ∨ (256 ≤ y1.val ∧ y1.val < 384) ∨ 384 ≤ y1.val := by omega
  · obtain ⟨n, rfl⟩ : ∃ n : Fin 128, y1  = ⟨n.val, by clear h; omega⟩ := ⟨⟨y1.val, h⟩, rfl⟩
    refine (o0 _ _ _ _ _ _ y0 n _).trans (head 0 _ ?_ y0 n _ rfl (by simp))
    intro r d; pointwise
    exact iQ m Q c t hQ _ _ _ _ (by first | rfl | simp)
  · obtain ⟨n, rfl⟩ : ∃ n : Fin 128, y1  = ⟨128 + n.val, by clear h; omega⟩ := ⟨⟨y1.val - 128, by omega⟩, Fin.ext (by simp only; omega)⟩
    refine (o1 _ _ _ _ _ _ y0 n _).trans (head 1 _ ?_ y0 n _ rfl (by simp))
    intro r d; pointwise
    exact iQ m Q c t hQ _ _ _ _ (by first | rfl | simp)
  · obtain ⟨n, rfl⟩ : ∃ n : Fin 128, y1  = ⟨256 + n.val, by clear h; omega⟩ := ⟨⟨y1.val - 256, by omega⟩, Fin.ext (by simp only; omega)⟩
    refine (o2 _ _ _ _ _ _ y0 n _).trans (head 2 _ ?_ y0 n _ rfl (by simp))
    intro r d; pointwise
    exact iQ m Q c t hQ _ _ _ _ (by first | rfl | simp)
  · obtain ⟨n, rfl⟩ : ∃ n : Fin 128, y1  = ⟨384 + n.val, by clear h; omega⟩ := ⟨⟨y1.val - 384, by omega⟩, Fin.ext (by simp only; omega)⟩
    refine (o3 _ _ _ _ _ _ y0 n _).trans (head 3 _ ?_ y0 n _ rfl (by simp))
    intro r d; pointwise
    exact iQ m Q c t hQ _ _ _ _ (by first | rfl | simp)

set_option maxHeartbeats 2000000 in
include hQ hK in
theorem final4 : (dats m 0 c).arrAt 4 cfg0.N = F4 Q K := by
  refine (dats m 0 c).arrAt_eq_of_covers 4 _ (by decide +kernel) fun t hf y => ?_
  have ht := lt_of_lt_of_eq t.isLt N_0
  blk_simp
  have body : ∀ (q0 q1 q2 q3 : Vec Ideal S256x128 .bf16) (v : Vec Ideal S4096x128 .bf16) (lane : IVec S256x128 32), IsQ Q t 0 q0 → IsQ Q t 1 q1 → IsQ Q t 2 q2 → IsQ Q t 3 q3 →
      (∀ r (l : Fin 128), lane (ix2 r l) = BitVec.ofNat 32 l.val) → ∀ (r : Fin 256) (l : Fin 128),
      bodyL (iblk m c 1 t) v q0 q1 q2 q3 lane (ix3 0 r l) = F4 Q K (ix3 (grp t) (row t r) l) := by
    intro q0 q1 q2 q3 v lane h0 h1 h2 h3 hl r l
    rw [l_at _ _ _ _ _ _ lane hl r l, F4_at]
    have e := fun g q hq => hL_real Q K t (iblk m c 1 t) q g (iK m K c t hK) hq r
    obtain ⟨l, hlt⟩ := l
    simp only
    by_cases a3 : l = 3
    · subst a3; rw [if_pos rfl, dif_pos (by decide)]; exact e 3 q3 h3
    rw [if_neg a3]
    by_cases a2 : l = 2
    · subst a2; rw [if_pos rfl, dif_pos (by decide)]; exact e 2 q2 h2
    rw [if_neg a2]
    by_cases a1 : l = 1
    · subst a1; rw [if_pos rfl, dif_pos (by decide)]; exact e 1 q1 h1
    rw [if_neg a1]
    by_cases a0 : l = 0
    · subst a0; rw [if_pos rfl, dif_pos (by decide)]; exact e 0 q0 h0
    rw [if_neg a0, dif_neg (by omega)]
  rw [after0_4]
  simp only [outsAt0]
  frame_out
  idx_vars y
  obtain rfl : y0 = 0 := Subsingleton.elim _ _
  refine (body _ _ _ _ _ _ ?_ ?_ ?_ ?_ ?_ y1 y2).trans (congrArg (F4 Q K) ?_)
  on_goal 5 => intro r l; pointwise
  on_goal 5 => blk_ext [idx t]
  all_goals
    intro r d
    pointwise
    exact iQ m Q c t hQ _ _ _ _ (by first | rfl | simp)

end Results
end Cert.GqaIdeal.Value
end
-- ==== Proof.GqaPair.lean ====
module

public import proofs.«01_k».proof.Defs
public import proofs.«01_k».proof.Proof.Gen.GqaRefIdeal.Run
public import proofs.«01_k».proof.Proof.Gen.Pre_gqa_finite
public import Idealize.ShloMosaic.Lib.Pipeline.ValueKit
public import proofs.«01_k».proof.Proof.GqaValue
public import proofs.«01_k».proof.Proof.AttnPair

@[expose] public section

set_option maxRecDepth 16384

noncomputable section

open Idealize.ShloMosaic Idealize.ShloMosaic.TcCoe Idealize.SL.Sem

namespace Cert.GqaPair
open Cert.Finite Cert.Softmax Cert.GqaRefIdeal Cert.GqaRefIdeal.Gen
open Cert.AttnIdeal.Value (hcol gcol zr)
open Cert.AttnRefIdeal.Value (stZ stX stL stL_at)
open Cert.AttnPair (stZ_real stX_real)
open Cert.GqaIdeal.Value (F3 F4 F3_at F4_at)

/-- The attention output from the shifted exponentials and their sums. -/
def stO (E : FVec Ideal S2x4x4096x4096 .f32) (L : FVec Ideal S2x4x4096 .f32) (V : FVec Ideal S4096x256 .f32) : FVec Ideal S4096x1024 .bf16 :=
  truncf .bf16 (shapeCast _ (transpose S4096x2x4x128 [3, 0, 2, 1] (Host.dotGeneral dot_S4096x2x128_S2x4x4096x4096_S2x128x4x4096_0_3_2_12_1_0 none (shapeCast _ V shapeCasts_S4096x256_S4096x2x128) (Host.divf E (broadcastInDim S2x4x4096x4096 ![0, 1, 2, 3] bcast_S2x4x4096x1_S2x4x4096x4096_0_1_2_3 (broadcastInDim S2x4x4096x1 ![0, 1, 2] bcast_S2x4x4096_S2x4x4096x1_0_1_2 L)))) transposes_S2x128x4x4096_S4096x2x4x128_3_0_2_1) shapeCasts_S4096x2x4x128_S4096x1024) bitsLt_bf16_f32

/-- The row log-sums of the scores, in base two, filled up with zeros to the lanes. -/
def stG (Z : FVec Ideal S2x4x4096x4096 .f32) : FVec Ideal S2x4096x128 .f32 :=
  concatenate S2x4096x128 2 [⟨S2x4096x4, (transpose S2x4096x4 [0, 2, 1] (Host.divf (Host.log (Host.reduceAdd (Host.exp Z) (constant S_ .f32 0x00000000#32) reducesTo_S2x4x4096x4096_S2x4x4096_d3 h_S_)) (broadcastInDim S2x4x4096 ![] bcast_S_S2x4x4096 (Host.log (constant S_ .f32 0x40000000#32)))) transposes_S2x4x4096_S2x4096x4_0_2_1)⟩, ⟨S2x4096x124, (broadcastInDim S2x4096x124 ![] bcast_S_S2x4096x124 (constant S_ .f32 0x00000000#32))⟩] concatenates_S2x4096x4_S2x4096x124_S2x4096x128_d2

theorem stO_at (E L V) (r : Fin 4096) (n : Fin 1024) : stO E L V (ix2 r n)
    = ∑ s : Fin 4096, V (ix2 s ⟨n.val / 512 * 128 + n.val % 128, by omega⟩) * Ideal.div (E (ix4 ⟨n.val / 512, by omega⟩ ⟨n.val / 128 % 4, by omega⟩ r s)) (L (ix3 ⟨n.val / 512, by omega⟩ ⟨n.val / 128 % 4, by omega⟩ r)) := by
  pointwise [stO]

theorem stG_at (Z) (k : Fin 2) (r : Fin 4096) (l : Fin 128) : stG Z (ix3 k r l)
    = if h : l.val < 4 then Ideal.div (Ideal.log (∑ s : Fin 4096, Ideal.exp (Z (ix4 k ⟨l.val, h⟩ r s)))) (Ideal.log (Ideal.ofBits .f32 0x40000000#32)) else 0 := by
  by_cases h : l.val < 4
  · rw [dif_pos h]
    obtain ⟨g, rfl⟩ : ∃ g : Fin 4, l  = ⟨g.val, by clear h; omega⟩ := ⟨⟨l.val, h⟩, rfl⟩
    pointwise [stG]
  · rw [dif_neg h]
    obtain ⟨g, rfl⟩ : ∃ g : Fin 124, l  = ⟨4 + g.val, by clear h; omega⟩ := ⟨⟨l.val - 4, by omega⟩, Fin.ext (by simp only; omega)⟩
    pointwise [stG]

variable (Q : S4096x1024.Idx → ℝ) (K W : S4096x256.Idx → ℝ)

theorem o_eq : stO (stX (fun i => (Q i : EReal)) (fun i => (K i : EReal))) (stL (stX (fun i => (Q i : EReal)) (fun i => (K i : EReal)))) (fun i => (W i : EReal)) = F3 Q K W := by
  funext j
  idx_vars j
  rw [stO_at, F3_at Q K W ⟨j1.val / 512, by omega⟩ ⟨j1.val / 128 % 4, by omega⟩ j0 ⟨j1.val % 128, by omega⟩ j1 (by simp only; omega), ← coe_sum]
  refine Finset.sum_congr rfl fun s _ => ?_
  obtain ⟨μ, hμ⟩ := stX_real Q K ⟨j1.val / 512, by omega⟩ ⟨j1.val / 128 % 4, by omega⟩ j0
  have hp : 0 < ∑ s, Real.exp (zr Q K ⟨j1.val / 512, by omega⟩ ⟨j1.val / 128 % 4, by omega⟩ j0 s - μ) := Finset.sum_pos (fun i _ => Real.exp_pos _) Finset.univ_nonempty
  simp only [stL_at, hμ, coe_sum]
  rw [div_real hp.ne', ← EReal.coe_mul, wt_shift, mul_comm]

theorem l_eq : stG (stZ (fun i => (Q i : EReal)) (fun i => (K i : EReal))) = F4 Q K := by
  funext j
  idx_vars j
  rw [stG_at, F4_at]
  by_cases h : j2.val < 4
  · rw [dif_pos h, dif_pos h, log_two]
    simp only [stZ_real, Ideal.exp_coe, coe_sum]
    rw [show (∑ s, Real.exp (zr Q K j0 ⟨j2.val, h⟩ j1 s)) = den (zr Q K j0 ⟨j2.val, h⟩ j1) from rfl, Ideal.log_coe, if_neg (not_le.mpr (den_pos _)), div_real (Real.log_pos (by norm_num)).ne']
  · rw [dif_neg h, dif_neg h]

/-- The precondition: the three arrays hold real numbers. -/
theorem reals (U : FVec Ideal S4096x1024 .f32) (G X : FVec Ideal S4096x256 .f32)
    (h : Cert.Pre_gqa_finite.fn (F := Ideal) U G X = fun _ => 1#1) :
    ∃ (u : S4096x1024.Idx → ℝ) (g x : S4096x256.Idx → ℝ),
      U = (fun i => (u i : EReal)) ∧ G = (fun i => (g i : EReal)) ∧ X = (fun i => (x i : EReal)) := by
  haveI : Subsingleton (Cert.Pre_gqa_finite.S_).Idx := ⟨fun a b => funext fun i => i.elim0⟩
  have h0 := congrFun h (fun i => i.elim0)
  unfold Cert.Pre_gqa_finite.fn at h0
  obtain ⟨h2, hx⟩ := andi_one h0
  obtain ⟨hu, hg⟩ := andi_one h2
  obtain ⟨u, eu⟩ := reals_of_all U _ (fun _ => rfl) _ _ _ _ hu
  obtain ⟨g, eg⟩ := reals_of_all G _ (fun _ => rfl) _ _ _ _ hg
  obtain ⟨x, ex⟩ := reals_of_all X _ (fun _ => rfl) _ _ _ _ hx
  exact ⟨u, g, x, eu, eg, ex⟩

set_option maxHeartbeats 4000000 in
/-- The forward attention of the kernel is that of the reference's lines. -/
theorem algebraic : Cert.algebraic_GqaIdeal_GqaRefIdeal_pre_gqa_finite (hGqaIdeal := Cert.GqaIdeal.Gen.facts) (hGqaRefIdeal := Cert.GqaRefIdeal.Gen.facts) (hPre_gqa_finite := Cert.Pre_gqa_finite.Gen.facts) := by
  pair_intro
  · run_from Cert.GqaIdeal.Gen.run_main m g
  · run_from Cert.GqaRefIdeal.Value.run m' g'
    · obtain ⟨q, k, w, hQ, hK, hW⟩ := reals _ _ _ (hpre c)
      obtain ⟨h0, h1, h2⟩ := hagree c
      refine Eq.trans ?_ (Cert.GqaIdeal.Value.final3 m q k w c hQ hK hW).symm
      rw [hQ, hK, hW]
      exact o_eq q k w
    · obtain ⟨q, k, w, hQ, hK, hW⟩ := reals _ _ _ (hpre c)
      obtain ⟨h0, h1, h2⟩ := hagree c
      refine Eq.trans ?_ (Cert.GqaIdeal.Value.final4 m q k c hQ hK).symm
      rw [hQ, hK]
      exact l_eq q k

end Cert.GqaPair
end
-- ==== Proof.MergeValue.lean ====
module

public import proofs.«01_k».proof.Defs
public import proofs.«01_k».proof.Proof.Gen.MergeIdeal.Frame
public import proofs.«01_k».proof.Proof.Gen.MergeIdeal.Value
public import Idealize.ShloMosaic.Lib.Pipeline.ValueKit
public import proofs.«01_k».proof.Proof.Finite
public import proofs.«01_k».proof.Proof.GateValue

@[expose] public section

set_option maxRecDepth 16384

noncomputable section

open Idealize.ShloMosaic Idealize.ShloMosaic.TcCoe Idealize.SL.Sem
open Idealize.ShloMosaic.Pipeline (Dat)

namespace Cert.MergeIdeal.Value
open Cert.MergeIdeal Cert.MergeIdeal.Gen
open Cert.GateIdeal.Value (sg)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 6] ∧ win0_4.index t = ![t.val, 7] ∧ win0_5.index t = ![0, 0, 0] ∧ win0_6.index t = ![0, 0]
    ∧ win0_7.index t = ![0, 0] ∧ win0_8.index t = ![0, 0] ∧ win0_9.index t = ![0, 0] ∧ win0_10.index t = ![t.val, 0]
    ∧ win0_11.index t = ![t.val, 0] ∧ win0_12.index t = ![t.val, 0] ∧ win0_13.index t = ![t.val, 0] ∧ win0_14.index t = ![t.val, 0]
    ∧ win0_15.index t = ![t.val, 0] ∧ win0_16.index t = ![0, 0] ∧ win0_17.index t = ![0, 0] :=
  (by decide +kernel : ∀ t : Fin grid0.N, _)

variable (A : FVec Ideal S4096x512 .f32) (B : FVec Ideal S4096x1024 .f32) (P : FVec Ideal S4096x2048 .f32) (G : FVec Ideal S1x2048 .f32)
  (U : FVec Ideal S512x1024 .f32) (W O : FVec Ideal S1024x1024 .f32) (C : FVec Ideal S4096x1024 .f32)

/-- The cotangent of the merged branches. -/
def dm (r : Fin 4096) (n : Fin 1024) : EReal := ∑ k : Fin 1024, C (ix2 r k) * O (ix2 n k)

/-- The two branches after their products. -/
def tA (r : Fin 4096) (n : Fin 1024) : EReal := ∑ k : Fin 512, A (ix2 r k) * U (ix2 k n)
def tB (r : Fin 4096) (n : Fin 1024) : EReal := ∑ k : Fin 1024, B (ix2 r k) * W (ix2 k n)

/-- The two gates. -/
def gA (r : Fin 4096) (n : Fin 1024) : EReal := sg (P (ix2 r ⟨n.val, by omega⟩) + G (ix2 0 ⟨n.val, by omega⟩))
def gB (r : Fin 4096) (n : Fin 1024) : EReal := sg (P (ix2 r ⟨1024 + n.val, by omega⟩) + G (ix2 0 ⟨1024 + n.val, by omega⟩))

/-- The cotangent of a gate's argument, of the cotangent `d`, the branch `t` and the gate `s`. -/
def dgate (d t s : EReal) : EReal := d * t * s * (1 - s)

theorem entry0 (c : Dev nD) (r : Fin 4096) (n : Fin 1024) : (V m c main_v13 : FVec Ideal S4096x1024 .bf16) (ix2 r n)
    = (m ((c : Thread nD τ).loc main_arg7) : FVec Ideal S4096x1024 .f32) (ix2 r n) := by
  entry_read
  pointwise

theorem entry1 (c : Dev nD) (r : Fin 4096) (n : Fin 1024) : (V m c main_v5 : FVec Ideal S4096x1024 .bf16) (ix2 r n)
    = tA (m ((c : Thread nD τ).loc main_arg0)) (m ((c : Thread nD τ).loc main_arg4)) r n := by
  entry_read
  pointwise [tA]

theorem entry2 (c : Dev nD) (r : Fin 4096) (n : Fin 1024) : (V m c main_v7 : FVec Ideal S4096x1024 .bf16) (ix2 r n)
    = tB (m ((c : Thread nD τ).loc main_arg1)) (m ((c : Thread nD τ).loc main_arg5)) r n := by
  entry_read
  pointwise [tB]

theorem entry3 (c : Dev nD) (r : Fin 4096) (n : Fin 2048) (hn : 6144 + n.val < 8192) : (V m c main_v3 : FVec Ideal S4096x8192 .bf16) (ix2 r ⟨6144 + n.val, hn⟩)
    = (m ((c : Thread nD τ).loc main_arg2) : FVec Ideal S4096x2048 .f32) (ix2 r n) := by
  entry_read
  pointwise

theorem entry5 (c : Dev nD) (j : Fin 4) (n : Fin 512) (k : Fin 256) (hk : j.val * 256 + k.val < 1024) : (V m c main_v10 : FVec Ideal S4x512x256 .bf16) (ix3 j n k)
    = (m ((c : Thread nD τ).loc main_arg4) : FVec Ideal S512x1024 .f32) (ix2 n ⟨j.val * 256 + k.val, hk⟩) := by
  entry_read
  pointwise

theorem entry6 (c : Dev nD) (n k : Fin 1024) : (V m c main_v14 : FVec Ideal S1024x1024 .bf16) (ix2 n k)
    = (m ((c : Thread nD τ).loc main_arg5) : FVec Ideal S1024x1024 .f32) (ix2 n k) := by
  entry_read
  pointwise

theorem entry7 (c : Dev nD) (n k : Fin 1024) : (V m c main_v15 : FVec Ideal S1024x1024 .bf16) (ix2 n k)
    = (m ((c : Thread nD τ).loc main_arg6) : FVec Ideal S1024x1024 .f32) (ix2 n k) := by
  entry_read
  pointwise

theorem entry8 (c : Dev nD) (n : Fin 1024) (hn : n.val < 2048) : (V m c main_v11 : FVec Ideal S1x1024 .f32) (ix2 0 n)
    = (m ((c : Thread nD τ).loc main_arg3) : FVec Ideal S1x2048 .f32) (ix2 0 ⟨n.val, hn⟩) := by
  entry_read
  pointwise

theorem entry9 (c : Dev nD) (n : Fin 1024) (hn : 1024 + n.val < 2048) : (V m c main_v12 : FVec Ideal S1x1024 .f32) (ix2 0 n)
    = (m ((c : Thread nD τ).loc main_arg3) : FVec Ideal S1x2048 .f32) (ix2 0 ⟨1024 + n.val, hn⟩) := by
  entry_read
  pointwise

/-- The row of block `t`. -/
abbrev row (t : Fin cfg0.N) (r : Fin 256) : Fin 4096 := ⟨t.val * 256 + r.val, by have := lt_of_lt_of_eq t.isLt N_0; omega⟩

variable (c : Dev nD) (t : Fin cfg0.N)

theorem rd0 (r : Fin 256) (n : Fin 1024) : (iblk m c 0 t : FVec Ideal S256x1024 .bf16) (ix2 r n)
    = (m ((c : Thread nD τ).loc main_arg7) : FVec Ideal S4096x1024 .f32) (ix2 (row t r) n) := by
  refine Eq.trans ?_ (entry0 m c (row t r) n)
  blk_ext [iblk, idx t]

theorem rd1 (r : Fin 256) (n : Fin 1024) : (iblk m c 1 t : FVec Ideal S256x1024 .bf16) (ix2 r n)
    = tA (m ((c : Thread nD τ).loc main_arg0)) (m ((c : Thread nD τ).loc main_arg4)) (row t r) n := by
  refine Eq.trans ?_ (entry1 m c (row t r) n)
  blk_ext [iblk, idx t]

theorem rd2 (r : Fin 256) (n : Fin 1024) : (iblk m c 2 t : FVec Ideal S256x1024 .bf16) (ix2 r n)
    = tB (m ((c : Thread nD τ).loc main_arg1)) (m ((c : Thread nD τ).loc main_arg5)) (row t r) n := by
  refine Eq.trans ?_ (entry2 m c (row t r) n)
  blk_ext [iblk, idx t]

theorem rd3 (r : Fin 256) (n : Fin 1024) (hn : n.val < 2048) : (iblk m c 3 t : FVec Ideal S256x1024 .bf16) (ix2 r n)
    = (m ((c : Thread nD τ).loc main_arg2) : FVec Ideal S4096x2048 .f32) (ix2 (row t r) ⟨n.val, hn⟩) := by
  refine Eq.trans ?_ (entry3 m c (row t r) ⟨n.val, hn⟩ (by simp only; omega))
  blk_ext [iblk, idx t]

theorem rd4 (r : Fin 256) (n : Fin 1024) (hn : 1024 + n.val < 2048) : (iblk m c 4 t : FVec Ideal S256x1024 .bf16) (ix2 r n)
    = (m ((c : Thread nD τ).loc main_arg2) : FVec Ideal S4096x2048 .f32) (ix2 (row t r) ⟨1024 + n.val, hn⟩) := by
  refine Eq.trans ?_ (entry3 m c (row t r) ⟨1024 + n.val, hn⟩ (by simp only; omega))
  blk_ext [iblk, idx t]

theorem rd5 (j : Fin 4) (n : Fin 512) (k : Fin 256) (hk : j.val * 256 + k.val < 1024) : (iblk m c 5 t : FVec Ideal S4x512x256 .bf16) (ix3 j n k)
    = (m ((c : Thread nD τ).loc main_arg4) : FVec Ideal S512x1024 .f32) (ix2 n ⟨j.val * 256 + k.val, hk⟩) := by
  refine Eq.trans ?_ (entry5 m c j n k hk)
  blk_ext [iblk, idx t]

theorem rd6 (n k : Fin 1024) : (iblk m c 6 t : FVec Ideal S1024x1024 .bf16) (ix2 n k)
    = (m ((c : Thread nD τ).loc main_arg5) : FVec Ideal S1024x1024 .f32) (ix2 n k) := by
  refine Eq.trans ?_ (entry6 m c n k)
  blk_ext [iblk, idx t]

theorem rd7 (n k : Fin 1024) : (iblk m c 7 t : FVec Ideal S1024x1024 .bf16) (ix2 n k)
    = (m ((c : Thread nD τ).loc main_arg6) : FVec Ideal S1024x1024 .f32) (ix2 n k) := by
  refine Eq.trans ?_ (entry7 m c n k)
  blk_ext [iblk, idx t]

theorem rd8 (n : Fin 1024) (hn : n.val < 2048) : (iblk m c 8 t : FVec Ideal S1x1024 .f32) (ix2 0 n)
    = (m ((c : Thread nD τ).loc main_arg3) : FVec Ideal S1x2048 .f32) (ix2 0 ⟨n.val, hn⟩) := by
  refine Eq.trans ?_ (entry8 m c n hn)
  blk_ext [iblk, idx t]

theorem rd9 (n : Fin 1024) (hn : 1024 + n.val < 2048) : (iblk m c 9 t : FVec Ideal S1x1024 .f32) (ix2 0 n)
    = (m ((c : Thread nD τ).loc main_arg3) : FVec Ideal S1x2048 .f32) (ix2 0 ⟨1024 + n.val, hn⟩) := by
  refine Eq.trans ?_ (entry9 m c n hn)
  blk_ext [iblk, idx t]

/-- The arrays the kernel leaves. -/
def F10 : FVec Ideal S4096x1024 .bf16 := fun y => dm O C (y 0) (y 1) * gA P G (y 0) (y 1)
def F11 : FVec Ideal S4096x1024 .bf16 := fun y => dm O C (y 0) (y 1) * gB P G (y 0) (y 1)
def F12 : FVec Ideal S4096x1024 .bf16 := fun y => dgate (dm O C (y 0) (y 1)) (tA A U (y 0) (y 1)) (gA P G (y 0) (y 1))
def F13 : FVec Ideal S4096x1024 .bf16 := fun y => dgate (dm O C (y 0) (y 1)) (tB B W (y 0) (y 1)) (gB P G (y 0) (y 1))
def F14 : FVec Ideal S4096x512 .bf16 := fun y => ∑ k : Fin 1024, F10 P G O C (ix2 (y 0) k) * U (ix2 (y 1) k)
def F15 : FVec Ideal S4096x1024 .bf16 := fun y => ∑ k : Fin 1024, F11 P G O C (ix2 (y 0) k) * W (ix2 (y 1) k)
def F16 : FVec Ideal S1x1024 .f32 := fun y => ∑ r : Fin 4096, F12 A P G U O C (ix2 r (y 1))
def F17 : FVec Ideal S1x1024 .f32 := fun y => ∑ r : Fin 4096, F13 B P G W O C (ix2 r (y 1))

theorem pay1_at (x : Vec Ideal S256x1024 .bf16) (w : Vec Ideal S1024x1024 .bf16) (r : Fin 256) (n : Fin 1024) :
    k0_pay1 (F := Ideal) x w (ix2 r n) = ∑ k : Fin 1024, x (ix2 r k) * w (ix2 n k) := by
  pointwise [k0_pay1]

theorem pay4_at (x : Vec Ideal S256x1024 .bf16) (b : Vec Ideal S1x1024 .f32) (r : Fin 256) (n : Fin 1024) :
    k0_pay4 (F := Ideal) x b (ix2 r n) = sg (x (ix2 r n) + b (ix2 0 n)) := by
  pointwise [k0_pay4, sg]

theorem pay6_at (x : Vec Ideal S256x1024 .bf16) (b : Vec Ideal S1x1024 .f32) (r : Fin 256) (n : Fin 1024) :
    k0_pay6 (F := Ideal) (k0_pay5 x b) (ix2 r n) = sg (x (ix2 r n) + b (ix2 0 n)) := by
  pointwise [k0_pay6, k0_pay5, sg]

theorem pay7_at (x : FVec Ideal S256x1024 .f32) (v : Vec Ideal S256x1024 .bf16) (s : FVec Ideal S256x1024 .f32) (r : Fin 256) (n : Fin 1024) :
    k0_pay7 (F := Ideal) x (k0_pay2 v) s (ix2 r n) = dgate (x (ix2 r n)) (v (ix2 r n)) (s (ix2 r n)) := by
  pointwise [k0_pay7, k0_pay2, dgate]

theorem pay8_at (x : FVec Ideal S256x1024 .f32) (v : Vec Ideal S256x1024 .bf16) (s : FVec Ideal S256x1024 .f32) (r : Fin 256) (n : Fin 1024) :
    k0_pay8 (F := Ideal) x (k0_pay3 v) s (ix2 r n) = dgate (x (ix2 r n)) (v (ix2 r n)) (k0_pay6 (F := Ideal) s (ix2 r n)) := by
  pointwise [k0_pay8, k0_pay3, dgate]

theorem pay9_at (x s : FVec Ideal S256x1024 .f32) (r : Fin 256) (n : Fin 1024) :
    k0_pay9 (F := Ideal) x s (ix2 r n) = x (ix2 r n) * s (ix2 r n) := by
  pointwise [k0_pay9]

theorem pay10_at (x s : FVec Ideal S256x1024 .f32) (r : Fin 256) (n : Fin 1024) :
    k0_pay10 (F := Ideal) x s (ix2 r n) = x (ix2 r n) * k0_pay6 (F := Ideal) s (ix2 r n) := by
  pointwise [k0_pay10]

theorem pay16_at (x : FVec Ideal S256x1024 .bf16) (w : Vec Ideal S1024x1024 .bf16) (r : Fin 256) (n : Fin 1024) :
    k0_pay16 (F := Ideal) x w (ix2 r n) = ∑ k : Fin 1024, x (ix2 r k) * w (ix2 n k) := by
  pointwise [k0_pay16]

theorem pay15_at (x s : FVec Ideal S256x1024 .f32) (w0 w1 w2 w3 : Vec Ideal S1x512x256 .bf16) (r : Fin 256) (n : Fin 512) :
    k0_pay15 (F := Ideal) (k0_pay9 x s) (k0_pay13 x s w0 w1) (k0_pay14 x s) w2 w3 (ix2 r n)
      = (∑ k : Fin 256, k0_pay9 (F := Ideal) x s (ix2 r ⟨k.val, by omega⟩) * w0 (ix3 0 n k))
        + (∑ k : Fin 256, k0_pay9 (F := Ideal) x s (ix2 r ⟨256 + k.val, by omega⟩) * w1 (ix3 0 n k))
        + (∑ k : Fin 256, k0_pay9 (F := Ideal) x s (ix2 r ⟨512 + k.val, by omega⟩) * w2 (ix3 0 n k))
        + (∑ k : Fin 256, k0_pay9 (F := Ideal) x s (ix2 r ⟨768 + k.val, by omega⟩) * w3 (ix3 0 n k)) := by
  generalize hz : k0_pay9 (F := Ideal) x s = z
  pointwise [k0_pay15, k0_pay13, k0_pay14, hz]

theorem pay19_at (x : FVec Ideal S256x1024 .f32) (v : Vec Ideal S1x1024 .f32) (n : Fin 1024) :
    k0_pay19 (F := Ideal) x v (ix2 0 n) = v (ix2 0 n) + ∑ r : Fin 256, x (ix2 r n) := by
  pointwise [k0_pay19]

theorem pay20_at (x : FVec Ideal S256x1024 .f32) (v : Vec Ideal S1x1024 .f32) (n : Fin 1024) :
    k0_pay20 (F := Ideal) x v (ix2 0 n) = v (ix2 0 n) + ∑ r : Fin 256, x (ix2 r n) := by
  pointwise [k0_pay20]

/-- What the kernel forms of a block, in the arguments. -/
theorem dm_at (r : Fin 256) (n : Fin 1024) : k0_pay1 (F := Ideal) (iblk m c 0 t) (iblk m c 7 t) (ix2 r n)
    = dm (m ((c : Thread nD τ).loc main_arg6)) (m ((c : Thread nD τ).loc main_arg7)) (row t r) n := by
  rw [pay1_at]
  exact Finset.sum_congr rfl fun k _ => congrArg₂ (· * ·) (rd0 m c t r k) (rd7 m c t n k)

theorem gA_at (r : Fin 256) (n : Fin 1024) : k0_pay4 (F := Ideal) (iblk m c 3 t) (iblk m c 8 t) (ix2 r n)
    = gA (m ((c : Thread nD τ).loc main_arg2)) (m ((c : Thread nD τ).loc main_arg3)) (row t r) n := by
  rw [pay4_at]
  exact congrArg sg (congrArg₂ (· + ·) (rd3 m c t r n _) (rd8 m c t n _))

theorem gB_at (r : Fin 256) (n : Fin 1024) : k0_pay6 (F := Ideal) (k0_pay5 (iblk m c 4 t) (iblk m c 9 t)) (ix2 r n)
    = gB (m ((c : Thread nD τ).loc main_arg2)) (m ((c : Thread nD τ).loc main_arg3)) (row t r) n := by
  rw [pay6_at]
  exact congrArg sg (congrArg₂ (· + ·) (rd4 m c t r n _) (rd9 m c t n _))

/-- The blocks the kernel stores, in the arguments. -/
theorem b10 (r : Fin 256) (n : Fin 1024) : k0_pay9 (F := Ideal) (k0_pay1 (iblk m c 0 t) (iblk m c 7 t)) (k0_pay4 (iblk m c 3 t) (iblk m c 8 t)) (ix2 r n)
    = F10 (m ((c : Thread nD τ).loc main_arg2)) (m ((c : Thread nD τ).loc main_arg3)) (m ((c : Thread nD τ).loc main_arg6)) (m ((c : Thread nD τ).loc main_arg7)) (ix2 (row t r) n) := by
  rw [pay9_at, dm_at, gA_at]; rfl

theorem b11 (r : Fin 256) (n : Fin 1024) : k0_pay10 (F := Ideal) (k0_pay1 (iblk m c 0 t) (iblk m c 7 t)) (k0_pay5 (iblk m c 4 t) (iblk m c 9 t)) (ix2 r n)
    = F11 (m ((c : Thread nD τ).loc main_arg2)) (m ((c : Thread nD τ).loc main_arg3)) (m ((c : Thread nD τ).loc main_arg6)) (m ((c : Thread nD τ).loc main_arg7)) (ix2 (row t r) n) := by
  rw [pay10_at, dm_at, gB_at]; rfl

theorem b12 (r : Fin 256) (n : Fin 1024) : k0_pay7 (F := Ideal) (k0_pay1 (iblk m c 0 t) (iblk m c 7 t)) (k0_pay2 (iblk m c 1 t)) (k0_pay4 (iblk m c 3 t) (iblk m c 8 t)) (ix2 r n)
    = F12 (m ((c : Thread nD τ).loc main_arg0)) (m ((c : Thread nD τ).loc main_arg2)) (m ((c : Thread nD τ).loc main_arg3)) (m ((c : Thread nD τ).loc main_arg4)) (m ((c : Thread nD τ).loc main_arg6)) (m ((c : Thread nD τ).loc main_arg7)) (ix2 (row t r) n) := by
  rw [pay7_at, dm_at, gA_at, rd1]; rfl

theorem b13 (r : Fin 256) (n : Fin 1024) : k0_pay8 (F := Ideal) (k0_pay1 (iblk m c 0 t) (iblk m c 7 t)) (k0_pay3 (iblk m c 2 t)) (k0_pay5 (iblk m c 4 t) (iblk m c 9 t)) (ix2 r n)
    = F13 (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (ix2 (row t r) n) := by
  rw [pay8_at, dm_at, gB_at, rd2]; rfl

/-- A sum over 1024 columns, in the four parts the kernel adds. -/
theorem four (f : Fin 1024 → EReal) : (∑ k : Fin 256, f ⟨k.val, by omega⟩) + (∑ k : Fin 256, f ⟨256 + k.val, by omega⟩)
    + (∑ k : Fin 256, f ⟨512 + k.val, by omega⟩) + (∑ k : Fin 256, f ⟨768 + k.val, by omega⟩) = ∑ k, f k := by
  have h (a b : ℕ) (g : Fin (a + b) → EReal) := Fin.sum_univ_add (a := a) (b := b) g
  rw [show (∑ k, f k) = ∑ k : Fin (768 + 256), f k from rfl, h 768 256 f, show (∑ i : Fin 768, f (Fin.castAdd 256 i)) = ∑ i : Fin (512 + 256), f (Fin.castAdd 256 (i : Fin 768)) from rfl,
    h 512 256, show (∑ i : Fin 512, f (Fin.castAdd 256 (Fin.castAdd 256 i : Fin 768))) = ∑ i : Fin (256 + 256), f (Fin.castAdd 256 (Fin.castAdd 256 (i : Fin 512) : Fin 768)) from rfl, h 256 256]
  rfl

theorem b14 (w0 w1 w2 w3 : Vec Ideal S1x512x256 .bf16)
    (h0 : ∀ n k, w0 (ix3 0 n k) = (iblk m c 5 t : FVec Ideal S4x512x256 .bf16) (ix3 0 n k)) (h1 : ∀ n k, w1 (ix3 0 n k) = (iblk m c 5 t : FVec Ideal S4x512x256 .bf16) (ix3 1 n k))
    (h2 : ∀ n k, w2 (ix3 0 n k) = (iblk m c 5 t : FVec Ideal S4x512x256 .bf16) (ix3 2 n k)) (h3 : ∀ n k, w3 (ix3 0 n k) = (iblk m c 5 t : FVec Ideal S4x512x256 .bf16) (ix3 3 n k))
    (r : Fin 256) (n : Fin 512) :
    k0_pay15 (F := Ideal) (k0_pay9 (k0_pay1 (iblk m c 0 t) (iblk m c 7 t)) (k0_pay4 (iblk m c 3 t) (iblk m c 8 t)))
        (k0_pay13 (k0_pay1 (iblk m c 0 t) (iblk m c 7 t)) (k0_pay4 (iblk m c 3 t) (iblk m c 8 t)) w0 w1)
        (k0_pay14 (k0_pay1 (iblk m c 0 t) (iblk m c 7 t)) (k0_pay4 (iblk m c 3 t) (iblk m c 8 t))) w2 w3 (ix2 r n)
      = F14 (m ((c : Thread nD τ).loc main_arg2)) (m ((c : Thread nD τ).loc main_arg3)) (m ((c : Thread nD τ).loc main_arg4)) (m ((c : Thread nD τ).loc main_arg6)) (m ((c : Thread nD τ).loc main_arg7)) (ix2 (row t r) n) := by
  rw [pay15_at]
  refine Eq.trans ?_ (four (fun k => F10 (m ((c : Thread nD τ).loc main_arg2)) (m ((c : Thread nD τ).loc main_arg3)) (m ((c : Thread nD τ).loc main_arg6)) (m ((c : Thread nD τ).loc main_arg7)) (ix2 (row t r) k)
    * (m ((c : Thread nD τ).loc main_arg4) : FVec Ideal S512x1024 .f32) (ix2 n k)))
  refine congrArg₂ (· + ·) (congrArg₂ (· + ·) (congrArg₂ (· + ·) ?_ ?_) ?_) ?_ <;> refine Finset.sum_congr rfl fun k _ => congrArg₂ (· * ·) (b10 m c t r _) ?_
  · exact (h0 n k).trans ((rd5 m c t 0 n k (by simp; omega)).trans (congrArg (fun z => (m ((c : Thread nD τ).loc main_arg4) : FVec Ideal S512x1024 .f32) (ix2 n z)) (Fin.ext (by simp))))
  · exact (h1 n k).trans ((rd5 m c t 1 n k (by simp; omega)).trans (congrArg (fun z => (m ((c : Thread nD τ).loc main_arg4) : FVec Ideal S512x1024 .f32) (ix2 n z)) (Fin.ext (by simp))))
  · exact (h2 n k).trans ((rd5 m c t 2 n k (by simp; omega)).trans (congrArg (fun z => (m ((c : Thread nD τ).loc main_arg4) : FVec Ideal S512x1024 .f32) (ix2 n z)) (Fin.ext (by simp))))
  · exact (h3 n k).trans ((rd5 m c t 3 n k (by simp; omega)).trans (congrArg (fun z => (m ((c : Thread nD τ).loc main_arg4) : FVec Ideal S512x1024 .f32) (ix2 n z)) (Fin.ext (by simp))))

theorem b15 (r : Fin 256) (n : Fin 1024) : k0_pay16 (F := Ideal) (k0_pay10 (k0_pay1 (iblk m c 0 t) (iblk m c 7 t)) (k0_pay5 (iblk m c 4 t) (iblk m c 9 t))) (iblk m c 6 t) (ix2 r n)
    = F15 (m ((c : Thread nD τ).loc main_arg2)) (m ((c : Thread nD τ).loc main_arg3)) (m ((c : Thread nD τ).loc main_arg5)) (m ((c : Thread nD τ).loc main_arg6)) (m ((c : Thread nD τ).loc main_arg7)) (ix2 (row t r) n) := by
  rw [pay16_at]
  exact Finset.sum_congr rfl fun k _ => congrArg₂ (· * ·) (b11 m c t r k) (rd6 m c t n k)

theorem final10 : (dats m 0 c).arrAt 10 cfg0.N = F10 (m ((c : Thread nD τ).loc main_arg2)) (m ((c : Thread nD τ).loc main_arg3)) (m ((c : Thread nD τ).loc main_arg6)) (m ((c : Thread nD τ).loc main_arg7)) := by
  refine (dats m 0 c).arrAt_eq_of_covers 10 _ (by decide +kernel) fun t hf y => ?_
  have ht := lt_of_lt_of_eq t.isLt N_0
  blk_simp
  rw [after0_10]
  by_cases h0 : t.val % 16 = 0
  · rw [outsAt0_A m c t h0]
    frame_out
    idx_vars y
    refine (b10 m c t y0 y1).trans (congrArg (F10 (m ((c : Thread nD τ).loc main_arg2)) (m ((c : Thread nD τ).loc main_arg3)) (m ((c : Thread nD τ).loc main_arg6)) (m ((c : Thread nD τ).loc main_arg7))) ?_)
    blk_ext [idx t]
  · rw [outsAt0_B m c t h0]
    frame_out
    idx_vars y
    refine (b10 m c t y0 y1).trans (congrArg (F10 (m ((c : Thread nD τ).loc main_arg2)) (m ((c : Thread nD τ).loc main_arg3)) (m ((c : Thread nD τ).loc main_arg6)) (m ((c : Thread nD τ).loc main_arg7))) ?_)
    blk_ext [idx t]

theorem final11 : (dats m 0 c).arrAt 11 cfg0.N = F11 (m ((c : Thread nD τ).loc main_arg2)) (m ((c : Thread nD τ).loc main_arg3)) (m ((c : Thread nD τ).loc main_arg6)) (m ((c : Thread nD τ).loc main_arg7)) := by
  refine (dats m 0 c).arrAt_eq_of_covers 11 _ (by decide +kernel) fun t hf y => ?_
  have ht := lt_of_lt_of_eq t.isLt N_0
  blk_simp
  rw [after0_11]
  by_cases h0 : t.val % 16 = 0
  · rw [outsAt0_A m c t h0]
    frame_out
    idx_vars y
    refine (b11 m c t y0 y1).trans (congrArg (F11 (m ((c : Thread nD τ).loc main_arg2)) (m ((c : Thread nD τ).loc main_arg3)) (m ((c : Thread nD τ).loc main_arg6)) (m ((c : Thread nD τ).loc main_arg7))) ?_)
    blk_ext [idx t]
  · rw [outsAt0_B m c t h0]
    frame_out
    idx_vars y
    refine (b11 m c t y0 y1).trans (congrArg (F11 (m ((c : Thread nD τ).loc main_arg2)) (m ((c : Thread nD τ).loc main_arg3)) (m ((c : Thread nD τ).loc main_arg6)) (m ((c : Thread nD τ).loc main_arg7))) ?_)
    blk_ext [idx t]

theorem final12 : (dats m 0 c).arrAt 12 cfg0.N = F12 (m ((c : Thread nD τ).loc main_arg0)) (m ((c : Thread nD τ).loc main_arg2)) (m ((c : Thread nD τ).loc main_arg3)) (m ((c : Thread nD τ).loc main_arg4)) (m ((c : Thread nD τ).loc main_arg6)) (m ((c : Thread nD τ).loc main_arg7)) := by
  refine (dats m 0 c).arrAt_eq_of_covers 12 _ (by decide +kernel) fun t hf y => ?_
  have ht := lt_of_lt_of_eq t.isLt N_0
  blk_simp
  rw [after0_12]
  by_cases h0 : t.val % 16 = 0
  · rw [outsAt0_A m c t h0]
    frame_out
    idx_vars y
    refine (b12 m c t y0 y1).trans (congrArg (F12 (m ((c : Thread nD τ).loc main_arg0)) (m ((c : Thread nD τ).loc main_arg2)) (m ((c : Thread nD τ).loc main_arg3)) (m ((c : Thread nD τ).loc main_arg4)) (m ((c : Thread nD τ).loc main_arg6)) (m ((c : Thread nD τ).loc main_arg7))) ?_)
    blk_ext [idx t]
  · rw [outsAt0_B m c t h0]
    frame_out
    idx_vars y
    refine (b12 m c t y0 y1).trans (congrArg (F12 (m ((c : Thread nD τ).loc main_arg0)) (m ((c : Thread nD τ).loc main_arg2)) (m ((c : Thread nD τ).loc main_arg3)) (m ((c : Thread nD τ).loc main_arg4)) (m ((c : Thread nD τ).loc main_arg6)) (m ((c : Thread nD τ).loc main_arg7))) ?_)
    blk_ext [idx t]

theorem final13 : (dats m 0 c).arrAt 13 cfg0.N = F13 (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) := by
  refine (dats m 0 c).arrAt_eq_of_covers 13 _ (by decide +kernel) fun t hf y => ?_
  have ht := lt_of_lt_of_eq t.isLt N_0
  blk_simp
  rw [after0_13]
  by_cases h0 : t.val % 16 = 0
  · rw [outsAt0_A m c t h0]
    frame_out
    idx_vars y
    refine (b13 m c t y0 y1).trans (congrArg (F13 (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7))) ?_)
    blk_ext [idx t]
  · rw [outsAt0_B m c t h0]
    frame_out
    idx_vars y
    refine (b13 m c t y0 y1).trans (congrArg (F13 (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7))) ?_)
    blk_ext [idx t]

theorem final14 : (dats m 0 c).arrAt 14 cfg0.N = F14 (m ((c : Thread nD τ).loc main_arg2)) (m ((c : Thread nD τ).loc main_arg3)) (m ((c : Thread nD τ).loc main_arg4)) (m ((c : Thread nD τ).loc main_arg6)) (m ((c : Thread nD τ).loc main_arg7)) := by
  refine (dats m 0 c).arrAt_eq_of_covers 14 _ (by decide +kernel) fun t hf y => ?_
  have ht := lt_of_lt_of_eq t.isLt N_0
  blk_simp
  rw [after0_14]
  by_cases h0 : t.val % 16 = 0
  · rw [outsAt0_A m c t h0]
    frame_out
    idx_vars y
    refine (b14 m c t _ _ _ _ (fun n k => by pointwise) (fun n k => by pointwise) (fun n k => by pointwise) (fun n k => by pointwise) y0 y1).trans (congrArg (F14 (m ((c : Thread nD τ).loc main_arg2)) (m ((c : Thread nD τ).loc main_arg3)) (m ((c : Thread nD τ).loc main_arg4)) (m ((c : Thread nD τ).loc main_arg6)) (m ((c : Thread nD τ).loc main_arg7))) ?_)
    blk_ext [idx t]
  · rw [outsAt0_B m c t h0]
    frame_out
    idx_vars y
    refine (b14 m c t _ _ _ _ (fun n k => by pointwise) (fun n k => by pointwise) (fun n k => by pointwise) (fun n k => by pointwise) y0 y1).trans (congrArg (F14 (m ((c : Thread nD τ).loc main_arg2)) (m ((c : Thread nD τ).loc main_arg3)) (m ((c : Thread nD τ).loc main_arg4)) (m ((c : Thread nD τ).loc main_arg6)) (m ((c : Thread nD τ).loc main_arg7))) ?_)
    blk_ext [idx t]

theorem final15 : (dats m 0 c).arrAt 15 cfg0.N = F15 (m ((c : Thread nD τ).loc main_arg2)) (m ((c : Thread nD τ).loc main_arg3)) (m ((c : Thread nD τ).loc main_arg5)) (m ((c : Thread nD τ).loc main_arg6)) (m ((c : Thread nD τ).loc main_arg7)) := by
  refine (dats m 0 c).arrAt_eq_of_covers 15 _ (by decide +kernel) fun t hf y => ?_
  have ht := lt_of_lt_of_eq t.isLt N_0
  blk_simp
  rw [after0_15]
  by_cases h0 : t.val % 16 = 0
  · rw [outsAt0_A m c t h0]
    frame_out
    idx_vars y
    refine (b15 m c t y0 y1).trans (congrArg (F15 (m ((c : Thread nD τ).loc main_arg2)) (m ((c : Thread nD τ).loc main_arg3)) (m ((c : Thread nD τ).loc main_arg5)) (m ((c : Thread nD τ).loc main_arg6)) (m ((c : Thread nD τ).loc main_arg7))) ?_)
    blk_ext [idx t]
  · rw [outsAt0_B m c t h0]
    frame_out
    idx_vars y
    refine (b15 m c t y0 y1).trans (congrArg (F15 (m ((c : Thread nD τ).loc main_arg2)) (m ((c : Thread nD τ).loc main_arg3)) (m ((c : Thread nD τ).loc main_arg5)) (m ((c : Thread nD τ).loc main_arg6)) (m ((c : Thread nD τ).loc main_arg7))) ?_)
    blk_ext [idx t]

/-- A sum over all rows, in the blocks' sums. -/
theorem rows (f : Fin 4096 → EReal) : (∑ s : Fin 16, ∑ r : Fin 256, f ⟨s.val * 256 + r.val, by omega⟩) = ∑ r, f r := by
  rw [← Finset.sum_product', ← Fintype.sum_equiv (finProdFinEquiv (m := 16) (n := 256)) (fun p => f ⟨p.1.val * 256 + p.2.val, by omega⟩) f
    (fun p => congrArg f (Fin.ext (by simp [finProdFinEquiv]; omega)))]
  rfl

theorem rows_sum (f : Fin 4096 → EReal) (t : Fin cfg0.N) (ht : t.val = 15) (h : ∀ s : Fin 16, 16 * (t.val / 16) + s.val < cfg0.N) :
    (∑ s : Fin 16, ∑ r : Fin 256, f (row ⟨16 * (t.val / 16) + s.val, h s⟩ r)) = ∑ r, f r := by
  rw [← rows]
  refine Finset.sum_congr rfl fun s _ => Finset.sum_congr rfl fun r _ => congrArg f (Fin.ext ?_)
  simp only [ht]; omega

theorem final16 : (dats m 0 c).arrAt 16 cfg0.N = F16 (m ((c : Thread nD τ).loc main_arg0)) (m ((c : Thread nD τ).loc main_arg2)) (m ((c : Thread nD τ).loc main_arg3)) (m ((c : Thread nD τ).loc main_arg4)) (m ((c : Thread nD τ).loc main_arg6)) (m ((c : Thread nD τ).loc main_arg7)) := by
  refine (dats m 0 c).arrAt_eq_of_covers 16 _ (by decide +kernel) fun t hf y => ?_
  have ht := lt_of_lt_of_eq t.isLt N_0
  blk_simp
  rw [after0_16, Pipeline.eq_sum_fin_of_reset_step_apply_of_flush (fun n h => (outsAt0 m c n h).2.2.2.2.2.2.1) 16 (fun _ => 0)
    (fun t y => ∑ r : Fin 256, F12 (m ((c : Thread nD τ).loc main_arg0)) (m ((c : Thread nD τ).loc main_arg2)) (m ((c : Thread nD τ).loc main_arg3)) (m ((c : Thread nD τ).loc main_arg4)) (m ((c : Thread nD τ).loc main_arg6)) (m ((c : Thread nD τ).loc main_arg7)) (ix2 (row t r) (y 1)))
    (fun t h j => by
      rw [outsAt0_A m c t h]; frame_out
      idx_vars j
      obtain rfl : j0 = 0 := Subsingleton.elim _ _
      rw [pay19_at]
      refine congrArg₂ (· + ·) ?_ (Finset.sum_congr rfl fun r _ => b12 m c t r j1)
      pointwise [k0_pay17])
    (fun t h j => by
      rw [outsAt0_B m c t h]; frame_out
      idx_vars j
      obtain rfl : j0 = 0 := Subsingleton.elim _ _
      rw [pay19_at]
      refine congrArg₂ (· + ·) ?_ (Finset.sum_congr rfl fun r _ => b12 m c t r j1)
      rfl)
    t ((flush0_16 t).mp hf) _, zero_add]
  idx_vars y
  have h15 := (flush0_16 t).mp hf
  refine (rows_sum (fun r => F12 (m ((c : Thread nD τ).loc main_arg0)) (m ((c : Thread nD τ).loc main_arg2)) (m ((c : Thread nD τ).loc main_arg3)) (m ((c : Thread nD τ).loc main_arg4)) (m ((c : Thread nD τ).loc main_arg6)) (m ((c : Thread nD τ).loc main_arg7)) (ix2 r y1)) t (by omega) _).trans ?_
  refine Eq.trans (b := F16 (m ((c : Thread nD τ).loc main_arg0)) (m ((c : Thread nD τ).loc main_arg2)) (m ((c : Thread nD τ).loc main_arg3)) (m ((c : Thread nD τ).loc main_arg4)) (m ((c : Thread nD τ).loc main_arg6)) (m ((c : Thread nD τ).loc main_arg7)) (ix2 0 y1)) rfl (congrArg (F16 (m ((c : Thread nD τ).loc main_arg0)) (m ((c : Thread nD τ).loc main_arg2)) (m ((c : Thread nD τ).loc main_arg3)) (m ((c : Thread nD τ).loc main_arg4)) (m ((c : Thread nD τ).loc main_arg6)) (m ((c : Thread nD τ).loc main_arg7))) ?_)
  blk_ext [idx t]

theorem final17 : (dats m 0 c).arrAt 17 cfg0.N = F17 (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) := by
  refine (dats m 0 c).arrAt_eq_of_covers 17 _ (by decide +kernel) fun t hf y => ?_
  have ht := lt_of_lt_of_eq t.isLt N_0
  blk_simp
  rw [after0_17, Pipeline.eq_sum_fin_of_reset_step_apply_of_flush (fun n h => (outsAt0 m c n h).2.2.2.2.2.2.2) 16 (fun _ => 0)
    (fun t y => ∑ r : Fin 256, F13 (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (ix2 (row t r) (y 1)))
    (fun t h j => by
      rw [outsAt0_A m c t h]; frame_out
      idx_vars j
      obtain rfl : j0 = 0 := Subsingleton.elim _ _
      rw [pay20_at]
      refine congrArg₂ (· + ·) ?_ (Finset.sum_congr rfl fun r _ => b13 m c t r j1)
      pointwise [k0_pay18])
    (fun t h j => by
      rw [outsAt0_B m c t h]; frame_out
      idx_vars j
      obtain rfl : j0 = 0 := Subsingleton.elim _ _
      rw [pay20_at]
      refine congrArg₂ (· + ·) ?_ (Finset.sum_congr rfl fun r _ => b13 m c t r j1)
      rfl)
    t ((flush0_17 t).mp hf) _, zero_add]
  idx_vars y
  have h15 := (flush0_17 t).mp hf
  refine (rows_sum (fun r => F13 (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (ix2 r y1)) t (by omega) _).trans ?_
  refine Eq.trans (b := F17 (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (ix2 0 y1)) rfl (congrArg (F17 (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7))) ?_)
  blk_ext [idx t]

end Cert.MergeIdeal.Value
end
-- ==== Proof.MergePair.lean ====
module

public import proofs.«01_k».proof.Defs
public import proofs.«01_k».proof.Proof.MergeValue
public import proofs.«01_k».proof.Proof.Gen.MergeRefIdeal.Run

@[expose] public section

set_option maxRecDepth 16384

noncomputable section

open Idealize.ShloMosaic Idealize.ShloMosaic.TcCoe Idealize.SL.Sem

namespace Cert.MergePair
open Cert.Finite Cert.MergeRefIdeal Cert.MergeRefIdeal.Gen
open Cert.GateIdeal.Value (sg sg_real)
open Cert.MergeIdeal.Value (dm tA tB gA gB dgate F10 F11 F12 F13 F14 F15 F16 F17)

variable (A : FVec Ideal S4096x512 .f32) (B : FVec Ideal S4096x1024 .f32) (P : FVec Ideal S4096x2048 .f32) (G : FVec Ideal S1x2048 .f32)
  (U : FVec Ideal S512x1024 .f32) (W O : FVec Ideal S1024x1024 .f32) (C : FVec Ideal S4096x1024 .f32)

/-- The cotangent before the output product, the two branches, and the gates. -/
def stD : FVec Ideal S4096x1024 .f32 := Host.dotGeneral dot_S4096x1024_S1024x1024_S4096x1024_1_1_0_0_n_n none C O
def stA : FVec Ideal S4096x1024 .f32 := Host.dotGeneral dot_S4096x512_S512x1024_S4096x1024_1_0_0_1_n_n none A U
def stB : FVec Ideal S4096x1024 .f32 := Host.dotGeneral dot_S4096x1024_S1024x1024_S4096x1024_1_0_0_1_n_n none B W
def stS : FVec Ideal S4096x2x1024 .f32 :=
  Host.divf (broadcastInDim S4096x2x1024 ![] bcast_S_S4096x2x1024 (constant S_ .f32 0x3F800000#32)) (addf (broadcastInDim S4096x2x1024 ![] bcast_S_S4096x2x1024 (constant S_ .f32 0x3F800000#32)) (Host.exp (Host.negf (shapeCast _ (addf P (broadcastInDim S4096x2048 ![0, 1] bcast_S1x2048_S4096x2048_0_1 (broadcastInDim S1x2048 ![1] bcast_S2048_S1x2048_1 (shapeCast _ G shapeCasts_S1x2048_S2048)))) shapeCasts_S4096x2048_S4096x2x1024))))

/-- The two branches' cotangents, of the gates and the merged cotangent. -/
def stTa (S : FVec Ideal S4096x2x1024 .f32) (D : FVec Ideal S4096x1024 .f32) : FVec Ideal S4096x1024 .f32 :=
  mulf (shapeCast _ (extractStridedSlice S4096x1x1024 ![0, 0, 0] S slices_S4096x2x1024_S4096x1x1024_0_0_0) shapeCasts_S4096x1x1024_S4096x1024) D
def stTb (S : FVec Ideal S4096x2x1024 .f32) (D : FVec Ideal S4096x1024 .f32) : FVec Ideal S4096x1024 .f32 :=
  mulf (shapeCast _ (extractStridedSlice S4096x1x1024 ![0, 1, 0] S slices_S4096x2x1024_S4096x1x1024_0_1_0) shapeCasts_S4096x1x1024_S4096x1024) D

/-- The cotangent of the gates' arguments. -/
def stP (S : FVec Ideal S4096x2x1024 .f32) (D a b : FVec Ideal S4096x1024 .f32) : FVec Ideal S4096x2048 .f32 :=
  shapeCast _ (mulf (addf (pad S4096x2x1024 ![0, 1, 0] ![0, 0, 0] ![0, 0, 0] (broadcastInDim S4096x1x1024 ![0, 2] bcast_S4096x1024_S4096x1x1024_0_2 (mulf D b)) (constant S_ .f32 0x00000000#32) pads_S4096x1x1024_S4096x2x1024_000_100_000 h_S_) (pad S4096x2x1024 ![0, 0, 0] ![0, 1, 0] ![0, 0, 0] (broadcastInDim S4096x1x1024 ![0, 2] bcast_S4096x1024_S4096x1x1024_0_2 (mulf D a)) (constant S_ .f32 0x00000000#32) pads_S4096x1x1024_S4096x2x1024_000_010_000 h_S_)) (mulf S (subf (broadcastInDim S4096x2x1024 ![] bcast_S_S4096x2x1024 (constant S_ .f32 0x3F800000#32)) S))) shapeCasts_S4096x2x1024_S4096x2048

/-- The sum of the rows. -/
def stR (X : FVec Ideal S4096x2048 .f32) : FVec Ideal S1x2048 .f32 :=
  broadcastInDim S1x2048 ![1] bcast_S2048_S1x2048_1 (Host.reduceAdd (shapeCast _ (Host.reduceAdd X (constant S_ .f32 0x00000000#32) reducesTo_S4096x2048_S2048_d0 h_S_) shapeCasts_S2048_S1x2048) (constant S_ .f32 0x00000000#32) reducesTo_S1x2048_S2048_d0 h_S_)

theorem sg_eq (u : EReal) : Ideal.div 1 (1 + Ideal.exp (-u)) = sg u := by
  induction u with
  | bot =>
    have h1 : Ideal.exp (-(⊥ : EReal)) = ⊤ := rfl
    have h2 : Ideal.div 1 (⊤ : EReal) = 0 := by simp [Ideal.div]
    have h3 : Ideal.tanh (⊥ : EReal) = ((-1 : ℝ) : EReal) := rfl
    rw [h1, show (1 : EReal) + ⊤ = ⊤ from rfl, h2, sg, ofBits_half, EReal.coe_mul_bot_of_pos (by norm_num), h3, ← EReal.coe_mul, ← EReal.coe_add]
    norm_num
  | coe x =>
    rw [sg_real, ← EReal.coe_neg, Ideal.exp_coe, ← EReal.coe_one, ← EReal.coe_add, div_real (by positivity)]
  | top =>
    have h1 : Ideal.exp (-(⊤ : EReal)) = 0 := rfl
    have h3 : Ideal.tanh (⊤ : EReal) = ((1 : ℝ) : EReal) := rfl
    rw [h1, sg, ofBits_half, EReal.coe_mul_top_of_pos (by norm_num), h3, ← EReal.coe_mul, ← EReal.coe_add, add_zero, ← EReal.coe_one, div_real one_ne_zero]
    norm_num

theorem stD_at (r : Fin 4096) (n : Fin 1024) : stD O C (ix2 r n) = dm O C r n := by pointwise [stD, dm]
theorem stA_at (r : Fin 4096) (n : Fin 1024) : stA A U (ix2 r n) = tA A U r n := by pointwise [stA, tA]
theorem stB_at (r : Fin 4096) (n : Fin 1024) : stB B W (ix2 r n) = tB B W r n := by pointwise [stB, tB]

theorem stS_at (r : Fin 4096) (i : Fin 2) (n : Fin 1024) (h : i.val * 1024 + n.val < 2048) : stS P G (ix3 r i n) = sg (P (ix2 r ⟨i.val * 1024 + n.val, h⟩) + G (ix2 0 ⟨i.val * 1024 + n.val, h⟩)) := by
  rw [← sg_eq]
  pointwise [stS]

theorem stTa_at (S D) (r : Fin 4096) (n : Fin 1024) : stTa S D (ix2 r n) = S (ix3 r 0 n) * D (ix2 r n) := by pointwise [stTa]
theorem stTb_at (S D) (r : Fin 4096) (n : Fin 1024) : stTb S D (ix2 r n) = S (ix3 r 1 n) * D (ix2 r n) := by pointwise [stTb]

theorem stP_at0 (S D a b) (r : Fin 4096) (n : Fin 1024) (h : n.val < 2048) : stP S D a b (ix2 r ⟨n.val, h⟩)
    = (D (ix2 r n) * a (ix2 r n)) * (S (ix3 r 0 n) * (1 - S (ix3 r 0 n))) := by
  have e1 : n.val / 1024 = 0 := by omega
  have e2 : n.val % 1024 = n.val := by omega
  pointwise [stP]
  simp [e1, e2]

theorem stP_at1 (S D a b) (r : Fin 4096) (n : Fin 1024) (h : 1024 + n.val < 2048) : stP S D a b (ix2 r ⟨1024 + n.val, h⟩)
    = (D (ix2 r n) * b (ix2 r n)) * (S (ix3 r 1 n) * (1 - S (ix3 r 1 n))) := by
  have e1 : (1024 + n.val) / 1024 = 1 := by omega
  pointwise [stP]
  simp [e1]

theorem stR_at (X) (n : Fin 2048) : stR X (ix2 0 n) = ∑ r : Fin 4096, X (ix2 r n) := by
  pointwise [stR]
  simp

theorem gate0 (r : Fin 4096) (n : Fin 1024) : stS P G (ix3 r 0 n) = gA P G r n := by
  refine (stS_at P G r 0 n (by simp; omega)).trans ?_
  rw [gA]
  congr 4 <;> exact Fin.ext (by simp)

theorem gate1 (r : Fin 4096) (n : Fin 1024) : stS P G (ix3 r 1 n) = gB P G r n :=
  stS_at P G r 1 n (by simp; omega)

theorem eq10 : truncf .bf16 (stTa (stS P G) (stD O C)) bitsLt_bf16_f32 = F10 P G O C := by
  funext j
  idx_vars j
  exact (stTa_at _ _ j0 j1).trans (by rw [gate0, stD_at, mul_comm]; rfl)

theorem eq11 : truncf .bf16 (stTb (stS P G) (stD O C)) bitsLt_bf16_f32 = F11 P G O C := by
  funext j
  idx_vars j
  exact (stTb_at _ _ j0 j1).trans (by rw [gate1, stD_at, mul_comm]; rfl)

/-- The cotangent of the gates' arguments, in its two halves. -/
theorem half0 (r : Fin 4096) (n : Fin 1024) (h : n.val < 2048) : stP (stS P G) (stD O C) (stA A U) (stB B W) (ix2 r ⟨n.val, h⟩) = F12 A P G U O C (ix2 r n) := by
  rw [stP_at0, stD_at, stA_at, gate0, ← mul_assoc]
  rfl

theorem half1 (r : Fin 4096) (n : Fin 1024) (h : 1024 + n.val < 2048) : stP (stS P G) (stD O C) (stA A U) (stB B W) (ix2 r ⟨1024 + n.val, h⟩) = F13 B P G W O C (ix2 r n) := by
  rw [stP_at1, stD_at, stB_at, gate1, ← mul_assoc]
  rfl

theorem eq12 : truncf .bf16 (extractStridedSlice S4096x1024 ![0, 0] (stP (stS P G) (stD O C) (stA A U) (stB B W)) slices_S4096x2048_S4096x1024_0_0) bitsLt_bf16_f32 = F12 A P G U O C := by
  funext j
  idx_vars j
  refine Eq.trans ?_ (half0 A B P G U W O C j0 j1 (by omega))
  generalize stP (stS P G) (stD O C) (stA A U) (stB B W) = X
  pointwise

theorem eq13 : truncf .bf16 (extractStridedSlice S4096x1024 ![0, 1024] (stP (stS P G) (stD O C) (stA A U) (stB B W)) slices_S4096x2048_S4096x1024_0_1024) bitsLt_bf16_f32 = F13 B P G W O C := by
  funext j
  idx_vars j
  refine Eq.trans ?_ (half1 A B P G U W O C j0 j1 (by omega))
  generalize stP (stS P G) (stD O C) (stA A U) (stB B W) = X
  pointwise

theorem eq14 : truncf .bf16 (Host.dotGeneral dot_S4096x1024_S512x1024_S4096x512_1_1_0_0_n_n none (stTa (stS P G) (stD O C)) U) bitsLt_bf16_f32 = F14 P G U O C := by
  funext j
  idx_vars j
  rw [F14, ← eq10]
  generalize stTa (stS P G) (stD O C) = X
  pointwise

theorem eq15 : truncf .bf16 (Host.dotGeneral dot_S4096x1024_S1024x1024_S4096x1024_1_1_0_0_n_n none (stTb (stS P G) (stD O C)) W) bitsLt_bf16_f32 = F15 P G W O C := by
  funext j
  idx_vars j
  rw [F15, ← eq11]
  generalize stTb (stS P G) (stD O C) = X
  pointwise

theorem eq16 : extractStridedSlice S1x1024 ![0, 0] (stR (stP (stS P G) (stD O C) (stA A U) (stB B W))) slices_S1x2048_S1x1024_0_0 = F16 A P G U O C := by
  funext j
  idx_vars j
  obtain rfl : j0 = 0 := Subsingleton.elim _ _
  refine Eq.trans (b := stR (stP (stS P G) (stD O C) (stA A U) (stB B W)) (ix2 0 ⟨j1.val, by omega⟩)) ?_ ((stR_at _ _).trans (Finset.sum_congr rfl fun r _ => half0 A B P G U W O C r j1 _))
  generalize stR (stP (stS P G) (stD O C) (stA A U) (stB B W)) = X
  pointwise

theorem eq17 : extractStridedSlice S1x1024 ![0, 1024] (stR (stP (stS P G) (stD O C) (stA A U) (stB B W))) slices_S1x2048_S1x1024_0_1024 = F17 B P G W O C := by
  funext j
  idx_vars j
  obtain rfl : j0 = 0 := Subsingleton.elim _ _
  refine Eq.trans (b := stR (stP (stS P G) (stD O C) (stA A U) (stB B W)) (ix2 0 ⟨1024 + j1.val, by omega⟩)) ?_ ((stR_at _ _).trans (Finset.sum_congr rfl fun r _ => half1 A B P G U W O C r j1 _))
  generalize stR (stP (stS P G) (stD O C) (stA A U) (stB B W)) = X
  pointwise

set_option maxHeartbeats 4000000 in
/-- The gradients of the two gated branches are those of the forward lines. -/
theorem algebraic : Cert.algebraic_MergeIdeal_MergeRefIdeal (hMergeIdeal := Cert.MergeIdeal.Gen.facts) (hMergeRefIdeal := Cert.MergeRefIdeal.Gen.facts) := by
  pair_intro
  · run_from Cert.MergeIdeal.Gen.run_main m g
    · exact hc.1 16
    · exact hc.1 17
  · run_from Cert.MergeRefIdeal.Value.run m' g'
    · exact (eq10 _ _ _ _).trans (Cert.MergeIdeal.Value.final10 m c).symm
    · exact (eq11 _ _ _ _).trans (Cert.MergeIdeal.Value.final11 m c).symm
    · exact (eq12 _ _ _ _ _ _ _ _).trans (Cert.MergeIdeal.Value.final12 m c).symm
    · exact (eq13 _ _ _ _ _ _ _ _).trans (Cert.MergeIdeal.Value.final13 m c).symm
    · exact (eq14 _ _ _ _ _).trans (Cert.MergeIdeal.Value.final14 m c).symm
    · exact (eq15 _ _ _ _ _).trans (Cert.MergeIdeal.Value.final15 m c).symm
    · exact (eq16 _ _ _ _ _ _ _ _).trans (Cert.MergeIdeal.Value.final16 m c).symm
    · exact (eq17 _ _ _ _ _ _ _ _).trans (Cert.MergeIdeal.Value.final17 m c).symm

end Cert.MergePair
end
-- ==== Proof.NormReal.lean ====
module

public import proofs.«01_k».proof.Proof.Finite

@[expose] public section

noncomputable section

open Idealize.ShloMosaic

namespace Cert.Norm
open Cert.Finite

/-- The number the norm adds to the mean square. -/
def eps : ℝ := 8796093 / 8796093022208

theorem ofBits_eps : Ideal.ofBits .f32 0x358637BD#32 = ((eps : ℝ) : EReal) := by
  simp [Ideal.ofBits, Ideal.ieee, eps]
  rw [← EReal.coe_mul]
  norm_num

theorem ofBits_128 : Ideal.ofBits .f32 0x43000000#32 = ((128 : ℝ) : EReal) := by
  simp [Ideal.ofBits, Ideal.ieee]
  try rw [← EReal.coe_mul]
  try norm_num

theorem ofBits_1024 : Ideal.ofBits .f32 0x44800000#32 = ((1024 : ℝ) : EReal) := by
  simp [Ideal.ofBits, Ideal.ieee]
  try rw [← EReal.coe_mul]
  try norm_num

theorem ofBits_mhalf : Ideal.ofBits .f32 0xBF000000#32 = ((-(1 / 2) : ℝ) : EReal) := by
  simp [Ideal.ofBits, Ideal.ieee]
  try rw [← EReal.coe_mul]
  try norm_num

variable {n : ℕ} (N : ℝ) (x d : Fin n → ℝ)

/-- The mean square of a row with `eps` added, and the reciprocal root of it. -/
def ms : ℝ := (∑ j, x j * x j) / N + eps
def rr : ℝ := (Real.sqrt (ms N x))⁻¹

/-- The gradient of the normalised row, of the cotangent `d` already multiplied by the gain. -/
def dxr (i : Fin n) : ℝ := rr N x * (d i - x i * rr N x * ((∑ j, d j * (x j * rr N x)) / N))

theorem ms_pos (hN : 0 < N) : 0 < ms N x :=
  add_pos_of_nonneg_of_pos (div_nonneg (Finset.sum_nonneg fun j _ => mul_self_nonneg _) hN.le) (by unfold eps; norm_num)

theorem ms_real (hN : 0 < N) : Ideal.div (∑ j, (x j : EReal) * (x j : EReal)) (N : EReal) + (eps : EReal) = ((ms N x : ℝ) : EReal) := by
  simp only [← EReal.coe_mul, coe_sum, div_real hN.ne', ← EReal.coe_add]
  rfl

theorem rstd_real (hN : 0 < N) : Ideal.rsqrt ((ms N x : ℝ) : EReal) = ((rr N x : ℝ) : EReal) := by
  have h := ms_pos N x hN
  rw [Ideal.rsqrt_coe, if_neg h.not_gt, if_neg h.ne']
  rfl

/-- The gradient as the kernels form it. -/
theorem kform (hN : 0 < N) (i : Fin n) :
    (rr N x : EReal) * ((d i : EReal) - (x i : EReal) * (rr N x : EReal) * Ideal.div (∑ j, (d j : EReal) * ((x j : EReal) * (rr N x : EReal))) (N : EReal))
      = ((dxr N x d i : ℝ) : EReal) := by
  simp only [← EReal.coe_mul, coe_sum, div_real hN.ne', ← EReal.coe_sub]
  rfl

/-- The number the derivative of the reciprocal root brings in. -/
def ar : ℝ := (∑ j, x j * d j) * (-(1 / 2) * (rr N x / ms N x)) / N

theorem ar_real (hN : 0 < N) :
    Ideal.div ((∑ j, (x j : EReal) * (d j : EReal)) * (((-(1 / 2) : ℝ) : EReal) * Ideal.div (rr N x : EReal) (ms N x : EReal))) (N : EReal)
      = ((ar N x d : ℝ) : EReal) := by
  simp only [← EReal.coe_mul, coe_sum, div_real hN.ne', div_real (ms_pos N x hN).ne']
  rfl

theorem dx_eq (hN : 0 < N) (i : Fin n) : d i * rr N x + x i * ar N x d + ar N x d * x i = dxr N x d i := by
  have h := ms_pos N x hN
  have h1 : rr N x / ms N x = rr N x * rr N x * rr N x := by
    have h2 : ms N x = Real.sqrt (ms N x) * Real.sqrt (ms N x) := (Real.mul_self_sqrt h.le).symm
    have h3 : Real.sqrt (ms N x) ≠ 0 := (Real.sqrt_pos.mpr h).ne'
    unfold rr
    generalize Real.sqrt (ms N x) = s at *
    rw [h2]
    field_simp
  have h4 : (∑ j, d j * (x j * rr N x)) = (∑ j, x j * d j) * rr N x := by
    rw [Finset.sum_mul]
    exact Finset.sum_congr rfl fun j _ => by ring
  unfold dxr ar
  rw [h1, h4]
  ring

end Cert.Norm
end
-- ==== Proof.HeadValue.lean ====
module

public import proofs.«01_k».proof.Defs
public import proofs.«01_k».proof.Proof.Gen.HeadIdeal.Frame
public import proofs.«01_k».proof.Proof.Gen.HeadIdeal.Value
public import Idealize.ShloMosaic.Lib.Pipeline.ValueKit
public import proofs.«01_k».proof.Proof.NormReal

@[expose] public section

set_option maxRecDepth 16384

noncomputable section

open Idealize.ShloMosaic Idealize.ShloMosaic.TcCoe Idealize.SL.Sem
open Idealize.ShloMosaic.Pipeline (Dat)

namespace Cert.HeadIdeal.Value
open Cert.HeadIdeal Cert.HeadIdeal.Gen

variable (m : (ℓ : Loc nD τ sig) → Buf (Elt Ideal) ℓ)

theorem idx : ∀ t : Fin cfg0.N, win0_0.index t = ![0, t.val, 0]
    ∧ win0_1.index t = ![1, t.val, 0]
    ∧ win0_2.index t = ![2, t.val, 0]
    ∧ win0_3.index t = ![3, t.val, 0]
    ∧ win0_4.index t = ![0, 0, 0]
    ∧ win0_5.index t = ![1, 0, 0]
    ∧ win0_6.index t = ![2, 0, 0]
    ∧ win0_7.index t = ![3, 0, 0]
    ∧ win0_8.index t = ![t.val, 0]
    ∧ win0_9.index t = ![0, 0]
    ∧ win0_10.index t = ![t.val, 0]
    ∧ win0_11.index t = ![t.val, 0]
    ∧ win0_12.index t = ![t.val, 0]
    ∧ win0_13.index t = ![0, 0]
    ∧ win0_14.index t = ![0, 0] :=
  (by decide +kernel : ∀ t : Fin grid0.N, _)

variable (X : FVec Ideal S4096x1024 .f32) (A : FVec Ideal S4096x2816 .f32) (W : FVec Ideal S2816x1024 .f32) (G : FVec Ideal S1024 .f32) (Z : FVec Ideal S4096x1024 .f32)

/-- The last block's result. -/
def pr (r : Fin 4096) (n : Fin 1024) : EReal := ∑ k : Fin 2816, A (ix2 r k) * W (ix2 k n)
def yv (r : Fin 4096) (n : Fin 1024) : EReal := X (ix2 r n) + Ideal.ofBits .f32 0x3F000000#32 * pr A W r n

/-- The reciprocal root of a row's mean square. -/
def rs (r : Fin 4096) : EReal :=
  Ideal.rsqrt (Ideal.div (∑ k : Fin 1024, yv X A W r k * yv X A W r k) (Ideal.ofBits .f32 0x44800000#32) + Ideal.ofBits .f32 0x358637BD#32)

/-- The error and the cotangent of the norm's result. -/
def er (r : Fin 4096) (n : Fin 1024) : EReal := yv X A W r n * rs X A W r * G (ix1 n) - Z (ix2 r n)
def dy (r : Fin 4096) (n : Fin 1024) : EReal := er X A W G Z r n * Ideal.ofBits .f32 0x3A800000#32

/-- The arrays the kernel leaves. -/
def F11 : FVec Ideal S4096x1024 .f32 := fun y =>
  rs X A W (y 0) * (dy X A W G Z (y 0) (y 1) * G (ix1 (y 1)) - yv X A W (y 0) (y 1) * rs X A W (y 0)
    * Ideal.div (∑ k : Fin 1024, dy X A W G Z (y 0) k * G (ix1 k) * (yv X A W (y 0) k * rs X A W (y 0))) (Ideal.ofBits .f32 0x44800000#32))
def F12 : FVec Ideal S4096x1024 .bf16 := fun y => Ideal.ofBits .f32 0x3F000000#32 * F11 X A W G Z (ix2 (y 0) (y 1))
def F13 : FVec Ideal S1x1024 .f32 := fun y => ∑ s : Fin 8, (∑ r : Fin 512, er X A W G Z ⟨s.val * 512 + r.val, by omega⟩ (y 1) * er X A W G Z ⟨s.val * 512 + r.val, by omega⟩ (y 1)) * Ideal.ofBits .f32 0x3A000000#32
def F14 : FVec Ideal S1x1024 .f32 := fun y => ∑ r : Fin 4096, dy X A W G Z r (y 1) * (yv X A W r (y 1) * rs X A W r)

/-- The row of block `t`. -/
abbrev row (t : Fin cfg0.N) (r : Fin 512) : Fin 4096 := ⟨t.val * 512 + r.val, by have := lt_of_lt_of_eq t.isLt N_0; omega⟩

variable (c : Dev nD) (t : Fin cfg0.N)

abbrev aX : FVec Ideal S4096x1024 .f32 := m ((c : Thread nD τ).loc main_arg0)
abbrev aA : FVec Ideal S4096x2816 .f32 := m ((c : Thread nD τ).loc main_arg1)
abbrev aW : FVec Ideal S2816x1024 .f32 := m ((c : Thread nD τ).loc main_arg2)
abbrev aG : FVec Ideal S1024 .f32 := m ((c : Thread nD τ).loc main_arg3)
abbrev aZ : FVec Ideal S4096x1024 .f32 := m ((c : Thread nD τ).loc main_arg4)

theorem entry_v2 (j : Fin 4) (r : Fin 4096) (k : Fin 704) (hk : j.val * 704 + k.val < 2816) : (V m c main_v2 : FVec Ideal S4x4096x704 .bf16) (ix3 j r k)
    = aA m c (ix2 r ⟨j.val * 704 + k.val, hk⟩) := by
  entry_read
  pointwise

theorem entry_v4 (j : Fin 4) (k : Fin 704) (n : Fin 1024) (hk : j.val * 704 + k.val < 2816) : (V m c main_v4 : FVec Ideal S4x704x1024 .bf16) (ix3 j k n)
    = aW m c (ix2 ⟨j.val * 704 + k.val, hk⟩ n) := by
  entry_read
  pointwise

theorem entry_v5 (n : Fin 1024) : (V m c main_v5 : FVec Ideal S1x1024 .f32) (ix2 0 n) = aG m c (ix1 n) := by
  entry_read
  pointwise

theorem rd0 (r : Fin 512) (k : Fin 704) : (iblk m c 0 t : FVec Ideal S1x512x704 .bf16) (ix3 0 r k) = aA m c (ix2 (row t r) ⟨0 * 704 + k.val, by omega⟩) := by
  refine Eq.trans ?_ (entry_v2 m c 0 (row t r) k (by change 0 * 704 + k.val < 2816; omega))
  blk_ext [iblk, idx t]

theorem rd1 (r : Fin 512) (k : Fin 704) : (iblk m c 1 t : FVec Ideal S1x512x704 .bf16) (ix3 0 r k) = aA m c (ix2 (row t r) ⟨1 * 704 + k.val, by omega⟩) := by
  refine Eq.trans ?_ (entry_v2 m c 1 (row t r) k (by change 1 * 704 + k.val < 2816; omega))
  blk_ext [iblk, idx t]

theorem rd2 (r : Fin 512) (k : Fin 704) : (iblk m c 2 t : FVec Ideal S1x512x704 .bf16) (ix3 0 r k) = aA m c (ix2 (row t r) ⟨2 * 704 + k.val, by omega⟩) := by
  refine Eq.trans ?_ (entry_v2 m c 2 (row t r) k (by change 2 * 704 + k.val < 2816; omega))
  blk_ext [iblk, idx t]

theorem rd3 (r : Fin 512) (k : Fin 704) : (iblk m c 3 t : FVec Ideal S1x512x704 .bf16) (ix3 0 r k) = aA m c (ix2 (row t r) ⟨3 * 704 + k.val, by omega⟩) := by
  refine Eq.trans ?_ (entry_v2 m c 3 (row t r) k (by change 3 * 704 + k.val < 2816; omega))
  blk_ext [iblk, idx t]

theorem rd4 (k : Fin 704) (n : Fin 1024) : (iblk m c 4 t : FVec Ideal S1x704x1024 .bf16) (ix3 0 k n) = aW m c (ix2 ⟨0 * 704 + k.val, by omega⟩ n) := by
  refine Eq.trans ?_ (entry_v4 m c 0 k n (by change 0 * 704 + k.val < 2816; omega))
  blk_ext [iblk, idx t]

theorem rd5 (k : Fin 704) (n : Fin 1024) : (iblk m c 5 t : FVec Ideal S1x704x1024 .bf16) (ix3 0 k n) = aW m c (ix2 ⟨1 * 704 + k.val, by omega⟩ n) := by
  refine Eq.trans ?_ (entry_v4 m c 1 k n (by change 1 * 704 + k.val < 2816; omega))
  blk_ext [iblk, idx t]

theorem rd6 (k : Fin 704) (n : Fin 1024) : (iblk m c 6 t : FVec Ideal S1x704x1024 .bf16) (ix3 0 k n) = aW m c (ix2 ⟨2 * 704 + k.val, by omega⟩ n) := by
  refine Eq.trans ?_ (entry_v4 m c 2 k n (by change 2 * 704 + k.val < 2816; omega))
  blk_ext [iblk, idx t]

theorem rd7 (k : Fin 704) (n : Fin 1024) : (iblk m c 7 t : FVec Ideal S1x704x1024 .bf16) (ix3 0 k n) = aW m c (ix2 ⟨3 * 704 + k.val, by omega⟩ n) := by
  refine Eq.trans ?_ (entry_v4 m c 3 k n (by change 3 * 704 + k.val < 2816; omega))
  blk_ext [iblk, idx t]

theorem rd8 (r : Fin 512) (n : Fin 1024) : (iblk m c 8 t : FVec Ideal S512x1024 .f32) (ix2 r n) = aX m c (ix2 (row t r) n) := by
  refine Eq.trans ?_ (congrFun (V_main_arg0 m c) _)
  blk_ext [iblk, idx t]

theorem rd9 (n : Fin 1024) : (iblk m c 9 t : FVec Ideal S1x1024 .f32) (ix2 0 n) = aG m c (ix1 n) := by
  refine Eq.trans ?_ (entry_v5 m c n)
  blk_ext [iblk, idx t]

theorem rd10 (r : Fin 512) (n : Fin 1024) : (iblk m c 10 t : FVec Ideal S512x1024 .f32) (ix2 r n) = aZ m c (ix2 (row t r) n) := by
  refine Eq.trans ?_ (congrFun (V_main_arg4 m c) _)
  blk_ext [iblk, idx t]

/-- The partial products of the kernel. -/
def pp (x : Vec Ideal S1x512x704 .bf16) (y : Vec Ideal S1x704x1024 .bf16) (r : Fin 512) (n : Fin 1024) : EReal := ∑ k : Fin 704, x (ix3 0 r k) * y (ix3 0 k n)

theorem pay5_at (x0 x1 x2 x3 : Vec Ideal S1x512x704 .bf16) (y0 y1 y2 y3 : Vec Ideal S1x704x1024 .bf16) (r : Fin 512) (n : Fin 1024) :
    k0_pay5 (F := Ideal) x0 y0 x1 y1 x2 y2 x3 y3 (ix2 r n) = pp x0 y0 r n + pp x1 y1 r n + pp x2 y2 r n + pp x3 y3 r n := by
  pointwise [k0_pay5, pp]

/-- A sum over the middle columns, in the four parts the kernel adds. -/
theorem four (f : Fin 2816 → EReal) : (∑ k : Fin 704, f ⟨0 * 704 + k.val, by omega⟩) + (∑ k : Fin 704, f ⟨1 * 704 + k.val, by omega⟩)
    + (∑ k : Fin 704, f ⟨2 * 704 + k.val, by omega⟩) + (∑ k : Fin 704, f ⟨3 * 704 + k.val, by omega⟩) = ∑ k, f k := by
  have h := Fintype.sum_equiv (finProdFinEquiv (m := 4) (n := 704)) (fun p => f ⟨p.1.val * 704 + p.2.val, by omega⟩) f
    (fun p => congrArg f (Fin.ext (by simp [finProdFinEquiv]; omega)))
  rw [← h, Fintype.sum_prod_type, Fin.sum_univ_four]
  rfl

theorem pr_at (r : Fin 512) (n : Fin 1024) :
    k0_pay5 (F := Ideal) (iblk m c 0 t) (iblk m c 4 t) (iblk m c 1 t) (iblk m c 5 t) (iblk m c 2 t) (iblk m c 6 t) (iblk m c 3 t) (iblk m c 7 t) (ix2 r n)
      = pr (aA m c) (aW m c) (row t r) n := by
  rw [pay5_at, pr, ← four]
  have e0 : pp (iblk m c 0 t) (iblk m c 4 t) r n = ∑ k : Fin 704, aA m c (ix2 (row t r) ⟨0 * 704 + k.val, by omega⟩) * aW m c (ix2 ⟨0 * 704 + k.val, by omega⟩ n) :=
    Finset.sum_congr rfl fun k _ => congrArg₂ (· * ·) (rd0 m c t r k) (rd4 m c t k n)
  have e1 : pp (iblk m c 1 t) (iblk m c 5 t) r n = ∑ k : Fin 704, aA m c (ix2 (row t r) ⟨1 * 704 + k.val, by omega⟩) * aW m c (ix2 ⟨1 * 704 + k.val, by omega⟩ n) :=
    Finset.sum_congr rfl fun k _ => congrArg₂ (· * ·) (rd1 m c t r k) (rd5 m c t k n)
  have e2 : pp (iblk m c 2 t) (iblk m c 6 t) r n = ∑ k : Fin 704, aA m c (ix2 (row t r) ⟨2 * 704 + k.val, by omega⟩) * aW m c (ix2 ⟨2 * 704 + k.val, by omega⟩ n) :=
    Finset.sum_congr rfl fun k _ => congrArg₂ (· * ·) (rd2 m c t r k) (rd6 m c t k n)
  have e3 : pp (iblk m c 3 t) (iblk m c 7 t) r n = ∑ k : Fin 704, aA m c (ix2 (row t r) ⟨3 * 704 + k.val, by omega⟩) * aW m c (ix2 ⟨3 * 704 + k.val, by omega⟩ n) :=
    Finset.sum_congr rfl fun k _ => congrArg₂ (· * ·) (rd3 m c t r k) (rd7 m c t k n)
  rw [e0, e1, e2, e3]

section payloads
variable (v : FVec Ideal S512x1024 .f32) (x : Vec Ideal S512x1024 .f32) (g : Vec Ideal S1x1024 .f32) (z : Vec Ideal S512x1024 .f32)

theorem pay7_at (r : Fin 512) (n : Fin 1024) : k0_pay7 (F := Ideal) v x (ix2 r n) = x (ix2 r n) + Ideal.ofBits .f32 0x3F000000#32 * v (ix2 r n) := by
  pointwise [k0_pay7]

theorem pay8_at (r : Fin 512) : k0_pay8 (F := Ideal) v x (ix2 r 0)
    = Ideal.rsqrt (Ideal.div (∑ k : Fin 1024, k0_pay7 (F := Ideal) v x (ix2 r k) * k0_pay7 (F := Ideal) v x (ix2 r k)) (Ideal.ofBits .f32 0x44800000#32) + Ideal.ofBits .f32 0x358637BD#32) := by
  generalize hy : k0_pay7 (F := Ideal) v x = y
  pointwise [k0_pay8, hy]

theorem pay9_at (r : Fin 512) (n : Fin 1024) : k0_pay9 (F := Ideal) v x (ix2 r n) = k0_pay7 (F := Ideal) v x (ix2 r n) * k0_pay8 (F := Ideal) v x (ix2 r 0) := by
  generalize hy : k0_pay7 (F := Ideal) v x = y
  generalize hs : k0_pay8 (F := Ideal) v x = s
  pointwise [k0_pay9, hy, hs]

theorem pay10_at (r : Fin 512) (n : Fin 1024) : k0_pay10 (F := Ideal) v x (k0_pay6 g) z (ix2 r n) = k0_pay9 (F := Ideal) v x (ix2 r n) * g (ix2 0 n) - z (ix2 r n) := by
  generalize hy : k0_pay9 (F := Ideal) v x = y
  pointwise [k0_pay10, k0_pay6, hy]

theorem pay11_at (r : Fin 512) (n : Fin 1024) : k0_pay11 (F := Ideal) v x (k0_pay6 g) z (ix2 r n) = k0_pay10 (F := Ideal) v x (k0_pay6 g) z (ix2 r n) * Ideal.ofBits .f32 0x3A800000#32 := by
  generalize hy : k0_pay10 (F := Ideal) v x (k0_pay6 g) z = y
  pointwise [k0_pay11, hy]

theorem pay6_eq : k0_pay6 (F := Ideal) g = g := by
  funext j
  idx_vars j
  pointwise [k0_pay6]

theorem pay12_at (r : Fin 512) (n : Fin 1024) : k0_pay12 (F := Ideal) v x (k0_pay6 g) z (ix2 r n)
    = k0_pay8 (F := Ideal) v x (ix2 r 0) * (k0_pay11 (F := Ideal) v x (k0_pay6 g) z (ix2 r n) * g (ix2 0 n) - k0_pay9 (F := Ideal) v x (ix2 r n)
      * Ideal.div (∑ k : Fin 1024, k0_pay11 (F := Ideal) v x (k0_pay6 g) z (ix2 r k) * g (ix2 0 k) * k0_pay9 (F := Ideal) v x (ix2 r k)) (Ideal.ofBits .f32 0x44800000#32)) := by
  rw [pay6_eq]
  generalize hy : k0_pay11 (F := Ideal) v x g z = y
  generalize hs : k0_pay8 (F := Ideal) v x = s
  generalize hw : k0_pay9 (F := Ideal) v x = w
  pointwise [k0_pay12, hy, hs, hw]

theorem pay15_at (r : Fin 512) (n : Fin 1024) : k0_pay15 (F := Ideal) v x (k0_pay6 g) z (ix2 r n) = Ideal.ofBits .f32 0x3F000000#32 * k0_pay12 (F := Ideal) v x (k0_pay6 g) z (ix2 r n) := by
  generalize hy : k0_pay12 (F := Ideal) v x (k0_pay6 g) z = y
  pointwise [k0_pay15, hy]

theorem pay13_at (a : Vec Ideal S1x1024 .f32) (n : Fin 1024) : k0_pay2 (F := Ideal) (k0_pay13 v x (k0_pay6 g) z) a (ix2 0 n)
    = a (ix2 0 n) + (∑ r : Fin 512, k0_pay10 (F := Ideal) v x (k0_pay6 g) z (ix2 r n) * k0_pay10 (F := Ideal) v x (k0_pay6 g) z (ix2 r n)) * Ideal.ofBits .f32 0x3A000000#32 := by
  generalize hy : k0_pay10 (F := Ideal) v x (k0_pay6 g) z = y
  pointwise [k0_pay2, k0_pay13, hy]

theorem pay14_at (a : Vec Ideal S1x1024 .f32) (n : Fin 1024) : k0_pay4 (F := Ideal) (k0_pay14 v x (k0_pay6 g) z) a (ix2 0 n)
    = a (ix2 0 n) + ∑ r : Fin 512, k0_pay11 (F := Ideal) v x (k0_pay6 g) z (ix2 r n) * k0_pay9 (F := Ideal) v x (ix2 r n) := by
  generalize hy : k0_pay11 (F := Ideal) v x (k0_pay6 g) z = y
  generalize hw : k0_pay9 (F := Ideal) v x = w
  pointwise [k0_pay4, k0_pay14, hy, hw]

end payloads

variable (v : FVec Ideal S512x1024 .f32) (hv : ∀ r n, v (ix2 r n) = pr (aA m c) (aW m c) (row t r) n)
include hv

/-- What the kernel forms of a block, of the product `v`. -/
theorem y_at (r : Fin 512) (n : Fin 1024) : k0_pay7 (F := Ideal) v (iblk m c 8 t) (ix2 r n) = yv (aX m c) (aA m c) (aW m c) (row t r) n := by
  rw [pay7_at, hv, rd8]; rfl

theorem rs_at (r : Fin 512) : k0_pay8 (F := Ideal) v (iblk m c 8 t) (ix2 r 0) = rs (aX m c) (aA m c) (aW m c) (row t r) := by
  rw [pay8_at]
  simp only [y_at m c t v hv]; rfl

theorem xh_at (r : Fin 512) (n : Fin 1024) : k0_pay9 (F := Ideal) v (iblk m c 8 t) (ix2 r n) = yv (aX m c) (aA m c) (aW m c) (row t r) n * rs (aX m c) (aA m c) (aW m c) (row t r) := by
  rw [pay9_at, y_at m c t v hv, rs_at m c t v hv]

theorem er_at (r : Fin 512) (n : Fin 1024) : k0_pay10 (F := Ideal) v (iblk m c 8 t) (k0_pay6 (iblk m c 9 t)) (iblk m c 10 t) (ix2 r n) = er (aX m c) (aA m c) (aW m c) (aG m c) (aZ m c) (row t r) n := by
  rw [pay10_at, xh_at m c t v hv, rd9, rd10]; rfl

theorem dy_at (r : Fin 512) (n : Fin 1024) : k0_pay11 (F := Ideal) v (iblk m c 8 t) (k0_pay6 (iblk m c 9 t)) (iblk m c 10 t) (ix2 r n) = dy (aX m c) (aA m c) (aW m c) (aG m c) (aZ m c) (row t r) n := by
  rw [pay11_at, er_at m c t v hv]; rfl

theorem b11 (r : Fin 512) (n : Fin 1024) : k0_pay12 (F := Ideal) v (iblk m c 8 t) (k0_pay6 (iblk m c 9 t)) (iblk m c 10 t) (ix2 r n) = F11 (aX m c) (aA m c) (aW m c) (aG m c) (aZ m c) (ix2 (row t r) n) := by
  rw [pay12_at, rs_at m c t v hv, dy_at m c t v hv, xh_at m c t v hv, rd9]
  have e : (∑ k : Fin 1024, k0_pay11 (F := Ideal) v (iblk m c 8 t) (k0_pay6 (iblk m c 9 t)) (iblk m c 10 t) (ix2 r k) * (iblk m c 9 t : FVec Ideal S1x1024 .f32) (ix2 0 k) * k0_pay9 (F := Ideal) v (iblk m c 8 t) (ix2 r k) : EReal)
      = ∑ k : Fin 1024, dy (aX m c) (aA m c) (aW m c) (aG m c) (aZ m c) (row t r) k * aG m c (ix1 k) * (yv (aX m c) (aA m c) (aW m c) (row t r) k * rs (aX m c) (aA m c) (aW m c) (row t r)) :=
    Finset.sum_congr rfl fun k _ => congrArg₂ (· * ·) (congrArg₂ (· * ·) (dy_at m c t v hv r k) (rd9 m c t k)) (xh_at m c t v hv r k)
  rw [e]; rfl

theorem b12 (r : Fin 512) (n : Fin 1024) : k0_pay15 (F := Ideal) v (iblk m c 8 t) (k0_pay6 (iblk m c 9 t)) (iblk m c 10 t) (ix2 r n) = F12 (aX m c) (aA m c) (aW m c) (aG m c) (aZ m c) (ix2 (row t r) n) := by
  rw [pay15_at, b11 m c t v hv]; rfl

theorem b13 (a : Vec Ideal S1x1024 .f32) (n : Fin 1024) : k0_pay2 (F := Ideal) (k0_pay13 v (iblk m c 8 t) (k0_pay6 (iblk m c 9 t)) (iblk m c 10 t)) a (ix2 0 n)
    = a (ix2 0 n) + (∑ r : Fin 512, er (aX m c) (aA m c) (aW m c) (aG m c) (aZ m c) (row t r) n * er (aX m c) (aA m c) (aW m c) (aG m c) (aZ m c) (row t r) n) * Ideal.ofBits .f32 0x3A000000#32 := by
  rw [pay13_at]
  simp only [er_at m c t v hv]

theorem b14 (a : Vec Ideal S1x1024 .f32) (n : Fin 1024) : k0_pay4 (F := Ideal) (k0_pay14 v (iblk m c 8 t) (k0_pay6 (iblk m c 9 t)) (iblk m c 10 t)) a (ix2 0 n)
    = a (ix2 0 n) + ∑ r : Fin 512, dy (aX m c) (aA m c) (aW m c) (aG m c) (aZ m c) (row t r) n * (yv (aX m c) (aA m c) (aW m c) (row t r) n * rs (aX m c) (aA m c) (aW m c) (row t r)) := by
  rw [pay14_at]
  simp only [dy_at m c t v hv, xh_at m c t v hv]

omit hv

theorem final11 : (dats m 0 c).arrAt 11 cfg0.N = F11 (aX m c) (aA m c) (aW m c) (aG m c) (aZ m c) := by
  refine (dats m 0 c).arrAt_eq_of_covers 11 _ (by decide +kernel) fun t hf y => ?_
  have ht := lt_of_lt_of_eq t.isLt N_0
  blk_simp
  rw [after0_11]
  by_cases h0 : t.val % 8 = 0
  · rw [outsAt0_A m c t h0 h0]
    frame_out
    idx_vars y
    refine (b11 m c t _ (pr_at m c t) y0 y1).trans (congrArg (F11 (aX m c) (aA m c) (aW m c) (aG m c) (aZ m c)) ?_)
    blk_ext [idx t]
  · rw [outsAt0_B m c t h0 h0]
    frame_out
    idx_vars y
    refine (b11 m c t _ (pr_at m c t) y0 y1).trans (congrArg (F11 (aX m c) (aA m c) (aW m c) (aG m c) (aZ m c)) ?_)
    blk_ext [idx t]

theorem final12 : (dats m 0 c).arrAt 12 cfg0.N = F12 (aX m c) (aA m c) (aW m c) (aG m c) (aZ m c) := by
  refine (dats m 0 c).arrAt_eq_of_covers 12 _ (by decide +kernel) fun t hf y => ?_
  have ht := lt_of_lt_of_eq t.isLt N_0
  blk_simp
  rw [after0_12]
  by_cases h0 : t.val % 8 = 0
  · rw [outsAt0_A m c t h0 h0]
    frame_out
    idx_vars y
    refine (b12 m c t _ (pr_at m c t) y0 y1).trans (congrArg (F12 (aX m c) (aA m c) (aW m c) (aG m c) (aZ m c)) ?_)
    blk_ext [idx t]
  · rw [outsAt0_B m c t h0 h0]
    frame_out
    idx_vars y
    refine (b12 m c t _ (pr_at m c t) y0 y1).trans (congrArg (F12 (aX m c) (aA m c) (aW m c) (aG m c) (aZ m c)) ?_)
    blk_ext [idx t]

/-- A sum over all rows, in the blocks' sums. -/
theorem rows (f : Fin 4096 → EReal) : (∑ s : Fin 8, ∑ r : Fin 512, f ⟨s.val * 512 + r.val, by omega⟩) = ∑ r, f r := by
  have e := Fintype.sum_equiv (finProdFinEquiv (m := 8) (n := 512)) (fun p => f ⟨p.1.val * 512 + p.2.val, by omega⟩) f
    (fun p => congrArg f (Fin.ext (by simp [finProdFinEquiv]; omega)))
  rw [← e, Fintype.sum_prod_type]

theorem rows_sum (f : Fin 4096 → EReal) (t : Fin cfg0.N) (ht : t.val = 7) (h : ∀ s : Fin 8, 8 * (t.val / 8) + s.val < cfg0.N) :
    (∑ s : Fin 8, ∑ r : Fin 512, f (row ⟨8 * (t.val / 8) + s.val, h s⟩ r)) = ∑ r, f r := by
  rw [← rows]
  refine Finset.sum_congr rfl fun s _ => Finset.sum_congr rfl fun r _ => congrArg f (Fin.ext ?_)
  simp only [ht]; omega

theorem rows_scale (f : Fin 4096 → EReal) (z : EReal) (t : Fin cfg0.N) (ht : t.val = 7) (h : ∀ s : Fin 8, 8 * (t.val / 8) + s.val < cfg0.N) :
    (∑ s : Fin 8, (∑ r : Fin 512, f (row ⟨8 * (t.val / 8) + s.val, h s⟩ r)) * z) = ∑ s : Fin 8, (∑ r : Fin 512, f ⟨s.val * 512 + r.val, by omega⟩) * z := by
  refine Finset.sum_congr rfl fun s _ => congrArg (· * z) (Finset.sum_congr rfl fun r _ => congrArg f (Fin.ext ?_))
  simp only [ht]; omega

theorem final13 : (dats m 0 c).arrAt 13 cfg0.N = F13 (aX m c) (aA m c) (aW m c) (aG m c) (aZ m c) := by
  refine (dats m 0 c).arrAt_eq_of_covers 13 _ (by decide +kernel) fun t hf y => ?_
  have ht := lt_of_lt_of_eq t.isLt N_0
  blk_simp
  rw [after0_13, Pipeline.eq_sum_fin_of_reset_step_apply_of_flush (fun n h => (outsAt0 m c n h).2.2.1) 8 (fun _ => 0)
    (fun t y => (∑ r : Fin 512, er (aX m c) (aA m c) (aW m c) (aG m c) (aZ m c) (row t r) (y 1) * er (aX m c) (aA m c) (aW m c) (aG m c) (aZ m c) (row t r) (y 1)) * Ideal.ofBits .f32 0x3A000000#32)
    (fun t h j => by
      rw [outsAt0_A m c t h h]; frame_out
      idx_vars j
      obtain rfl : j0 = 0 := Subsingleton.elim _ _
      rw [b13 m c t _ (pr_at m c t)]
      refine congrArg (· + _) ?_
      pointwise [k0_pay1])
    (fun t h j => by
      rw [outsAt0_B m c t h h]; frame_out
      idx_vars j
      obtain rfl : j0 = 0 := Subsingleton.elim _ _
      exact b13 m c t _ (pr_at m c t) _ j1)
    t ((flush0_13 t).mp hf) _, zero_add]
  idx_vars y
  have h15 := (flush0_13 t).mp hf
  refine (rows_scale (fun r => er (aX m c) (aA m c) (aW m c) (aG m c) (aZ m c) r y1 * er (aX m c) (aA m c) (aW m c) (aG m c) (aZ m c) r y1) _ t (by omega) _).trans ?_
  refine Eq.trans (b := F13 (aX m c) (aA m c) (aW m c) (aG m c) (aZ m c) (ix2 0 y1)) rfl (congrArg (F13 (aX m c) (aA m c) (aW m c) (aG m c) (aZ m c)) ?_)
  blk_ext [idx t]

theorem final14 : (dats m 0 c).arrAt 14 cfg0.N = F14 (aX m c) (aA m c) (aW m c) (aG m c) (aZ m c) := by
  refine (dats m 0 c).arrAt_eq_of_covers 14 _ (by decide +kernel) fun t hf y => ?_
  have ht := lt_of_lt_of_eq t.isLt N_0
  blk_simp
  rw [after0_14, Pipeline.eq_sum_fin_of_reset_step_apply_of_flush (fun n h => (outsAt0 m c n h).2.2.2) 8 (fun _ => 0)
    (fun t y => ∑ r : Fin 512, dy (aX m c) (aA m c) (aW m c) (aG m c) (aZ m c) (row t r) (y 1) * (yv (aX m c) (aA m c) (aW m c) (row t r) (y 1) * rs (aX m c) (aA m c) (aW m c) (row t r)))
    (fun t h j => by
      rw [outsAt0_A m c t h h]; frame_out
      idx_vars j
      obtain rfl : j0 = 0 := Subsingleton.elim _ _
      rw [b14 m c t _ (pr_at m c t)]
      refine congrArg (· + _) ?_
      pointwise [k0_pay3])
    (fun t h j => by
      rw [outsAt0_B m c t h h]; frame_out
      idx_vars j
      obtain rfl : j0 = 0 := Subsingleton.elim _ _
      exact b14 m c t _ (pr_at m c t) _ j1)
    t ((flush0_14 t).mp hf) _, zero_add]
  idx_vars y
  have h15 := (flush0_14 t).mp hf
  refine (rows_sum (fun r => dy (aX m c) (aA m c) (aW m c) (aG m c) (aZ m c) r y1 * (yv (aX m c) (aA m c) (aW m c) r y1 * rs (aX m c) (aA m c) (aW m c) r)) t (by omega) _).trans ?_
  refine Eq.trans (b := F14 (aX m c) (aA m c) (aW m c) (aG m c) (aZ m c) (ix2 0 y1)) rfl (congrArg (F14 (aX m c) (aA m c) (aW m c) (aG m c) (aZ m c)) ?_)
  blk_ext [idx t]

end Cert.HeadIdeal.Value
end
-- ==== Proof.HeadStage.lean ====
module

public import proofs.«01_k».proof.Defs
public import proofs.«01_k».proof.Proof.HeadValue
public import proofs.«01_k».proof.Proof.Gen.HeadRefIdeal.Run
public import proofs.«01_k».proof.Proof.Gen.Pre_head_finite

@[expose] public section

set_option maxRecDepth 16384

noncomputable section

open Idealize.ShloMosaic Idealize.ShloMosaic.TcCoe Idealize.SL.Sem

namespace Cert.HeadPair
open Cert.Finite Cert.HeadRefIdeal Cert.HeadRefIdeal.Gen Cert.HeadRefIdeal.Value Cert.Norm
open Cert.HeadIdeal.Value (pr yv rs er dy F11 F12 F13 F14 rows)

variable (X : FVec Ideal S4096x1024 .f32) (A : FVec Ideal S4096x2816 .f32) (W : FVec Ideal S2816x1024 .f32) (G : FVec Ideal S1024 .f32) (Z : FVec Ideal S4096x1024 .f32)

/-- The last block's result. -/
def stY : FVec Ideal S4096x1024 .f32 :=
  addf X (mulf (broadcastInDim S4096x1024 ![] bcast_S_S4096x1024 (constant S_ .f32 0x3F000000#32)) (Host.dotGeneral dot_S4096x2816_S2816x1024_S4096x1024_1_0_0_1_n_n none A W))

variable (Y : FVec Ideal S4096x1024 .f32)

/-- The mean square of each row with the small number added, and the reciprocal root in every column. -/
def stU : FVec Ideal S4096x1 .f32 :=
  addf (Host.divf (broadcastInDim S4096x1 ![0] bcast_S4096_S4096x1_0 (Host.reduceAdd (mulf Y Y) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))
def stB (U : FVec Ideal S4096x1 .f32) : FVec Ideal S4096x1024 .f32 := broadcastInDim S4096x1024 ![0, 1] bcast_S4096x1_S4096x1024_0_1 (Host.rsqrt U)

/-- The gain in every row, and the error. -/
def stW : FVec Ideal S4096x1024 .f32 := broadcastInDim S4096x1024 ![0, 1] bcast_S1x1024_S4096x1024_0_1 (broadcastInDim S1x1024 ![1] bcast_S1024_S1x1024_1 G)
def stE (B : FVec Ideal S4096x1024 .f32) : FVec Ideal S4096x1024 .f32 := subf (mulf (mulf Y B) (stW G)) Z

/-- The cotangent of the norm's result. -/
def stD (E : FVec Ideal S4096x1024 .f32) : FVec Ideal S4096x1024 .f32 :=
  mulf (addf (broadcastInDim S4096x1024 ![] bcast_S_S4096x1024 (constant S_ .f32 0x00000000#32)) (broadcastInDim S4096x1024 ![0] bcast_S4096_S4096x1024_0 (Host.divf
      (broadcastInDim S4096 ![] bcast_S_S4096 (mulf (constant S_ .f32 0x3F000000#32) (constant S_ .f32 0x3F800000#32))) (broadcastInDim S4096 ![] bcast_S_S4096 (constant S_ .f32 0x44800000#32)))))
    (mulf (broadcastInDim S4096x1024 ![] bcast_S_S4096x1024 (constant S_ .f32 0x40000000#32)) E)

/-- What the derivative of the reciprocal root brings in, in every column. -/
def stA (U : FVec Ideal S4096x1 .f32) (Q : FVec Ideal S4096x1024 .f32) : FVec Ideal S4096x1024 .f32 :=
  broadcastInDim S4096x1024 ![0] bcast_S4096_S4096x1024_0 (Host.reduceAdd (Host.divf (mulf
    (shapeCast _ (Host.reduceAdd (mulf Y Q) (constant S_ .f32 0x00000000#32) reducesTo_S4096x1024_S4096_d1 h_S_) shapeCasts_S4096_S4096x1)
    (mulf (broadcastInDim S4096x1 ![] bcast_S_S4096x1 (constant S_ .f32 0xBF000000#32)) (Host.divf (Host.rsqrt U) U)))
    (broadcastInDim S4096x1 ![] bcast_S_S4096x1 (constant S_ .f32 0x44800000#32))) (constant S_ .f32 0x00000000#32) reducesTo_S4096x1_S4096_d1 h_S_)

/-- The gradient of the rows, the columns of the loss, and the gain's gradient. -/
def stX (B Q C : FVec Ideal S4096x1024 .f32) : FVec Ideal S4096x1024 .f32 := addf (addf (mulf Q B) (mulf Y C)) (mulf C Y)
def stL (E : FVec Ideal S4096x1024 .f32) : FVec Ideal S1x1024 .f32 :=
  mulf (broadcastInDim S1x1024 ![] bcast_S_S1x1024 (constant S_ .f32 0x3A000000#32)) (broadcastInDim S1x1024 ![1] bcast_S1024_S1x1024_1 (Host.reduceAdd (mulf E E) (constant S_ .f32 0x00000000#32) reducesTo_S4096x1024_S1024_d0 h_S_))
def stG (B D : FVec Ideal S4096x1024 .f32) : FVec Ideal S1x1024 .f32 :=
  broadcastInDim S1x1024 ![1] bcast_S1024_S1x1024_1 (Host.reduceAdd (shapeCast _ (Host.reduceAdd (mulf (mulf Y B) D) (constant S_ .f32 0x00000000#32) reducesTo_S4096x1024_S1024_d0 h_S_) shapeCasts_S1024_S1x1024)
    (constant S_ .f32 0x00000000#32) reducesTo_S1x1024_S1024_d0 h_S_)

/-- The error, the cotangent and the rows' gradient of the arguments. -/
def allE : FVec Ideal S4096x1024 .f32 := stE G Z (stY X A W) (stB (stU (stY X A W)))
def allQ : FVec Ideal S4096x1024 .f32 := mulf (stD (allE X A W G Z)) (stW G)
def all : FVec Ideal S4096x1024 .f32 := stX (stY X A W) (stB (stU (stY X A W))) (allQ X A W G Z) (stA (stY X A W) (stU (stY X A W)) (allQ X A W G Z))

/-- Half of an array, and the array itself, in the short format. -/
def stV (Y : FVec Ideal S4096x1024 .f32) : FVec Ideal S4096x1024 .bf16 :=
  truncf .bf16 (mulf (broadcastInDim S4096x1024 ![] bcast_S_S4096x1024 (constant S_ .f32 0x3F000000#32)) Y) bitsLt_bf16_f32

theorem stY_at (r : Fin 4096) (n : Fin 1024) : stY X A W (ix2 r n) = yv X A W r n := by
  rw [yv, pr]
  pointwise [stY]

theorem stU_at (r : Fin 4096) : stU Y (ix2 r 0) = Ideal.div (∑ k : Fin 1024, Y (ix2 r k) * Y (ix2 r k)) (Ideal.ofBits .f32 0x44800000#32) + Ideal.ofBits .f32 0x358637BD#32 := by
  pointwise [stU]

theorem stB_at (U : FVec Ideal S4096x1 .f32) (r : Fin 4096) (n : Fin 1024) : stB U (ix2 r n) = Ideal.rsqrt (U (ix2 r 0)) := by
  pointwise [stB]

theorem stW_at (r : Fin 4096) (n : Fin 1024) : stW G (ix2 r n) = G (ix1 n) := by
  pointwise [stW]

theorem stE_at (B : FVec Ideal S4096x1024 .f32) (r : Fin 4096) (n : Fin 1024) : stE G Z Y B (ix2 r n) = Y (ix2 r n) * B (ix2 r n) * G (ix1 n) - Z (ix2 r n) := by
  rw [← stW_at G r n]
  unfold stE
  generalize stW G = w
  pointwise

theorem two (e : EReal) : (0 + Ideal.div (Ideal.ofBits .f32 0x3F000000#32 * 1) (Ideal.ofBits .f32 0x44800000#32)) * (Ideal.ofBits .f32 0x40000000#32 * e) = e * Ideal.ofBits .f32 0x3A800000#32 := by
  have h2 : Ideal.ofBits .f32 0x40000000#32 = ((2 : ℝ) : EReal) := by simp [Ideal.ofBits, Ideal.ieee] <;> (try rw [← EReal.coe_mul]) <;> (try norm_num)
  have h3 : Ideal.ofBits .f32 0x3A800000#32 = ((1 / 1024 : ℝ) : EReal) := by simp [Ideal.ofBits, Ideal.ieee] <;> (try rw [← EReal.coe_mul]) <;> (try norm_num)
  rw [h2, h3, ofBits_half, ofBits_1024, mul_one, zero_add, div_real (by norm_num), ← mul_assoc, ← EReal.coe_mul, mul_comm]
  norm_num

theorem stD_at (E : FVec Ideal S4096x1024 .f32) (r : Fin 4096) (n : Fin 1024) : stD E (ix2 r n) = E (ix2 r n) * Ideal.ofBits .f32 0x3A800000#32 := by
  rw [← two]
  pointwise [stD]

theorem stA_at (U : FVec Ideal S4096x1 .f32) (Q : FVec Ideal S4096x1024 .f32) (r : Fin 4096) (n : Fin 1024) :
    stA Y U Q (ix2 r n) = Ideal.div ((∑ k : Fin 1024, Y (ix2 r k) * Q (ix2 r k)) * (Ideal.ofBits .f32 0xBF000000#32 * Ideal.div (Ideal.rsqrt (U (ix2 r 0))) (U (ix2 r 0)))) (Ideal.ofBits .f32 0x44800000#32) := by
  pointwise [stA]
  simp

theorem stX_at (B Q C : FVec Ideal S4096x1024 .f32) (r : Fin 4096) (n : Fin 1024) :
    stX Y B Q C (ix2 r n) = Q (ix2 r n) * B (ix2 r n) + Y (ix2 r n) * C (ix2 r n) + C (ix2 r n) * Y (ix2 r n) := by
  pointwise [stX]

theorem stL_at (E : FVec Ideal S4096x1024 .f32) (n : Fin 1024) : stL E (ix2 0 n) = Ideal.ofBits .f32 0x3A000000#32 * ∑ r : Fin 4096, E (ix2 r n) * E (ix2 r n) := by
  pointwise [stL]

theorem stG_at (B D : FVec Ideal S4096x1024 .f32) (n : Fin 1024) : stG Y B D (ix2 0 n) = ∑ r : Fin 4096, Y (ix2 r n) * B (ix2 r n) * D (ix2 r n) := by
  pointwise [stG]
  simp

theorem rs_eq (r : Fin 4096) (n : Fin 1024) : stB (stU (stY X A W)) (ix2 r n) = rs X A W r := by
  rw [stB_at, stU_at, rs]
  simp only [stY_at]

theorem er_eq (r : Fin 4096) (n : Fin 1024) : allE X A W G Z (ix2 r n) = er X A W G Z r n := by
  rw [allE, stE_at, rs_eq, stY_at, er]

theorem dy_eq (r : Fin 4096) (n : Fin 1024) : stD (allE X A W G Z) (ix2 r n) = dy X A W G Z r n := by
  rw [stD_at, er_eq, dy]

theorem q_eq (r : Fin 4096) (n : Fin 1024) : allQ X A W G Z (ix2 r n) = dy X A W G Z r n * G (ix1 n) := by
  rw [← dy_eq, ← stW_at G r n]
  rfl

/-- The gain's gradient needs nothing of its arguments. -/
theorem eq14 : stG (stY X A W) (stB (stU (stY X A W))) (stD (allE X A W G Z)) = F14 X A W G Z := by
  funext j
  idx_vars j
  obtain rfl : j0 = 0 := Subsingleton.elim _ _
  rw [stG_at]
  refine Finset.sum_congr rfl fun r _ => ?_
  rw [rs_eq, dy_eq, stY_at, mul_comm]; rfl

theorem f11 (r : Fin 4096) (n : Fin 1024) : F11 X A W G Z (ix2 r n) = rs X A W r * (dy X A W G Z r n * G (ix1 n) - yv X A W r n * rs X A W r
    * Ideal.div (∑ k : Fin 1024, dy X A W G Z r k * G (ix1 k) * (yv X A W r k * rs X A W r)) (Ideal.ofBits .f32 0x44800000#32)) := rfl

theorem f13 (n : Fin 1024) : F13 X A W G Z (ix2 0 n) = ∑ s : Fin 8, (∑ r : Fin 512, er X A W G Z ⟨s.val * 512 + r.val, by omega⟩ n * er X A W G Z ⟨s.val * 512 + r.val, by omega⟩ n) * Ideal.ofBits .f32 0x3A000000#32 := rfl

section real
variable (x : S4096x1024.Idx → ℝ) (a : S4096x2816.Idx → ℝ) (w : S2816x1024.Idx → ℝ) (g : S1024.Idx → ℝ) (z : S4096x1024.Idx → ℝ)
  (hx : X = fun i => (x i : EReal)) (ha : A = fun i => (a i : EReal)) (hw : W = fun i => (w i : EReal)) (hg : G = fun i => (g i : EReal)) (hz : Z = fun i => (z i : EReal))

/-- The last block's result, over real numbers. -/
def yr (r : Fin 4096) (n : Fin 1024) : ℝ := x (ix2 r n) + 1 / 2 * ∑ k : Fin 2816, a (ix2 r k) * w (ix2 k n)

include hx ha hw in
theorem yv_real (r : Fin 4096) (n : Fin 1024) : yv X A W r n = ((yr x a w r n : ℝ) : EReal) := by
  simp only [yv, pr, hx, ha, hw, ofBits_half, ← EReal.coe_mul, coe_sum, ← EReal.coe_add]
  rfl

include hx ha hw in
theorem ms_eq (r : Fin 4096) : stU (stY X A W) (ix2 r 0) = ((ms 1024 (yr x a w r) : ℝ) : EReal) := by
  rw [stU_at, ofBits_1024, ofBits_eps, ← ms_real 1024 _ (by norm_num)]
  simp only [stY_at, yv_real X A W x a w hx ha hw]

include hx ha hw in
theorem rs_real (r : Fin 4096) : rs X A W r = ((rr 1024 (yr x a w r) : ℝ) : EReal) := by
  rw [← rs_eq X A W r 0, stB_at, ms_eq X A W x a w hx ha hw, rstd_real _ _ (by norm_num)]

include hx ha hw hg hz in
theorem er_real (r : Fin 4096) (n : Fin 1024) : er X A W G Z r n = ((yr x a w r n * rr 1024 (yr x a w r) * g (ix1 n) - z (ix2 r n) : ℝ) : EReal) := by
  rw [er, yv_real X A W x a w hx ha hw, rs_real X A W x a w hx ha hw, hg, hz]
  simp only [← EReal.coe_mul, ← EReal.coe_sub]

include hx ha hw hg hz in
theorem eq11 : all X A W G Z = F11 X A W G Z := by
  have hN : (0 : ℝ) < 1024 := by norm_num
  have h3 : Ideal.ofBits .f32 0x3A800000#32 = ((1 / 1024 : ℝ) : EReal) := by simp [Ideal.ofBits, Ideal.ieee] <;> (try rw [← EReal.coe_mul]) <;> (try norm_num)
  funext j
  idx_vars j
  have hD (k : Fin 1024) : dy X A W G Z j0 k * G (ix1 k) = (((yr x a w j0 k * rr 1024 (yr x a w j0) * g (ix1 k) - z (ix2 j0 k)) * (1 / 1024) * g (ix1 k) : ℝ) : EReal) := by
    rw [dy, er_real X A W G Z x a w g z hx ha hw hg hz, h3, hg]
    simp only [← EReal.coe_mul]
  generalize hq : (fun k : Fin 1024 => (yr x a w j0 k * rr 1024 (yr x a w j0) * g (ix1 k) - z (ix2 j0 k)) * (1 / 1024) * g (ix1 k)) = q
  have hD' (k : Fin 1024) : dy X A W G Z j0 k * G (ix1 k) = ((q k : ℝ) : EReal) := by rw [hD, ← hq]
  rw [all, stX_at, stA_at, ms_eq X A W x a w hx ha hw, rstd_real _ _ hN, rs_eq]
  simp only [q_eq, stY_at, hD', yv_real X A W x a w hx ha hw, ofBits_1024, ofBits_mhalf, rs_real X A W x a w hx ha hw, f11]
  rw [ar_real _ _ _ hN]
  refine Eq.trans ?_ (kform _ _ _ hN j1).symm
  rw [← dx_eq _ _ _ hN]
  simp only [EReal.coe_add, EReal.coe_mul]

include hx ha hw hg hz in
theorem eq13 : stL (allE X A W G Z) = F13 X A W G Z := by
  have h3 : Ideal.ofBits .f32 0x3A000000#32 = ((1 / 2048 : ℝ) : EReal) := by simp [Ideal.ofBits, Ideal.ieee] <;> (try rw [← EReal.coe_mul]) <;> (try norm_num)
  funext j
  idx_vars j
  obtain rfl : j0 = 0 := Subsingleton.elim _ _
  rw [stL_at, ← rows]
  rw [f13]
  simp only [er_eq, er_real X A W G Z x a w g z hx ha hw hg hz, h3, ← EReal.coe_mul, coe_sum]
  rw [mul_comm, Finset.sum_mul]

end real

theorem eq12 (h : all X A W G Z = F11 X A W G Z) :
    stV (all X A W G Z) = F12 X A W G Z := by
  rw [h]
  funext j
  idx_vars j
  unfold F12
  generalize F11 X A W G Z = Z
  pointwise [stV]

/-- The precondition: the arguments hold real numbers. -/
theorem reals (h : Cert.Pre_head_finite.fn (F := Ideal) X A W G Z = fun _ => 1#1) : all X A W G Z = F11 X A W G Z ∧ stL (allE X A W G Z) = F13 X A W G Z := by
  haveI : Subsingleton (Cert.Pre_head_finite.S_).Idx := ⟨fun a b => funext fun i => i.elim0⟩
  have h0 := congrFun h (fun i => i.elim0)
  unfold Cert.Pre_head_finite.fn Cert.Pre_head_finite.fn_part1 at h0
  obtain ⟨h1, hz⟩ := andi_one h0
  obtain ⟨h2, hg⟩ := andi_one h1
  obtain ⟨h3, hw⟩ := andi_one h2
  obtain ⟨hx, ha⟩ := andi_one h3
  obtain ⟨x, ex⟩ := reals_of_all X _ (fun _ => rfl) _ _ _ _ hx
  obtain ⟨a, ea⟩ := reals_of_all A _ (fun _ => rfl) _ _ _ _ ha
  obtain ⟨w, ew⟩ := reals_of_all W _ (fun _ => rfl) _ _ _ _ hw
  obtain ⟨g, eg⟩ := reals_of_all G _ (fun _ => rfl) _ _ _ _ hg
  obtain ⟨z, ez⟩ := reals_of_all Z _ (fun _ => rfl) _ _ _ _ hz
  exact ⟨eq11 X A W G Z x a w g z ex ea ew eg ez, eq13 X A W G Z x a w g z ex ea ew eg ez⟩

end Cert.HeadPair
end
-- ==== Proof.HeadPair.lean ====
module

public import proofs.«01_k».proof.Defs
public import proofs.«01_k».proof.Proof.HeadStage
public import proofs.«01_k».proof.Proof.HeadValue
public import proofs.«01_k».proof.Proof.Gen.HeadRefIdeal.Run
public import proofs.«01_k».proof.Proof.Gen.Pre_head_finite

@[expose] public section

set_option maxRecDepth 16384

noncomputable section

open Idealize.ShloMosaic Idealize.ShloMosaic.TcCoe Idealize.SL.Sem

namespace Cert.HeadPair
open Cert.Finite Cert.HeadRefIdeal Cert.HeadRefIdeal.Gen Cert.HeadRefIdeal.Value Cert.Norm
open Cert.HeadIdeal.Value (pr yv rs er dy F11 F12 F13 F14 rows)

theorem eq_res (m : (ℓ : Loc nD τ sig) → Buf (Elt Ideal) ℓ) (c : Dev nD) : res_main_v56 m c = all (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) := rfl

theorem eq_half (m : (ℓ : Loc nD τ sig) → Buf (Elt Ideal) ℓ) (c : Dev nD) : res_main_v59 m c = stV (res_main_v56 m c) := rfl

set_option maxHeartbeats 4000000 in
/-- The loss and its gradients are those of the forward lines. -/
theorem algebraic : Cert.algebraic_HeadIdeal_HeadRefIdeal_pre_head_finite (hHeadIdeal := Cert.HeadIdeal.Gen.facts) (hHeadRefIdeal := Cert.HeadRefIdeal.Gen.facts) (hPre_head_finite := Cert.Pre_head_finite.Gen.facts) := by
  pair_intro
  · run_from Cert.HeadIdeal.Gen.run_main m g
  · run_from Cert.HeadRefIdeal.Value.run m' g'
    · obtain ⟨h0, h1, h2, h3, h4⟩ := hagree c
      refine Eq.trans ?_ (Cert.HeadIdeal.Value.final11 m c).symm
      rw [eq_res, h0, h1, h2, h3, h4]
      exact (reals _ _ _ _ _ (hpre c)).1
    · obtain ⟨h0, h1, h2, h3, h4⟩ := hagree c
      refine Eq.trans ?_ (Cert.HeadIdeal.Value.final12 m c).symm
      rw [eq_half, eq_res, h0, h1, h2, h3, h4]
      exact eq12 _ _ _ _ _ (reals _ _ _ _ _ (hpre c)).1
    · exact (reals _ _ _ _ _ (hpre c)).2.trans (Cert.HeadIdeal.Value.final13 m c).symm
    · exact (eq14 _ _ _ _ _).trans (Cert.HeadIdeal.Value.final14 m c).symm

end Cert.HeadPair
end
-- ==== Proof.DhValue.lean ====
module

public import proofs.«01_k».proof.Defs
public import proofs.«01_k».proof.Proof.Gen.DhIdeal.Frame
public import proofs.«01_k».proof.Proof.Gen.DhIdeal.Value
public import Idealize.ShloMosaic.Lib.Pipeline.ValueKit
public import proofs.«01_k».proof.Proof.NormReal

@[expose] public section

set_option maxRecDepth 16384

noncomputable section

open Idealize.ShloMosaic Idealize.ShloMosaic.TcCoe Idealize.SL.Sem
open Idealize.ShloMosaic.Pipeline (Dat)

namespace Cert.DhIdeal.Value
open Cert.DhIdeal Cert.DhIdeal.Gen

variable (m : (ℓ : Loc nD τ sig) → Buf (Elt Ideal) ℓ)

theorem idx : ∀ t : Fin cfg0.N, win0_0.index t = ![0, t.val, 0]
    ∧ win0_1.index t = ![0, t.val, 0]
    ∧ win0_2.index t = ![1, t.val, 0]
    ∧ win0_3.index t = ![1, t.val, 0]
    ∧ win0_4.index t = ![2, t.val, 0]
    ∧ win0_5.index t = ![2, t.val, 0]
    ∧ win0_6.index t = ![3, t.val, 0]
    ∧ win0_7.index t = ![3, t.val, 0]
    ∧ win0_8.index t = ![0, 0, 0]
    ∧ win0_9.index t = ![0, 0, 0]
    ∧ win0_10.index t = ![1, 0, 0]
    ∧ win0_11.index t = ![1, 0, 0]
    ∧ win0_12.index t = ![2, 0, 0]
    ∧ win0_13.index t = ![2, 0, 0]
    ∧ win0_14.index t = ![3, 0, 0]
    ∧ win0_15.index t = ![3, 0, 0]
    ∧ win0_16.index t = ![t.val, 0]
    ∧ win0_17.index t = ![0, 0]
    ∧ win0_18.index t = ![t.val, 0]
    ∧ win0_19.index t = ![t.val, 0]
    ∧ win0_20.index t = ![t.val, 0]
    ∧ win0_21.index t = ![t.val, 0]
    ∧ win0_22.index t = ![0, 0] :=
  (by decide +kernel : ∀ t : Fin grid0.N, _)

variable (X : FVec Ideal S4096x1024 .f32) (G : FVec Ideal S1x1024 .f32) (W1 W3 : FVec Ideal S1024x2816 .f32)
  (DU DG : FVec Ideal S4096x2816 .f32) (R : FVec Ideal S4096x1024 .f32)

/-- The cotangent of the norm's result. -/
def dh (r : Fin 4096) (n : Fin 1024) : EReal := (∑ k : Fin 2816, DU (ix2 r k) * W1 (ix2 n k)) + ∑ k : Fin 2816, DG (ix2 r k) * W3 (ix2 n k)

/-- The reciprocal root of a row's mean square. -/
def rs (r : Fin 4096) : EReal :=
  Ideal.rsqrt (Ideal.div (∑ k : Fin 1024, X (ix2 r k) * X (ix2 r k)) (Ideal.ofBits .f32 0x44800000#32) + Ideal.ofBits .f32 0x358637BD#32)

/-- The gradient of a row, as the kernel forms it. -/
def dx (r : Fin 4096) (n : Fin 1024) : EReal :=
  rs X r * (dh W1 W3 DU DG r n * G (ix2 0 n) - X (ix2 r n) * rs X r
    * Ideal.div (∑ k : Fin 1024, dh W1 W3 DU DG r k * G (ix2 0 k) * (X (ix2 r k) * rs X r)) (Ideal.ofBits .f32 0x44800000#32))

/-- The arrays the kernel leaves. -/
def F19 : FVec Ideal S4096x1024 .f32 := fun y => dx X G W1 W3 DU DG (y 0) (y 1) + R (ix2 (y 0) (y 1))
def F20 : FVec Ideal S4096x1024 .bf16 := fun y => Ideal.ofBits .f32 0x3F000000#32 * F19 X G W1 W3 DU DG R (ix2 (y 0) (y 1))
def F21 : FVec Ideal S4096x1024 .bf16 := fun y => F19 X G W1 W3 DU DG R (ix2 (y 0) (y 1))
def F22 : FVec Ideal S1x1024 .f32 := fun y => ∑ r : Fin 4096, dh W1 W3 DU DG r (y 1) * (X (ix2 r (y 1)) * rs X r)

/-- The row of block `t`. -/
abbrev row (t : Fin cfg0.N) (r : Fin 256) : Fin 4096 := ⟨t.val * 256 + r.val, by have := lt_of_lt_of_eq t.isLt N_0; omega⟩

variable (c : Dev nD) (t : Fin cfg0.N)

abbrev aX : FVec Ideal S4096x1024 .f32 := m ((c : Thread nD τ).loc main_arg0)
abbrev aG : FVec Ideal S1x1024 .f32 := m ((c : Thread nD τ).loc main_arg1)
abbrev aW1 : FVec Ideal S1024x2816 .f32 := m ((c : Thread nD τ).loc main_arg2)
abbrev aW3 : FVec Ideal S1024x2816 .f32 := m ((c : Thread nD τ).loc main_arg3)
abbrev aU : FVec Ideal S4096x2816 .f32 := m ((c : Thread nD τ).loc main_arg4)
abbrev aD : FVec Ideal S4096x2816 .f32 := m ((c : Thread nD τ).loc main_arg5)
abbrev aR : FVec Ideal S4096x1024 .f32 := m ((c : Thread nD τ).loc main_arg6)

theorem entry_v2 (j : Fin 4) (r : Fin 4096) (k : Fin 704) (hk : j.val * 704 + k.val < 2816) : (V m c main_v2 : FVec Ideal S4x4096x704 .bf16) (ix3 j r k)
    = aU m c (ix2 r ⟨j.val * 704 + k.val, hk⟩) := by
  entry_read
  pointwise

theorem entry_v5 (j : Fin 4) (r : Fin 4096) (k : Fin 704) (hk : j.val * 704 + k.val < 2816) : (V m c main_v5 : FVec Ideal S4x4096x704 .bf16) (ix3 j r k)
    = aD m c (ix2 r ⟨j.val * 704 + k.val, hk⟩) := by
  entry_read
  pointwise

theorem entry_v8 (j : Fin 4) (k : Fin 704) (n : Fin 1024) (hk : j.val * 704 + k.val < 2816) : (V m c main_v8 : FVec Ideal S4x704x1024 .bf16) (ix3 j k n)
    = aW1 m c (ix2 n ⟨j.val * 704 + k.val, hk⟩) := by
  entry_read
  pointwise

theorem entry_v11 (j : Fin 4) (k : Fin 704) (n : Fin 1024) (hk : j.val * 704 + k.val < 2816) : (V m c main_v11 : FVec Ideal S4x704x1024 .bf16) (ix3 j k n)
    = aW3 m c (ix2 n ⟨j.val * 704 + k.val, hk⟩) := by
  entry_read
  pointwise

theorem rd0 (r : Fin 256) (k : Fin 704) : (iblk m c 0 t : FVec Ideal S1x256x704 .bf16) (ix3 0 r k) = aU m c (ix2 (row t r) ⟨0 * 704 + k.val, by omega⟩) := by
  refine Eq.trans ?_ (entry_v2 m c 0 (row t r) k (by change 0 * 704 + k.val < 2816; omega))
  blk_ext [iblk, idx t]

theorem rd1 (r : Fin 256) (k : Fin 704) : (iblk m c 1 t : FVec Ideal S1x256x704 .bf16) (ix3 0 r k) = aD m c (ix2 (row t r) ⟨0 * 704 + k.val, by omega⟩) := by
  refine Eq.trans ?_ (entry_v5 m c 0 (row t r) k (by change 0 * 704 + k.val < 2816; omega))
  blk_ext [iblk, idx t]

theorem rd2 (r : Fin 256) (k : Fin 704) : (iblk m c 2 t : FVec Ideal S1x256x704 .bf16) (ix3 0 r k) = aU m c (ix2 (row t r) ⟨1 * 704 + k.val, by omega⟩) := by
  refine Eq.trans ?_ (entry_v2 m c 1 (row t r) k (by change 1 * 704 + k.val < 2816; omega))
  blk_ext [iblk, idx t]

theorem rd3 (r : Fin 256) (k : Fin 704) : (iblk m c 3 t : FVec Ideal S1x256x704 .bf16) (ix3 0 r k) = aD m c (ix2 (row t r) ⟨1 * 704 + k.val, by omega⟩) := by
  refine Eq.trans ?_ (entry_v5 m c 1 (row t r) k (by change 1 * 704 + k.val < 2816; omega))
  blk_ext [iblk, idx t]

theorem rd4 (r : Fin 256) (k : Fin 704) : (iblk m c 4 t : FVec Ideal S1x256x704 .bf16) (ix3 0 r k) = aU m c (ix2 (row t r) ⟨2 * 704 + k.val, by omega⟩) := by
  refine Eq.trans ?_ (entry_v2 m c 2 (row t r) k (by change 2 * 704 + k.val < 2816; omega))
  blk_ext [iblk, idx t]

theorem rd5 (r : Fin 256) (k : Fin 704) : (iblk m c 5 t : FVec Ideal S1x256x704 .bf16) (ix3 0 r k) = aD m c (ix2 (row t r) ⟨2 * 704 + k.val, by omega⟩) := by
  refine Eq.trans ?_ (entry_v5 m c 2 (row t r) k (by change 2 * 704 + k.val < 2816; omega))
  blk_ext [iblk, idx t]

theorem rd6 (r : Fin 256) (k : Fin 704) : (iblk m c 6 t : FVec Ideal S1x256x704 .bf16) (ix3 0 r k) = aU m c (ix2 (row t r) ⟨3 * 704 + k.val, by omega⟩) := by
  refine Eq.trans ?_ (entry_v2 m c 3 (row t r) k (by change 3 * 704 + k.val < 2816; omega))
  blk_ext [iblk, idx t]

theorem rd7 (r : Fin 256) (k : Fin 704) : (iblk m c 7 t : FVec Ideal S1x256x704 .bf16) (ix3 0 r k) = aD m c (ix2 (row t r) ⟨3 * 704 + k.val, by omega⟩) := by
  refine Eq.trans ?_ (entry_v5 m c 3 (row t r) k (by change 3 * 704 + k.val < 2816; omega))
  blk_ext [iblk, idx t]

theorem rd8 (k : Fin 704) (n : Fin 1024) : (iblk m c 8 t : FVec Ideal S1x704x1024 .bf16) (ix3 0 k n) = aW1 m c (ix2 n ⟨0 * 704 + k.val, by omega⟩) := by
  refine Eq.trans ?_ (entry_v8 m c 0 k n (by change 0 * 704 + k.val < 2816; omega))
  blk_ext [iblk, idx t]

theorem rd9 (k : Fin 704) (n : Fin 1024) : (iblk m c 9 t : FVec Ideal S1x704x1024 .bf16) (ix3 0 k n) = aW3 m c (ix2 n ⟨0 * 704 + k.val, by omega⟩) := by
  refine Eq.trans ?_ (entry_v11 m c 0 k n (by change 0 * 704 + k.val < 2816; omega))
  blk_ext [iblk, idx t]

theorem rd10 (k : Fin 704) (n : Fin 1024) : (iblk m c 10 t : FVec Ideal S1x704x1024 .bf16) (ix3 0 k n) = aW1 m c (ix2 n ⟨1 * 704 + k.val, by omega⟩) := by
  refine Eq.trans ?_ (entry_v8 m c 1 k n (by change 1 * 704 + k.val < 2816; omega))
  blk_ext [iblk, idx t]

theorem rd11 (k : Fin 704) (n : Fin 1024) : (iblk m c 11 t : FVec Ideal S1x704x1024 .bf16) (ix3 0 k n) = aW3 m c (ix2 n ⟨1 * 704 + k.val, by omega⟩) := by
  refine Eq.trans ?_ (entry_v11 m c 1 k n (by change 1 * 704 + k.val < 2816; omega))
  blk_ext [iblk, idx t]

theorem rd12 (k : Fin 704) (n : Fin 1024) : (iblk m c 12 t : FVec Ideal S1x704x1024 .bf16) (ix3 0 k n) = aW1 m c (ix2 n ⟨2 * 704 + k.val, by omega⟩) := by
  refine Eq.trans ?_ (entry_v8 m c 2 k n (by change 2 * 704 + k.val < 2816; omega))
  blk_ext [iblk, idx t]

theorem rd13 (k : Fin 704) (n : Fin 1024) : (iblk m c 13 t : FVec Ideal S1x704x1024 .bf16) (ix3 0 k n) = aW3 m c (ix2 n ⟨2 * 704 + k.val, by omega⟩) := by
  refine Eq.trans ?_ (entry_v11 m c 2 k n (by change 2 * 704 + k.val < 2816; omega))
  blk_ext [iblk, idx t]

theorem rd14 (k : Fin 704) (n : Fin 1024) : (iblk m c 14 t : FVec Ideal S1x704x1024 .bf16) (ix3 0 k n) = aW1 m c (ix2 n ⟨3 * 704 + k.val, by omega⟩) := by
  refine Eq.trans ?_ (entry_v8 m c 3 k n (by change 3 * 704 + k.val < 2816; omega))
  blk_ext [iblk, idx t]

theorem rd15 (k : Fin 704) (n : Fin 1024) : (iblk m c 15 t : FVec Ideal S1x704x1024 .bf16) (ix3 0 k n) = aW3 m c (ix2 n ⟨3 * 704 + k.val, by omega⟩) := by
  refine Eq.trans ?_ (entry_v11 m c 3 k n (by change 3 * 704 + k.val < 2816; omega))
  blk_ext [iblk, idx t]

theorem rd16 (r : Fin 256) (n : Fin 1024) : (iblk m c 16 t : FVec Ideal S256x1024 .f32) (ix2 r n) = aX m c (ix2 (row t r) n) := by
  refine Eq.trans ?_ (congrFun (V_main_arg0 m c) _)
  blk_ext [iblk, idx t]

theorem rd18 (r : Fin 256) (n : Fin 1024) : (iblk m c 18 t : FVec Ideal S256x1024 .f32) (ix2 r n) = aR m c (ix2 (row t r) n) := by
  refine Eq.trans ?_ (congrFun (V_main_arg6 m c) _)
  blk_ext [iblk, idx t]

theorem rd17 (n : Fin 1024) : (iblk m c 17 t : FVec Ideal S1x1024 .f32) (ix2 0 n) = aG m c (ix2 0 n) := by
  refine Eq.trans ?_ (congrFun (V_main_arg1 m c) _)
  blk_ext [iblk, idx t]

/-- The partial products of the kernel. -/
def pp (x : Vec Ideal S1x256x704 .bf16) (y : Vec Ideal S1x704x1024 .bf16) (r : Fin 256) (n : Fin 1024) : EReal := ∑ k : Fin 704, x (ix3 0 r k) * y (ix3 0 k n)

theorem pay10_at (x0 x1 x2 x3 x4 x5 x6 x7 : Vec Ideal S1x256x704 .bf16) (y0 y1 y2 y3 y4 y5 y6 y7 : Vec Ideal S1x704x1024 .bf16) (r : Fin 256) (n : Fin 1024) :
    k0_pay10 (F := Ideal) (k0_pay8 x0 y0 x1 y1 x2 y2 x3 y3) (k0_pay9 x4) y4 x5 y5 x6 y6 x7 y7 (ix2 r n)
      = pp x0 y0 r n + pp x1 y1 r n + pp x2 y2 r n + pp x3 y3 r n + pp x4 y4 r n + pp x5 y5 r n + pp x6 y6 r n + pp x7 y7 r n := by
  pointwise [k0_pay10, k0_pay8, k0_pay9, pp]

/-- A sum over the middle columns, in the four parts the kernel adds. -/
theorem four (f : Fin 2816 → EReal) : (∑ k : Fin 704, f ⟨0 * 704 + k.val, by omega⟩) + (∑ k : Fin 704, f ⟨1 * 704 + k.val, by omega⟩)
    + (∑ k : Fin 704, f ⟨2 * 704 + k.val, by omega⟩) + (∑ k : Fin 704, f ⟨3 * 704 + k.val, by omega⟩) = ∑ k, f k := by
  have h := Fintype.sum_equiv (finProdFinEquiv (m := 4) (n := 704)) (fun p => f ⟨p.1.val * 704 + p.2.val, by omega⟩) f
    (fun p => congrArg f (Fin.ext (by simp [finProdFinEquiv]; omega)))
  rw [← h, Fintype.sum_prod_type, Fin.sum_univ_four]
  rfl

theorem dh_at (r : Fin 256) (n : Fin 1024) :
    k0_pay10 (F := Ideal) (k0_pay8 (iblk m c 0 t) (iblk m c 8 t) (iblk m c 1 t) (iblk m c 9 t) (iblk m c 2 t) (iblk m c 10 t) (iblk m c 3 t) (iblk m c 11 t)) (k0_pay9 (iblk m c 4 t))
      (iblk m c 12 t) (iblk m c 5 t) (iblk m c 13 t) (iblk m c 6 t) (iblk m c 14 t) (iblk m c 7 t) (iblk m c 15 t) (ix2 r n)
      = dh (aW1 m c) (aW3 m c) (aU m c) (aD m c) (row t r) n := by
  rw [pay10_at, dh, ← four, ← four]
  have e0 : pp (iblk m c 0 t) (iblk m c 8 t) r n = ∑ k : Fin 704, aU m c (ix2 (row t r) ⟨0 * 704 + k.val, by omega⟩) * aW1 m c (ix2 n ⟨0 * 704 + k.val, by omega⟩) :=
    Finset.sum_congr rfl fun k _ => congrArg₂ (· * ·) (rd0 m c t r k) (rd8 m c t k n)
  have e1 : pp (iblk m c 1 t) (iblk m c 9 t) r n = ∑ k : Fin 704, aD m c (ix2 (row t r) ⟨0 * 704 + k.val, by omega⟩) * aW3 m c (ix2 n ⟨0 * 704 + k.val, by omega⟩) :=
    Finset.sum_congr rfl fun k _ => congrArg₂ (· * ·) (rd1 m c t r k) (rd9 m c t k n)
  have e2 : pp (iblk m c 2 t) (iblk m c 10 t) r n = ∑ k : Fin 704, aU m c (ix2 (row t r) ⟨1 * 704 + k.val, by omega⟩) * aW1 m c (ix2 n ⟨1 * 704 + k.val, by omega⟩) :=
    Finset.sum_congr rfl fun k _ => congrArg₂ (· * ·) (rd2 m c t r k) (rd10 m c t k n)
  have e3 : pp (iblk m c 3 t) (iblk m c 11 t) r n = ∑ k : Fin 704, aD m c (ix2 (row t r) ⟨1 * 704 + k.val, by omega⟩) * aW3 m c (ix2 n ⟨1 * 704 + k.val, by omega⟩) :=
    Finset.sum_congr rfl fun k _ => congrArg₂ (· * ·) (rd3 m c t r k) (rd11 m c t k n)
  have e4 : pp (iblk m c 4 t) (iblk m c 12 t) r n = ∑ k : Fin 704, aU m c (ix2 (row t r) ⟨2 * 704 + k.val, by omega⟩) * aW1 m c (ix2 n ⟨2 * 704 + k.val, by omega⟩) :=
    Finset.sum_congr rfl fun k _ => congrArg₂ (· * ·) (rd4 m c t r k) (rd12 m c t k n)
  have e5 : pp (iblk m c 5 t) (iblk m c 13 t) r n = ∑ k : Fin 704, aD m c (ix2 (row t r) ⟨2 * 704 + k.val, by omega⟩) * aW3 m c (ix2 n ⟨2 * 704 + k.val, by omega⟩) :=
    Finset.sum_congr rfl fun k _ => congrArg₂ (· * ·) (rd5 m c t r k) (rd13 m c t k n)
  have e6 : pp (iblk m c 6 t) (iblk m c 14 t) r n = ∑ k : Fin 704, aU m c (ix2 (row t r) ⟨3 * 704 + k.val, by omega⟩) * aW1 m c (ix2 n ⟨3 * 704 + k.val, by omega⟩) :=
    Finset.sum_congr rfl fun k _ => congrArg₂ (· * ·) (rd6 m c t r k) (rd14 m c t k n)
  have e7 : pp (iblk m c 7 t) (iblk m c 15 t) r n = ∑ k : Fin 704, aD m c (ix2 (row t r) ⟨3 * 704 + k.val, by omega⟩) * aW3 m c (ix2 n ⟨3 * 704 + k.val, by omega⟩) :=
    Finset.sum_congr rfl fun k _ => congrArg₂ (· * ·) (rd7 m c t r k) (rd15 m c t k n)
  rw [e0, e1, e2, e3, e4, e5, e6, e7]
  abel

theorem pay2_at (x : Vec Ideal S256x1024 .f32) (r : Fin 256) (n : Fin 1024) : k0_pay2 (F := Ideal) x (k0_pay11 x) (ix2 r n)
    = x (ix2 r n) * Ideal.rsqrt (Ideal.div (∑ k : Fin 1024, x (ix2 r k) * x (ix2 r k)) (Ideal.ofBits .f32 0x44800000#32) + Ideal.ofBits .f32 0x358637BD#32) := by
  pointwise [k0_pay2, k0_pay1, k0_pay11]

theorem pay1_at (x : Vec Ideal S256x1024 .f32) (r : Fin 256) : k0_pay1 (F := Ideal) (k0_pay11 x) (ix2 r 0)
    = Ideal.rsqrt (Ideal.div (∑ k : Fin 1024, x (ix2 r k) * x (ix2 r k)) (Ideal.ofBits .f32 0x44800000#32) + Ideal.ofBits .f32 0x358637BD#32) := by
  pointwise [k0_pay1, k0_pay11]

theorem pay3_at (d : FVec Ideal S256x1024 .f32) (x : Vec Ideal S256x1024 .f32) (g : Vec Ideal S1x1024 .f32) (e : Vec Ideal S256x1024 .f32) (v : FVec Ideal S256x1 .f32) (r : Fin 256) (n : Fin 1024) :
    k0_pay3 (F := Ideal) d x g e v (ix2 r n)
      = k0_pay1 (F := Ideal) v (ix2 r 0) * (d (ix2 r n) * g (ix2 0 n) - k0_pay2 (F := Ideal) x v (ix2 r n)
        * Ideal.div (∑ k : Fin 1024, d (ix2 r k) * g (ix2 0 k) * k0_pay2 (F := Ideal) x v (ix2 r k)) (Ideal.ofBits .f32 0x44800000#32)) + e (ix2 r n) := by
  generalize hz : k0_pay2 (F := Ideal) x v = z
  generalize hw : k0_pay1 (F := Ideal) v = w
  pointwise [k0_pay3, hz, hw]

theorem pay4_at (d : FVec Ideal S256x1024 .f32) (x : Vec Ideal S256x1024 .f32) (g : Vec Ideal S1x1024 .f32) (e : Vec Ideal S256x1024 .f32) (v : FVec Ideal S256x1 .f32) (r : Fin 256) (n : Fin 1024) :
    k0_pay4 (F := Ideal) d x g e v (ix2 r n) = Ideal.ofBits .f32 0x3F000000#32 * k0_pay3 (F := Ideal) d x g e v (ix2 r n) := by
  generalize hz : k0_pay3 (F := Ideal) d x g e v = z
  pointwise [k0_pay4, hz]

theorem pay5_at (d : FVec Ideal S256x1024 .f32) (x : Vec Ideal S256x1024 .f32) (g : Vec Ideal S1x1024 .f32) (e : Vec Ideal S256x1024 .f32) (v : FVec Ideal S256x1 .f32) (r : Fin 256) (n : Fin 1024) :
    k0_pay5 (F := Ideal) d x g e v (ix2 r n) = k0_pay3 (F := Ideal) d x g e v (ix2 r n) := by
  generalize hz : k0_pay3 (F := Ideal) d x g e v = z
  pointwise [k0_pay5, hz]

theorem pay7_at (d : FVec Ideal S256x1024 .f32) (x : Vec Ideal S256x1024 .f32) (v : FVec Ideal S256x1 .f32) (a : Vec Ideal S1x1024 .f32) (n : Fin 1024) :
    k0_pay7 (F := Ideal) d x v a (ix2 0 n) = a (ix2 0 n) + ∑ r : Fin 256, d (ix2 r n) * k0_pay2 (F := Ideal) x v (ix2 r n) := by
  generalize hz : k0_pay2 (F := Ideal) x v = z
  pointwise [k0_pay7, hz]

theorem rs_at (x : Vec Ideal S256x1024 .f32) (hx : ∀ r n, x (ix2 r n) = aX m c (ix2 (row t r) n)) (r : Fin 256) : Ideal.rsqrt (Ideal.div (∑ k : Fin 1024, x (ix2 r k) * x (ix2 r k))
    (Ideal.ofBits .f32 0x44800000#32) + Ideal.ofBits .f32 0x358637BD#32) = rs (aX m c) (row t r) := by
  unfold rs
  refine congrArg (fun z => Ideal.rsqrt (Ideal.div z _ + _)) (Finset.sum_congr rfl fun k _ => ?_)
  rw [hx]

/-- The normalised block. -/
theorem xh_at (r : Fin 256) (n : Fin 1024) : k0_pay2 (F := Ideal) (iblk m c 16 t) (k0_pay11 (iblk m c 16 t)) (ix2 r n) = aX m c (ix2 (row t r) n) * rs (aX m c) (row t r) := by
  rw [pay2_at, rs_at m c t _ (rd16 m c t), rd16]

/-- The blocks the kernel stores, of the cotangent `d`. -/
theorem b19 (d : FVec Ideal S256x1024 .f32) (hd : ∀ r n, d (ix2 r n) = dh (aW1 m c) (aW3 m c) (aU m c) (aD m c) (row t r) n) (r : Fin 256) (n : Fin 1024) :
    k0_pay3 (F := Ideal) d (iblk m c 16 t) (iblk m c 17 t) (iblk m c 18 t) (k0_pay11 (iblk m c 16 t)) (ix2 r n)
      = F19 (aX m c) (aG m c) (aW1 m c) (aW3 m c) (aU m c) (aD m c) (aR m c) (ix2 (row t r) n) := by
  rw [pay3_at, pay1_at, rs_at m c t _ (rd16 m c t), xh_at, hd, rd17, rd18]
  have e : (∑ k : Fin 1024, d (ix2 r k) * (iblk m c 17 t : FVec Ideal S1x1024 .f32) (ix2 0 k) * k0_pay2 (F := Ideal) (iblk m c 16 t) (k0_pay11 (iblk m c 16 t)) (ix2 r k) : EReal)
      = ∑ k : Fin 1024, dh (aW1 m c) (aW3 m c) (aU m c) (aD m c) (row t r) k * aG m c (ix2 0 k) * (aX m c (ix2 (row t r) k) * rs (aX m c) (row t r)) :=
    Finset.sum_congr rfl fun k _ => congrArg₂ (· * ·) (congrArg₂ (· * ·) (hd r k) (rd17 m c t k)) (xh_at m c t r k)
  rw [e]; rfl

theorem b20 (d : FVec Ideal S256x1024 .f32) (hd : ∀ r n, d (ix2 r n) = dh (aW1 m c) (aW3 m c) (aU m c) (aD m c) (row t r) n) (r : Fin 256) (n : Fin 1024) :
    k0_pay4 (F := Ideal) d (iblk m c 16 t) (iblk m c 17 t) (iblk m c 18 t) (k0_pay11 (iblk m c 16 t)) (ix2 r n)
      = F20 (aX m c) (aG m c) (aW1 m c) (aW3 m c) (aU m c) (aD m c) (aR m c) (ix2 (row t r) n) := by
  rw [pay4_at, b19 m c t d hd]; rfl

theorem b21 (d : FVec Ideal S256x1024 .f32) (hd : ∀ r n, d (ix2 r n) = dh (aW1 m c) (aW3 m c) (aU m c) (aD m c) (row t r) n) (r : Fin 256) (n : Fin 1024) :
    k0_pay5 (F := Ideal) d (iblk m c 16 t) (iblk m c 17 t) (iblk m c 18 t) (k0_pay11 (iblk m c 16 t)) (ix2 r n)
      = F21 (aX m c) (aG m c) (aW1 m c) (aW3 m c) (aU m c) (aD m c) (aR m c) (ix2 (row t r) n) := by
  rw [pay5_at, b19 m c t d hd]; rfl

theorem b22 (d : FVec Ideal S256x1024 .f32) (hd : ∀ r n, d (ix2 r n) = dh (aW1 m c) (aW3 m c) (aU m c) (aD m c) (row t r) n) (a : Vec Ideal S1x1024 .f32) (n : Fin 1024) :
    k0_pay7 (F := Ideal) d (iblk m c 16 t) (k0_pay11 (iblk m c 16 t)) a (ix2 0 n)
      = a (ix2 0 n) + ∑ r : Fin 256, dh (aW1 m c) (aW3 m c) (aU m c) (aD m c) (row t r) n * (aX m c (ix2 (row t r) n) * rs (aX m c) (row t r)) := by
  rw [pay7_at]
  refine congrArg (a (ix2 0 n) + ·) (Finset.sum_congr rfl fun r _ => ?_)
  rw [xh_at, hd]

theorem final19 : (dats m 0 c).arrAt 19 cfg0.N = F19 (aX m c) (aG m c) (aW1 m c) (aW3 m c) (aU m c) (aD m c) (aR m c) := by
  refine (dats m 0 c).arrAt_eq_of_covers 19 _ (by decide +kernel) fun t hf y => ?_
  have ht := lt_of_lt_of_eq t.isLt N_0
  blk_simp
  rw [after0_19]
  by_cases h0 : t.val % 16 = 0
  · rw [outsAt0_A m c t h0]
    frame_out
    idx_vars y
    refine (b19 m c t _ (dh_at m c t) y0 y1).trans (congrArg (F19 (aX m c) (aG m c) (aW1 m c) (aW3 m c) (aU m c) (aD m c) (aR m c)) ?_)
    blk_ext [idx t]
  · rw [outsAt0_B m c t h0]
    frame_out
    idx_vars y
    refine (b19 m c t _ (dh_at m c t) y0 y1).trans (congrArg (F19 (aX m c) (aG m c) (aW1 m c) (aW3 m c) (aU m c) (aD m c) (aR m c)) ?_)
    blk_ext [idx t]

theorem final20 : (dats m 0 c).arrAt 20 cfg0.N = F20 (aX m c) (aG m c) (aW1 m c) (aW3 m c) (aU m c) (aD m c) (aR m c) := by
  refine (dats m 0 c).arrAt_eq_of_covers 20 _ (by decide +kernel) fun t hf y => ?_
  have ht := lt_of_lt_of_eq t.isLt N_0
  blk_simp
  rw [after0_20]
  by_cases h0 : t.val % 16 = 0
  · rw [outsAt0_A m c t h0]
    frame_out
    idx_vars y
    refine (b20 m c t _ (dh_at m c t) y0 y1).trans (congrArg (F20 (aX m c) (aG m c) (aW1 m c) (aW3 m c) (aU m c) (aD m c) (aR m c)) ?_)
    blk_ext [idx t]
  · rw [outsAt0_B m c t h0]
    frame_out
    idx_vars y
    refine (b20 m c t _ (dh_at m c t) y0 y1).trans (congrArg (F20 (aX m c) (aG m c) (aW1 m c) (aW3 m c) (aU m c) (aD m c) (aR m c)) ?_)
    blk_ext [idx t]

theorem final21 : (dats m 0 c).arrAt 21 cfg0.N = F21 (aX m c) (aG m c) (aW1 m c) (aW3 m c) (aU m c) (aD m c) (aR m c) := by
  refine (dats m 0 c).arrAt_eq_of_covers 21 _ (by decide +kernel) fun t hf y => ?_
  have ht := lt_of_lt_of_eq t.isLt N_0
  blk_simp
  rw [after0_21]
  by_cases h0 : t.val % 16 = 0
  · rw [outsAt0_A m c t h0]
    frame_out
    idx_vars y
    refine (b21 m c t _ (dh_at m c t) y0 y1).trans (congrArg (F21 (aX m c) (aG m c) (aW1 m c) (aW3 m c) (aU m c) (aD m c) (aR m c)) ?_)
    blk_ext [idx t]
  · rw [outsAt0_B m c t h0]
    frame_out
    idx_vars y
    refine (b21 m c t _ (dh_at m c t) y0 y1).trans (congrArg (F21 (aX m c) (aG m c) (aW1 m c) (aW3 m c) (aU m c) (aD m c) (aR m c)) ?_)
    blk_ext [idx t]

/-- A sum over all rows, in the blocks' sums. -/
theorem rows_sum (f : Fin 4096 → EReal) (t : Fin cfg0.N) (ht : t.val = 15) (h : ∀ s : Fin 16, 16 * (t.val / 16) + s.val < cfg0.N) :
    (∑ s : Fin 16, ∑ r : Fin 256, f (row ⟨16 * (t.val / 16) + s.val, h s⟩ r)) = ∑ r, f r := by
  have e := Fintype.sum_equiv (finProdFinEquiv (m := 16) (n := 256)) (fun p => f ⟨p.1.val * 256 + p.2.val, by omega⟩) f
    (fun p => congrArg f (Fin.ext (by simp [finProdFinEquiv]; omega)))
  rw [← e, Fintype.sum_prod_type]
  refine Finset.sum_congr rfl fun s _ => Finset.sum_congr rfl fun r _ => congrArg f (Fin.ext ?_)
  simp only [ht]; omega

theorem final22 : (dats m 0 c).arrAt 22 cfg0.N = F22 (aX m c) (aW1 m c) (aW3 m c) (aU m c) (aD m c) := by
  refine (dats m 0 c).arrAt_eq_of_covers 22 _ (by decide +kernel) fun t hf y => ?_
  have ht := lt_of_lt_of_eq t.isLt N_0
  blk_simp
  rw [after0_22, Pipeline.eq_sum_fin_of_reset_step_apply_of_flush (fun n h => (outsAt0 m c n h).2.2.2) 16 (fun _ => 0)
    (fun t y => ∑ r : Fin 256, dh (aW1 m c) (aW3 m c) (aU m c) (aD m c) (row t r) (y 1) * (aX m c (ix2 (row t r) (y 1)) * rs (aX m c) (row t r)))
    (fun t h j => by
      rw [outsAt0_A m c t h]; frame_out
      idx_vars j
      obtain rfl : j0 = 0 := Subsingleton.elim _ _
      rw [b22 m c t _ (dh_at m c t)]
      refine congrArg (· + _) ?_
      pointwise [k0_pay6])
    (fun t h j => by
      rw [outsAt0_B m c t h]; frame_out
      idx_vars j
      obtain rfl : j0 = 0 := Subsingleton.elim _ _
      exact b22 m c t _ (dh_at m c t) _ j1)
    t ((flush0_22 t).mp hf) _, zero_add]
  idx_vars y
  have h15 := (flush0_22 t).mp hf
  refine (rows_sum (fun r => dh (aW1 m c) (aW3 m c) (aU m c) (aD m c) r y1 * (aX m c (ix2 r y1) * rs (aX m c) r)) t (by omega) _).trans ?_
  refine Eq.trans (b := F22 (aX m c) (aW1 m c) (aW3 m c) (aU m c) (aD m c) (ix2 0 y1)) rfl (congrArg (F22 (aX m c) (aW1 m c) (aW3 m c) (aU m c) (aD m c)) ?_)
  blk_ext [idx t]

end Cert.DhIdeal.Value
end
-- ==== Proof.DhStage.lean ====
module

public import proofs.«01_k».proof.Defs
public import proofs.«01_k».proof.Proof.DhValue
public import proofs.«01_k».proof.Proof.Gen.DhRefIdeal.Run
public import proofs.«01_k».proof.Proof.Gen.Pre_dh_finite

@[expose] public section

set_option maxRecDepth 16384

noncomputable section

open Idealize.ShloMosaic Idealize.ShloMosaic.TcCoe Idealize.SL.Sem

namespace Cert.DhPair
open Cert.Finite Cert.DhRefIdeal Cert.DhRefIdeal.Gen Cert.DhRefIdeal.Value Cert.Norm
open Cert.DhIdeal.Value (dh rs dx F19 F20 F21 F22)

variable (X : FVec Ideal S4096x1024 .f32) (G : FVec Ideal S1x1024 .f32) (W1 W3 : FVec Ideal S1024x2816 .f32)
  (DU DG : FVec Ideal S4096x2816 .f32) (R : FVec Ideal S4096x1024 .f32)

/-- The cotangent of the norm's result. -/
def stH : FVec Ideal S4096x1024 .f32 :=
  addf (Host.dotGeneral dot_S4096x2816_S1024x2816_S4096x1024_1_1_0_0_n_n none DG W3) (Host.dotGeneral dot_S4096x2816_S1024x2816_S4096x1024_1_1_0_0_n_n none DU W1)

/-- The mean square of each row with the small number added, and the reciprocal root in every column. -/
def stU : FVec Ideal S4096x1 .f32 :=
  addf (Host.divf (broadcastInDim S4096x1 ![0] bcast_S4096_S4096x1_0 (Host.reduceAdd (mulf X X) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))
def stB (U : FVec Ideal S4096x1 .f32) : FVec Ideal S4096x1024 .f32 := broadcastInDim S4096x1024 ![0, 1] bcast_S4096x1_S4096x1024_0_1 (Host.rsqrt U)

/-- The cotangent of the normalised row. -/
def stQ (H : FVec Ideal S4096x1024 .f32) : FVec Ideal S4096x1024 .f32 := mulf H (broadcastInDim S4096x1024 ![0, 1] bcast_S1x1024_S4096x1024_0_1 G)

/-- What the derivative of the reciprocal root brings in, in every column. -/
def stA (U : FVec Ideal S4096x1 .f32) (Q : FVec Ideal S4096x1024 .f32) : FVec Ideal S4096x1024 .f32 :=
  broadcastInDim S4096x1024 ![0] bcast_S4096_S4096x1024_0 (Host.reduceAdd (Host.divf (mulf
    (shapeCast _ (Host.reduceAdd (mulf X Q) (constant S_ .f32 0x00000000#32) reducesTo_S4096x1024_S4096_d1 h_S_) shapeCasts_S4096_S4096x1)
    (mulf (broadcastInDim S4096x1 ![] bcast_S_S4096x1 (constant S_ .f32 0xBF000000#32)) (Host.divf (Host.rsqrt U) U)))
    (broadcastInDim S4096x1 ![] bcast_S_S4096x1 (constant S_ .f32 0x44800000#32))) (constant S_ .f32 0x00000000#32) reducesTo_S4096x1_S4096_d1 h_S_)

/-- The gradient of the rows, and of the gain. -/
def stX (B Q A : FVec Ideal S4096x1024 .f32) : FVec Ideal S4096x1024 .f32 := addf (addf (addf R (mulf Q B)) (mulf X A)) (mulf A X)
def stG (B H : FVec Ideal S4096x1024 .f32) : FVec Ideal S1x1024 .f32 :=
  shapeCast _ (Host.reduceAdd (mulf (mulf X B) H) (constant S_ .f32 0x00000000#32) reducesTo_S4096x1024_S1024_d0 h_S_) shapeCasts_S1024_S1x1024

/-- The whole of the rows' gradient. -/
def all : FVec Ideal S4096x1024 .f32 := stX X R (stB (stU X)) (stQ G (stH W1 W3 DU DG)) (stA X (stU X) (stQ G (stH W1 W3 DU DG)))

/-- Half of an array, and the array itself, in the short format. -/
def stV (Y : FVec Ideal S4096x1024 .f32) : FVec Ideal S4096x1024 .bf16 :=
  truncf .bf16 (mulf (broadcastInDim S4096x1024 ![] bcast_S_S4096x1024 (constant S_ .f32 0x3F000000#32)) Y) bitsLt_bf16_f32
def stT (Y : FVec Ideal S4096x1024 .f32) : FVec Ideal S4096x1024 .bf16 := truncf .bf16 Y bitsLt_bf16_f32

theorem stH_at (r : Fin 4096) (n : Fin 1024) : stH W1 W3 DU DG (ix2 r n) = dh W1 W3 DU DG r n := by
  rw [dh, add_comm]
  pointwise [stH]

theorem stU_at (r : Fin 4096) : stU X (ix2 r 0) = Ideal.div (∑ k : Fin 1024, X (ix2 r k) * X (ix2 r k)) (Ideal.ofBits .f32 0x44800000#32) + Ideal.ofBits .f32 0x358637BD#32 := by
  pointwise [stU]

theorem stB_at (U : FVec Ideal S4096x1 .f32) (r : Fin 4096) (n : Fin 1024) : stB U (ix2 r n) = Ideal.rsqrt (U (ix2 r 0)) := by
  pointwise [stB]

theorem stQ_at (H : FVec Ideal S4096x1024 .f32) (r : Fin 4096) (n : Fin 1024) : stQ G H (ix2 r n) = H (ix2 r n) * G (ix2 0 n) := by
  pointwise [stQ]

theorem stA_at (U : FVec Ideal S4096x1 .f32) (Q : FVec Ideal S4096x1024 .f32) (r : Fin 4096) (n : Fin 1024) :
    stA X U Q (ix2 r n) = Ideal.div ((∑ k : Fin 1024, X (ix2 r k) * Q (ix2 r k)) * (Ideal.ofBits .f32 0xBF000000#32 * Ideal.div (Ideal.rsqrt (U (ix2 r 0))) (U (ix2 r 0)))) (Ideal.ofBits .f32 0x44800000#32) := by
  pointwise [stA]
  simp

theorem stX_at (B Q A : FVec Ideal S4096x1024 .f32) (r : Fin 4096) (n : Fin 1024) :
    stX X R B Q A (ix2 r n) = R (ix2 r n) + Q (ix2 r n) * B (ix2 r n) + X (ix2 r n) * A (ix2 r n) + A (ix2 r n) * X (ix2 r n) := by
  pointwise [stX]

theorem stG_at (B H : FVec Ideal S4096x1024 .f32) (n : Fin 1024) : stG X B H (ix2 0 n) = ∑ r : Fin 4096, X (ix2 r n) * B (ix2 r n) * H (ix2 r n) := by
  pointwise [stG]

theorem rs_eq (r : Fin 4096) (n : Fin 1024) : stB (stU X) (ix2 r n) = rs X r := by
  rw [stB_at, stU_at, rs]

/-- The gain's gradient needs nothing of its arguments. -/
theorem eq22 : stG X (stB (stU X)) (stH W1 W3 DU DG) = F22 X W1 W3 DU DG := by
  funext j
  idx_vars j
  obtain rfl : j0 = 0 := Subsingleton.elim _ _
  rw [stG_at]
  refine Finset.sum_congr rfl fun r _ => ?_
  rw [rs_eq, stH_at, mul_comm]; rfl

/-- The gradient of a row under a cotangent `h` of the norm's result, as the kernels form it. -/
def gx (h : Fin 4096 → Fin 1024 → EReal) (r : Fin 4096) (n : Fin 1024) : EReal := rs X r * (h r n * G (ix2 0 n) - X (ix2 r n) * rs X r
    * Ideal.div (∑ k : Fin 1024, h r k * G (ix2 0 k) * (X (ix2 r k) * rs X r)) (Ideal.ofBits .f32 0x44800000#32))

/-- The rows' gradient under a cotangent `H`, where the arguments hold real numbers. -/
theorem rows_eq (H : FVec Ideal S4096x1024 .f32) (h : Fin 4096 → Fin 1024 → EReal) (x : S4096x1024.Idx → ℝ) (g : S1x1024.Idx → ℝ) (q : Fin 4096 → Fin 1024 → ℝ)
    (hH : ∀ r n, H (ix2 r n) = h r n) (hx : X = fun i => (x i : EReal)) (hg : G = fun i => (g i : EReal)) (hq : ∀ r n, h r n = ((q r n : ℝ) : EReal)) (r : Fin 4096) (n : Fin 1024) :
    stX X R (stB (stU X)) (stQ G H) (stA X (stU X) (stQ G H)) (ix2 r n) = gx X G h r n + R (ix2 r n) := by
  have hN : (0 : ℝ) < 1024 := by norm_num
  have hX (k : Fin 1024) : X (ix2 r k) = ((x (ix2 r k) : ℝ) : EReal) := by rw [hx]
  have hD (k : Fin 1024) : h r k * G (ix2 0 k) = ((q r k * g (ix2 0 k) : ℝ) : EReal) := by rw [hq, hg, EReal.coe_mul]
  have hms : stU X (ix2 r 0) = ((ms 1024 (fun k => x (ix2 r k)) : ℝ) : EReal) := by
    rw [stU_at, ofBits_1024, ofBits_eps, ← ms_real 1024 _ hN]
    simp only [hX]
  have hrs : rs X r = ((rr 1024 (fun k => x (ix2 r k)) : ℝ) : EReal) := by
    rw [← rs_eq X r 0, stB_at, hms, rstd_real _ _ hN]
  rw [gx, stX_at, stA_at, hms, rstd_real _ _ hN, rs_eq, stQ_at, hH]
  simp only [stQ_at, hH, hD, hX, ofBits_1024, ofBits_mhalf, hrs]
  rw [ar_real _ _ (fun k => q r k * g (ix2 0 k)) hN]
  refine Eq.trans ?_ (congrArg (· + R (ix2 r n)) (kform _ _ (fun k => q r k * g (ix2 0 k)) hN n).symm)
  rw [← dx_eq _ _ _ hN]
  simp only [EReal.coe_add, EReal.coe_mul]
  ac_rfl

/-- The rows' gradient, where the arguments hold real numbers. -/
theorem eq19 (x : S4096x1024.Idx → ℝ) (g : S1x1024.Idx → ℝ) (w1 w3 : S1024x2816.Idx → ℝ) (u d : S4096x2816.Idx → ℝ)
    (hx : X = fun i => (x i : EReal)) (hg : G = fun i => (g i : EReal)) (h1 : W1 = fun i => (w1 i : EReal)) (h3 : W3 = fun i => (w3 i : EReal))
    (hu : DU = fun i => (u i : EReal)) (hd : DG = fun i => (d i : EReal)) : all X G W1 W3 DU DG R = F19 X G W1 W3 DU DG R := by
  funext j
  idx_vars j
  refine rows_eq X G R _ (dh W1 W3 DU DG) x g (fun r k => (∑ i : Fin 2816, u (ix2 r i) * w1 (ix2 k i)) + ∑ i : Fin 2816, d (ix2 r i) * w3 (ix2 k i)) (stH_at W1 W3 DU DG) hx hg (fun r k => ?_) j0 j1
  simp only [dh, h1, h3, hu, hd, ← EReal.coe_mul, coe_sum, ← EReal.coe_add]

theorem eq20 (h : all X G W1 W3 DU DG R = F19 X G W1 W3 DU DG R) :
    stV (all X G W1 W3 DU DG R) = F20 X G W1 W3 DU DG R := by
  rw [h]
  funext j
  idx_vars j
  unfold F20
  generalize F19 X G W1 W3 DU DG R = Z
  pointwise [stV]

theorem eq21 (h : all X G W1 W3 DU DG R = F19 X G W1 W3 DU DG R) :
    stT (all X G W1 W3 DU DG R) = F21 X G W1 W3 DU DG R := by
  rw [h]
  funext j
  idx_vars j
  unfold F21
  generalize F19 X G W1 W3 DU DG R = Z
  pointwise [stT]

/-- The precondition: the arrays of the norm and of its cotangent hold real numbers. -/
theorem reals (h : Cert.Pre_dh_finite.fn (F := Ideal) X G W1 W3 DU DG R = fun _ => 1#1) : all X G W1 W3 DU DG R = F19 X G W1 W3 DU DG R := by
  haveI : Subsingleton (Cert.Pre_dh_finite.S_).Idx := ⟨fun a b => funext fun i => i.elim0⟩
  have h0 := congrFun h (fun i => i.elim0)
  unfold Cert.Pre_dh_finite.fn Cert.Pre_dh_finite.fn_part1 at h0
  obtain ⟨h1, hd⟩ := andi_one h0
  obtain ⟨h2, hu⟩ := andi_one h1
  obtain ⟨h3, hw3⟩ := andi_one h2
  obtain ⟨h4, hw1⟩ := andi_one h3
  obtain ⟨hx, hg⟩ := andi_one h4
  obtain ⟨x, ex⟩ := reals_of_all X _ (fun _ => rfl) _ _ _ _ hx
  obtain ⟨g, eg⟩ := reals_of_all G _ (fun _ => rfl) _ _ _ _ hg
  obtain ⟨w1, e1⟩ := reals_of_all W1 _ (fun _ => rfl) _ _ _ _ hw1
  obtain ⟨w3, e3⟩ := reals_of_all W3 _ (fun _ => rfl) _ _ _ _ hw3
  obtain ⟨u, eu⟩ := reals_of_all DU _ (fun _ => rfl) _ _ _ _ hu
  obtain ⟨d, ed⟩ := reals_of_all DG _ (fun _ => rfl) _ _ _ _ hd
  exact eq19 X G W1 W3 DU DG R x g w1 w3 u d ex eg e1 e3 eu ed

end Cert.DhPair
end
-- ==== Proof.DhPair.lean ====
module

public import proofs.«01_k».proof.Defs
public import proofs.«01_k».proof.Proof.DhStage
public import proofs.«01_k».proof.Proof.DhValue
public import proofs.«01_k».proof.Proof.Gen.DhRefIdeal.Run
public import proofs.«01_k».proof.Proof.Gen.Pre_dh_finite

@[expose] public section

set_option maxRecDepth 16384

noncomputable section

open Idealize.ShloMosaic Idealize.ShloMosaic.TcCoe Idealize.SL.Sem

namespace Cert.DhPair
open Cert.Finite Cert.DhRefIdeal Cert.DhRefIdeal.Gen Cert.DhRefIdeal.Value Cert.Norm
open Cert.DhIdeal.Value (dh rs dx F19 F20 F21 F22)

theorem eq_res (m : (ℓ : Loc nD τ sig) → Buf (Elt Ideal) ℓ) (c : Dev nD) : res_main_v39 m c = all (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6)) := rfl

theorem eq_half (m : (ℓ : Loc nD τ sig) → Buf (Elt Ideal) ℓ) (c : Dev nD) : res_main_v42 m c = stV (res_main_v39 m c) := rfl

theorem eq_low (m : (ℓ : Loc nD τ sig) → Buf (Elt Ideal) ℓ) (c : Dev nD) : res_main_v43 m c = stT (res_main_v39 m c) := rfl

set_option maxHeartbeats 4000000 in
/-- The gradients of the norm and of the residual path are those of the forward lines. -/
theorem algebraic : Cert.algebraic_DhIdeal_DhRefIdeal_pre_dh_finite (hDhIdeal := Cert.DhIdeal.Gen.facts) (hDhRefIdeal := Cert.DhRefIdeal.Gen.facts) (hPre_dh_finite := Cert.Pre_dh_finite.Gen.facts) := by
  pair_intro
  · run_from Cert.DhIdeal.Gen.run_main m g
    · exact hc.1 19
    · exact hc.1 20
    · exact hc.1 21
    · exact hc.1 22
    · exact (hc.1 16).trans (((Cert.DhIdeal.Gen.dats m 0 c).arrAt_in 16 rfl _).trans ((Cert.DhIdeal.Gen.A_eq m c 16).trans (Cert.DhIdeal.Gen.V_main_arg0 m c)))
    · exact (hc.1 17).trans (((Cert.DhIdeal.Gen.dats m 0 c).arrAt_in 17 rfl _).trans ((Cert.DhIdeal.Gen.A_eq m c 17).trans (Cert.DhIdeal.Gen.V_main_arg1 m c)))
    · exact (hc.1 18).trans (((Cert.DhIdeal.Gen.dats m 0 c).arrAt_in 18 rfl _).trans ((Cert.DhIdeal.Gen.A_eq m c 18).trans (Cert.DhIdeal.Gen.V_main_arg6 m c)))
  · run_from Cert.DhRefIdeal.Value.run m' g'
    · obtain ⟨h0, h1, h2, h3, h4, h5, h6⟩ := hagree c
      refine Eq.trans ?_ (Cert.DhIdeal.Value.final19 m c).symm
      rw [eq_res, h0, h1, h2, h3, h4, h5, h6]
      exact reals _ _ _ _ _ _ _ (hpre c)
    · obtain ⟨h0, h1, h2, h3, h4, h5, h6⟩ := hagree c
      refine Eq.trans ?_ (Cert.DhIdeal.Value.final20 m c).symm
      rw [eq_half, eq_res, h0, h1, h2, h3, h4, h5, h6]
      exact eq20 _ _ _ _ _ _ _ (reals _ _ _ _ _ _ _ (hpre c))
    · obtain ⟨h0, h1, h2, h3, h4, h5, h6⟩ := hagree c
      refine Eq.trans ?_ (Cert.DhIdeal.Value.final21 m c).symm
      rw [eq_low, eq_res, h0, h1, h2, h3, h4, h5, h6]
      exact eq21 _ _ _ _ _ _ _ (reals _ _ _ _ _ _ _ (hpre c))
    · exact (eq22 _ _ _ _ _).trans (Cert.DhIdeal.Value.final22 m c).symm

end Cert.DhPair
end
-- ==== Proof.MixValue.lean ====
module

public import proofs.«01_k».proof.Defs
public import proofs.«01_k».proof.Proof.Gen.MixIdeal.Frame
public import proofs.«01_k».proof.Proof.Gen.MixIdeal.Value
public import Idealize.ShloMosaic.Lib.Pipeline.ValueKit
public import proofs.«01_k».proof.Proof.DhStage

@[expose] public section

set_option maxRecDepth 16384

noncomputable section

open Idealize.ShloMosaic Idealize.ShloMosaic.TcCoe Idealize.SL.Sem
open Idealize.ShloMosaic.Pipeline (Dat)

namespace Cert.MixIdeal.Value
open Cert.MixIdeal Cert.MixIdeal.Gen
open Cert.DhIdeal.Value (rs)
open Cert.DhPair (gx)

variable (m : (ℓ : Loc nD τ sig) → Buf (Elt Ideal) ℓ)

theorem idx : ∀ t : Fin cfg0.N, win0_0.index t = ![t.val, 0] ∧ win0_1.index t = ![t.val, 1] ∧ win0_2.index t = ![t.val, 2] ∧ win0_3.index t = ![t.val, 3]
    ∧ win0_4.index t = ![0, 0, 0] ∧ win0_5.index t = ![1, 0, 0] ∧ win0_6.index t = ![2, 0, 0] ∧ win0_7.index t = ![3, 0, 0]
    ∧ win0_8.index t = ![t.val, 0] ∧ win0_9.index t = ![0, 0] ∧ win0_10.index t = ![t.val, 0]
    ∧ win0_11.index t = ![t.val, 0] ∧ win0_12.index t = ![t.val, 0] ∧ win0_13.index t = ![0, 0] :=
  (by decide +kernel : ∀ t : Fin grid0.N, _)

variable (X : FVec Ideal S4096x1024 .f32) (G : FVec Ideal S1x1024 .f32) (W : FVec Ideal S1024x8192 .f32) (D : FVec Ideal S4096x8192 .f32) (R : FVec Ideal S4096x1024 .f32)

/-- The cotangent of the norm's result. -/
def ct (r : Fin 4096) (n : Fin 1024) : EReal := ∑ k : Fin 8192, D (ix2 r k) * W (ix2 n k)

/-- The arrays the kernel leaves. -/
def F11 : FVec Ideal S4096x1024 .f32 := fun y => gx X G (ct W D) (y 0) (y 1) + R (ix2 (y 0) (y 1))
def F12 : FVec Ideal S4096x1024 .bf16 := fun y => Ideal.ofBits .f32 0x3F000000#32 * F11 X G W D R (ix2 (y 0) (y 1))
def F13 : FVec Ideal S1x1024 .f32 := fun y => ∑ r : Fin 4096, ct W D r (y 1) * (X (ix2 r (y 1)) * rs X r)

/-- The row of block `t`. -/
abbrev row (t : Fin cfg0.N) (r : Fin 256) : Fin 4096 := ⟨t.val * 256 + r.val, by have := lt_of_lt_of_eq t.isLt N_0; omega⟩

/-- A column of a quarter of the projection. -/
abbrev col (j : Fin 4) (k : Fin 2048) : Fin 8192 := ⟨j.val * 2048 + k.val, by omega⟩

variable (c : Dev nD) (t : Fin cfg0.N)

abbrev aX : FVec Ideal S4096x1024 .f32 := m ((c : Thread nD τ).loc main_arg0)
abbrev aG : FVec Ideal S1x1024 .f32 := m ((c : Thread nD τ).loc main_arg1)
abbrev aW : FVec Ideal S1024x8192 .f32 := m ((c : Thread nD τ).loc main_arg2)
abbrev aD : FVec Ideal S4096x8192 .f32 := m ((c : Thread nD τ).loc main_arg3)
abbrev aR : FVec Ideal S4096x1024 .f32 := m ((c : Thread nD τ).loc main_arg4)

theorem entry_d (r : Fin 4096) (k : Fin 8192) : (V m c main_v3 : FVec Ideal S4096x8192 .bf16) (ix2 r k) = aD m c (ix2 r k) := by
  entry_read
  pointwise

theorem entry_w (j : Fin 4) (n : Fin 1024) (k : Fin 2048) : (V m c main_v2 : FVec Ideal S4x1024x2048 .bf16) (ix3 j n k) = aW m c (ix2 n (col j k)) := by
  entry_read
  pointwise

/-- A window of the cotangents holds quarter `j` of the block's rows, and one of the weights quarter `j` of the weights. -/
def IsD (j : Fin 4) (d : Vec Ideal S256x2048 .bf16) : Prop := ∀ (r : Fin 256) (k : Fin 2048), d (ix2 r k) = aD m c (ix2 (row t r) (col j k))
def IsW (j : Fin 4) (w : Vec Ideal S1x1024x2048 .bf16) : Prop := ∀ (n : Fin 1024) (k : Fin 2048), w (ix3 0 n k) = aW m c (ix2 n (col j k))

theorem rd0 : IsD m c t 0 (iblk m c 0 t) := fun r k => by
  refine Eq.trans ?_ (entry_d m c (row t r) (col 0 k)); blk_ext [iblk, idx t]
theorem rd1 : IsD m c t 1 (iblk m c 1 t) := fun r k => by
  refine Eq.trans ?_ (entry_d m c (row t r) (col 1 k)); blk_ext [iblk, idx t]
theorem rd2 : IsD m c t 2 (iblk m c 2 t) := fun r k => by
  refine Eq.trans ?_ (entry_d m c (row t r) (col 2 k)); blk_ext [iblk, idx t]
theorem rd3 : IsD m c t 3 (iblk m c 3 t) := fun r k => by
  refine Eq.trans ?_ (entry_d m c (row t r) (col 3 k)); blk_ext [iblk, idx t]
theorem rd4 : IsW m c 0 (iblk m c 4 t) := fun n k => by
  refine Eq.trans ?_ (entry_w m c 0 n k); blk_ext [iblk, idx t]
theorem rd5 : IsW m c 1 (iblk m c 5 t) := fun n k => by
  refine Eq.trans ?_ (entry_w m c 1 n k); blk_ext [iblk, idx t]
theorem rd6 : IsW m c 2 (iblk m c 6 t) := fun n k => by
  refine Eq.trans ?_ (entry_w m c 2 n k); blk_ext [iblk, idx t]
theorem rd7 : IsW m c 3 (iblk m c 7 t) := fun n k => by
  refine Eq.trans ?_ (entry_w m c 3 n k); blk_ext [iblk, idx t]

theorem rd8 (r : Fin 256) (n : Fin 1024) : (iblk m c 8 t : FVec Ideal S256x1024 .f32) (ix2 r n) = aX m c (ix2 (row t r) n) := by
  refine Eq.trans ?_ (congrFun (V_main_arg0 m c) _)
  blk_ext [iblk, idx t]

theorem rd9 (n : Fin 1024) : (iblk m c 9 t : FVec Ideal S1x1024 .f32) (ix2 0 n) = aG m c (ix2 0 n) := by
  refine Eq.trans ?_ (congrFun (V_main_arg1 m c) _)
  blk_ext [iblk, idx t]

theorem rd10 (r : Fin 256) (n : Fin 1024) : (iblk m c 10 t : FVec Ideal S256x1024 .f32) (ix2 r n) = aR m c (ix2 (row t r) n) := by
  refine Eq.trans ?_ (congrFun (V_main_arg4 m c) _)
  blk_ext [iblk, idx t]

/-- A partial product of the kernel. -/
def pp (x : Vec Ideal S256x2048 .bf16) (y : Vec Ideal S1x1024x2048 .bf16) (r : Fin 256) (n : Fin 1024) : EReal := ∑ k : Fin 2048, x (ix2 r k) * y (ix3 0 n k)

theorem pay7_at (x0 x1 x2 x3 : Vec Ideal S256x2048 .bf16) (y0 y1 y2 y3 : Vec Ideal S1x1024x2048 .bf16) (r : Fin 256) (n : Fin 1024) :
    k0_pay7 (F := Ideal) x0 y0 x1 y1 x2 y2 x3 y3 (ix2 r n) = pp x0 y0 r n + pp x1 y1 r n + pp x2 y2 r n + pp x3 y3 r n := by
  pointwise [k0_pay7, pp]

theorem pp_at (j : Fin 4) (x : Vec Ideal S256x2048 .bf16) (y : Vec Ideal S1x1024x2048 .bf16) (hx : IsD m c t j x) (hy : IsW m c j y) (r : Fin 256) (n : Fin 1024) :
    pp x y r n = ∑ k : Fin 2048, aD m c (ix2 (row t r) (col j k)) * aW m c (ix2 n (col j k)) :=
  Finset.sum_congr rfl fun k _ => congrArg₂ (· * ·) (hx r k) (hy n k)

/-- A sum over the projection's columns, in the four parts the kernel adds. -/
theorem four (f : Fin 8192 → EReal) : (∑ k, f (col 0 k)) + (∑ k, f (col 1 k)) + (∑ k, f (col 2 k)) + (∑ k, f (col 3 k)) = ∑ k, f k := by
  have h := Fintype.sum_equiv (finProdFinEquiv (m := 4) (n := 2048)) (fun p => f (col p.1 p.2)) f
    (fun p => congrArg f (Fin.ext (by simp [finProdFinEquiv]; omega)))
  rw [← h, Fintype.sum_prod_type, Fin.sum_univ_four]

theorem ct_at (r : Fin 256) (n : Fin 1024) :
    k0_pay7 (F := Ideal) (iblk m c 0 t) (iblk m c 4 t) (iblk m c 1 t) (iblk m c 5 t) (iblk m c 2 t) (iblk m c 6 t) (iblk m c 3 t) (iblk m c 7 t) (ix2 r n)
      = ct (aW m c) (aD m c) (row t r) n := by
  rw [pay7_at, ct, ← four, pp_at m c t 0 _ _ (rd0 m c t) (rd4 m c t), pp_at m c t 1 _ _ (rd1 m c t) (rd5 m c t), pp_at m c t 2 _ _ (rd2 m c t) (rd6 m c t),
    pp_at m c t 3 _ _ (rd3 m c t) (rd7 m c t)]

/-- The reciprocal root of a block's rows, and the normalised block. -/
theorem rs_at (x : Vec Ideal S256x1024 .f32) (hx : ∀ r n, x (ix2 r n) = aX m c (ix2 (row t r) n)) (r : Fin 256) : k0_pay1 (F := Ideal) (k0_pay8 x) (ix2 r 0) = rs (aX m c) (row t r) := by
  rw [rs]
  simp only [← hx]
  pointwise [k0_pay1, k0_pay8]

theorem xh_at (x : Vec Ideal S256x1024 .f32) (hx : ∀ r n, x (ix2 r n) = aX m c (ix2 (row t r) n)) (r : Fin 256) (n : Fin 1024) :
    k0_pay2 (F := Ideal) x (k0_pay8 x) (ix2 r n) = aX m c (ix2 (row t r) n) * rs (aX m c) (row t r) := by
  rw [← rs_at m c t x hx, ← hx]
  generalize hv : k0_pay8 (F := Ideal) x = v
  generalize hw : k0_pay1 (F := Ideal) v = w
  pointwise [k0_pay2, hw]

theorem pay3_at (d : FVec Ideal S256x1024 .f32) (x : Vec Ideal S256x1024 .f32) (g : Vec Ideal S1x1024 .f32) (e : Vec Ideal S256x1024 .f32) (v : FVec Ideal S256 .f32) (r : Fin 256) (n : Fin 1024) :
    k0_pay3 (F := Ideal) d x g e v (ix2 r n)
      = k0_pay1 (F := Ideal) v (ix2 r 0) * (d (ix2 r n) * g (ix2 0 n) - k0_pay2 (F := Ideal) x v (ix2 r n)
        * Ideal.div (∑ k : Fin 1024, d (ix2 r k) * g (ix2 0 k) * k0_pay2 (F := Ideal) x v (ix2 r k)) (Ideal.ofBits .f32 0x44800000#32)) + e (ix2 r n) := by
  generalize hz : k0_pay2 (F := Ideal) x v = z
  generalize hw : k0_pay1 (F := Ideal) v = w
  pointwise [k0_pay3, hz, hw]

theorem pay4_at (d : FVec Ideal S256x1024 .f32) (x : Vec Ideal S256x1024 .f32) (g : Vec Ideal S1x1024 .f32) (e : Vec Ideal S256x1024 .f32) (v : FVec Ideal S256 .f32) (r : Fin 256) (n : Fin 1024) :
    k0_pay4 (F := Ideal) d x g e v (ix2 r n) = Ideal.ofBits .f32 0x3F000000#32 * k0_pay3 (F := Ideal) d x g e v (ix2 r n) := by
  generalize hz : k0_pay3 (F := Ideal) d x g e v = z
  pointwise [k0_pay4, hz]

theorem pay6_at (d : FVec Ideal S256x1024 .f32) (x : Vec Ideal S256x1024 .f32) (v : FVec Ideal S256 .f32) (a : Vec Ideal S1x1024 .f32) (n : Fin 1024) :
    k0_pay6 (F := Ideal) d x v a (ix2 0 n) = a (ix2 0 n) + ∑ r : Fin 256, d (ix2 r n) * k0_pay2 (F := Ideal) x v (ix2 r n) := by
  generalize hz : k0_pay2 (F := Ideal) x v = z
  pointwise [k0_pay6, hz]

/-- The blocks the kernel stores. -/
theorem b11 (d x e : FVec Ideal S256x1024 .f32) (g : FVec Ideal S1x1024 .f32) (hd : ∀ r n, d (ix2 r n) = ct (aW m c) (aD m c) (row t r) n) (hx : ∀ r n, x (ix2 r n) = aX m c (ix2 (row t r) n))
    (hg : ∀ n, g (ix2 0 n) = aG m c (ix2 0 n)) (he : ∀ r n, e (ix2 r n) = aR m c (ix2 (row t r) n)) (r : Fin 256) (n : Fin 1024) :
    k0_pay3 (F := Ideal) d x g e (k0_pay8 x) (ix2 r n) = F11 (aX m c) (aG m c) (aW m c) (aD m c) (aR m c) (ix2 (row t r) n) := by
  rw [pay3_at, rs_at m c t _ hx, he]
  simp only [xh_at m c t _ hx, hd, hg]
  rfl

theorem b12 (d x e : FVec Ideal S256x1024 .f32) (g : FVec Ideal S1x1024 .f32) (hd : ∀ r n, d (ix2 r n) = ct (aW m c) (aD m c) (row t r) n) (hx : ∀ r n, x (ix2 r n) = aX m c (ix2 (row t r) n))
    (hg : ∀ n, g (ix2 0 n) = aG m c (ix2 0 n)) (he : ∀ r n, e (ix2 r n) = aR m c (ix2 (row t r) n)) (r : Fin 256) (n : Fin 1024) :
    k0_pay4 (F := Ideal) d x g e (k0_pay8 x) (ix2 r n) = F12 (aX m c) (aG m c) (aW m c) (aD m c) (aR m c) (ix2 (row t r) n) := by
  rw [pay4_at, b11 m c t d x e g hd hx hg he]; rfl

theorem b13 (d x : FVec Ideal S256x1024 .f32) (hd : ∀ r n, d (ix2 r n) = ct (aW m c) (aD m c) (row t r) n) (hx : ∀ r n, x (ix2 r n) = aX m c (ix2 (row t r) n)) (a : Vec Ideal S1x1024 .f32) (n : Fin 1024) :
    k0_pay6 (F := Ideal) d x (k0_pay8 x) a (ix2 0 n)
      = a (ix2 0 n) + ∑ r : Fin 256, ct (aW m c) (aD m c) (row t r) n * (aX m c (ix2 (row t r) n) * rs (aX m c) (row t r)) := by
  rw [pay6_at]
  simp only [xh_at m c t _ hx, hd]

theorem final11 : (dats m 0 c).arrAt 11 cfg0.N = F11 (aX m c) (aG m c) (aW m c) (aD m c) (aR m c) := by
  refine (dats m 0 c).arrAt_eq_of_covers 11 _ (by decide +kernel) fun t hf y => ?_
  have ht := lt_of_lt_of_eq t.isLt N_0
  blk_simp
  rw [after0_11]
  by_cases h0 : t.val % 16 = 0
  on_goal 1 => rw [outsAt0_A m c t h0]
  on_goal 2 => rw [outsAt0_B m c t h0]
  all_goals
    frame_out
    idx_vars y
    refine (b11 m c t _ _ _ _ (ct_at m c t) (rd8 m c t) (rd9 m c t) (rd10 m c t) y0 y1).trans (congrArg (F11 (aX m c) (aG m c) (aW m c) (aD m c) (aR m c)) ?_)
    blk_ext [idx t]

theorem final12 : (dats m 0 c).arrAt 12 cfg0.N = F12 (aX m c) (aG m c) (aW m c) (aD m c) (aR m c) := by
  refine (dats m 0 c).arrAt_eq_of_covers 12 _ (by decide +kernel) fun t hf y => ?_
  have ht := lt_of_lt_of_eq t.isLt N_0
  blk_simp
  rw [after0_12]
  by_cases h0 : t.val % 16 = 0
  on_goal 1 => rw [outsAt0_A m c t h0]
  on_goal 2 => rw [outsAt0_B m c t h0]
  all_goals
    frame_out
    idx_vars y
    refine (b12 m c t _ _ _ _ (ct_at m c t) (rd8 m c t) (rd9 m c t) (rd10 m c t) y0 y1).trans (congrArg (F12 (aX m c) (aG m c) (aW m c) (aD m c) (aR m c)) ?_)
    blk_ext [idx t]

theorem final13 : (dats m 0 c).arrAt 13 cfg0.N = F13 (aX m c) (aW m c) (aD m c) := by
  refine (dats m 0 c).arrAt_eq_of_covers 13 _ (by decide +kernel) fun t hf y => ?_
  have ht := lt_of_lt_of_eq t.isLt N_0
  blk_simp
  rw [after0_13, Pipeline.eq_sum_fin_of_reset_step_apply_of_flush (fun n h => (outsAt0 m c n h).2.2) 16 (fun _ => 0)
    (fun t y => ∑ r : Fin 256, ct (aW m c) (aD m c) (row t r) (y 1) * (aX m c (ix2 (row t r) (y 1)) * rs (aX m c) (row t r)))
    (fun t h j => by
      rw [outsAt0_A m c t h]; frame_out
      idx_vars j
      obtain rfl : j0 = 0 := Subsingleton.elim _ _
      rw [b13 m c t _ _ (ct_at m c t) (rd8 m c t)]
      refine congrArg (· + _) ?_
      pointwise [k0_pay5])
    (fun t h j => by
      rw [outsAt0_B m c t h]; frame_out
      idx_vars j
      obtain rfl : j0 = 0 := Subsingleton.elim _ _
      exact b13 m c t _ _ (ct_at m c t) (rd8 m c t) _ j1)
    t ((flush0_13 t).mp hf) _, zero_add]
  idx_vars y
  have h15 := (flush0_13 t).mp hf
  refine (Cert.DhIdeal.Value.rows_sum (fun r => ct (aW m c) (aD m c) r y1 * (aX m c (ix2 r y1) * rs (aX m c) r)) t (by omega) _).trans ?_
  refine Eq.trans (b := F13 (aX m c) (aW m c) (aD m c) (ix2 0 y1)) rfl (congrArg (F13 (aX m c) (aW m c) (aD m c)) ?_)
  blk_ext [idx t]

end Cert.MixIdeal.Value
end
-- ==== Proof.MixPair.lean ====
module

public import proofs.«01_k».proof.Defs
public import proofs.«01_k».proof.Proof.MixValue
public import proofs.«01_k».proof.Proof.Gen.MixRefIdeal.Run
public import proofs.«01_k».proof.Proof.Gen.Pre_mix_finite

@[expose] public section

set_option maxRecDepth 16384

noncomputable section

open Idealize.ShloMosaic Idealize.ShloMosaic.TcCoe Idealize.SL.Sem

namespace Cert.MixPair
open Cert.Finite Cert.MixRefIdeal Cert.MixRefIdeal.Gen Cert.MixRefIdeal.Value
open Cert.DhPair (stU stB stQ stA stX stG stV stG_at rs_eq rows_eq gx)
open Cert.MixIdeal.Value (ct F11 F12 F13)

variable (X : FVec Ideal S4096x1024 .f32) (G : FVec Ideal S1x1024 .f32) (W : FVec Ideal S1024x8192 .f32) (D : FVec Ideal S4096x8192 .f32) (R : FVec Ideal S4096x1024 .f32)

/-- The cotangent of the norm's result, and the rows' gradient. -/
def stC : FVec Ideal S4096x1024 .f32 := Host.dotGeneral dot_S4096x8192_S1024x8192_S4096x1024_1_1_0_0_n_n none D W
def all : FVec Ideal S4096x1024 .f32 := stX X R (stB (stU X)) (stQ G (stC W D)) (stA X (stU X) (stQ G (stC W D)))

theorem stC_at (r : Fin 4096) (n : Fin 1024) : stC W D (ix2 r n) = ct W D r n := by
  rw [ct]
  pointwise [stC]

theorem eq13 : stG X (stB (stU X)) (stC W D) = F13 X W D := by
  funext j
  idx_vars j
  obtain rfl : j0 = 0 := Subsingleton.elim _ _
  rw [stG_at]
  refine Finset.sum_congr rfl fun r _ => ?_
  rw [rs_eq, stC_at, mul_comm]; rfl

theorem eq12 (h : all X G W D R = F11 X G W D R) : stV (all X G W D R) = F12 X G W D R := by
  rw [h]
  funext j
  idx_vars j
  unfold F12
  generalize F11 X G W D R = Z
  pointwise [stV]

/-- The precondition: the arrays of the norm and of its cotangent hold real numbers. -/
theorem reals (h : Cert.Pre_mix_finite.fn (F := Ideal) X G W D R = fun _ => 1#1) : all X G W D R = F11 X G W D R := by
  haveI : Subsingleton (Cert.Pre_mix_finite.S_).Idx := ⟨fun a b => funext fun i => i.elim0⟩
  have h0 := congrFun h (fun i => i.elim0)
  unfold Cert.Pre_mix_finite.fn at h0
  obtain ⟨h1, hd⟩ := andi_one h0
  obtain ⟨h2, hw⟩ := andi_one h1
  obtain ⟨hx, hg⟩ := andi_one h2
  obtain ⟨x, ex⟩ := reals_of_all X _ (fun _ => rfl) _ _ _ _ hx
  obtain ⟨g, eg⟩ := reals_of_all G _ (fun _ => rfl) _ _ _ _ hg
  obtain ⟨w, ew⟩ := reals_of_all W _ (fun _ => rfl) _ _ _ _ hw
  obtain ⟨d, ed⟩ := reals_of_all D _ (fun _ => rfl) _ _ _ _ hd
  funext j
  idx_vars j
  refine rows_eq X G R _ (ct W D) x g (fun r k => ∑ i : Fin 8192, d (ix2 r i) * w (ix2 k i)) (stC_at W D) ex eg (fun r k => ?_) j0 j1
  simp only [ct, ew, ed, ← EReal.coe_mul, coe_sum]

theorem eq_res (m : (ℓ : Loc nD τ sig) → Buf (Elt Ideal) ℓ) (c : Dev nD) : res_main_v36 m c = all (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) := rfl

theorem eq_half (m : (ℓ : Loc nD τ sig) → Buf (Elt Ideal) ℓ) (c : Dev nD) : res_main_v39 m c = stV (res_main_v36 m c) := rfl

set_option maxHeartbeats 4000000 in
/-- The gradients of the mixer's norm and of the residual path are those of the forward lines. -/
theorem algebraic : Cert.algebraic_MixIdeal_MixRefIdeal_pre_mix_finite (hMixIdeal := Cert.MixIdeal.Gen.facts) (hMixRefIdeal := Cert.MixRefIdeal.Gen.facts) (hPre_mix_finite := Cert.Pre_mix_finite.Gen.facts) := by
  pair_intro
  · run_from Cert.MixIdeal.Gen.run_main m g
  · run_from Cert.MixRefIdeal.Value.run m' g'
    · obtain ⟨h0, h1, h2, h3, h4⟩ := hagree c
      refine Eq.trans ?_ (Cert.MixIdeal.Value.final11 m c).symm
      rw [eq_res, h0, h1, h2, h3, h4]
      exact reals _ _ _ _ _ (hpre c)
    · obtain ⟨h0, h1, h2, h3, h4⟩ := hagree c
      refine Eq.trans ?_ (Cert.MixIdeal.Value.final12 m c).symm
      rw [eq_half, eq_res, h0, h1, h2, h3, h4]
      exact eq12 _ _ _ _ _ (reals _ _ _ _ _ (hpre c))
    · exact (eq13 _ _ _).trans (Cert.MixIdeal.Value.final13 m c).symm

end Cert.MixPair
end
-- ==== Proof.RopeReal.lean ====
module

public import proofs.«01_k».proof.Proof.NormReal

@[expose] public section

noncomputable section

open Idealize.ShloMosaic

namespace Cert.Rope
open Cert.Finite Cert.Norm

/-! ### The gradient of a row through the rotary embedding and the norm -/

variable (cs sn : Fin 64 → EReal) (x g d : Fin 128 → EReal)

/-- The row's cotangent before the rotation: a column takes its own part and its partner's. -/
def dn (c : Fin 128) : EReal :=
  if c.val % 2 = 0 then cs ⟨c.val / 2, by omega⟩ * d c + sn ⟨c.val / 2, by omega⟩ * d ⟨(c.val + 1) % 128, Nat.mod_lt _ (by omega)⟩
  else cs ⟨c.val / 2, by omega⟩ * d c + -(sn ⟨c.val / 2, by omega⟩ * d ⟨(c.val + 127) % 128, Nat.mod_lt _ (by omega)⟩)

/-- The mean square with the small number, and the reciprocal root of it. -/
def u : EReal := Ideal.div (∑ k : Fin 128, x k * x k) (Ideal.ofBits .f32 0x43000000#32) + Ideal.ofBits .f32 0x358637BD#32
def r : EReal := Ideal.rsqrt (u x)

/-- The gradient of the row, as the kernel forms it. -/
def gx (n : Fin 128) : EReal := r x * (d n * g n - x n * r x * Ideal.div (∑ k : Fin 128, d k * g k * (x k * r x)) (Ideal.ofBits .f32 0x43000000#32))

/-- What the derivative of the reciprocal root brings in. -/
def a : EReal := Ideal.div ((∑ k : Fin 128, x k * (d k * g k)) * (Ideal.ofBits .f32 0xBF000000#32 * Ideal.div (r x) (u x))) (Ideal.ofBits .f32 0x43000000#32)

theorem row_eq (x' g' d' : Fin 128 → ℝ) (hx : ∀ k, x k = ((x' k : ℝ) : EReal)) (hg : ∀ k, g k = ((g' k : ℝ) : EReal)) (hd : ∀ k, d k = ((d' k : ℝ) : EReal)) (n : Fin 128) :
    d n * g n * r x + x n * a x g d + a x g d * x n = gx x g d n := by
  have hN : (0 : ℝ) < 128 := by norm_num
  have hD (k : Fin 128) : d k * g k = ((d' k * g' k : ℝ) : EReal) := by rw [hd, hg, EReal.coe_mul]
  have hu : u x = ((ms 128 x' : ℝ) : EReal) := by
    rw [u, ofBits_128, ofBits_eps, ← ms_real 128 _ hN]
    simp only [hx]
  have hr : r x = ((rr 128 x' : ℝ) : EReal) := by rw [r, hu, rstd_real _ _ hN]
  rw [gx, a, hu]
  simp only [hD, hx, ofBits_128, ofBits_mhalf, hr]
  rw [ar_real _ _ (fun k => d' k * g' k) hN]
  refine Eq.trans ?_ (kform _ _ (fun k => d' k * g' k) hN n).symm
  rw [← dx_eq _ _ _ hN]
  simp only [EReal.coe_add, EReal.coe_mul]

theorem dn_real (c' s' : Fin 64 → ℝ) (d' : Fin 128 → ℝ) (hc : ∀ k, cs k = ((c' k : ℝ) : EReal)) (hs : ∀ k, sn k = ((s' k : ℝ) : EReal)) (hd : ∀ k, d k = ((d' k : ℝ) : EReal)) (n : Fin 128) :
    ∃ e : ℝ, dn cs sn d n = (e : EReal) := by
  unfold dn
  simp only [hc, hs, hd]
  split
  all_goals
    simp only [← EReal.coe_mul, ← EReal.coe_neg, ← EReal.coe_add]
    exact ⟨_, rfl⟩

end Cert.Rope
end
-- ==== Proof.QnormValue.lean ====
module

public import proofs.«01_k».proof.Defs
public import proofs.«01_k».proof.Proof.Gen.QnormIdeal.Frame
public import proofs.«01_k».proof.Proof.Gen.QnormIdeal.Value
public import Idealize.ShloMosaic.Lib.Pipeline.ValueKit
public import Idealize.ShloMosaic.Lib.Claim
public import proofs.«01_k».proof.Proof.RopeReal

@[expose] public section

set_option maxRecDepth 16384

noncomputable section

open Idealize.ShloMosaic Idealize.ShloMosaic.TcCoe Idealize.SL.Sem
open Idealize.ShloMosaic.Pipeline (Dat)

namespace Cert.QnormIdeal.Value
open Cert.QnormIdeal Cert.QnormIdeal.Gen

variable (m : (ℓ : Loc nD τ sig) → Buf (Elt Ideal) ℓ)

/-- The angles of the rotary embedding. -/
def fq : FVec Ideal S4096x32 .f32 := broadcastInDim S4096x32 ![0, 1] bcast_S1x32_S4096x32_0_1 (broadcastInDim S1x32 ![1] bcast_S32_S1x32_1
  (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))
def rowAng : FVec Ideal S4096x32 .f32 := mulf (broadcastInDim S4096x32 ![0, 1] bcast_S4096x1_S4096x32_0_1 (broadcastInDim S4096x1 ![0] bcast_S4096_S4096x1_0
  (shapeCast _ (broadcastInDim S64x64 ![0] bcast_S64_S64x64_0 (sitofp .f32 (iotaInDim S64 32 0))) shapeCasts_S64x64_S4096))) fq
def colAng : FVec Ideal S4096x32 .f32 := mulf (broadcastInDim S4096x32 ![0, 1] bcast_S4096x1_S4096x32_0_1 (broadcastInDim S4096x1 ![0] bcast_S4096_S4096x1_0
  (shapeCast _ (broadcastInDim S64x64 ![0, 1] bcast_S1x64_S64x64_0_1 (shapeCast _ (sitofp .f32 (iotaInDim S64 32 0)) shapeCasts_S64_S1x64)) shapeCasts_S64x64_S4096))) fq
def ang : FVec Ideal S4096x64 .f32 := concatenate S4096x64 1 [⟨S4096x32, rowAng⟩, ⟨S4096x32, colAng⟩] concatenates_S4096x32_S4096x32_S4096x64_d1

/-- The host operations before the kernel, as one list. -/
def allOps : List (HloOp τ sig (Elt Ideal)) := [hostOps0, hostOps0_1, hostOps0_2, hostOps0_3, hostOps0_4].flatten

theorem V_eq (c : Dev nD) (b : Ref sig .tc) : V m c b = StableHlo.after allOps (fun b => m (c, b)) (Proc.tc.devRef b) := rfl

theorem s43 (c : Dev nD) : (V m c main_v43 : FVec Ideal S4096x128 .f32) = mulf (F := Ideal) (φ := .f32) (shapeCast S4096x128 (broadcastInDim S4096x64x2 ![0, 1] bcast_S4096x64_S4096x64x2_0_1 (Host.sin ang)) shapeCasts_S4096x64x2_S4096x128) (V m c main_v42) := by
  rw [V_eq, V_eq]
  simp only [allOps, List.flatten_cons, List.flatten_nil, hostOps0, hostOps0_1, hostOps0_2, hostOps0_3, hostOps0_4, List.cons_append, List.nil_append, List.append_nil, StableHlo.TRef.unary, StableHlo.TRef.binary, StableHlo.TRef.nullary, StableHlo.TRef.ternary]
  after_results_simp
  rfl

/-- The sign of a column's sine: the host's remainder of the column by two, and what it selects. -/
def two : IVec S_ 32 := select (cmpi .eq (constantI S_ 32 2#32) (constantI S_ 32 0#32)) (constantI S_ 32 1#32) (constantI S_ 32 2#32)
def rem : IVec S128 32 := Host.remsi (iotaInDim S128 32 0) (broadcastInDim S128 ![] bcast_S_S128 two)
def zeroI : IVec S128 32 := broadcastInDim S128 ![] bcast_S_S128 (constantI S_ 32 0#32)
def par2 : IVec S128 1 := cmpi .eq (select (andi (cmpi .ne (cmpi .slt rem zeroI) (broadcastInDim S128 ![] bcast_S_S128 (cmpi .slt two (constantI S_ 32 0#32)))) (cmpi .ne rem zeroI))
  (addi rem (broadcastInDim S128 ![] bcast_S_S128 two)) rem) zeroI
def sgn : FVec Ideal S4096x128 .f32 := broadcastInDim S4096x128 ![0, 1] bcast_S1x128_S4096x128_0_1 (broadcastInDim S1x128 ![1] bcast_S128_S1x128_1
  (select par2 (broadcastInDim S128 ![] bcast_S_S128 (constant S_ .f32 0xBF800000#32)) (broadcastInDim S128 ![] bcast_S_S128 (constant S_ .f32 0x3F800000#32))))

theorem s42 (c : Dev nD) : (V m c main_v42 : FVec Ideal S4096x128 .f32) = sgn := by
  rw [V_eq]
  simp only [allOps, List.flatten_cons, List.flatten_nil, hostOps0, hostOps0_1, hostOps0_2, hostOps0_3, hostOps0_4, List.cons_append, List.nil_append, List.append_nil, StableHlo.TRef.unary, StableHlo.TRef.binary, StableHlo.TRef.nullary, StableHlo.TRef.ternary]
  after_results_simp
  rfl

theorem par2_at (k : Fin 128) : par2 (ix1 k) = if k.val % 2 = 0 then 1#1 else 0#1 := by
  pointwise [par2, rem, two, zeroI]
  revert k
  decide +kernel

theorem sgn_at (r : Fin 4096) (k : Fin 128) : sgn (ix2 r k) = if k.val % 2 = 0 then -1 else 1 := by
  pointwise [sgn]
  rw [par2_at]
  have e : Ideal.ofBits .f32 0xBF800000#32 = (-1 : EReal) := by
    simp [Ideal.ofBits, Ideal.ieee]
    rw [← EReal.coe_mul]
    norm_num
  rw [e]
  split <;> rfl

theorem fq_real (r : Fin 4096) (k : Fin 32) : ∃ y : ℝ, fq (ix2 r k) = (y : EReal) := by
  have e1 : Ideal.ofBits .f32 0x461C4000#32 = ((10000 : ℝ) : EReal) := by
    simp [Ideal.ofBits, Ideal.ieee]
    try rw [← EReal.coe_mul]
    try norm_num
  have e2 : Ideal.ofBits .f32 0x42000000#32 = ((32 : ℝ) : EReal) := by
    simp [Ideal.ofBits, Ideal.ieee]
    try rw [← EReal.coe_mul]
    try norm_num
  pointwise [fq]
  change ∃ y : ℝ, Ideal.pow (Ideal.ofBits .f32 0x461C4000#32) (Ideal.div (-(((BitVec.ofNat 32 k.val).toInt : ℝ) : EReal)) (Ideal.ofBits .f32 0x42000000#32)) = y
  rw [e1, e2, ← EReal.coe_neg, Cert.Finite.div_real (by norm_num), Ideal.pow_coe_coe]
  exact ⟨_, rfl⟩

theorem ang_real (r : Fin 4096) (k : Fin 64) : ∃ y : ℝ, ang (ix2 r k) = (y : EReal) := by
  by_cases h : k.val < 32
  · pointwise [ang, rowAng]
    rw [dif_pos h]
    obtain ⟨y, e⟩ := fq_real r ⟨k.val, h⟩
    exact ⟨((BitVec.ofNat 32 (r.val / 64)).toInt : ℝ) * y, by rw [e, EReal.coe_mul]; rfl⟩
  · pointwise [ang, colAng]
    rw [dif_neg h]
    obtain ⟨y, e⟩ := fq_real r ⟨k.val - 32, by omega⟩
    exact ⟨((BitVec.ofNat 32 (r.val % 64)).toInt : ℝ) * y, by rw [e, EReal.coe_mul]; rfl⟩

/-- Whether a column is even, as the kernel and the host ask it. -/
theorem par : ∀ c : Fin 128, (IntOp.cmpi CmpIPredicate.eq
          (Scalar.select
            (IntOp.andi
              (IntOp.xori
                (IntOp.cmpi CmpIPredicate.slt
                  (IntOp.remsi ArithUnit.vector (BitVec.ofNat 32 c.val)
                    (Scalar.select (Scalar.cmpi CmpIPredicate.eq 2#32 0#32) 1#32 2#32))
                  0#32)
                (Scalar.cmpi CmpIPredicate.slt (Scalar.select (Scalar.cmpi CmpIPredicate.eq 2#32 0#32) 1#32 2#32) 0#32))
              (IntOp.cmpi CmpIPredicate.ne
                (IntOp.remsi ArithUnit.vector (BitVec.ofNat 32 c.val)
                  (Scalar.select (Scalar.cmpi CmpIPredicate.eq 2#32 0#32) 1#32 2#32))
                0#32))
            (IntOp.addi
              (IntOp.remsi ArithUnit.vector (BitVec.ofNat 32 c.val)
                (Scalar.select (Scalar.cmpi CmpIPredicate.eq 2#32 0#32) 1#32 2#32))
              (Scalar.select (Scalar.cmpi CmpIPredicate.eq 2#32 0#32) 1#32 2#32))
            (IntOp.remsi ArithUnit.vector (BitVec.ofNat 32 c.val)
              (Scalar.select (Scalar.cmpi CmpIPredicate.eq 2#32 0#32) 1#32 2#32)))
          0#32) = if c.val % 2 = 0 then 1#1 else 0#1 := by decide +kernel

theorem pay6_at (d : Vec Ideal S2048x128 .bf16) (x y : Vec Ideal S2048x128 .f32) (r : Fin 2048) (c : Fin 128) : k0_pay6 (F := Ideal) d x y (ix2 r c)
    = x (ix2 r c) * (d (ix2 r c) * Ideal.ofBits .f32 0x3DB504F3#32) + if c.val % 2 = 0
      then y (ix2 r ⟨(c.val + 1) % 128, Nat.mod_lt _ (by omega)⟩) * (d (ix2 r ⟨(c.val + 1) % 128, Nat.mod_lt _ (by omega)⟩) * Ideal.ofBits .f32 0x3DB504F3#32)
      else y (ix2 r ⟨(c.val + 127) % 128, Nat.mod_lt _ (by omega)⟩) * (d (ix2 r ⟨(c.val + 127) % 128, Nat.mod_lt _ (by omega)⟩) * Ideal.ofBits .f32 0x3DB504F3#32) := by
  have e1 : c.val + 128 - 127 = c.val + 1 := by omega
  have e2 : c.val + 128 - 1 = c.val + 127 := by omega
  pointwise [k0_pay6]
  rw [par]
  simp only [e1, e2]
  refine congrArg₂ (· + ·) rfl ?_
  split <;> rfl

theorem entry_d (c : Dev nD) (r : Fin 4096) (k : Fin 1024) : (V m c main_v44 : FVec Ideal S4096x1024 .bf16) (ix2 r k) = (m ((c : Thread nD τ).loc main_arg2) : FVec Ideal S4096x1024 .f32) (ix2 r k) := by
  rw [V_eq]
  simp only [allOps, List.flatten_cons, List.flatten_nil, hostOps0, hostOps0_1, hostOps0_2, hostOps0_3, hostOps0_4, List.cons_append, List.nil_append, List.append_nil, StableHlo.TRef.unary, StableHlo.TRef.binary, StableHlo.TRef.nullary, StableHlo.TRef.ternary]
  after_results_simp
  rfl

theorem entry_x (c : Dev nD) (r : Fin 4096) (k : Fin 1024) (h : 4608 + k.val < 8192) : (V m c main_v4 : FVec Ideal S4096x8192 .bf16) (ix2 r ⟨4608 + k.val, h⟩) = (m ((c : Thread nD τ).loc main_arg0) : FVec Ideal S4096x1024 .f32) (ix2 r k) := by
  rw [V_eq]
  simp only [allOps, List.flatten_cons, List.flatten_nil, hostOps0, hostOps0_1, hostOps0_2, hostOps0_3, hostOps0_4, List.cons_append, List.nil_append, List.append_nil, StableHlo.TRef.unary, StableHlo.TRef.binary, StableHlo.TRef.nullary, StableHlo.TRef.ternary]
  after_results_simp
  pointwise
  rw [dif_pos (by omega)]
  after_results_simp
  rfl

theorem keep (c : Dev nD) : StableHlo.after allOps (fun b => m (c, b)) (Proc.tc.devRef main_arg0) = m ((c : Thread nD τ).loc main_arg0) ∧ StableHlo.after allOps (fun b => m (c, b)) (Proc.tc.devRef main_arg2) = m ((c : Thread nD τ).loc main_arg2) := by
  simp only [allOps, List.flatten_cons, List.flatten_nil, hostOps0, hostOps0_1, hostOps0_2, hostOps0_3, hostOps0_4, List.cons_append, List.nil_append, List.append_nil, StableHlo.TRef.unary, StableHlo.TRef.binary, StableHlo.TRef.nullary, StableHlo.TRef.ternary]
  constructor
  all_goals after_results_simp

theorem entry_c (c : Dev nD) (r : Fin 4096) (k : Fin 128) : (V m c main_v31 : FVec Ideal S4096x128 .f32) (ix2 r k) = Ideal.cos (ang (ix2 r ⟨k.val / 2, by omega⟩)) := by
  rw [V_eq]
  simp only [allOps, List.flatten_cons, List.flatten_nil, hostOps0, hostOps0_1, hostOps0_2, hostOps0_3, hostOps0_4, List.cons_append, List.nil_append, List.append_nil, StableHlo.TRef.unary, StableHlo.TRef.binary, StableHlo.TRef.nullary, StableHlo.TRef.ternary]
  after_results_simp
  change shapeCast S4096x128 (broadcastInDim S4096x64x2 ![0, 1] bcast_S4096x64_S4096x64x2_0_1 (Host.cos ang)) shapeCasts_S4096x64x2_S4096x128 (ix2 r k) = _
  generalize ang = a
  pointwise

theorem entry_s (c : Dev nD) (r : Fin 4096) (k : Fin 128) : (V m c main_v43 : FVec Ideal S4096x128 .f32) (ix2 r k) = Ideal.sin (ang (ix2 r ⟨k.val / 2, by omega⟩)) * (if k.val % 2 = 0 then -1 else 1) := by
  rw [s43, s42, ← sgn_at r k]
  generalize sgn = v
  generalize ang = a
  pointwise

variable (X D : FVec Ideal S4096x1024 .f32) (G : FVec Ideal S1x128 .f32)

/-- A head's column among all columns. -/
abbrev hcol (h : Fin 8) (k : Fin 128) : Fin 1024 := ⟨h.val * 128 + k.val, by omega⟩
/-- The rows of a head: the array's, the gain's, and the cotangent's before the rotation. -/
def xr (r : Fin 4096) (h : Fin 8) (k : Fin 128) : EReal := X (ix2 r (hcol h k))
def gr (k : Fin 128) : EReal := G (ix2 0 k)
def dr (r : Fin 4096) (h : Fin 8) : Fin 128 → EReal :=
  Cert.Rope.dn (fun k => Ideal.cos (ang (ix2 r k))) (fun k => Ideal.sin (ang (ix2 r k))) fun k => D (ix2 r (hcol h k)) * Ideal.ofBits .f32 0x3DB504F3#32

/-- The arrays the kernel leaves. -/
def F5 : FVec Ideal S4096x1024 .bf16 := fun y => Cert.Rope.gx (xr X (y 0) ⟨(y 1).val / 128, by have := (y 1).isLt; change _ < 1024 at this; omega⟩) (gr G)
  (dr D (y 0) ⟨(y 1).val / 128, by have := (y 1).isLt; change _ < 1024 at this; omega⟩) ⟨(y 1).val % 128, Nat.mod_lt _ (by omega)⟩
def F6 : FVec Ideal S8x1x128 .f32 := fun y => ∑ r : Fin 4096, dr D r (y 0) (y 2) * (xr X r (y 0) (y 2) * Cert.Rope.r (xr X r (y 0)))

theorem idx : ∀ t : Fin cfg0.N, win0_0.index t = ![t.val % 2, t.val / 2] ∧ win0_1.index t = ![t.val % 2, 36 + t.val / 2] ∧ win0_2.index t = ![0, 0]
    ∧ win0_3.index t = ![t.val % 2, 0] ∧ win0_4.index t = ![t.val % 2, 0] ∧ win0_5.index t = ![t.val % 2, t.val / 2] ∧ win0_6.index t = ![t.val / 2, 0, 0] :=
  (by decide +kernel : ∀ t : Fin grid0.N, _)

variable (c : Dev nD) (t : Fin cfg0.N)

/-- The row and the head of point `t`. -/
abbrev row (t : Fin cfg0.N) (r : Fin 2048) : Fin 4096 := ⟨t.val % 2 * 2048 + r.val, by omega⟩
abbrev hd (t : Fin cfg0.N) : Fin 8 := ⟨t.val / 2, by have := lt_of_lt_of_eq t.isLt N_0; omega⟩

abbrev aX : FVec Ideal S4096x1024 .f32 := m ((c : Thread nD τ).loc main_arg0)
abbrev aG : FVec Ideal S1x128 .f32 := m ((c : Thread nD τ).loc main_arg1)
abbrev aD : FVec Ideal S4096x1024 .f32 := m ((c : Thread nD τ).loc main_arg2)

theorem rd0 (r : Fin 2048) (k : Fin 128) : (iblk m c 0 t : FVec Ideal S2048x128 .bf16) (ix2 r k) = aD m c (ix2 (row t r) (hcol (hd t) k)) := by
  refine Eq.trans ?_ (entry_d m c (row t r) (hcol (hd t) k))
  blk_ext [iblk, idx t]

theorem rd1 (r : Fin 2048) (k : Fin 128) : (iblk m c 1 t : FVec Ideal S2048x128 .bf16) (ix2 r k) = xr (aX m c) (row t r) (hd t) k := by
  have ht := lt_of_lt_of_eq t.isLt N_0
  refine Eq.trans ?_ (entry_x m c (row t r) (hcol (hd t) k) (by have := k.isLt; show 4608 + (t.val / 2 * 128 + k.val) < 8192; omega))
  blk_ext [iblk, idx t]

theorem rd2 (k : Fin 128) : (iblk m c 2 t : FVec Ideal S1x128 .f32) (ix2 0 k) = gr (aG m c) k := by
  refine Eq.trans ?_ (congrFun (V_main_arg1 m c) _)
  blk_ext [iblk, idx t]

theorem rd3 (r : Fin 2048) (k : Fin 128) : (iblk m c 3 t : FVec Ideal S2048x128 .f32) (ix2 r k) = Ideal.cos (ang (ix2 (row t r) ⟨k.val / 2, by omega⟩)) := by
  refine Eq.trans ?_ (entry_c m c (row t r) k)
  blk_ext [iblk, idx t]

theorem rd4 (r : Fin 2048) (k : Fin 128) : (iblk m c 4 t : FVec Ideal S2048x128 .f32) (ix2 r k) = Ideal.sin (ang (ix2 (row t r) ⟨k.val / 2, by omega⟩)) * (if k.val % 2 = 0 then -1 else 1) := by
  refine Eq.trans ?_ (entry_s m c (row t r) k)
  blk_ext [iblk, idx t]

/-- The cotangent of a block's rows before the rotation. -/
theorem d_at (d : Vec Ideal S2048x128 .bf16) (x y : Vec Ideal S2048x128 .f32) (hd' : ∀ r k, d (ix2 r k) = aD m c (ix2 (row t r) (hcol (hd t) k)))
    (hx : ∀ (r : Fin 2048) (k : Fin 128), x (ix2 r k) = Ideal.cos (ang (ix2 (row t r) ⟨k.val / 2, by omega⟩)))
    (hy : ∀ (r : Fin 2048) (k : Fin 128), y (ix2 r k) = Ideal.sin (ang (ix2 (row t r) ⟨k.val / 2, by omega⟩)) * (if k.val % 2 = 0 then -1 else 1)) (r : Fin 2048) (k : Fin 128) :
    k0_pay6 (F := Ideal) d x y (ix2 r k) = dr (aD m c) (row t r) (hd t) k := by
  rw [pay6_at, dr, Cert.Rope.dn]
  simp only [hd', hx, hy]
  by_cases h : k.val % 2 = 0
  · have e1 : (k.val + 1) % 128 / 2 = k.val / 2 := by omega
    have e2 : ¬ (k.val + 1) % 128 % 2 = 0 := by omega
    simp only [h, e1, e2, if_true, if_false, mul_one]
  · have e1 : (k.val + 127) % 128 / 2 = k.val / 2 := by omega
    have e2 : (k.val + 127) % 128 % 2 = 0 := by omega
    simp only [h, e1, e2, if_true, if_false, mul_neg, mul_one, neg_mul]

theorem pay1_at (x : FVec Ideal S2048x128 .f32) (r : Fin 2048) : k0_pay1 (F := Ideal) x (ix2 r 0) = Cert.Rope.r fun k => x (ix2 r k) := by
  rw [Cert.Rope.r, Cert.Rope.u]
  pointwise [k0_pay1]

theorem pay2_at (x : FVec Ideal S2048x128 .f32) (r : Fin 2048) (k : Fin 128) : k0_pay2 (F := Ideal) x (ix2 r k) = x (ix2 r k) * Cert.Rope.r fun k => x (ix2 r k) := by
  rw [← pay1_at]
  generalize hw : k0_pay1 (F := Ideal) x = w
  pointwise [k0_pay2, hw]

theorem pay3_at (g : Vec Ideal S1x128 .f32) (d x : FVec Ideal S2048x128 .f32) (r : Fin 2048) (n : Fin 128) :
    k0_pay3 (F := Ideal) g d x (ix2 r n) = Cert.Rope.gx (fun k => x (ix2 r k)) (fun k => g (ix2 0 k)) (fun k => d (ix2 r k)) n := by
  rw [Cert.Rope.gx]
  simp only [← pay2_at, ← pay1_at]
  generalize hz : k0_pay2 (F := Ideal) x = z
  have hz' (k : Fin 128) : x (ix2 r k) * k0_pay1 (F := Ideal) x (ix2 r 0) = z (ix2 r k) := by rw [← hz, pay2_at, pay1_at]
  simp only [hz']
  generalize hw : k0_pay1 (F := Ideal) x = w
  pointwise [k0_pay3, hz, hw]

theorem pay5_at (d x : FVec Ideal S2048x128 .f32) (a : Vec Ideal S1x1x128 .f32) (n : Fin 128) :
    k0_pay5 (F := Ideal) d x a (ix3 0 0 n) = a (ix3 0 0 n) + ∑ r : Fin 2048, d (ix2 r n) * (x (ix2 r n) * Cert.Rope.r fun k => x (ix2 r k)) := by
  simp only [← pay2_at]
  generalize hz : k0_pay2 (F := Ideal) x = z
  pointwise [k0_pay5, hz]

theorem pay7_at (x : Vec Ideal S2048x128 .bf16) (r : Fin 2048) (k : Fin 128) : k0_pay7 (F := Ideal) x (ix2 r k) = x (ix2 r k) := by
  pointwise [k0_pay7]

theorem x_at (r : Fin 2048) (k : Fin 128) : k0_pay7 (F := Ideal) (iblk m c 1 t) (ix2 r k) = xr (aX m c) (row t r) (hd t) k := (pay7_at _ r k).trans (rd1 m c t r k)

theorem dd_at (r : Fin 2048) (k : Fin 128) : k0_pay6 (F := Ideal) (iblk m c 0 t) (iblk m c 3 t) (iblk m c 4 t) (ix2 r k) = dr (aD m c) (row t r) (hd t) k :=
  d_at m c t _ _ _ (rd0 m c t) (rd3 m c t) (rd4 m c t) r k

/-- The blocks the kernel stores. -/
theorem b5 (g : Vec Ideal S1x128 .f32) (d x : FVec Ideal S2048x128 .f32) (hg : ∀ k, g (ix2 0 k) = gr (aG m c) k) (hd' : ∀ r k, d (ix2 r k) = dr (aD m c) (row t r) (hd t) k)
    (hx : ∀ r k, x (ix2 r k) = xr (aX m c) (row t r) (hd t) k) (r : Fin 2048) (n : Fin 128) :
    k0_pay3 (F := Ideal) g d x (ix2 r n) = F5 (aX m c) (aD m c) (aG m c) (ix2 (row t r) (hcol (hd t) n)) := by
  rw [pay3_at]
  simp only [hg, hd', hx]
  have e1 : (t.val / 2 * 128 + n.val) / 128 = t.val / 2 := by omega
  have e2 : (t.val / 2 * 128 + n.val) % 128 = n.val := by omega
  simp only [F5, ix2_0, ix2_1, e1, e2]

theorem b6 (d x : FVec Ideal S2048x128 .f32) (hd' : ∀ r k, d (ix2 r k) = dr (aD m c) (row t r) (hd t) k)
    (hx : ∀ r k, x (ix2 r k) = xr (aX m c) (row t r) (hd t) k) (a : Vec Ideal S1x1x128 .f32) (n : Fin 128) :
    k0_pay5 (F := Ideal) d x a (ix3 0 0 n)
      = a (ix3 0 0 n) + ∑ r : Fin 2048, dr (aD m c) (row t r) (hd t) n * (xr (aX m c) (row t r) (hd t) n * Cert.Rope.r (xr (aX m c) (row t r) (hd t))) := by
  rw [pay5_at]
  simp only [hd', hx]

theorem final5 : (dats m 0 c).arrAt 5 cfg0.N = F5 (aX m c) (aD m c) (aG m c) := by
  refine (dats m 0 c).arrAt_eq_of_covers 5 _ (by decide +kernel) fun t hf y => ?_
  have ht := lt_of_lt_of_eq t.isLt N_0
  blk_simp
  rw [after0_5]
  by_cases h0 : t.val % 2 = 0
  on_goal 1 => rw [outsAt0_A m c t h0]
  on_goal 2 => rw [outsAt0_B m c t h0]
  all_goals
    frame_out
    idx_vars y
    refine (b5 m c t _ _ _ (rd2 m c t) (dd_at m c t) (x_at m c t) y0 y1).trans (congrArg (F5 (aX m c) (aD m c) (aG m c)) ?_)
    blk_ext [idx t]

/-- A sum over all rows, in the two blocks' sums. -/
theorem rows_sum (f : Fin 4096 → EReal) : (∑ s : Fin 2, ∑ r : Fin 2048, f ⟨s.val * 2048 + r.val, by omega⟩) = ∑ r, f r := by
  have e := Fintype.sum_equiv (finProdFinEquiv (m := 2) (n := 2048)) (fun p => f ⟨p.1.val * 2048 + p.2.val, by omega⟩) f
    (fun p => congrArg f (Fin.ext (by simp [finProdFinEquiv]; omega)))
  rw [← e, Fintype.sum_prod_type]

theorem sum_blocks (t : Fin cfg0.N) (k : Fin 128) (h : ∀ s : Fin 2, 2 * (t.val / 2) + s.val < cfg0.N) :
    (∑ s : Fin 2, ∑ r : Fin 2048, dr D (row ⟨2 * (t.val / 2) + s.val, h s⟩ r) (hd ⟨2 * (t.val / 2) + s.val, h s⟩) k
        * (xr X (row ⟨2 * (t.val / 2) + s.val, h s⟩ r) (hd ⟨2 * (t.val / 2) + s.val, h s⟩) k
          * Cert.Rope.r (xr X (row ⟨2 * (t.val / 2) + s.val, h s⟩ r) (hd ⟨2 * (t.val / 2) + s.val, h s⟩))))
      = ∑ r : Fin 4096, dr D r (hd t) k * (xr X r (hd t) k * Cert.Rope.r (xr X r (hd t))) := by
  rw [← rows_sum]
  refine Finset.sum_congr rfl fun s _ => Finset.sum_congr rfl fun r _ => ?_
  have e1 : row ⟨2 * (t.val / 2) + s.val, h s⟩ r = ⟨s.val * 2048 + r.val, by omega⟩ := Fin.ext (by show (2 * (t.val / 2) + s.val) % 2 * 2048 + r.val = s.val * 2048 + r.val; omega)
  have e2 : hd ⟨2 * (t.val / 2) + s.val, h s⟩ = hd t := Fin.ext (by show (2 * (t.val / 2) + s.val) / 2 = t.val / 2; omega)
  rw [e1, e2]

theorem final6 : (dats m 0 c).arrAt 6 cfg0.N = F6 (aX m c) (aD m c) := by
  refine (dats m 0 c).arrAt_eq_of_covers 6 _ (by decide +kernel) fun t hf y => ?_
  have ht := lt_of_lt_of_eq t.isLt N_0
  blk_simp
  rw [after0_6, Pipeline.eq_sum_fin_of_reset_step_apply_of_flush (fun n h => (outsAt0 m c n h).2) 2 (fun _ => 0)
    (fun t y => ∑ r : Fin 2048, dr (aD m c) (row t r) (hd t) (y 2) * (xr (aX m c) (row t r) (hd t) (y 2) * Cert.Rope.r (xr (aX m c) (row t r) (hd t))))
    (fun t h j => by
      rw [outsAt0_A m c t h]; frame_out
      idx_vars j
      obtain rfl : j0 = 0 := Subsingleton.elim _ _
      obtain rfl : j1 = 0 := Subsingleton.elim _ _
      rw [b6 m c t _ _ (dd_at m c t) (x_at m c t)]
      refine congrArg (· + _) ?_
      pointwise [k0_pay4])
    (fun t h j => by
      rw [outsAt0_B m c t h]; frame_out
      idx_vars j
      obtain rfl : j0 = 0 := Subsingleton.elim _ _
      obtain rfl : j1 = 0 := Subsingleton.elim _ _
      exact b6 m c t _ _ (dd_at m c t) (x_at m c t) _ j2)
    t ((flush0_6 t).mp hf) _, zero_add]
  idx_vars y
  have h15 := (flush0_6 t).mp hf
  refine (sum_blocks (aX m c) (aD m c) t y2 fun s => by have := lt_of_lt_of_eq t.isLt N_0; refine lt_of_lt_of_eq ?_ N_0.symm; omega).trans ?_
  refine Eq.trans (b := F6 (aX m c) (aD m c) (ix3 (hd t) 0 y2)) rfl (congrArg (F6 (aX m c) (aD m c)) ?_)
  blk_ext [idx t]

end Cert.QnormIdeal.Value
end
-- ==== Proof.QnormPair.lean ====
module

public import proofs.«01_k».proof.Defs
public import proofs.«01_k».proof.Proof.QnormValue
public import proofs.«01_k».proof.Proof.Gen.QnormRefIdeal.Run
public import proofs.«01_k».proof.Proof.Gen.Pre_qnorm_finite

@[expose] public section

set_option maxRecDepth 16384

noncomputable section

open Idealize.ShloMosaic Idealize.ShloMosaic.TcCoe Idealize.SL.Sem

namespace Cert.QnormPair
open Cert.Finite Cert.QnormRefIdeal Cert.QnormRefIdeal.Gen Cert.QnormRefIdeal.Value Cert.Norm
open Cert.QnormIdeal.Value (ang ang_real hcol xr gr dr F5 F6)

variable (X : FVec Ideal S4096x1024 .f32) (G : FVec Ideal S1x128 .f32) (D : FVec Ideal S4096x1024 .f32)

/-- An array of rows, head by head. -/
def stH : FVec Ideal S4096x8x128 .f32 := shapeCast _ X shapeCasts_S4096x1024_S4096x8x128

/-- The gain, for every head. -/
def stT : FVec Ideal S1x8x128 .f32 :=
  broadcastInDim S1x8x128 ![1, 2] bcast_S8x128_S1x8x128_1_2 (shapeCast _ (broadcastInDim S8x1x1x128 ![0, 1, 2, 3] bcast_S1x1x1x128_S8x1x1x128_0_1_2_3 (shapeCast _ G shapeCasts_S1x128_S1x1x1x128)) shapeCasts_S8x1x1x128_S8x128)

/-- A table for every head. -/
def stW (A : FVec Ideal S4096x64 .f32) : FVec Ideal S4096x8x64 .f32 :=
  broadcastInDim S4096x8x64 ![0, 1, 2] bcast_S4096x1x64_S4096x8x64_0_1_2 (broadcastInDim S4096x1x64 ![0, 2] bcast_S4096x64_S4096x1x64_0_2 A)

variable (Y : FVec Ideal S4096x8x128 .f32)

/-- The scaled cotangent in pairs, and the two of a pair. -/
def stP : FVec Ideal S4096x8x64x2 .f32 := shapeCast _ (mulf Y (broadcastInDim S4096x8x128 ![] bcast_S_S4096x8x128 (constant S_ .f32 0x3DB504F3#32))) shapeCasts_S4096x8x128_S4096x8x64x2
def stE (P : FVec Ideal S4096x8x64x2 .f32) : FVec Ideal S4096x8x64 .f32 :=
  shapeCast _ (extractStridedSlice S4096x8x64x1 ![0, 0, 0, 0] P slices_S4096x8x64x2_S4096x8x64x1_0_0_0_0) shapeCasts_S4096x8x64x1_S4096x8x64
def stO (P : FVec Ideal S4096x8x64x2 .f32) : FVec Ideal S4096x8x64 .f32 :=
  shapeCast _ (extractStridedSlice S4096x8x64x1 ![0, 0, 0, 1] P slices_S4096x8x64x2_S4096x8x64x1_0_0_0_1) shapeCasts_S4096x8x64x1_S4096x8x64

/-- The cotangent before the rotation. -/
def stN (C S E O : FVec Ideal S4096x8x64 .f32) : FVec Ideal S4096x8x128 .f32 :=
  shapeCast _ (addf
    (pad S4096x8x64x2 ![0, 0, 0, 1] ![0, 0, 0, 0] ![0, 0, 0, 0] (broadcastInDim S4096x8x64x1 ![0, 1, 2] bcast_S4096x8x64_S4096x8x64x1_0_1_2 (addf (mulf O C) (mulf (Host.negf E) S))) (constant S_ .f32 0x00000000#32) pads_S4096x8x64x1_S4096x8x64x2_000_000_000_100 h_S_)
    (pad S4096x8x64x2 ![0, 0, 0, 0] ![0, 0, 0, 1] ![0, 0, 0, 0] (broadcastInDim S4096x8x64x1 ![0, 1, 2] bcast_S4096x8x64_S4096x8x64x1_0_1_2 (addf (mulf O S) (mulf E C))) (constant S_ .f32 0x00000000#32) pads_S4096x8x64x1_S4096x8x64x2_000_000_000_010 h_S_))
    shapeCasts_S4096x8x64x2_S4096x8x128

/-- The mean square with the small number, and the reciprocal root in every column. -/
def stU : FVec Ideal S4096x8x1 .f32 :=
  addf (Host.divf (broadcastInDim S4096x8x1 ![0, 1] bcast_S4096x8_S4096x8x1_0_1 (Host.reduceAdd (mulf Y Y) (constant S_ .f32 0x00000000#32) reducesTo_S4096x8x128_S4096x8_d2 h_S_))
    (broadcastInDim S4096x8x1 ![] bcast_S_S4096x8x1 (constant S_ .f32 0x43000000#32))) (broadcastInDim S4096x8x1 ![] bcast_S_S4096x8x1 (constant S_ .f32 0x358637BD#32))
def stB (U : FVec Ideal S4096x8x1 .f32) : FVec Ideal S4096x8x128 .f32 := broadcastInDim S4096x8x128 ![0, 1, 2] bcast_S4096x8x1_S4096x8x128_0_1_2 (Host.rsqrt U)

/-- The cotangent of the normalised row. -/
def stQ (N : FVec Ideal S4096x8x128 .f32) (K : FVec Ideal S1x8x128 .f32) : FVec Ideal S4096x8x128 .f32 := mulf N (broadcastInDim S4096x8x128 ![0, 1, 2] bcast_S1x8x128_S4096x8x128_0_1_2 K)

/-- What the derivative of the reciprocal root brings in, in every column. -/
def stA (U : FVec Ideal S4096x8x1 .f32) (Q : FVec Ideal S4096x8x128 .f32) : FVec Ideal S4096x8x128 .f32 :=
  broadcastInDim S4096x8x128 ![0, 1] bcast_S4096x8_S4096x8x128_0_1 (Host.reduceAdd (Host.divf (mulf
    (shapeCast _ (Host.reduceAdd (mulf Y Q) (constant S_ .f32 0x00000000#32) reducesTo_S4096x8x128_S4096x8_d2 h_S_) shapeCasts_S4096x8_S4096x8x1)
    (mulf (broadcastInDim S4096x8x1 ![] bcast_S_S4096x8x1 (constant S_ .f32 0xBF000000#32)) (Host.divf (Host.rsqrt U) U)))
    (broadcastInDim S4096x8x1 ![] bcast_S_S4096x8x1 (constant S_ .f32 0x43000000#32))) (constant S_ .f32 0x00000000#32) reducesTo_S4096x8x1_S4096x8_d2 h_S_)

/-- The gradient of the rows, and of the gain head by head. -/
def stX (B Q A : FVec Ideal S4096x8x128 .f32) : FVec Ideal S4096x8x128 .f32 := addf (addf (mulf Q B) (mulf Y A)) (mulf A Y)
def stV (Z : FVec Ideal S4096x8x128 .f32) : FVec Ideal S4096x1024 .bf16 := truncf .bf16 (shapeCast S4096x1024 Z shapeCasts_S4096x8x128_S4096x1024 : FVec Ideal S4096x1024 .f32) bitsLt_bf16_f32
def stG (B N : FVec Ideal S4096x8x128 .f32) : FVec Ideal S8x1x128 .f32 :=
  broadcastInDim S8x1x128 ![0, 2] bcast_S8x128_S8x1x128_0_2 (Host.reduceAdd (shapeCast _ (Host.reduceAdd (mulf (mulf Y B) N) (constant S_ .f32 0x00000000#32) reducesTo_S4096x8x128_S8x128_d0 h_S_) shapeCasts_S8x128_S1x8x128)
    (constant S_ .f32 0x00000000#32) reducesTo_S1x8x128_S8x128_d0 h_S_)

/-- The whole cotangent before the rotation, and the whole gradient of the rows. -/
def bef : FVec Ideal S4096x8x128 .f32 := stN (stW (Host.cos ang)) (stW (Host.sin ang)) (stE (stP (stH D))) (stO (stP (stH D)))
def all : FVec Ideal S4096x8x128 .f32 := stX (stH X) (stB (stU (stH X))) (stQ (bef D) (stT G)) (stA (stH X) (stU (stH X)) (stQ (bef D) (stT G)))

theorem eq_rows (m : (ℓ : Loc nD τ sig) → Buf (Elt Ideal) ℓ) (c : Dev nD) : res_main_v115 m c = stV (all (m ((c.tc : Thread nD τ).loc main_arg0)) (m ((c.tc : Thread nD τ).loc main_arg1)) (m ((c.tc : Thread nD τ).loc main_arg2))) := rfl
theorem eq_gain (m : (ℓ : Loc nD τ sig) → Buf (Elt Ideal) ℓ) (c : Dev nD) : res_main_v116 m c = stG (stH (m ((c.tc : Thread nD τ).loc main_arg0))) (stB (stU (stH (m ((c.tc : Thread nD τ).loc main_arg0))))) (bef (m ((c.tc : Thread nD τ).loc main_arg2))) := rfl

theorem stH_at (r : Fin 4096) (h : Fin 8) (k : Fin 128) : stH X (ix3 r h k) = xr X r h k := by
  rw [xr]
  pointwise [stH]

theorem stT_at (h : Fin 8) (k : Fin 128) : stT G (ix3 0 h k) = gr G k := by
  rw [gr]
  pointwise [stT]

theorem stW_at (A : FVec Ideal S4096x64 .f32) (r : Fin 4096) (h : Fin 8) (k : Fin 64) : stW A (ix3 r h k) = A (ix2 r k) := by
  pointwise [stW]

theorem stE_at (r : Fin 4096) (h : Fin 8) (k : Fin 64) : stE (stP Y) (ix3 r h k) = Y (ix3 r h ⟨k.val * 2, by omega⟩) * Ideal.ofBits .f32 0x3DB504F3#32 := by
  pointwise [stE, stP]

theorem stO_at (r : Fin 4096) (h : Fin 8) (k : Fin 64) : stO (stP Y) (ix3 r h k) = Y (ix3 r h ⟨k.val * 2 + 1, by omega⟩) * Ideal.ofBits .f32 0x3DB504F3#32 := by
  pointwise [stO, stP]

theorem stN_at (C S E O : FVec Ideal S4096x8x64 .f32) (r : Fin 4096) (h : Fin 8) (k : Fin 128) :
    stN C S E O (ix3 r h k) = if k.val % 2 = 0 then O (ix3 r h ⟨k.val / 2, by omega⟩) * S (ix3 r h ⟨k.val / 2, by omega⟩) + E (ix3 r h ⟨k.val / 2, by omega⟩) * C (ix3 r h ⟨k.val / 2, by omega⟩)
      else O (ix3 r h ⟨k.val / 2, by omega⟩) * C (ix3 r h ⟨k.val / 2, by omega⟩) + -E (ix3 r h ⟨k.val / 2, by omega⟩) * S (ix3 r h ⟨k.val / 2, by omega⟩) := by
  pointwise [stN]
  by_cases e : k.val % 2 = 0
  · have e1 : ¬(k.val / 2 < 64 ∧ 1 ≤ k.val % 2 ∧ k.val % 2 - 1 < 1) := by omega
    have e2 : k.val / 2 < 64 ∧ k.val % 2 < 1 := by omega
    simp only [e1, e2, e, and_self, dite_false, dite_true, if_true]
    exact zero_add (M := EReal) _
  · have e1 : k.val / 2 < 64 ∧ 1 ≤ k.val % 2 ∧ k.val % 2 - 1 < 1 := by omega
    have e2 : ¬k.val % 2 < 1 := by omega
    simp only [e1, e2, e, and_self, and_false, dite_false, dite_true, if_false]
    exact add_zero (M := EReal) _

theorem stU_at (r : Fin 4096) (h : Fin 8) : stU Y (ix3 r h 0) = Cert.Rope.u fun k => Y (ix3 r h k) := by
  rw [Cert.Rope.u]
  pointwise [stU]

theorem stB_at (U : FVec Ideal S4096x8x1 .f32) (r : Fin 4096) (h : Fin 8) (n : Fin 128) : stB U (ix3 r h n) = Ideal.rsqrt (U (ix3 r h 0)) := by
  pointwise [stB]

theorem stQ_at (N : FVec Ideal S4096x8x128 .f32) (K : FVec Ideal S1x8x128 .f32) (r : Fin 4096) (h : Fin 8) (n : Fin 128) : stQ N K (ix3 r h n) = N (ix3 r h n) * K (ix3 0 h n) := by
  pointwise [stQ]

theorem stA_at (U : FVec Ideal S4096x8x1 .f32) (Q : FVec Ideal S4096x8x128 .f32) (r : Fin 4096) (h : Fin 8) (n : Fin 128) :
    stA Y U Q (ix3 r h n) = Ideal.div ((∑ k : Fin 128, Y (ix3 r h k) * Q (ix3 r h k)) * (Ideal.ofBits .f32 0xBF000000#32 * Ideal.div (Ideal.rsqrt (U (ix3 r h 0))) (U (ix3 r h 0)))) (Ideal.ofBits .f32 0x43000000#32) := by
  pointwise [stA]
  simp

theorem stX_at (B Q A : FVec Ideal S4096x8x128 .f32) (r : Fin 4096) (h : Fin 8) (n : Fin 128) :
    stX Y B Q A (ix3 r h n) = Q (ix3 r h n) * B (ix3 r h n) + Y (ix3 r h n) * A (ix3 r h n) + A (ix3 r h n) * Y (ix3 r h n) := by
  pointwise [stX]

theorem stV_at (Z : FVec Ideal S4096x8x128 .f32) (r : Fin 4096) (n : Fin 1024) : stV Z (ix2 r n) = Z (ix3 r ⟨n.val / 128, by omega⟩ ⟨n.val % 128, Nat.mod_lt _ (by omega)⟩) := by
  pointwise [stV]

theorem stG_at (B N : FVec Ideal S4096x8x128 .f32) (h : Fin 8) (n : Fin 128) : stG Y B N (ix3 h 0 n) = ∑ r : Fin 4096, Y (ix3 r h n) * B (ix3 r h n) * N (ix3 r h n) := by
  pointwise [stG]
  simp

/-- The reference's cotangent before the rotation is the one of the rows. -/
theorem bef_at (r : Fin 4096) (h : Fin 8) (n : Fin 128) : bef D (ix3 r h n) = dr D r h n := by
  rw [bef, stN_at]
  simp only [stE_at, stO_at, stW_at, stH_at, xr]
  rw [dr, Cert.Rope.dn]
  have hc (k : Fin 64) : Host.cos ang (ix2 r k) = Ideal.cos (ang (ix2 r k)) := rfl
  have hs (k : Fin 64) : Host.sin ang (ix2 r k) = Ideal.sin (ang (ix2 r k)) := rfl
  simp only [hc, hs]
  by_cases e : n.val % 2 = 0
  · have e1 : n.val / 2 * 2 = n.val := by omega
    have e2 : (n.val + 1) % 128 = n.val + 1 := by omega
    simp only [e, if_true, e1, e2]
    rw [add_comm, mul_comm, mul_comm (D _ * _) (Ideal.sin _)]
  · have e1 : n.val / 2 * 2 + 1 = n.val := by omega
    have e2 : (n.val + 127) % 128 = n.val / 2 * 2 := by omega
    simp only [e, if_false, e1, e2]
    rw [mul_comm, EReal.neg_mul, mul_comm _ (Ideal.sin _)]

theorem eq6 : stG (stH X) (stB (stU (stH X))) (bef D) = F6 X D := by
  funext j
  idx_vars j
  obtain rfl : j1 = 0 := Subsingleton.elim _ _
  rw [stG_at]
  refine Finset.sum_congr rfl fun r _ => ?_
  rw [stB_at, stU_at, bef_at, mul_comm]
  simp only [stH_at]
  rfl

theorem scale : ∃ s : ℝ, Ideal.ofBits .f32 0x3DB504F3#32 = (s : EReal) := by
  simp [Ideal.ofBits, Ideal.ieee]
  exact ⟨_, (EReal.coe_mul _ _).symm⟩

/-- The precondition: the arrays hold real numbers. -/
theorem reals (h : Cert.Pre_qnorm_finite.fn (F := Ideal) X G D = fun _ => 1#1) : stV (all X G D) = F5 X D G := by
  haveI : Subsingleton (Cert.Pre_qnorm_finite.S_).Idx := ⟨fun a b => funext fun i => i.elim0⟩
  have h0 := congrFun h (fun i => i.elim0)
  unfold Cert.Pre_qnorm_finite.fn at h0
  obtain ⟨h1, hd⟩ := andi_one h0
  obtain ⟨hx, hg⟩ := andi_one h1
  obtain ⟨x, ex⟩ := reals_of_all X _ (fun _ => rfl) _ _ _ _ hx
  obtain ⟨g, eg⟩ := reals_of_all G _ (fun _ => rfl) _ _ _ _ hg
  obtain ⟨d, ed⟩ := reals_of_all D _ (fun _ => rfl) _ _ _ _ hd
  funext j
  idx_vars j
  have hr (r : Fin 4096) (h : Fin 8) : ∃ e : Fin 128 → ℝ, ∀ k, dr D r h k = ((e k : ℝ) : EReal) := by
    choose a ha using ang_real r
    obtain ⟨s, hs⟩ := scale
    refine ⟨_, fun k => (Cert.Rope.dn_real _ _ _ (fun k => Real.cos (a k)) (fun k => Real.sin (a k)) (fun k => d (ix2 r (hcol h k)) * s)
      (fun k => by rw [ha, Ideal.cos_coe]) (fun k => by rw [ha, Ideal.sin_coe]) (fun k => by rw [ed, hs, EReal.coe_mul]) k).choose_spec⟩
  obtain ⟨e, he⟩ := hr j0 ⟨j1.val / 128, by omega⟩
  rw [stV_at, all, stX_at, stB_at, stA_at]
  simp only [stQ_at, stU_at, stH_at, stT_at, bef_at]
  exact Cert.Rope.row_eq (xr X j0 _) (gr G) (dr D j0 _) (fun k => x (ix2 j0 (hcol _ k))) (fun k => g (ix2 0 k)) e (fun k => congrFun ex _) (fun k => congrFun eg _) he _

set_option maxHeartbeats 4000000 in
/-- The gradients of q's norm and rotary embedding are those of the forward lines. -/
theorem algebraic : Cert.algebraic_QnormIdeal_QnormRefIdeal_pre_qnorm_finite (hQnormIdeal := Cert.QnormIdeal.Gen.facts) (hQnormRefIdeal := Cert.QnormRefIdeal.Gen.facts) (hPre_qnorm_finite := Cert.Pre_qnorm_finite.Gen.facts) := by
  pair_intro
  · run_from Cert.QnormIdeal.Gen.run_main m g
    · exact (Cert.QnormIdeal.Value.keep m c).1
    · exact (Cert.QnormIdeal.Value.keep m c).2
  · run_from Cert.QnormRefIdeal.Value.run m' g'
    · obtain ⟨h0, h1, h2⟩ := hagree c
      refine Eq.trans ?_ (Cert.QnormIdeal.Value.final5 m c).symm
      rw [eq_rows, h0, h1, h2]
      exact reals _ _ _ (hpre c)
    · obtain ⟨h0, h1, h2⟩ := hagree c
      refine Eq.trans ?_ (Cert.QnormIdeal.Value.final6 m c).symm
      rw [eq_gain, h0, h2]
      exact eq6 _ _

end Cert.QnormPair
end
-- ==== Proof.MergedValue.lean ====
module

public import proofs.«01_k».proof.Defs
public import proofs.«01_k».proof.Proof.Gen.MergedIdeal.Frame
public import proofs.«01_k».proof.Proof.Gen.MergedIdeal.Value
public import Idealize.ShloMosaic.Lib.Pipeline.ValueKit
public import proofs.«01_k».proof.Proof.MergeValue

@[expose] public section

set_option maxRecDepth 16384

noncomputable section

open Idealize.ShloMosaic Idealize.ShloMosaic.TcCoe Idealize.SL.Sem
open Idealize.ShloMosaic.Pipeline (Dat)

namespace Cert.MergedIdeal.Value
open Cert.MergedIdeal Cert.MergedIdeal.Gen
open Cert.GateIdeal.Value (sg)
open Cert.MergeIdeal.Value (tA tB gA gB)

variable (m : (ℓ : Loc nD τ sig) → Buf (Elt Ideal) ℓ)

theorem idx : ∀ t : Fin cfg0.N, win0_0.index t = ![t.val, 0] ∧ win0_1.index t = ![t.val, 0] ∧ win0_2.index t = ![t.val, 6]
    ∧ win0_3.index t = ![t.val, 7] ∧ win0_4.index t = ![t.val, 0] ∧ win0_5.index t = ![0, 0, 0] ∧ win0_6.index t = ![0, 0]
    ∧ win0_7.index t = ![0, 0] ∧ win0_8.index t = ![0, 0] ∧ win0_9.index t = ![0, 0] ∧ win0_10.index t = ![0, 0]
    ∧ win0_11.index t = ![t.val, 0] ∧ win0_12.index t = ![t.val, 0] ∧ win0_13.index t = ![t.val, 0] ∧ win0_14.index t = ![t.val, 0]
    ∧ win0_15.index t = ![t.val, 0] :=
  (by decide +kernel : ∀ t : Fin grid0.N, _)

section arrays
variable (A : FVec Ideal S4096x512 .f32) (B : FVec Ideal S4096x1024 .f32) (P : FVec Ideal S4096x2048 .f32) (G : FVec Ideal S1x2048 .f32)
  (X : FVec Ideal S4096x1024 .f32) (U : FVec Ideal S512x1024 .f32) (W O : FVec Ideal S1024x1024 .f32) (N : FVec Ideal S1x1024 .f32)

/-- The gated sum of the branches, the stream it is added to, and a row's norm. -/
def mg (r : Fin 4096) (n : Fin 1024) : EReal := gA P G r n * tA A U r n + gB P G r n * tB B W r n
def st (r : Fin 4096) (n : Fin 1024) : EReal := X (ix2 r n) + ∑ k : Fin 1024, mg A B P G U W r k * O (ix2 k n)
def rs (f : Fin 1024 → EReal) : EReal := Ideal.rsqrt (Ideal.div (∑ k, f k * f k) (Ideal.ofBits .f32 0x44800000#32) + Ideal.ofBits .f32 0x358637BD#32)

/-- The arrays the kernel leaves. -/
def F11 : FVec Ideal S4096x1024 .bf16 := fun y => tA A U (y 0) (y 1)
def F12 : FVec Ideal S4096x1024 .bf16 := fun y => tB B W (y 0) (y 1)
def F13 : FVec Ideal S4096x1024 .bf16 := fun y => mg A B P G U W (y 0) (y 1)
def F14 : FVec Ideal S4096x1024 .f32 := fun y => st A B P G X U W O (y 0) (y 1)
def F15 : FVec Ideal S4096x1024 .bf16 := fun y => st A B P G X U W O (y 0) (y 1) * rs (st A B P G X U W O (y 0)) * N (ix2 0 (y 1))
end arrays

variable (c : Dev nD) (t : Fin cfg0.N)

abbrev a0 : FVec Ideal S4096x512 .f32 := m ((c : Thread nD τ).loc main_arg0)
abbrev a1 : FVec Ideal S4096x1024 .f32 := m ((c : Thread nD τ).loc main_arg1)
abbrev a2 : FVec Ideal S4096x2048 .f32 := m ((c : Thread nD τ).loc main_arg2)
abbrev a3 : FVec Ideal S1x2048 .f32 := m ((c : Thread nD τ).loc main_arg3)
abbrev a4 : FVec Ideal S4096x1024 .f32 := m ((c : Thread nD τ).loc main_arg4)
abbrev a5 : FVec Ideal S512x1024 .f32 := m ((c : Thread nD τ).loc main_arg5)
abbrev a6 : FVec Ideal S1024x1024 .f32 := m ((c : Thread nD τ).loc main_arg6)
abbrev a7 : FVec Ideal S1024x1024 .f32 := m ((c : Thread nD τ).loc main_arg7)
abbrev a8 : FVec Ideal S1x1024 .f32 := m ((c : Thread nD τ).loc main_arg8)

theorem gates (r : Fin 4096) (n : Fin 2048) (hn : 6144 + n.val < 8192) : (V m c main_v3 : FVec Ideal S4096x8192 .bf16) (ix2 r ⟨6144 + n.val, hn⟩) = a2 m c (ix2 r n) := by
  entry_read
  pointwise

theorem weights (j : Fin 4) (n : Fin 512) (k : Fin 256) (hk : j.val * 256 + k.val < 1024) :
    (V m c main_v6 : FVec Ideal S4x512x256 .bf16) (ix3 j n k) = a5 m c (ix2 n ⟨j.val * 256 + k.val, hk⟩) := by
  entry_read
  pointwise

theorem bias (n : Fin 1024) (hn : n.val < 2048) : (V m c main_v7 : FVec Ideal S1x1024 .f32) (ix2 0 n) = a3 m c (ix2 0 ⟨n.val, hn⟩) := by
  entry_read
  pointwise

theorem bias' (n : Fin 1024) (hn : 1024 + n.val < 2048) : (V m c main_v8 : FVec Ideal S1x1024 .f32) (ix2 0 n) = a3 m c (ix2 0 ⟨1024 + n.val, hn⟩) := by
  entry_read
  pointwise

/-- The row of block `t`. -/
abbrev row (t : Fin cfg0.N) (r : Fin 512) : Fin 4096 := ⟨t.val * 512 + r.val, by have := lt_of_lt_of_eq t.isLt N_0; omega⟩

theorem rd0 (r : Fin 512) (n : Fin 512) : (iblk m c 0 t : FVec Ideal S512x512 .bf16) (ix2 r n) = a0 m c (ix2 (row t r) n) := by
  have e : ∀ j, (V m c main_v9 : FVec Ideal S4096x512 .bf16) j = a0 m c j := fun j => by
    entry_read
    idx_vars j
    pointwise
  refine Eq.trans ?_ (e _)
  blk_ext [iblk, idx t]

theorem rd1 (r : Fin 512) (n : Fin 1024) : (iblk m c 1 t : FVec Ideal S512x1024 .bf16) (ix2 r n) = a1 m c (ix2 (row t r) n) := by
  have e : ∀ j, (V m c main_v10 : FVec Ideal S4096x1024 .bf16) j = a1 m c j := fun j => by
    entry_read
    idx_vars j
    pointwise
  refine Eq.trans ?_ (e _)
  blk_ext [iblk, idx t]

theorem rd2 (r : Fin 512) (n : Fin 1024) (hn : n.val < 2048) : (iblk m c 2 t : FVec Ideal S512x1024 .bf16) (ix2 r n) = a2 m c (ix2 (row t r) ⟨n.val, hn⟩) := by
  refine Eq.trans ?_ (gates m c (row t r) ⟨n.val, hn⟩ (by simp only; omega))
  blk_ext [iblk, idx t]

theorem rd3 (r : Fin 512) (n : Fin 1024) (hn : 1024 + n.val < 2048) : (iblk m c 3 t : FVec Ideal S512x1024 .bf16) (ix2 r n) = a2 m c (ix2 (row t r) ⟨1024 + n.val, hn⟩) := by
  refine Eq.trans ?_ (gates m c (row t r) ⟨1024 + n.val, hn⟩ (by simp only; omega))
  blk_ext [iblk, idx t]

theorem rd4 (r : Fin 512) (n : Fin 1024) : (iblk m c 4 t : FVec Ideal S512x1024 .f32) (ix2 r n) = a4 m c (ix2 (row t r) n) := by
  refine Eq.trans ?_ (congrFun (V_main_arg4 m c) _)
  blk_ext [iblk, idx t]

theorem rd5 (j : Fin 4) (n : Fin 512) (k : Fin 256) (hk : j.val * 256 + k.val < 1024) : (iblk m c 5 t : FVec Ideal S4x512x256 .bf16) (ix3 j n k)
    = a5 m c (ix2 n ⟨j.val * 256 + k.val, hk⟩) := by
  refine Eq.trans ?_ (weights m c j n k hk)
  blk_ext [iblk, idx t]

theorem rd6 (n k : Fin 1024) : (iblk m c 6 t : FVec Ideal S1024x1024 .bf16) (ix2 n k) = a6 m c (ix2 n k) := by
  have e : ∀ j, (V m c main_v11 : FVec Ideal S1024x1024 .bf16) j = a6 m c j := fun j => by
    entry_read
    idx_vars j
    pointwise
  refine Eq.trans ?_ (e _)
  blk_ext [iblk, idx t]

theorem rd7 (n k : Fin 1024) : (iblk m c 7 t : FVec Ideal S1024x1024 .bf16) (ix2 n k) = a7 m c (ix2 n k) := by
  have e : ∀ j, (V m c main_v12 : FVec Ideal S1024x1024 .bf16) j = a7 m c j := fun j => by
    entry_read
    idx_vars j
    pointwise
  refine Eq.trans ?_ (e _)
  blk_ext [iblk, idx t]

theorem rd8 (n : Fin 1024) (hn : n.val < 2048) : (iblk m c 8 t : FVec Ideal S1x1024 .f32) (ix2 0 n) = a3 m c (ix2 0 ⟨n.val, hn⟩) := by
  refine Eq.trans ?_ (bias m c n hn)
  blk_ext [iblk, idx t]

theorem rd9 (n : Fin 1024) (hn : 1024 + n.val < 2048) : (iblk m c 9 t : FVec Ideal S1x1024 .f32) (ix2 0 n) = a3 m c (ix2 0 ⟨1024 + n.val, hn⟩) := by
  refine Eq.trans ?_ (bias' m c n hn)
  blk_ext [iblk, idx t]

theorem rd10 (n : Fin 1024) : (iblk m c 10 t : FVec Ideal S1x1024 .f32) (ix2 0 n) = a8 m c (ix2 0 n) := by
  refine Eq.trans ?_ (congrFun (V_main_arg8 m c) _)
  blk_ext [iblk, idx t]

/-- The first branch's product, in the four parts the kernel joins. -/
theorem pay2_at (x : Vec Ideal S512x512 .bf16) (w0 w1 w2 w3 : Vec Ideal S1x512x256 .bf16) (r : Fin 512) (k : Fin 256) :
    k0_pay2 (F := Ideal) x w0 w1 w2 w3 (ix2 r ⟨k.val, by omega⟩) = (∑ i : Fin 512, x (ix2 r i) * w0 (ix3 0 i k))
    ∧ k0_pay2 (F := Ideal) x w0 w1 w2 w3 (ix2 r ⟨256 + k.val, by omega⟩) = (∑ i : Fin 512, x (ix2 r i) * w1 (ix3 0 i k))
    ∧ k0_pay2 (F := Ideal) x w0 w1 w2 w3 (ix2 r ⟨512 + k.val, by omega⟩) = (∑ i : Fin 512, x (ix2 r i) * w2 (ix3 0 i k))
    ∧ k0_pay2 (F := Ideal) x w0 w1 w2 w3 (ix2 r ⟨768 + k.val, by omega⟩) = (∑ i : Fin 512, x (ix2 r i) * w3 (ix3 0 i k)) := by
  refine ⟨?_, ?_, ?_, ?_⟩
  · pointwise [k0_pay2]
  · pointwise [k0_pay2]
  · pointwise [k0_pay2]
    simp only [show ¬ (512 + k.val < 256) by omega, show ¬ (512 + k.val - 256 < 256) by omega, show 512 + k.val - 256 - 256 = k.val by omega, k.isLt, dite_true, dite_false]
  · pointwise [k0_pay2]
    simp only [show ¬ (768 + k.val < 256) by omega, show ¬ (768 + k.val - 256 < 256) by omega, show ¬ (768 + k.val - 256 - 256 < 256) by omega, show 768 + k.val - 256 - 256 - 256 = k.val by omega, dite_false]

theorem pay3_at (x : Vec Ideal S512x1024 .bf16) (w : Vec Ideal S1024x1024 .bf16) (r : Fin 512) (n : Fin 1024) :
    k0_pay3 (F := Ideal) x w (ix2 r n) = ∑ k : Fin 1024, x (ix2 r k) * w (ix2 k n) := by
  pointwise [k0_pay3]

theorem pay5_at (a b : FVec Ideal S512x1024 .f32) (p q : Vec Ideal S512x1024 .bf16) (u v : Vec Ideal S1x1024 .f32) (r : Fin 512) (n : Fin 1024) :
    k0_pay5 (F := Ideal) a b (k0_pay4 p u) (FloatOps.ofBits .f32 0x3F000000#32) q v (ix2 r n)
      = sg (p (ix2 r n) + u (ix2 0 n)) * a (ix2 r n) + sg (q (ix2 r n) + v (ix2 0 n)) * b (ix2 r n) := by
  pointwise [k0_pay5, k0_pay4, sg]

theorem pay8_at (a b z : FVec Ideal S512x1024 .f32) (h : Ideal .f32) (q : Vec Ideal S512x1024 .bf16) (v : Vec Ideal S1x1024 .f32) (x : Vec Ideal S512x1024 .f32)
    (w : Vec Ideal S1024x1024 .bf16) (r : Fin 512) (n : Fin 1024) :
    k0_pay8 (F := Ideal) a b z h q v x w (ix2 r n) = x (ix2 r n) + ∑ k : Fin 1024, k0_pay5 (F := Ideal) a b z h q v (ix2 r k) * w (ix2 k n) := by
  unfold k0_pay8
  generalize k0_pay5 (F := Ideal) a b z h q v = y
  pointwise

theorem pay1_at (y : FVec Ideal S512x1024 .f32) (g : Vec Ideal S1x1024 .f32) (r : Fin 512) (n : Fin 1024) :
    k0_pay1 (F := Ideal) y g (ix2 r n) = y (ix2 r n) * rs (fun k => y (ix2 r k)) * g (ix2 0 n) := by
  pointwise [k0_pay1, rs]

theorem pay6_at (v : FVec Ideal S512x1024 .f32) (r : Fin 512) (n : Fin 1024) : k0_pay6 (F := Ideal) v (ix2 r n) = v (ix2 r n) := by
  pointwise [k0_pay6]

theorem pay7_at (v : FVec Ideal S512x1024 .f32) (r : Fin 512) (n : Fin 1024) : k0_pay7 (F := Ideal) v (ix2 r n) = v (ix2 r n) := by
  pointwise [k0_pay7]

/-- The weights of the first branch, cut in four. -/
abbrev cut (w : Vec Ideal S1x512x256 .bf16) (j : Fin 4) : Prop := ∀ n k, w (ix3 0 n k) = (iblk m c 5 t : FVec Ideal S4x512x256 .bf16) (ix3 j n k)

variable (w0 w1 w2 w3 : Vec Ideal S1x512x256 .bf16) (h0 : cut m c t w0 0) (h1 : cut m c t w1 1) (h2 : cut m c t w2 2) (h3 : cut m c t w3 3)

include h0 h1 h2 h3 in
theorem b11 (r : Fin 512) (n : Fin 1024) : k0_pay2 (F := Ideal) (iblk m c 0 t) w0 w1 w2 w3 (ix2 r n) = tA (a0 m c) (a5 m c) (row t r) n := by
  have part : ∀ (w : Vec Ideal S1x512x256 .bf16) (j : Fin 4), cut m c t w j → ∀ (k : Fin 256) (h : j.val * 256 + k.val < 1024),
      (∑ i : Fin 512, HMul.hMul (α := EReal) (β := EReal) (γ := EReal) ((iblk m c 0 t : FVec Ideal S512x512 .bf16) (ix2 r i)) (w (ix3 0 i k))) = tA (a0 m c) (a5 m c) (row t r) ⟨j.val * 256 + k.val, h⟩ :=
    fun w j hw k h => Finset.sum_congr rfl fun i _ => congrArg₂ (HMul.hMul (α := EReal) (β := EReal) (γ := EReal)) (rd0 m c t r i) ((hw i k).trans (rd5 m c t j i k h))
  have at_ : ∀ {x y : Fin 1024}, x.val = y.val → tA (a0 m c) (a5 m c) (row t r) x = tA (a0 m c) (a5 m c) (row t r) y := fun h => congrArg _ (Fin.ext h)
  have p := fun k => pay2_at (iblk m c 0 t) w0 w1 w2 w3 r k
  have hn := n.isLt
  rcases (by omega : n.val < 256 ∨ (256 ≤ n.val ∧ n.val < 512) ∨ (512 ≤ n.val ∧ n.val < 768) ∨ 768 ≤ n.val) with h | h | h | h
  · exact (p ⟨n.val, h⟩).1.trans ((part w0 0 h0 ⟨n.val, h⟩ (by simp)).trans (at_ (by simp)))
  · obtain ⟨k, e⟩ : ∃ k : Fin 256, n.val = 256 + k.val := ⟨⟨n.val - 256, by omega⟩, by simp only; omega⟩
    rw [show n = ⟨256 + k.val, by omega⟩ from Fin.ext e]
    exact (p k).2.1.trans ((part w1 1 h1 k (by simp; omega)).trans (at_ (by simp)))
  · obtain ⟨k, e⟩ : ∃ k : Fin 256, n.val = 512 + k.val := ⟨⟨n.val - 512, by omega⟩, by simp only; omega⟩
    rw [show n = ⟨512 + k.val, by omega⟩ from Fin.ext e]
    exact (p k).2.2.1.trans ((part w2 2 h2 k (by simp; omega)).trans (at_ (by simp)))
  · obtain ⟨k, e⟩ : ∃ k : Fin 256, n.val = 768 + k.val := ⟨⟨n.val - 768, by omega⟩, by simp only; omega⟩
    rw [show n = ⟨768 + k.val, by omega⟩ from Fin.ext e]
    exact (p k).2.2.2.trans ((part w3 3 h3 k (by simp; omega)).trans (at_ (by simp)))

theorem b12 (r : Fin 512) (n : Fin 1024) : k0_pay3 (F := Ideal) (iblk m c 1 t) (iblk m c 6 t) (ix2 r n) = tB (a1 m c) (a6 m c) (row t r) n := by
  rw [pay3_at]
  exact Finset.sum_congr rfl fun k _ => congrArg₂ (· * ·) (rd1 m c t r k) (rd6 m c t k n)

/-- The block of the gated sum, and of the stream. -/
abbrev mgB := k0_pay5 (F := Ideal) (k0_pay2 (iblk m c 0 t) w0 w1 w2 w3) (k0_pay3 (iblk m c 1 t) (iblk m c 6 t)) (k0_pay4 (iblk m c 2 t) (iblk m c 8 t))
  (FloatOps.ofBits .f32 0x3F000000#32) (iblk m c 3 t) (iblk m c 9 t)
abbrev stB := k0_pay8 (F := Ideal) (k0_pay2 (iblk m c 0 t) w0 w1 w2 w3) (k0_pay3 (iblk m c 1 t) (iblk m c 6 t)) (k0_pay4 (iblk m c 2 t) (iblk m c 8 t))
  (FloatOps.ofBits .f32 0x3F000000#32) (iblk m c 3 t) (iblk m c 9 t) (iblk m c 4 t) (iblk m c 7 t)

include h0 h1 h2 h3 in
theorem b13 (r : Fin 512) (n : Fin 1024) : mgB m c t w0 w1 w2 w3 (ix2 r n) = mg (a0 m c) (a1 m c) (a2 m c) (a3 m c) (a5 m c) (a6 m c) (row t r) n := by
  rw [mgB, pay5_at, b11 m c t w0 w1 w2 w3 h0 h1 h2 h3, b12]
  exact congrArg₂ (· + ·) (congrArg (· * _) (congrArg sg (congrArg₂ (· + ·) (rd2 m c t r n _) (rd8 m c t n _))))
    (congrArg (· * _) (congrArg sg (congrArg₂ (· + ·) (rd3 m c t r n _) (rd9 m c t n _))))

include h0 h1 h2 h3 in
theorem b14 (r : Fin 512) (n : Fin 1024) : stB m c t w0 w1 w2 w3 (ix2 r n)
    = st (a0 m c) (a1 m c) (a2 m c) (a3 m c) (a4 m c) (a5 m c) (a6 m c) (a7 m c) (row t r) n := by
  rw [stB, pay8_at]
  exact congrArg₂ (· + ·) (rd4 m c t r n) (Finset.sum_congr rfl fun k _ => congrArg₂ (· * ·) (b13 m c t w0 w1 w2 w3 h0 h1 h2 h3 r k) (rd7 m c t k n))

include h0 h1 h2 h3 in
theorem b15 (r : Fin 512) (n : Fin 1024) : k0_pay1 (F := Ideal) (stB m c t w0 w1 w2 w3) (iblk m c 10 t) (ix2 r n)
    = F15 (a0 m c) (a1 m c) (a2 m c) (a3 m c) (a4 m c) (a5 m c) (a6 m c) (a7 m c) (a8 m c) (ix2 (row t r) n) := by
  rw [pay1_at]
  simp only [b14 m c t w0 w1 w2 w3 h0 h1 h2 h3, rd10]
  rfl

theorem final11 : (dats m 0 c).arrAt 11 cfg0.N = F11 (a0 m c) (a5 m c) := by
  refine (dats m 0 c).arrAt_eq_of_covers 11 _ (by decide +kernel) fun t _ y => ?_
  have ht := lt_of_lt_of_eq t.isLt N_0
  blk_simp
  rw [after0_11]; unfold_out out0_11; frame_out
  idx_vars y
  rw [pay6_at]
  refine (b11 m c t _ _ _ _ (fun n k => by pointwise) (fun n k => by pointwise) (fun n k => by pointwise) (fun n k => by pointwise) y0 y1).trans (Eq.trans (b := F11 (a0 m c) (a5 m c) (ix2 (row t y0) y1)) rfl (congrArg (F11 (a0 m c) (a5 m c)) ?_))
  blk_ext [idx t]

theorem final12 : (dats m 0 c).arrAt 12 cfg0.N = F12 (a1 m c) (a6 m c) := by
  refine (dats m 0 c).arrAt_eq_of_covers 12 _ (by decide +kernel) fun t _ y => ?_
  have ht := lt_of_lt_of_eq t.isLt N_0
  blk_simp
  rw [after0_12]; unfold_out out0_12; frame_out
  idx_vars y
  rw [pay7_at]
  refine (b12 m c t y0 y1).trans (Eq.trans (b := F12 (a1 m c) (a6 m c) (ix2 (row t y0) y1)) rfl (congrArg (F12 (a1 m c) (a6 m c)) ?_))
  blk_ext [idx t]

theorem final13 : (dats m 0 c).arrAt 13 cfg0.N = F13 (a0 m c) (a1 m c) (a2 m c) (a3 m c) (a5 m c) (a6 m c) := by
  refine (dats m 0 c).arrAt_eq_of_covers 13 _ (by decide +kernel) fun t _ y => ?_
  have ht := lt_of_lt_of_eq t.isLt N_0
  blk_simp
  rw [after0_13]; unfold_out out0_13; frame_out
  idx_vars y
  refine (b13 m c t _ _ _ _ (fun n k => by pointwise) (fun n k => by pointwise) (fun n k => by pointwise) (fun n k => by pointwise) y0 y1).trans
    (Eq.trans (b := F13 (a0 m c) (a1 m c) (a2 m c) (a3 m c) (a5 m c) (a6 m c) (ix2 (row t y0) y1)) rfl (congrArg (F13 (a0 m c) (a1 m c) (a2 m c) (a3 m c) (a5 m c) (a6 m c)) ?_))
  blk_ext [idx t]

theorem final14 : (dats m 0 c).arrAt 14 cfg0.N = F14 (a0 m c) (a1 m c) (a2 m c) (a3 m c) (a4 m c) (a5 m c) (a6 m c) (a7 m c) := by
  refine (dats m 0 c).arrAt_eq_of_covers 14 _ (by decide +kernel) fun t _ y => ?_
  have ht := lt_of_lt_of_eq t.isLt N_0
  blk_simp
  rw [after0_14]; unfold_out out0_14; frame_out
  idx_vars y
  refine (b14 m c t _ _ _ _ (fun n k => by pointwise) (fun n k => by pointwise) (fun n k => by pointwise) (fun n k => by pointwise) y0 y1).trans
    (Eq.trans (b := F14 (a0 m c) (a1 m c) (a2 m c) (a3 m c) (a4 m c) (a5 m c) (a6 m c) (a7 m c) (ix2 (row t y0) y1)) rfl (congrArg (F14 (a0 m c) (a1 m c) (a2 m c) (a3 m c) (a4 m c) (a5 m c) (a6 m c) (a7 m c)) ?_))
  blk_ext [idx t]

theorem final15 : (dats m 0 c).arrAt 15 cfg0.N = F15 (a0 m c) (a1 m c) (a2 m c) (a3 m c) (a4 m c) (a5 m c) (a6 m c) (a7 m c) (a8 m c) := by
  refine (dats m 0 c).arrAt_eq_of_covers 15 _ (by decide +kernel) fun t _ y => ?_
  have ht := lt_of_lt_of_eq t.isLt N_0
  blk_simp
  rw [after0_15]; unfold_out out0_15; frame_out
  idx_vars y
  refine (b15 m c t _ _ _ _ (fun n k => by pointwise) (fun n k => by pointwise) (fun n k => by pointwise) (fun n k => by pointwise) y0 y1).trans
    (congrArg (F15 (a0 m c) (a1 m c) (a2 m c) (a3 m c) (a4 m c) (a5 m c) (a6 m c) (a7 m c) (a8 m c)) ?_)
  blk_ext [idx t]

end Cert.MergedIdeal.Value
end
-- ==== Proof.MergedPair.lean ====
module

public import proofs.«01_k».proof.Defs
public import proofs.«01_k».proof.Proof.Gen.MergedRefIdeal.Run
public import proofs.«01_k».proof.Proof.MergedValue
public import proofs.«01_k».proof.Proof.MergePair

@[expose] public section

set_option maxRecDepth 16384

noncomputable section

open Idealize.ShloMosaic Idealize.ShloMosaic.TcCoe Idealize.SL.Sem

namespace Cert.MergedPair
open Cert.MergedRefIdeal Cert.MergedRefIdeal.Gen Cert.MergedRefIdeal.Value
open Cert.MergePair (stA stB stS stTa stTb stA_at stB_at stTa_at stTb_at gate0 gate1)
open Cert.MergedIdeal.Value (mg st rs F11 F12 F13 F14 F15)

variable (A : FVec Ideal S4096x512 .f32) (B : FVec Ideal S4096x1024 .f32) (P : FVec Ideal S4096x2048 .f32) (G : FVec Ideal S1x2048 .f32)
  (X : FVec Ideal S4096x1024 .f32) (U : FVec Ideal S512x1024 .f32) (W O : FVec Ideal S1024x1024 .f32) (N : FVec Ideal S1x1024 .f32)

/-- The gated sum, the stream, and its norm, as the reference forms them. -/
def stM : FVec Ideal S4096x1024 .f32 := addf (stTa (stS P G) (stA A U)) (stTb (stS P G) (stB B W))
def stX (Z : FVec Ideal S4096x1024 .f32) : FVec Ideal S4096x1024 .f32 := addf X (Host.dotGeneral dot_S4096x1024_S1024x1024_S4096x1024_1_0_0_1_n_n none Z O)
def stN (Y : FVec Ideal S4096x1024 .f32) : FVec Ideal S4096x1024 .bf16 :=
  truncf .bf16 (mulf (mulf Y (broadcastInDim S4096x1024 ![0, 1] bcast_S4096x1_S4096x1024_0_1 (Host.rsqrt (addf (Host.divf (broadcastInDim S4096x1 ![0] bcast_S4096_S4096x1_0 (Host.reduceAdd (mulf Y Y) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 N)) bitsLt_bf16_f32

theorem stM_at (r : Fin 4096) (n : Fin 1024) : stM A B P G U W (ix2 r n) = mg A B P G U W r n := by
  refine (congrArg₂ (· + ·) (stTa_at (stS P G) (stA A U) r n) (stTb_at (stS P G) (stB B W) r n)).trans ?_
  rw [gate0, gate1, stA_at, stB_at, mg]

theorem stX_at (Z : FVec Ideal S4096x1024 .f32) (r : Fin 4096) (n : Fin 1024) : stX X O Z (ix2 r n) = X (ix2 r n) + ∑ k : Fin 1024, Z (ix2 r k) * O (ix2 k n) := by
  pointwise [stX]

theorem stN_at (Y : FVec Ideal S4096x1024 .f32) (r : Fin 4096) (n : Fin 1024) : stN N Y (ix2 r n) = Y (ix2 r n) * rs (fun k => Y (ix2 r k)) * N (ix2 0 n) := by
  pointwise [stN, rs]

theorem eq11 : truncf .bf16 (stA A U) bitsLt_bf16_f32 = F11 A U := by
  funext j
  idx_vars j
  exact stA_at A U j0 j1

theorem eq12 : truncf .bf16 (stB B W) bitsLt_bf16_f32 = F12 B W := by
  funext j
  idx_vars j
  exact stB_at B W j0 j1

theorem eq13 : truncf .bf16 (stM A B P G U W) bitsLt_bf16_f32 = F13 A B P G U W := by
  funext j
  idx_vars j
  exact stM_at A B P G U W j0 j1

theorem stream (r : Fin 4096) (n : Fin 1024) : stX X O (stM A B P G U W) (ix2 r n) = st A B P G X U W O r n := by
  rw [stX_at, st]
  simp only [stM_at]

theorem eq14 : stX X O (stM A B P G U W) = F14 A B P G X U W O := by
  funext j
  idx_vars j
  exact stream A B P G X U W O j0 j1

theorem eq15 : stN N (stX X O (stM A B P G U W)) = F15 A B P G X U W O N := by
  funext j
  idx_vars j
  rw [stN_at]
  simp only [stream]
  rfl

variable (m : (ℓ : Loc nD τ sig) → Buf (Elt Ideal) ℓ) (c : Dev nD)
theorem normed : res_main_v37 m c = stN (m ((c.tc : Thread nD τ).loc main_arg8)) (stX (m ((c.tc : Thread nD τ).loc main_arg4)) (m ((c.tc : Thread nD τ).loc main_arg7))
    (stM (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg5)) (m ((c.tc : Thread nD τ).loc main_arg6)))) := rfl

set_option maxHeartbeats 4000000 in
/-- The forward merge leaves what the forward lines name. -/
theorem algebraic : Cert.algebraic_MergedIdeal_MergedRefIdeal (hMergedIdeal := Cert.MergedIdeal.Gen.facts) (hMergedRefIdeal := Cert.MergedRefIdeal.Gen.facts) := by
  pair_intro
  · run_from Cert.MergedIdeal.Gen.run_main m g
  · run_from Cert.MergedRefIdeal.Value.run m' g'
    · obtain ⟨h0, h1, h2, h3, h4, h5, h6, h7, h8⟩ := hagree c
      exact (eq11 _ _).trans (Cert.MergedIdeal.Value.final11 m c).symm
    · obtain ⟨h0, h1, h2, h3, h4, h5, h6, h7, h8⟩ := hagree c
      exact (eq12 _ _).trans (Cert.MergedIdeal.Value.final12 m c).symm
    · obtain ⟨h0, h1, h2, h3, h4, h5, h6, h7, h8⟩ := hagree c
      exact (eq13 _ _ _ _ _ _).trans (Cert.MergedIdeal.Value.final13 m c).symm
    · obtain ⟨h0, h1, h2, h3, h4, h5, h6, h7, h8⟩ := hagree c
      exact (eq14 _ _ _ _ _ _ _ _).trans (Cert.MergedIdeal.Value.final14 m c).symm
    · obtain ⟨h0, h1, h2, h3, h4, h5, h6, h7, h8⟩ := hagree c
      refine Eq.trans ?_ (Cert.MergedIdeal.Value.final15 m c).symm
      rw [normed, h0, h1, h2, h3, h4, h5, h6, h7, h8]
      exact eq15 _ _ _ _ _ _ _ _ _

end Cert.MergedPair
end
-- ==== Proof.UpPair.lean ====
module

public import proofs.«01_k».proof.Defs
public import proofs.«01_k».proof.Proof.Gen.UpIdeal.Frame
public import proofs.«01_k».proof.Proof.Gen.UpIdeal.Value
public import proofs.«01_k».proof.Proof.Gen.UpRefIdeal.Run
public import Idealize.ShloMosaic.Lib.Pipeline.ValueKit
public import proofs.«01_k».proof.Proof.MergePair

@[expose] public section

set_option maxRecDepth 16384

noncomputable section

open Idealize.ShloMosaic Idealize.ShloMosaic.TcCoe Idealize.SL.Sem
open Idealize.ShloMosaic.Pipeline (Dat)

namespace Cert.UpIdeal.Value
open Cert.UpIdeal Cert.UpIdeal.Gen
open Cert.GateIdeal.Value (sg col)

variable (m : (ℓ : Loc nD τ sig) → Buf (Elt Ideal) ℓ)

theorem idx : ∀ t : Fin cfg0.N, win0_0.index t = ![t.val % 4, 0] ∧ win0_1.index t = ![t.val / 4, 0, 0] ∧ win0_2.index t = ![t.val / 4, 0, 0]
    ∧ win0_3.index t = ![t.val / 4, t.val % 4, 0] ∧ win0_4.index t = ![t.val / 4, t.val % 4, 0] ∧ win0_5.index t = ![t.val / 4, t.val % 4, 0] :=
  (by decide +kernel : ∀ t : Fin grid0.N, _)

/-- A product's entry, and the three results in their slabs of columns. -/
def pr (X : FVec Ideal S4096x1024 .f32) (W : FVec Ideal S1024x2816 .f32) (r : Fin 4096) (n : Fin 2816) : EReal := ∑ k : Fin 1024, X (ix2 r k) * W (ix2 k n)
def FU (X : FVec Ideal S4096x1024 .f32) (W : FVec Ideal S1024x2816 .f32) : FVec Ideal S4x4096x704 .bf16 := fun j => pr X W (j 1) (col j)
def FA (X : FVec Ideal S4096x1024 .f32) (W V : FVec Ideal S1024x2816 .f32) : FVec Ideal S4x4096x704 .bf16 :=
  fun j => pr X W (j 1) (col j) * sg (pr X W (j 1) (col j)) * pr X V (j 1) (col j)

variable (c : Dev nD) (t : Fin cfg0.N)

abbrev aX : FVec Ideal S4096x1024 .f32 := m ((c : Thread nD τ).loc main_arg0)
abbrev aW : FVec Ideal S1024x2816 .f32 := m ((c : Thread nD τ).loc main_arg1)
abbrev aV : FVec Ideal S1024x2816 .f32 := m ((c : Thread nD τ).loc main_arg2)

/-- The row and the column of point `t`. -/
abbrev row (t : Fin cfg0.N) (r : Fin 1024) : Fin 4096 := ⟨t.val % 4 * 1024 + r.val, by omega⟩
abbrev cl (t : Fin cfg0.N) (n : Fin 704) : Fin 2816 := ⟨t.val / 4 * 704 + n.val, by have := lt_of_lt_of_eq t.isLt N_0; omega⟩
abbrev sl (t : Fin cfg0.N) : Fin 4 := ⟨t.val / 4, by have := lt_of_lt_of_eq t.isLt N_0; omega⟩

theorem rd0 (r : Fin 1024) (k : Fin 1024) : (iblk m c 0 t : FVec Ideal S1024x1024 .bf16) (ix2 r k) = aX m c (ix2 (row t r) k) := by
  blk_simp [iblk]
  entry_read
  pointwise
  blk_point [idx t]

theorem entry1 (j : Fin 4) (n : Fin 704) (k : Fin 1024) (h : j.val * 704 + n.val < 2816) :
    (V m c main_v3 : FVec Ideal S4x704x1024 .bf16) (ix3 j n k) = aW m c (ix2 k ⟨j.val * 704 + n.val, h⟩) := by
  entry_read
  pointwise

theorem entry2 (j : Fin 4) (n : Fin 704) (k : Fin 1024) (h : j.val * 704 + n.val < 2816) :
    (V m c main_v6 : FVec Ideal S4x704x1024 .bf16) (ix3 j n k) = aV m c (ix2 k ⟨j.val * 704 + n.val, h⟩) := by
  entry_read
  pointwise

theorem rd1 (n : Fin 704) (k : Fin 1024) : (iblk m c 1 t : FVec Ideal S1x704x1024 .bf16) (ix3 0 n k) = aW m c (ix2 k (cl t n)) := by
  refine Eq.trans ?_ (entry1 m c (sl t) n k (cl t n).isLt)
  blk_ext [iblk, idx t]

theorem rd2 (n : Fin 704) (k : Fin 1024) : (iblk m c 2 t : FVec Ideal S1x704x1024 .bf16) (ix3 0 n k) = aV m c (ix2 k (cl t n)) := by
  refine Eq.trans ?_ (entry2 m c (sl t) n k (cl t n).isLt)
  blk_ext [iblk, idx t]

/-- The two products of a block. -/
theorem pay2_at (x : Vec Ideal S1024x1024 .bf16) (w : Vec Ideal S1x704x1024 .bf16) (r : Fin 1024) (n : Fin 704) :
    k0_pay2 (F := Ideal) x w (ix2 r n) = ∑ k : Fin 1024, x (ix2 r k) * w (ix3 0 n k) := by
  pointwise [k0_pay2, k0_pay1]

theorem pay3_eq (x : Vec Ideal S1024x1024 .bf16) (w : Vec Ideal S1x704x1024 .bf16) : k0_pay3 (F := Ideal) x w = k0_pay2 (F := Ideal) x w := rfl

theorem pay4_at (x : Vec Ideal S1024x1024 .bf16) (w : Vec Ideal S1x704x1024 .bf16) (a : Fin 1) (r : Fin 1024) (n : Fin 704) :
    k0_pay4 (F := Ideal) x w (ix3 a r n) = k0_pay2 (F := Ideal) x w (ix2 r n) := by
  unfold k0_pay4
  generalize k0_pay2 (F := Ideal) x w = u
  pointwise

theorem pay5_eq (x : Vec Ideal S1024x1024 .bf16) (w : Vec Ideal S1x704x1024 .bf16) : k0_pay5 (F := Ideal) x w = k0_pay4 (F := Ideal) x w := rfl

theorem pay6_at (x : Vec Ideal S1024x1024 .bf16) (w v : Vec Ideal S1x704x1024 .bf16) (a : Fin 1) (r : Fin 1024) (n : Fin 704) :
    k0_pay6 (F := Ideal) x w v (ix3 a r n) = k0_pay2 (F := Ideal) x w (ix2 r n) * sg (k0_pay2 (F := Ideal) x w (ix2 r n)) * k0_pay2 (F := Ideal) x v (ix2 r n) := by
  unfold k0_pay6
  rw [pay3_eq, sg]
  generalize k0_pay2 (F := Ideal) x w = u
  generalize k0_pay2 (F := Ideal) x v = g
  pointwise

/-- The two products of point `t`. -/
theorem p1 (r : Fin 1024) (n : Fin 704) : k0_pay2 (F := Ideal) (iblk m c 0 t) (iblk m c 1 t) (ix2 r n) = pr (aX m c) (aW m c) (row t r) (cl t n) := by
  rw [pay2_at, pr]
  simp only [rd0, rd1]
theorem p2 (r : Fin 1024) (n : Fin 704) : k0_pay2 (F := Ideal) (iblk m c 0 t) (iblk m c 2 t) (ix2 r n) = pr (aX m c) (aV m c) (row t r) (cl t n) := by
  rw [pay2_at, pr]
  simp only [rd0, rd2]

theorem final3 : (dats m 0 c).arrAt 3 cfg0.N = FU (aX m c) (aW m c) := by
  refine (dats m 0 c).arrAt_eq_of_covers 3 _ (by decide +kernel) fun t _ y => ?_
  have ht := lt_of_lt_of_eq t.isLt N_0
  blk_simp
  rw [after0_3]; frame_out
  idx_vars y
  rw [pay4_at, p1]
  refine Eq.trans (b := FU (aX m c) (aW m c) (ix3 (sl t) (row t y1) y2)) rfl (congrArg (FU (aX m c) (aW m c)) ?_)
  blk_ext [idx t]

theorem final4 : (dats m 0 c).arrAt 4 cfg0.N = FU (aX m c) (aV m c) := by
  refine (dats m 0 c).arrAt_eq_of_covers 4 _ (by decide +kernel) fun t _ y => ?_
  have ht := lt_of_lt_of_eq t.isLt N_0
  blk_simp
  rw [after0_4]; frame_out
  idx_vars y
  rw [pay5_eq, pay4_at, p2]
  refine Eq.trans (b := FU (aX m c) (aV m c) (ix3 (sl t) (row t y1) y2)) rfl (congrArg (FU (aX m c) (aV m c)) ?_)
  blk_ext [idx t]

theorem final5 : (dats m 0 c).arrAt 5 cfg0.N = FA (aX m c) (aW m c) (aV m c) := by
  refine (dats m 0 c).arrAt_eq_of_covers 5 _ (by decide +kernel) fun t _ y => ?_
  have ht := lt_of_lt_of_eq t.isLt N_0
  blk_simp
  rw [after0_5]; frame_out
  idx_vars y
  rw [pay6_at, p1, p2]
  refine Eq.trans (b := FA (aX m c) (aW m c) (aV m c) (ix3 (sl t) (row t y1) y2)) rfl (congrArg (FA (aX m c) (aW m c) (aV m c)) ?_)
  blk_ext [idx t]

end Cert.UpIdeal.Value

namespace Cert.UpPair
open Cert.UpRefIdeal Cert.UpRefIdeal.Gen
open Cert.UpIdeal.Value (pr FU FA)
open Cert.MergePair (sg_eq)

variable (X : FVec Ideal S4096x1024 .f32) (W V : FVec Ideal S1024x2816 .f32)

/-- The reference's product, its gated product, and an array in slabs of columns. -/
def stM : FVec Ideal S4096x2816 .f32 := Host.dotGeneral dot_S4096x1024_S1024x2816_S4096x2816_1_0_0_1_n_n none X W
def stA (U G : FVec Ideal S4096x2816 .f32) : FVec Ideal S4096x2816 .f32 :=
  mulf (mulf U (Host.divf (broadcastInDim S4096x2816 ![] bcast_S_S4096x2816 (constant S_ .f32 0x3F800000#32)) (addf (broadcastInDim S4096x2816 ![] bcast_S_S4096x2816 (constant S_ .f32 0x3F800000#32)) (Host.exp (Host.negf U))))) G
def stS (Z : FVec Ideal S4096x2816 .f32) : FVec Ideal S4x4096x704 .bf16 :=
  truncf .bf16 (transpose S4x4096x704 [1, 0, 2] (shapeCast S4096x4x704 Z shapeCasts_S4096x2816_S4096x4x704) transposes_S4096x4x704_S4x4096x704_1_0_2 : FVec Ideal S4x4096x704 .f32) bitsLt_bf16_f32

theorem stM_at (r : Fin 4096) (n : Fin 2816) : stM X W (ix2 r n) = pr X W r n := by
  rw [pr]
  pointwise [stM]

theorem stA_at (U G : FVec Ideal S4096x2816 .f32) (r : Fin 4096) (n : Fin 2816) : stA U G (ix2 r n) = U (ix2 r n) * Cert.GateIdeal.Value.sg (U (ix2 r n)) * G (ix2 r n) := by
  rw [← sg_eq]
  pointwise [stA]

theorem stS_at (Z : FVec Ideal S4096x2816 .f32) (j : Fin 4) (r : Fin 4096) (n : Fin 704) (h : j.val * 704 + n.val < 2816) : stS Z (ix3 j r n) = Z (ix2 r ⟨j.val * 704 + n.val, h⟩) := by
  pointwise [stS]

theorem eqU : stS (stM X W) = FU X W := by
  funext j
  idx_vars j
  rw [stS_at _ _ _ _ (by omega), stM_at]
  rfl

theorem eqA : stS (stA (stM X W) (stM X V)) = FA X W V := by
  funext j
  idx_vars j
  rw [stS_at _ _ _ _ (by omega), stA_at, stM_at, stM_at]
  rfl

set_option maxHeartbeats 4000000 in
/-- The gate's forward call leaves what the forward lines name. -/
theorem algebraic : Cert.algebraic_UpIdeal_UpRefIdeal (hUpIdeal := Cert.UpIdeal.Gen.facts) (hUpRefIdeal := Cert.UpRefIdeal.Gen.facts) := by
  pair_intro
  · run_from Cert.UpIdeal.Gen.run_main m g
  · run_from Cert.UpRefIdeal.Value.run m' g'
    · obtain ⟨h0, h1, h2⟩ := hagree c
      exact (eqU _ _).trans (Cert.UpIdeal.Value.final3 m c).symm
    · obtain ⟨h0, h1, h2⟩ := hagree c
      exact (eqU _ _).trans (Cert.UpIdeal.Value.final4 m c).symm
    · obtain ⟨h0, h1, h2⟩ := hagree c
      exact (eqA _ _ _).trans (Cert.UpIdeal.Value.final5 m c).symm

end Cert.UpPair
end
-- ==== Proof.lean ====
module

public import proofs.«01_k».proof.Defs
public import proofs.«01_k».proof.Proof.Gen.Gate.Frame
public import proofs.«01_k».proof.Proof.Gen.GateIdeal.Frame
public import proofs.«01_k».proof.Proof.Gen.GateIdeal.Value
public import proofs.«01_k».proof.Proof.Gen.GateRefIdeal.Run
public import proofs.«01_k».proof.Proof.Gen.Pre_gate_finite
public import proofs.«01_k».proof.Proof.GateValue
public import proofs.«01_k».proof.Proof.Gen.Attn.Frame
public import proofs.«01_k».proof.Proof.Gen.AttnIdeal.Frame
public import proofs.«01_k».proof.Proof.Gen.AttnIdeal.Value
public import proofs.«01_k».proof.Proof.Gen.AttnRefIdeal.Run
public import proofs.«01_k».proof.Proof.Gen.Pre_attn_finite
public import proofs.«01_k».proof.Proof.AttnPair
public import proofs.«01_k».proof.Proof.Gen.Gqa.Frame
public import proofs.«01_k».proof.Proof.Gen.GqaIdeal.Frame
public import proofs.«01_k».proof.Proof.Gen.GqaIdeal.Value
public import proofs.«01_k».proof.Proof.Gen.GqaRefIdeal.Run
public import proofs.«01_k».proof.Proof.Gen.Pre_gqa_finite
public import proofs.«01_k».proof.Proof.GqaPair
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal.Run
public import proofs.«01_k».proof.Proof.MergePair
public import proofs.«01_k».proof.Proof.Gen.Head.Frame
public import proofs.«01_k».proof.Proof.Gen.HeadIdeal.Frame
public import proofs.«01_k».proof.Proof.Gen.HeadIdeal.Value
public import proofs.«01_k».proof.Proof.Gen.HeadRefIdeal.Run
public import proofs.«01_k».proof.Proof.Gen.Pre_head_finite
public import proofs.«01_k».proof.Proof.HeadPair
public import proofs.«01_k».proof.Proof.Gen.Dh.Frame
public import proofs.«01_k».proof.Proof.Gen.DhIdeal.Frame
public import proofs.«01_k».proof.Proof.Gen.DhIdeal.Value
public import proofs.«01_k».proof.Proof.Gen.DhRefIdeal.Run
public import proofs.«01_k».proof.Proof.Gen.Pre_dh_finite
public import proofs.«01_k».proof.Proof.DhPair
public import proofs.«01_k».proof.Proof.Gen.Mix.Frame
public import proofs.«01_k».proof.Proof.Gen.MixIdeal.Frame
public import proofs.«01_k».proof.Proof.Gen.MixIdeal.Value
public import proofs.«01_k».proof.Proof.Gen.MixRefIdeal.Run
public import proofs.«01_k».proof.Proof.Gen.Pre_mix_finite
public import proofs.«01_k».proof.Proof.MixPair
public import proofs.«01_k».proof.Proof.Gen.Qnorm.Frame
public import proofs.«01_k».proof.Proof.Gen.QnormIdeal.Frame
public import proofs.«01_k».proof.Proof.Gen.QnormIdeal.Value
public import proofs.«01_k».proof.Proof.Gen.QnormRefIdeal.Run
public import proofs.«01_k».proof.Proof.Gen.Pre_qnorm_finite
public import proofs.«01_k».proof.Proof.QnormPair
public import proofs.«01_k».proof.Proof.Gen.Merged.Frame
public import proofs.«01_k».proof.Proof.Gen.MergedIdeal.Frame
public import proofs.«01_k».proof.Proof.Gen.MergedIdeal.Value
public import proofs.«01_k».proof.Proof.Gen.MergedRefIdeal.Run
public import proofs.«01_k».proof.Proof.MergedPair
public import proofs.«01_k».proof.Proof.Gen.Up.Frame
public import proofs.«01_k».proof.Proof.Gen.UpIdeal.Frame
public import proofs.«01_k».proof.Proof.Gen.UpIdeal.Value
public import proofs.«01_k».proof.Proof.Gen.UpRefIdeal.Run
public import proofs.«01_k».proof.Proof.UpPair
public import Idealize.ShloMosaic.Lib.Quiescent
public import Idealize.ShloMosaic.Adequacy
public import Idealize.ShloMosaic.Init

@[expose] public section

noncomputable section

namespace Cert.Proof

open Idealize.ShloMosaic Idealize.SL.Sem

/-- The reference of the gate's call has no semaphore and leaves its arguments alone. -/
theorem gateRef : Cert.quiescent_GateRefIdeal :=
  fun m g _ => (θ_run Cert.GateRefIdeal.defs _ _).mono (fun r h => ⟨fun c => (h c).2.2, sem_eq_zero_of_no_sems (by decide) r.2⟩) (Cert.GateRefIdeal.Value.run (F := Ideal) m g)

/-- The reference of the attention's call has no semaphore and leaves its arguments alone. -/
theorem attnRef : Cert.quiescent_AttnRefIdeal :=
  fun m g _ => (θ_run Cert.AttnRefIdeal.defs _ _).mono (fun r h => ⟨fun c => (h c).2.2.2, sem_eq_zero_of_no_sems (by decide) r.2⟩) (Cert.AttnRefIdeal.Value.run (F := Ideal) m g)

/-- The reference of the attention's forward call has no semaphore and leaves its arguments alone. -/
theorem gqaRef : Cert.quiescent_GqaRefIdeal :=
  fun m g _ => (θ_run Cert.GqaRefIdeal.defs _ _).mono (fun r h => ⟨fun c => (h c).2.2, sem_eq_zero_of_no_sems (by decide) r.2⟩) (Cert.GqaRefIdeal.Value.run (F := Ideal) m g)

/-- The reference of the merge of the branches has no semaphore and leaves its arguments alone. -/
theorem mergeRef : Cert.quiescent_MergeRefIdeal :=
  fun m g _ => (θ_run Cert.MergeRefIdeal.defs _ _).mono (fun r h => ⟨fun c => (h c).2.2.2.2.2.2.2.2, sem_eq_zero_of_no_sems (by decide) r.2⟩) (Cert.MergeRefIdeal.Value.run (F := Ideal) m g)

/-- The reference of the loss's call has no semaphore and leaves its arguments alone. -/
theorem headRef : Cert.quiescent_HeadRefIdeal :=
  fun m g _ => (θ_run Cert.HeadRefIdeal.defs _ _).mono (fun r h => ⟨fun c => (h c).2.2.2.2, sem_eq_zero_of_no_sems (by decide) r.2⟩) (Cert.HeadRefIdeal.Value.run (F := Ideal) m g)

/-- The reference of the feed-forward norm's call has no semaphore and leaves its arguments alone. -/
theorem dhRef : Cert.quiescent_DhRefIdeal :=
  fun m g _ => (θ_run Cert.DhRefIdeal.defs _ _).mono (fun r h => ⟨fun c => (h c).2.2.2.2, sem_eq_zero_of_no_sems (by decide) r.2⟩) (Cert.DhRefIdeal.Value.run (F := Ideal) m g)

/-- The reference of the mixer norm's call has no semaphore and leaves its arguments alone. -/
theorem mixRef : Cert.quiescent_MixRefIdeal :=
  fun m g _ => (θ_run Cert.MixRefIdeal.defs _ _).mono (fun r h => ⟨fun c => (h c).2.2.2, sem_eq_zero_of_no_sems (by decide) r.2⟩) (Cert.MixRefIdeal.Value.run (F := Ideal) m g)

/-- The reference of the head norm's call has no semaphore and leaves its arguments alone. -/
theorem qnormRef : Cert.quiescent_QnormRefIdeal :=
  fun m g _ => (θ_run Cert.QnormRefIdeal.defs _ _).mono (fun r h => ⟨fun c => (h c).2.2, sem_eq_zero_of_no_sems (by decide) r.2⟩) (Cert.QnormRefIdeal.Value.run (F := Ideal) m g)

/-- The reference of the merge of the branches, forward has no semaphore and leaves its arguments alone. -/
theorem mergedRef : Cert.quiescent_MergedRefIdeal :=
  fun m g _ => (θ_run Cert.MergedRefIdeal.defs _ _).mono (fun r h => ⟨fun c => (h c).2.2.2.2.2, sem_eq_zero_of_no_sems (by decide) r.2⟩) (Cert.MergedRefIdeal.Value.run (F := Ideal) m g)

/-- The reference of the feed-forward gate, forward has no semaphore and leaves its arguments alone. -/
theorem upRef : Cert.quiescent_UpRefIdeal :=
  fun m g _ => (θ_run Cert.UpRefIdeal.defs _ _).mono (fun r h => ⟨fun c => (h c).2.2.2, sem_eq_zero_of_no_sems (by decide) r.2⟩) (Cert.UpRefIdeal.Value.run (F := Ideal) m g)

theorem claim : Cert.Claim :=
  ⟨Cert.Gate.Gen.facts, Cert.GateIdeal.Gen.facts, Cert.GateRefIdeal.Gen.facts, Cert.Attn.Gen.facts, Cert.AttnIdeal.Gen.facts, Cert.AttnRefIdeal.Gen.facts, Cert.Gqa.Gen.facts, Cert.GqaIdeal.Gen.facts, Cert.GqaRefIdeal.Gen.facts, Cert.Merge.Gen.facts, Cert.MergeIdeal.Gen.facts, Cert.MergeRefIdeal.Gen.facts, Cert.Head.Gen.facts, Cert.HeadIdeal.Gen.facts, Cert.HeadRefIdeal.Gen.facts, Cert.Dh.Gen.facts, Cert.DhIdeal.Gen.facts, Cert.DhRefIdeal.Gen.facts, Cert.Mix.Gen.facts, Cert.MixIdeal.Gen.facts, Cert.MixRefIdeal.Gen.facts, Cert.Qnorm.Gen.facts, Cert.QnormIdeal.Gen.facts, Cert.QnormRefIdeal.Gen.facts, Cert.Merged.Gen.facts, Cert.MergedIdeal.Gen.facts, Cert.MergedRefIdeal.Gen.facts, Cert.Up.Gen.facts, Cert.UpIdeal.Gen.facts, Cert.UpRefIdeal.Gen.facts,
    Cert.Pre_gate_finite.Gen.facts, Cert.Pre_attn_finite.Gen.facts, Cert.Pre_gqa_finite.Gen.facts, Cert.Pre_head_finite.Gen.facts, Cert.Pre_dh_finite.Gen.facts, Cert.Pre_mix_finite.Gen.facts, Cert.Pre_qnorm_finite.Gen.facts,
    fun m g _ => Cert.Gate.Gen.frame m g, fun m g _ => Cert.GateIdeal.Gen.frame m g, fun m g _ => Cert.GateIdeal.Gen.frame m g,
    gateRef, fun m g _ => gateRef m g trivial,
    fun m g _ => Cert.Attn.Gen.frame m g, fun m g _ => Cert.AttnIdeal.Gen.frame m g, fun m g _ => Cert.AttnIdeal.Gen.frame m g,
    attnRef, fun m g _ => attnRef m g trivial,
    fun m g _ => Cert.Gqa.Gen.frame m g, fun m g _ => Cert.GqaIdeal.Gen.frame m g, fun m g _ => Cert.GqaIdeal.Gen.frame m g,
    gqaRef, fun m g _ => gqaRef m g trivial,
    fun m g _ => Cert.Merge.Gen.frame m g, fun m g _ => Cert.MergeIdeal.Gen.frame m g, mergeRef,
    fun m g _ => Cert.Head.Gen.frame m g, fun m g _ => Cert.HeadIdeal.Gen.frame m g, fun m g _ => Cert.HeadIdeal.Gen.frame m g,
    headRef, fun m g _ => headRef m g trivial,
    fun m g _ => Cert.Dh.Gen.frame m g, fun m g _ => Cert.DhIdeal.Gen.frame m g, fun m g _ => Cert.DhIdeal.Gen.frame m g,
    dhRef, fun m g _ => dhRef m g trivial,
    fun m g _ => Cert.Mix.Gen.frame m g, fun m g _ => Cert.MixIdeal.Gen.frame m g, fun m g _ => Cert.MixIdeal.Gen.frame m g,
    mixRef, fun m g _ => mixRef m g trivial,
    fun m g _ => Cert.Qnorm.Gen.frame m g, fun m g _ => Cert.QnormIdeal.Gen.frame m g, fun m g _ => Cert.QnormIdeal.Gen.frame m g,
    qnormRef, fun m g _ => qnormRef m g trivial,
    fun m g _ => Cert.Merged.Gen.frame m g, fun m g _ => Cert.MergedIdeal.Gen.frame m g, mergedRef,
    fun m g _ => Cert.Up.Gen.frame m g, fun m g _ => Cert.UpIdeal.Gen.frame m g, upRef,
    trivial, Cert.GateIdeal.Value.algebraic, trivial, Cert.AttnPair.algebraic, IdealRules.named_const.statement _ _ _ _ _ rfl, Cert.GqaPair.algebraic, trivial, Cert.MergePair.algebraic, trivial, Cert.HeadPair.algebraic, trivial, Cert.DhPair.algebraic, trivial, Cert.MixPair.algebraic, trivial, Cert.QnormPair.algebraic, trivial, Cert.MergedPair.algebraic, trivial, Cert.UpPair.algebraic⟩

end Cert.Proof

end
